-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts [hPre_experts : Cert.Pre_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts [hReference3Ideal : Cert.Reference3Ideal.Facts] [hPre_experts : Cert.Pre_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.bf16_pair.PackStatement Cert.Kernel3Ideal.S512x1024
  ∧ IdealRules.bf16_pair.Statement Cert.Kernel3Ideal.S512x2x128 Cert.Kernel3Ideal.S512x1x128

def algebraic_Kernel3Ideal_Reference3Ideal [hKernel3Ideal : Cert.Kernel3Ideal.Facts] [hReference3Ideal : Cert.Reference3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts := hPre_experts)
    ∧ quiescent_Kernel3Ideal (hKernel3Ideal := hKernel3Ideal) (hPre_experts := hPre_experts)
    ∧ quiescent_Reference3Ideal (hReference3Ideal := hReference3Ideal)
    ∧ quiescent_Reference3Ideal_pre_experts (hReference3Ideal := hReference3Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts := hPre_experts)
-- ==== Pre_experts.lean ====
abbrev S144 : Shape := ⟨1, ![144]⟩
abbrev S1 : Shape := ⟨1, ![1]⟩
abbrev S589824x128 : Shape := ⟨2, ![589824, 128]⟩
abbrev S4x16x2048x1024 : Shape := ⟨4, ![4, 16, 2048, 1024]⟩
abbrev S4x16x1024x2048 : Shape := ⟨4, ![4, 16, 1024, 2048]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : IVec S1 32) (main_arg2 : IVec S589824x128 32) (main_arg3 : FVec F S4x16x2048x1024 .f32) (main_arg4 : FVec F S4x16x2048x1024 .f32) (main_arg5 : FVec F S4x16x1024x2048 .f32) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 16#32
  let main_v2 : IVec S144 32 := broadcastInDim S144 ![] bcast_S_S144 main_c_0
  let main_v3 : IVec S144 1 := cmpi .slt main_arg0 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== Pre_finite.lean ====
abbrev S32768x128 : Shape := ⟨2, ![32768, 128]⟩
abbrev S4x6 : Shape := ⟨2, ![4, 6]⟩
abbrev S88x32768x128 : Shape := ⟨3, ![88, 32768, 128]⟩
abbrev S32768x6 : Shape := ⟨2, ![32768, 6]⟩
abbrev S_ : Shape := ⟨0, ![]⟩
abbrev S1x6 : Shape := ⟨2, ![1, 6]⟩
abbrev S6 : Shape := ⟨1, ![6]⟩
abbrev S12x32768x128 : Shape := ⟨3, ![12, 32768, 128]⟩

class Facts : Prop where
  slices_S32768x128_S32768x6_0_0 : S32768x128.Slices ![0, 0] S32768x6
  bcast_S_S32768x6 : S_.BroadcastsInDim S32768x6 (![] : Fin 0 → Fin S32768x6.rank)
  reducesTo_S32768x6_S_d0_1 : S32768x6.ReducesTo [0, 1] S_
  h_S_ : 0 < S_.numel
  slices_S4x6_S1x6_1_0 : S4x6.Slices ![1, 0] S1x6
  shapeCasts_S1x6_S6 : S1x6.ShapeCasts S6
  bcast_S_S6 : S_.BroadcastsInDim S6 (![] : Fin 0 → Fin S6.rank)
  reducesTo_S6_S_d0 : S6.ReducesTo [0] S_
  slices_S88x32768x128_S12x32768x128_66_0_0 : S88x32768x128.Slices ![66, 0, 0] S12x32768x128
  bitsLt_bf16_f32 : FTy.bits .bf16 < FTy.bits .f32
  bcast_S_S12x32768x128 : S_.BroadcastsInDim S12x32768x128 (![] : Fin 0 → Fin S12x32768x128.rank)
  reducesTo_S12x32768x128_S_d0_1_2 : S12x32768x128.ReducesTo [0, 1, 2] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S32768x128 .f32) (main_arg1 : FVec F S4x6 .f32) (main_arg2 : FVec F S88x32768x128 .bf16) : IVec S_ 1 :=
  let main_v0 : FVec F S32768x6 .f32 := (extractStridedSlice S32768x6 ![0, 0] · slices_S32768x128_S32768x6_0_0) main_arg0
  let main_v1 : FVec F S32768x6 .f32 := Host.absf main_v0
  let main_cst : FVec F S_ .f32 := constant S_ .f32 0x7F800000#32
  let main_v2 : FVec F S32768x6 .f32 := broadcastInDim S32768x6 ![] bcast_S_S32768x6 main_cst
  let main_v3 : IVec S32768x6 1 := cmpf .olt main_v1 main_v2
  let main_c : IVec S_ 1 := constantI S_ 1 1#1
  let main_v4 : IVec S_ 1 := (fun x v => Host.reduce IntOp.andi x v reducesTo_S32768x6_S_d0_1 h_S_) main_v3 main_c
  let main_v5 : FVec F S1x6 .f32 := (extractStridedSlice S1x6 ![1, 0] · slices_S4x6_S1x6_1_0) main_arg1
  let main_v6 : FVec F S6 .f32 := shapeCast S6 main_v5 shapeCasts_S1x6_S6
  let main_v7 : FVec F S6 .f32 := Host.absf main_v6
  let main_cst_0 : FVec F S_ .f32 := constant S_ .f32 0x7F800000#32
  let main_v8 : FVec F S6 .f32 := broadcastInDim S6 ![] bcast_S_S6 main_cst_0
  let main_v9 : IVec S6 1 := cmpf .olt main_v7 main_v8
  let main_c_1 : IVec S_ 1 := constantI S_ 1 1#1
  let main_v10 : IVec S_ 1 := (fun x v => Host.reduce IntOp.andi x v reducesTo_S6_S_d0 h_S_) main_v9 main_c_1
  let main_v11 : IVec S_ 1 := andi main_v4 main_v10
  let main_v12 : FVec F S12x32768x128 .bf16 := (extractStridedSlice S12x32768x128 ![66, 0, 0] · slices_S88x32768x128_S12x32768x128_66_0_0) main_arg2
  let main_v13 : FVec F S12x32768x128 .f32 := (extf .f32 · bitsLt_bf16_f32) main_v12
  let main_v14 : FVec F S12x32768x128 .f32 := Host.absf main_v13
  let main_cst_2 : FVec F S_ .f32 := constant S_ .f32 0x7F800000#32
  let main_v15 : FVec F S12x32768x128 .f32 := broadcastInDim S12x32768x128 ![] bcast_S_S12x32768x128 main_cst_2
  let main_v16 : IVec S12x32768x128 1 := cmpf .olt main_v14 main_v15
  let main_c_3 : IVec S_ 1 := constantI S_ 1 1#1
  let main_v17 : IVec S_ 1 := (fun x v => Host.reduce IntOp.andi x v reducesTo_S12x32768x128_S_d0_1_2 h_S_) main_v16 main_c_3
  fn_part1 (F := F) main_v11 main_v17
-- ==== Kernel.lean ====
abbrev S32768x128 : Shape := ⟨2, ![32768, 128]⟩
abbrev S4x6 : Shape := ⟨2, ![4, 6]⟩
abbrev S88x32768x128 : Shape := ⟨3, ![88, 32768, 128]⟩
abbrev S_ : Shape := ⟨0, ![]⟩
abbrev S4x128 : Shape := ⟨2, ![4, 128]⟩
abbrev S4x1x128 : Shape := ⟨3, ![4, 1, 128]⟩
abbrev S6x32768x128 : Shape := ⟨3, ![6, 32768, 128]⟩
abbrev S6x32768x256 : Shape := ⟨3, ![6, 32768, 256]⟩
abbrev S512x128 : Shape := ⟨2, ![512, 128]⟩
abbrev S1x1x128 : Shape := ⟨3, ![1, 1, 128]⟩
abbrev S6x512x128 : Shape := ⟨3, ![6, 512, 128]⟩
abbrev S6x512x256 : Shape := ⟨3, ![6, 512, 256]⟩
abbrev S1x128 : Shape := ⟨2, ![1, 128]⟩
abbrev S512x512 : Shape := ⟨2, ![512, 512]⟩
abbrev S512x1 : Shape := ⟨2, ![512, 1]⟩
abbrev S1x512x128 : Shape := ⟨3, ![1, 512, 128]⟩
abbrev S6x4096x128 : Shape := ⟨3, ![6, 4096, 128]⟩
abbrev S6x4096x256 : Shape := ⟨3, ![6, 4096, 256]⟩
abbrev S512x256 : Shape := ⟨2, ![512, 256]⟩
abbrev S1x512x256 : Shape := ⟨3, ![1, 512, 256]⟩
abbrev S512 : Shape := ⟨1, ![512]⟩

abbrev nBuf : Space → Nat
  | .hbm => 10
  | .vmem => 20
  | .smem => 0
  | _ => 0

abbrev bufTy : (tb : Table) → Fin (tcTables nBuf tb) → BufTy
  | .hbm, ⟨0, _⟩ => ⟨S32768x128, .f32⟩
  | .hbm, ⟨1, _⟩ => ⟨S4x6, .f32⟩
  | .hbm, ⟨2, _⟩ => ⟨S88x32768x128, .bf16⟩
  | .hbm, ⟨3, _⟩ => ⟨S_, .i32⟩
  | .hbm, ⟨4, _⟩ => ⟨S_, .f32⟩
  | .hbm, ⟨5, _⟩ => ⟨S4x128, .f32⟩
  | .hbm, ⟨6, _⟩ => ⟨S4x1x128, .f32⟩
  | .hbm, ⟨7, _⟩ => ⟨S6x32768x128, .bf16⟩
  | .hbm, ⟨8, _⟩ => ⟨S6x32768x256, .bf16⟩
  | .hbm, ⟨9, _⟩ => ⟨S6x32768x128, .bf16⟩
  | .local _ .vmem, ⟨0, _⟩ => ⟨S512x128, .f32⟩
  | .local _ .vmem, ⟨1, _⟩ => ⟨S512x128, .f32⟩
  | .local _ .vmem, ⟨2, _⟩ => ⟨S1x1x128, .f32⟩
  | .local _ .vmem, ⟨3, _⟩ => ⟨S6x512x128, .bf16⟩
  | .local _ .vmem, ⟨4, _⟩ => ⟨S6x512x128, .bf16⟩
  | .local _ .vmem, ⟨5, _⟩ => ⟨S6x512x128, .bf16⟩
  | .local _ .vmem, ⟨6, _⟩ => ⟨S6x512x128, .bf16⟩
  | .local _ .vmem, ⟨7, _⟩ => ⟨S6x512x256, .bf16⟩
  | .local _ .vmem, ⟨8, _⟩ => ⟨S6x512x256, .bf16⟩
  | .local _ .vmem, ⟨9, _⟩ => ⟨S1x128, .f32⟩
  | .local _ .vmem, ⟨10, _⟩ => ⟨S6x512x128, .bf16⟩
  | .local _ .vmem, ⟨11, _⟩ => ⟨S6x512x128, .bf16⟩
  | .local _ .vmem, ⟨12, _⟩ => ⟨S6x4096x128, .bf16⟩
  | .local _ .vmem, ⟨13, _⟩ => ⟨S6x4096x128, .bf16⟩
  | .local _ .vmem, ⟨14, _⟩ => ⟨S6x512x128, .bf16⟩
  | .local _ .vmem, ⟨15, _⟩ => ⟨S6x512x128, .bf16⟩
  | .local _ .vmem, ⟨16, _⟩ => ⟨S6x4096x256, .bf16⟩
  | .local _ .vmem, ⟨17, _⟩ => ⟨S6x4096x256, .bf16⟩
  | .local _ .vmem, ⟨18, _⟩ => ⟨S6x512x128, .bf16⟩
  | .local _ .vmem, ⟨19, _⟩ => ⟨S6x512x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  let c0_i32_0 : BitVec 32 := 0#32
  ![c12_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S6x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S6x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_38 : BitVec 32 := 1#32
  ⟨c0_i32, v64, c1_i32_38⟩
def k1_mult1 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_117 : BitVec 32 := 512#32
  let v271 : BitVec 32 := Scalar.muli arg7 c512_i32_117
  v271
def k1_off1 (i : grid1.Coords) (k1_t1 : Fin (k1_t1_loop i).trips) : Fin 3 → Nat :=
  let c0_118 : Index := 0#32
  let c0_i32 : BitVec 32 := 0#32
  let c1_i32_38 : BitVec 32 := 1#32
  let arg7 : BitVec 32 := Scf.iv c0_i32 c1_i32_38 k1_t1
  let c512_i32_117 : BitVec 32 := 512#32
  let v271 : BitVec 32 := Scalar.muli arg7 c512_i32_117
  let v272 : BitVec 32 := v271
  let v273 : Index := Scalar.indexCast v272
  let c0_119 : Index := 0#32
  ![0, v273.toNat, 0]
def k1_off2 (i : grid1.Coords) (k1_t1 : Fin (k1_t1_loop i).trips) : Fin 3 → Nat :=
  let c0_123 : Index := 0#32
  let c0_i32 : BitVec 32 := 0#32
  let c1_i32_38 : BitVec 32 := 1#32
  let arg7 : BitVec 32 := Scf.iv c0_i32 c1_i32_38 k1_t1
  let c512_i32_117 : BitVec 32 := 512#32
  let v271 : BitVec 32 := Scalar.muli arg7 c512_i32_117
  let v272 : BitVec 32 := v271
  let v292 : Index := Scalar.indexCast v272
  let c0_124 : Index := 0#32
  ![0, v292.toNat, 0]
def k1_mult2 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_126 : BitVec 32 := 512#32
  let v297 : BitVec 32 := Scalar.muli arg7 c512_i32_126
  v297
def k1_off3 (i : grid1.Coords) (k1_t1 : Fin (k1_t1_loop i).trips) : Fin 3 → Nat :=
  let c1_127 : Index := 1#32
  let c0_i32 : BitVec 32 := 0#32
  let c1_i32_38 : BitVec 32 := 1#32
  let arg7 : BitVec 32 := Scf.iv c0_i32 c1_i32_38 k1_t1
  let c512_i32_126 : BitVec 32 := 512#32
  let v297 : BitVec 32 := Scalar.muli arg7 c512_i32_126
  let v298 : BitVec 32 := v297
  let v299 : Index := Scalar.indexCast v298
  let c0_128 : Index := 0#32
  ![1, v299.toNat, 0]
def k1_off4 (i : grid1.Coords) (k1_t1 : Fin (k1_t1_loop i).trips) : Fin 3 → Nat :=
  let c1_132 : Index := 1#32
  let c0_i32 : BitVec 32 := 0#32
  let c1_i32_38 : BitVec 32 := 1#32
  let arg7 : BitVec 32 := Scf.iv c0_i32 c1_i32_38 k1_t1
  let c512_i32_126 : BitVec 32 := 512#32
  let v297 : BitVec 32 := Scalar.muli arg7 c512_i32_126
  let v298 : BitVec 32 := v297
  let v318 : Index := Scalar.indexCast v298
  let c0_133 : Index := 0#32
  ![1, v318.toNat, 0]
def k1_mult3 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_135 : BitVec 32 := 512#32
  let v323 : BitVec 32 := Scalar.muli arg7 c512_i32_135
  v323
def k1_off5 (i : grid1.Coords) (k1_t1 : Fin (k1_t1_loop i).trips) : Fin 3 → Nat :=
  let c2_136 : Index := 2#32
  let c0_i32 : BitVec 32 := 0#32
  let c1_i32_38 : BitVec 32 := 1#32
  let arg7 : BitVec 32 := Scf.iv c0_i32 c1_i32_38 k1_t1
  let c512_i32_135 : BitVec 32 := 512#32
  let v323 : BitVec 32 := Scalar.muli arg7 c512_i32_135
  let v324 : BitVec 32 := v323
  let v325 : Index := Scalar.indexCast v324
  let c0_137 : Index := 0#32
  ![2, v325.toNat, 0]
def k1_off6 (i : grid1.Coords) (k1_t1 : Fin (k1_t1_loop i).trips) : Fin 3 → Nat :=
  let c2_141 : Index := 2#32
  let c0_i32 : BitVec 32 := 0#32
  let c1_i32_38 : BitVec 32 := 1#32
  let arg7 : BitVec 32 := Scf.iv c0_i32 c1_i32_38 k1_t1
  let c512_i32_135 : BitVec 32 := 512#32
  let v323 : BitVec 32 := Scalar.muli arg7 c512_i32_135
  let v324 : BitVec 32 := v323
  let v344 : Index := Scalar.indexCast v324
  let c0_142 : Index := 0#32
  ![2, v344.toNat, 0]
def k1_mult4 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_144 : BitVec 32 := 512#32
  let v349 : BitVec 32 := Scalar.muli arg7 c512_i32_144
  v349
def k1_off7 (i : grid1.Coords) (k1_t1 : Fin (k1_t1_loop i).trips) : Fin 3 → Nat :=
  let c3_145 : Index := 3#32
  let c0_i32 : BitVec 32 := 0#32
  let c1_i32_38 : BitVec 32 := 1#32
  let arg7 : BitVec 32 := Scf.iv c0_i32 c1_i32_38 k1_t1
  let c512_i32_144 : BitVec 32 := 512#32
  let v349 : BitVec 32 := Scalar.muli arg7 c512_i32_144
  let v350 : BitVec 32 := v349
  let v351 : Index := Scalar.indexCast v350
  let c0_146 : Index := 0#32
  ![3, v351.toNat, 0]
def k1_off8 (i : grid1.Coords) (k1_t1 : Fin (k1_t1_loop i).trips) : Fin 3 → Nat :=
  let c3_150 : Index := 3#32
  let c0_i32 : BitVec 32 := 0#32
  let c1_i32_38 : BitVec 32 := 1#32
  let arg7 : BitVec 32 := Scf.iv c0_i32 c1_i32_38 k1_t1
  let c512_i32_144 : BitVec 32 := 512#32
  let v349 : BitVec 32 := Scalar.muli arg7 c512_i32_144
  let v350 : BitVec 32 := v349
  let v370 : Index := Scalar.indexCast v350
  let c0_151 : Index := 0#32
  ![3, v370.toNat, 0]
def k1_mult5 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_153 : BitVec 32 := 512#32
  let v375 : BitVec 32 := Scalar.muli arg7 c512_i32_153
  v375
def k1_off9 (i : grid1.Coords) (k1_t1 : Fin (k1_t1_loop i).trips) : Fin 3 → Nat :=
  let c4_154 : Index := 4#32
  let c0_i32 : BitVec 32 := 0#32
  let c1_i32_38 : BitVec 32 := 1#32
  let arg7 : BitVec 32 := Scf.iv c0_i32 c1_i32_38 k1_t1
  let c512_i32_153 : BitVec 32 := 512#32
  let v375 : BitVec 32 := Scalar.muli arg7 c512_i32_153
  let v376 : BitVec 32 := v375
  let v377 : Index := Scalar.indexCast v376
  let c0_155 : Index := 0#32
  ![4, v377.toNat, 0]
def k1_off10 (i : grid1.Coords) (k1_t1 : Fin (k1_t1_loop i).trips) : Fin 3 → Nat :=
  let c4_159 : Index := 4#32
  let c0_i32 : BitVec 32 := 0#32
  let c1_i32_38 : BitVec 32 := 1#32
  let arg7 : BitVec 32 := Scf.iv c0_i32 c1_i32_38 k1_t1
  let c512_i32_153 : BitVec 32 := 512#32
  let v375 : BitVec 32 := Scalar.muli arg7 c512_i32_153
  let v376 : BitVec 32 := v375
  let v396 : Index := Scalar.indexCast v376
  let c0_160 : Index := 0#32
  ![4, v396.toNat, 0]
def k1_mult6 (i : grid1.Coords) (k1_t1 : Fin (k1_t1_loop i).trips) : BitVec 32 :=
  let c0_i32 : BitVec 32 := 0#32
  let c1_i32_38 : BitVec 32 := 1#32
  let arg7 : BitVec 32 := Scf.iv c0_i32 c1_i32_38 k1_t1
  let c512_i32_162 : BitVec 32 := 512#32
  let v401 : BitVec 32 := Scalar.muli arg7 c512_i32_162
  v401
def k1_off11 (i : grid1.Coords) (k1_t1 : Fin (k1_t1_loop i).trips) : Fin 3 → Nat :=
  let c5_163 : Index := 5#32
  let c0_i32 : BitVec 32 := 0#32
  let c1_i32_38 : BitVec 32 := 1#32
  let arg7 : BitVec 32 := Scf.iv c0_i32 c1_i32_38 k1_t1
  let c512_i32_162 : BitVec 32 := 512#32
  let v401 : BitVec 32 := Scalar.muli arg7 c512_i32_162
  let v402 : BitVec 32 := v401
  let v403 : Index := Scalar.indexCast v402
  let c0_164 : Index := 0#32
  ![5, v403.toNat, 0]
def k1_off12 (i : grid1.Coords) (k1_t1 : Fin (k1_t1_loop i).trips) : Fin 3 → Nat :=
  let c5_168 : Index := 5#32
  let c0_i32 : BitVec 32 := 0#32
  let c1_i32_38 : BitVec 32 := 1#32
  let arg7 : BitVec 32 := Scf.iv c0_i32 c1_i32_38 k1_t1
  let c512_i32_162 : BitVec 32 := 512#32
  let v401 : BitVec 32 := Scalar.muli arg7 c512_i32_162
  let v402 : BitVec 32 := v401
  let v422 : Index := Scalar.indexCast v402
  let c0_169 : Index := 0#32
  ![5, v422.toNat, 0]
@[reducible] def k1_t2_loop (i : grid1.Coords) : Scf.Loop 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let v61 : BitVec 32 := Scalar.addi c0_i32 v60
  let c1_i32_39 : BitVec 32 := 1#32
  ⟨v64, v61, c1_i32_39⟩
def k1_mult7 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_117 : BitVec 32 := 512#32
  let v271 : BitVec 32 := Scalar.muli arg7 c512_i32_117
  v271
def k1_off13 (i : grid1.Coords) (k1_t2 : Fin (k1_t2_loop i).trips) : Fin 3 → Nat :=
  let c0_118 : Index := 0#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_117 : BitVec 32 := 512#32
  let v271 : BitVec 32 := Scalar.muli arg7 c512_i32_117
  let v272 : BitVec 32 := v271
  let v273 : Index := Scalar.indexCast v272
  let c0_119 : Index := 0#32
  ![0, v273.toNat, 0]
def k1_off14 (i : grid1.Coords) (k1_t2 : Fin (k1_t2_loop i).trips) : Fin 3 → Nat :=
  let c0_123 : Index := 0#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_117 : BitVec 32 := 512#32
  let v271 : BitVec 32 := Scalar.muli arg7 c512_i32_117
  let v272 : BitVec 32 := v271
  let v292 : Index := Scalar.indexCast v272
  let c0_124 : Index := 0#32
  ![0, v292.toNat, 0]
def k1_mult8 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_126 : BitVec 32 := 512#32
  let v297 : BitVec 32 := Scalar.muli arg7 c512_i32_126
  v297
def k1_off15 (i : grid1.Coords) (k1_t2 : Fin (k1_t2_loop i).trips) : Fin 3 → Nat :=
  let c1_127 : Index := 1#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_126 : BitVec 32 := 512#32
  let v297 : BitVec 32 := Scalar.muli arg7 c512_i32_126
  let v298 : BitVec 32 := v297
  let v299 : Index := Scalar.indexCast v298
  let c0_128 : Index := 0#32
  ![1, v299.toNat, 0]
def k1_off16 (i : grid1.Coords) (k1_t2 : Fin (k1_t2_loop i).trips) : Fin 3 → Nat :=
  let c1_132 : Index := 1#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_126 : BitVec 32 := 512#32
  let v297 : BitVec 32 := Scalar.muli arg7 c512_i32_126
  let v298 : BitVec 32 := v297
  let v318 : Index := Scalar.indexCast v298
  let c0_133 : Index := 0#32
  ![1, v318.toNat, 0]
def k1_mult9 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_135 : BitVec 32 := 512#32
  let v323 : BitVec 32 := Scalar.muli arg7 c512_i32_135
  v323
def k1_off17 (i : grid1.Coords) (k1_t2 : Fin (k1_t2_loop i).trips) : Fin 3 → Nat :=
  let c2_136 : Index := 2#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_135 : BitVec 32 := 512#32
  let v323 : BitVec 32 := Scalar.muli arg7 c512_i32_135
  let v324 : BitVec 32 := v323
  let v325 : Index := Scalar.indexCast v324
  let c0_137 : Index := 0#32
  ![2, v325.toNat, 0]
def k1_off18 (i : grid1.Coords) (k1_t2 : Fin (k1_t2_loop i).trips) : Fin 3 → Nat :=
  let c2_141 : Index := 2#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_135 : BitVec 32 := 512#32
  let v323 : BitVec 32 := Scalar.muli arg7 c512_i32_135
  let v324 : BitVec 32 := v323
  let v344 : Index := Scalar.indexCast v324
  let c0_142 : Index := 0#32
  ![2, v344.toNat, 0]
def k1_mult10 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_144 : BitVec 32 := 512#32
  let v349 : BitVec 32 := Scalar.muli arg7 c512_i32_144
  v349
def k1_off19 (i : grid1.Coords) (k1_t2 : Fin (k1_t2_loop i).trips) : Fin 3 → Nat :=
  let c3_145 : Index := 3#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_144 : BitVec 32 := 512#32
  let v349 : BitVec 32 := Scalar.muli arg7 c512_i32_144
  let v350 : BitVec 32 := v349
  let v351 : Index := Scalar.indexCast v350
  let c0_146 : Index := 0#32
  ![3, v351.toNat, 0]
def k1_off20 (i : grid1.Coords) (k1_t2 : Fin (k1_t2_loop i).trips) : Fin 3 → Nat :=
  let c3_150 : Index := 3#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_144 : BitVec 32 := 512#32
  let v349 : BitVec 32 := Scalar.muli arg7 c512_i32_144
  let v350 : BitVec 32 := v349
  let v370 : Index := Scalar.indexCast v350
  let c0_151 : Index := 0#32
  ![3, v370.toNat, 0]
def k1_mult11 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_153 : BitVec 32 := 512#32
  let v375 : BitVec 32 := Scalar.muli arg7 c512_i32_153
  v375
def k1_off21 (i : grid1.Coords) (k1_t2 : Fin (k1_t2_loop i).trips) : Fin 3 → Nat :=
  let c4_154 : Index := 4#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_153 : BitVec 32 := 512#32
  let v375 : BitVec 32 := Scalar.muli arg7 c512_i32_153
  let v376 : BitVec 32 := v375
  let v377 : Index := Scalar.indexCast v376
  let c0_155 : Index := 0#32
  ![4, v377.toNat, 0]
def k1_off22 (i : grid1.Coords) (k1_t2 : Fin (k1_t2_loop i).trips) : Fin 3 → Nat :=
  let c4_159 : Index := 4#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_153 : BitVec 32 := 512#32
  let v375 : BitVec 32 := Scalar.muli arg7 c512_i32_153
  let v376 : BitVec 32 := v375
  let v396 : Index := Scalar.indexCast v376
  let c0_160 : Index := 0#32
  ![4, v396.toNat, 0]
def k1_mult12 (i : grid1.Coords) (k1_t2 : Fin (k1_t2_loop i).trips) : BitVec 32 :=
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_162 : BitVec 32 := 512#32
  let v401 : BitVec 32 := Scalar.muli arg7 c512_i32_162
  v401
def k1_off23 (i : grid1.Coords) (k1_t2 : Fin (k1_t2_loop i).trips) : Fin 3 → Nat :=
  let c5_163 : Index := 5#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_162 : BitVec 32 := 512#32
  let v401 : BitVec 32 := Scalar.muli arg7 c512_i32_162
  let v402 : BitVec 32 := v401
  let v403 : Index := Scalar.indexCast v402
  let c0_164 : Index := 0#32
  ![5, v403.toNat, 0]
def k1_off24 (i : grid1.Coords) (k1_t2 : Fin (k1_t2_loop i).trips) : Fin 3 → Nat :=
  let c5_168 : Index := 5#32
  let c0_i32 : BitVec 32 := 0#32
  let arg1 : BitVec 32 := BitVec.ofNat 32 (i 1).val
  let v60 : BitVec 32 := Scalar.subi arg1 c0_i32
  let c1_i32 : BitVec 32 := 1#32
  let v62 : BitVec 32 := Scalar.divsi v60 c1_i32
  let v63 : BitVec 32 := Scalar.muli v62 c1_i32
  let v64 : BitVec 32 := Scalar.addi c0_i32 v63
  let c1_i32_39 : BitVec 32 := 1#32
  let arg7 : BitVec 32 := Scf.iv v64 c1_i32_39 k1_t2
  let c512_i32_162 : BitVec 32 := 512#32
  let v401 : BitVec 32 := Scalar.muli arg7 c512_i32_162
  let v402 : BitVec 32 := v401
  let v422 : Index := Scalar.indexCast v402
  let c0_169 : Index := 0#32
  ![5, v422.toNat, 0]
def k1_mult13 (i : grid1.Coords) : BitVec 32 :=
  let arg1 : BitVec 32 := BitVec.ofNat 32 (i 1).val
  let c512_i32 : BitVec 32 := 512#32
  let v67 : BitVec 32 := Scalar.muli arg1 c512_i32
  v67
def k1_off25 (i : grid1.Coords) : Fin 3 → Nat :=
  let c0_40 : Index := 0#32
  let arg1 : BitVec 32 := BitVec.ofNat 32 (i 1).val
  let c512_i32 : BitVec 32 := 512#32
  let v67 : BitVec 32 := Scalar.muli arg1 c512_i32
  let v68 : BitVec 32 := v67
  let v69 : Index := Scalar.indexCast v68
  let c0_41 : Index := 0#32
  ![0, v69.toNat, 0]
def k1_off26 (i : grid1.Coords) : Fin 3 → Nat :=
  let c0_46 : Index := 0#32
  let arg1 : BitVec 32 := BitVec.ofNat 32 (i 1).val
  let c512_i32 : BitVec 32 := 512#32
  let v67 : BitVec 32 := Scalar.muli arg1 c512_i32
  let v68 : BitVec 32 := v67
  let v90 : Index := Scalar.indexCast v68
  let c0_47 : Index := 0#32
  ![0, v90.toNat, 0]
def k1_mult14 (i : grid1.Coords) : BitVec 32 :=
  let arg1 : BitVec 32 := BitVec.ofNat 32 (i 1).val
  let c512_i32_49 : BitVec 32 := 512#32
  let v95 : BitVec 32 := Scalar.muli arg1 c512_i32_49
  v95
def k1_off27 (i : grid1.Coords) : Fin 3 → Nat :=
  let c1_50 : Index := 1#32
  let arg1 : BitVec 32 := BitVec.ofNat 32 (i 1).val
  let c512_i32_49 : BitVec 32 := 512#32
  let v95 : BitVec 32 := Scalar.muli arg1 c512_i32_49
  let v96 : BitVec 32 := v95
  let v97 : Index := Scalar.indexCast v96
  let c0_51 : Index := 0#32
  ![1, v97.toNat, 0]
def k1_off28 (i : grid1.Coords) : Fin 3 → Nat :=
  let c1_56 : Index := 1#32
  let arg1 : BitVec 32 := BitVec.ofNat 32 (i 1).val
  let c512_i32_49 : BitVec 32 := 512#32
  let v95 : BitVec 32 := Scalar.muli arg1 c512_i32_49
  let v96 : BitVec 32 := v95
  let v118 : Index := Scalar.indexCast v96
  let c0_57 : Index := 0#32
  ![1, v118.toNat, 0]
def k1_mult15 (i : grid1.Coords) : BitVec 32 :=
  let arg1 : BitVec 32 := BitVec.ofNat 32 (i 1).val
  let c512_i32_59 : BitVec 32 := 512#32
  let v123 : BitVec 32 := Scalar.muli arg1 c512_i32_59
  v123
def k1_off29 (i : grid1.Coords) : Fin 3 → Nat :=
  let c2_60 : Index := 2#32
  let arg1 : BitVec 32 := BitVec.ofNat 32 (i 1).val
  let c512_i32_59 : BitVec 32 := 512#32
  let v123 : BitVec 32 := Scalar.muli arg1 c512_i32_59
  let v124 : BitVec 32 := v123
  let v125 : Index := Scalar.indexCast v124
  let c0_61 : Index := 0#32
  ![2, v125.toNat, 0]
def k1_off30 (i : grid1.Coords) : Fin 3 → Nat :=
  let c2_66 : Index := 2#32
  let arg1 : BitVec 32 := BitVec.ofNat 32 (i 1).val
  let c512_i32_59 : BitVec 32 := 512#32
  let v123 : BitVec 32 := Scalar.muli arg1 c512_i32_59
  let v124 : BitVec 32 := v123
  let v146 : Index := Scalar.indexCast v124
  let c0_67 : Index := 0#32
  ![2, v146.toNat, 0]
def k1_mult16 (i : grid1.Coords) : BitVec 32 :=
  let arg1 : BitVec 32 := BitVec.ofNat 32 (i 1).val
  let c512_i32_69 : BitVec 32 := 512#32
  let v151 : BitVec 32 := Scalar.muli arg1 c512_i32_69
  v151
def k1_off31 (i : grid1.Coords) : Fin 3 → Nat :=
  let c3_70 : Index := 3#32
  let arg1 : BitVec 32 := BitVec.ofNat 32 (i 1).val
  let c512_i32_69 : BitVec 32 := 512#32
  let v151 : BitVec 32 := Scalar.muli arg1 c512_i32_69
  let v152 : BitVec 32 := v151
  let v153 : Index := Scalar.indexCast v152
  let c0_71 : Index := 0#32
  ![3, v153.toNat, 0]
def k1_off32 (i : grid1.Coords) : Fin 3 → Nat :=
  let c3_76 : Index := 3#32
  let arg1 : BitVec 32 := BitVec.ofNat 32 (i 1).val
  let c512_i32_69 : BitVec 32 := 512#32
  let v151 : BitVec 32 := Scalar.muli arg1 c512_i32_69
  let v152 : BitVec 32 := v151
  let v174 : Index := Scalar.indexCast v152
  let c0_77 : Index := 0#32
  ![3, v174.toNat, 0]
def k1_mult17 (i : grid1.Coords) : BitVec 32 :=
  let arg1 : BitVec 32 := BitVec.ofNat 32 (i 1).val
  let c512_i32_79 : BitVec 32 := 512#32
  let v179 : BitVec 32 := Scalar.muli arg1 c512_i32_79
  v179
def k1_off33 (i : grid1.Coords) : Fin 3 → Nat :=
  let c4_80 : Index := 4#32
  let arg1 : BitVec 32 := BitVec.ofNat 32 (i 1).val
  let c512_i32_79 : BitVec 32 := 512#32
  let v179 : BitVec 32 := Scalar.muli arg1 c512_i32_79
  let v180 : BitVec 32 := v179
  let v181 : Index := Scalar.indexCast v180
  let c0_81 : Index := 0#32
  ![4, v181.toNat, 0]
def k1_off34 (i : grid1.Coords) : Fin 3 → Nat :=
  let c4_86 : Index := 4#32
  let arg1 : BitVec 32 := BitVec.ofNat 32 (i 1).val
  let c512_i32_79 : BitVec 32 := 512#32
  let v179 : BitVec 32 := Scalar.muli arg1 c512_i32_79
  let v180 : BitVec 32 := v179
  let v202 : Index := Scalar.indexCast v180
  let c0_87 : Index := 0#32
  ![4, v202.toNat, 0]
def k1_mult18 (i : grid1.Coords) : BitVec 32 :=
  let arg1 : BitVec 32 := BitVec.ofNat 32 (i 1).val
  let c512_i32_89 : BitVec 32 := 512#32
  let v207 : BitVec 32 := Scalar.muli arg1 c512_i32_89
  v207
def k1_off35 (i : grid1.Coords) : Fin 3 → Nat :=
  let c5_90 : Index := 5#32
  let arg1 : BitVec 32 := BitVec.ofNat 32 (i 1).val
  let c512_i32_89 : BitVec 32 := 512#32
  let v207 : BitVec 32 := Scalar.muli arg1 c512_i32_89
  let v208 : BitVec 32 := v207
  let v209 : Index := Scalar.indexCast v208
  let c0_91 : Index := 0#32
  ![5, v209.toNat, 0]
def k1_off36 (i : grid1.Coords) : Fin 3 → Nat :=
  let c5_96 : Index := 5#32
  let arg1 : BitVec 32 := BitVec.ofNat 32 (i 1).val
  let c512_i32_89 : BitVec 32 := 512#32
  let v207 : BitVec 32 := Scalar.muli arg1 c512_i32_89
  let v208 : BitVec 32 := v207
  let v230 : Index := Scalar.indexCast v208
  let c0_97 : Index := 0#32
  ![5, v230.toNat, 0]
def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c11_i32 : BitVec 32 := 11#32
  let c0_i32 : BitVec 32 := 0#32
  let c0_i32_0 : BitVec 32 := 0#32
  ![c11_i32.toNat, v1.toNat, c0_i32.toNat]

def cc1_transform_1 (i : grid1.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  let c0_i32_0 : BitVec 32 := 0#32
  ![c13_i32.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage1_0 : Fin 2 → Memref sig .tc .vmem S6x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S6x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S6x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S6x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S6x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((11863283 / 134217728) * (Real.log 2)⁻¹ : ℝ) : EReal)
  | _ => none
-- ==== ReferenceIdeal.lean ====
abbrev S32768x128 : Shape := ⟨2, ![32768, 128]⟩
abbrev S4x6 : Shape := ⟨2, ![4, 6]⟩
abbrev S88x32768x128 : Shape := ⟨3, ![88, 32768, 128]⟩
abbrev S6x32768x128 : Shape := ⟨3, ![6, 32768, 128]⟩
abbrev S6x8x4096x128 : Shape := ⟨4, ![6, 8, 4096, 128]⟩
abbrev S32768x6 : Shape := ⟨2, ![32768, 6]⟩
abbrev S8x4096x6 : Shape := ⟨3, ![8, 4096, 6]⟩
abbrev S1x6 : Shape := ⟨2, ![1, 6]⟩
abbrev S6 : Shape := ⟨1, ![6]⟩
abbrev S1x1x6 : Shape := ⟨3, ![1, 1, 6]⟩
abbrev S_ : Shape := ⟨0, ![]⟩
abbrev S6x8x4096 : Shape := ⟨3, ![6, 8, 4096]⟩
abbrev S4096 : Shape := ⟨1, ![4096]⟩
abbrev S6x8x4096x4096 : Shape := ⟨4, ![6, 8, 4096, 4096]⟩
abbrev S6x8x4096x1 : Shape := ⟨4, ![6, 8, 4096, 1]⟩
abbrev S6x8x1x4096 : Shape := ⟨4, ![6, 8, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4x6, .f32⟩
  | .hbm, ⟨2, _⟩ => ⟨S88x32768x128, .bf16⟩
  | .hbm, ⟨3, _⟩ => ⟨S6x32768x128, .bf16⟩
  | .hbm, ⟨4, _⟩ => ⟨S6x32768x128, .f32⟩
  | .hbm, ⟨5, _⟩ => ⟨S6x8x4096x128, .f32⟩
  | .hbm, ⟨6, _⟩ => ⟨S6x32768x128, .bf16⟩
  | .hbm, ⟨7, _⟩ => ⟨S6x32768x128, .f32⟩
  | .hbm, ⟨8, _⟩ => ⟨S6x8x4096x128, .f32⟩
  | .hbm, ⟨9, _⟩ => ⟨S6x32768x128, .bf16⟩
  | .hbm, ⟨10, _⟩ => ⟨S6x32768x128, .f32⟩
  | .hbm, ⟨11, _⟩ => ⟨S6x8x4096x128, .f32⟩
  | .hbm, ⟨12, _⟩ => ⟨S32768x6, .f32⟩
  | .hbm, ⟨13, _⟩ => ⟨S8x4096x6, .f32⟩
  | .hbm, ⟨14, _⟩ => ⟨S1x6, .f32⟩
  | .hbm, ⟨15, _⟩ => ⟨S6, .f32⟩
  | .hbm, ⟨16, _⟩ => ⟨S1x1x6, .f32⟩
  | .hbm, ⟨17, _⟩ => ⟨S8x4096x6, .f32⟩
  | .hbm, ⟨18, _⟩ => ⟨S8x4096x6, .f32⟩
  | .hbm, ⟨19, _⟩ => ⟨S8x4096x6, .f32⟩
  | .hbm, ⟨20, _⟩ => ⟨S_, .f32⟩
  | .hbm, ⟨21, _⟩ => ⟨S8x4096x6, .f32⟩
  | .hbm, ⟨22, _⟩ => ⟨S8x4096x6, .f32⟩
  | .hbm, ⟨23, _⟩ => ⟨S8x4096x6, .f32⟩
  | .hbm, ⟨24, _⟩ => ⟨S8x4096x6, .f32⟩
  | .hbm, ⟨25, _⟩ => ⟨S8x4096x6, .i1⟩
  | .hbm, ⟨26, _⟩ => ⟨S8x4096x6, .f32⟩
  | .hbm, ⟨27, _⟩ => ⟨S8x4096x6, .f32⟩
  | .hbm, ⟨28, _⟩ => ⟨S8x4096x6, .f32⟩
  | .hbm, ⟨29, _⟩ => ⟨S8x4096x6, .f32⟩
  | .hbm, ⟨30, _⟩ => ⟨S8x4096x6, .f32⟩
  | .hbm, ⟨31, _⟩ => ⟨S8x4096x6, .f32⟩
  | .hbm, ⟨32, _⟩ => ⟨S8x4096x6, .f32⟩
  | .hbm, ⟨33, _⟩ => ⟨S8x4096x6, .f32⟩
  | .hbm, ⟨34, _⟩ => ⟨S8x4096x6, .f32⟩
  | .hbm, ⟨35, _⟩ => ⟨S_, .f32⟩
  | .hbm, ⟨36, _⟩ => ⟨S_, .f32⟩
  | .hbm, ⟨37, _⟩ => ⟨S8x4096x6, .f32⟩
  | .hbm, ⟨38, _⟩ => ⟨S6x8x4096, .f32⟩
  | .hbm, ⟨39, _⟩ => ⟨S4096, .i32⟩
  | .hbm, ⟨40, _⟩ => ⟨S4096, .i32⟩
  | .hbm, ⟨41, _⟩ => ⟨S6x8x4096x4096, .f32⟩
  | .hbm, ⟨42, _⟩ => ⟨S_, .f32⟩
  | .hbm, ⟨43, _⟩ => ⟨S6x8x4096x4096, .f32⟩
  | .hbm, ⟨44, _⟩ => ⟨S6x8x4096x4096, .f32⟩
  | .hbm, ⟨45, _⟩ => ⟨S6x8x4096x1, .f32⟩
  | .hbm, ⟨46, _⟩ => ⟨S6x8x4096x4096, .f32⟩
  | .hbm, ⟨47, _⟩ => ⟨S6x8x4096x4096, .f32⟩
  | .hbm, ⟨48, _⟩ => ⟨S6x8x1x4096, .f32⟩
  | .hbm, ⟨49, _⟩ => ⟨S6x8x4096x4096, .f32⟩
  | .hbm, ⟨50, _⟩ => ⟨S6x8x4096x4096, .f32⟩
  | .hbm, ⟨51, _⟩ => ⟨S1x4096, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S1x1x4096x4096, .i1⟩
  | .hbm, ⟨57, _⟩ => ⟨S_, .f32⟩
  | .hbm, ⟨58, _⟩ => ⟨S_, .f32⟩
  | .hbm, ⟨59, _⟩ => ⟨S6x8x4096x4096, .i1⟩
  | .hbm, ⟨60, _⟩ => ⟨S6x8x4096x4096, .f32⟩
  | .hbm, ⟨61, _⟩ => ⟨S6x8x4096x4096, .f32⟩
  | .hbm, ⟨62, _⟩ => ⟨S_, .f32⟩
  | .hbm, ⟨63, _⟩ => ⟨S6x8x4096, .f32⟩
  | .hbm, ⟨64, _⟩ => ⟨S_, .f32⟩
  | .hbm, ⟨65, _⟩ => ⟨S6x8x4096, .f32⟩
  | .hbm, ⟨66, _⟩ => ⟨S6x8x4096, .f32⟩
  | .hbm, ⟨67, _⟩ => ⟨S6x8x4096x1, .f32⟩
  | .hbm, ⟨68, _⟩ => ⟨S6x8x4096x4096, .f32⟩
  | .hbm, ⟨69, _⟩ => ⟨S6x8x4096x4096, .f32⟩
  | .hbm, ⟨70, _⟩ => ⟨S6x8x4096x4096, .f32⟩
  | .hbm, ⟨71, _⟩ => ⟨S_, .f32⟩
  | .hbm, ⟨72, _⟩ => ⟨S6x8x4096, .f32⟩
  | .hbm, ⟨73, _⟩ => ⟨S6x8x4096x1, .f32⟩
  | .hbm, ⟨74, _⟩ => ⟨S6x8x4096x4096, .f32⟩
  | .hbm, ⟨75, _⟩ => ⟨S6x8x4096x4096, .f32⟩
  | .hbm, ⟨76, _⟩ => ⟨S6x8x4096x128, .f32⟩
  | .hbm, ⟨77, _⟩ => ⟨S6x32768x128, .f32⟩
  | .hbm, ⟨78, _⟩ => ⟨S6x32768x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_call1_call0_cst : Ref sig .tc := ⟨.hbm, 35, rfl⟩
abbrev main_call1_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel2.lean ====
abbrev S8x4096x2048 : Shape := ⟨3, ![8, 4096, 2048]⟩
abbrev S4x2048 : Shape := ⟨2, ![4, 2048]⟩
abbrev S4x2048x11270 : Shape := ⟨3, ![4, 2048, 11270]⟩
abbrev S4x2048x11264 : Shape := ⟨3, ![4, 2048, 11264]⟩
abbrev S4x2048x128 : Shape := ⟨3, ![4, 2048, 128]⟩
abbrev S1x256x11270 : Shape := ⟨3, ![1, 256, 11270]⟩
abbrev S1x256x11264 : Shape := ⟨3, ![1, 256, 11264]⟩
abbrev S1x256x128 : Shape := ⟨3, ![1, 256, 128]⟩
abbrev S1x256x6144 : Shape := ⟨3, ![1, 256, 6144]⟩
abbrev S256x6144 : Shape := ⟨2, ![256, 6144]⟩
abbrev S1x256x4608 : Shape := ⟨3, ![1, 256, 4608]⟩
abbrev S256x4608 : Shape := ⟨2, ![256, 4608]⟩
abbrev S1x256x512 : Shape := ⟨3, ![1, 256, 512]⟩
abbrev S256x512 : Shape := ⟨2, ![256, 512]⟩
abbrev S1x128 : Shape := ⟨2, ![1, 128]⟩
abbrev S256x128 : Shape := ⟨2, ![256, 128]⟩
abbrev S4x1x2048 : Shape := ⟨3, ![4, 1, 2048]⟩
abbrev S32768x2048 : Shape := ⟨2, ![32768, 2048]⟩
abbrev S88x32768x128 : Shape := ⟨3, ![88, 32768, 128]⟩
abbrev S32768x128 : Shape := ⟨2, ![32768, 128]⟩
abbrev S1024x2048 : Shape := ⟨2, ![1024, 2048]⟩
abbrev S1x1x2048 : Shape := ⟨3, ![1, 1, 2048]⟩
abbrev S1x2048x1024 : Shape := ⟨3, ![1, 2048, 1024]⟩
abbrev S1x2048x128 : Shape := ⟨3, ![1, 2048, 128]⟩
abbrev S8x1024x128 : Shape := ⟨3, ![8, 1024, 128]⟩
abbrev S1024x128 : Shape := ⟨2, ![1024, 128]⟩
abbrev S1024 : Shape := ⟨1, ![1024]⟩
abbrev S1024x1 : Shape := ⟨2, ![1024, 1]⟩
abbrev S1x2048 : Shape := ⟨2, ![1, 2048]⟩
abbrev S2048x128 : Shape := ⟨2, ![2048, 128]⟩
abbrev S2048x1024 : Shape := ⟨2, ![2048, 1024]⟩
abbrev S1024x1024 : Shape := ⟨2, ![1024, 1024]⟩
abbrev S1x1024x128 : Shape := ⟨3, ![1, 1024, 128]⟩

abbrev nBuf : Space → Nat
  | .hbm => 10
  | .vmem => 17
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x11270, .f32⟩
  | .hbm, ⟨3, _⟩ => ⟨S4x2048x11270, .bf16⟩
  | .hbm, ⟨4, _⟩ => ⟨S4x2048x11264, .bf16⟩
  | .hbm, ⟨5, _⟩ => ⟨S4x2048x128, .bf16⟩
  | .hbm, ⟨6, _⟩ => ⟨S4x1x2048, .f32⟩
  | .hbm, ⟨7, _⟩ => ⟨S32768x2048, .f32⟩
  | .hbm, ⟨8, _⟩ => ⟨S88x32768x128, .bf16⟩
  | .hbm, ⟨9, _⟩ => ⟨S32768x128, .f32⟩
  | .local _ .vmem, ⟨0, _⟩ => ⟨S1x256x11270, .bf16⟩
  | .local _ .vmem, ⟨1, _⟩ => ⟨S1x256x11270, .bf16⟩
  | .local _ .vmem, ⟨2, _⟩ => ⟨S1x256x11264, .bf16⟩
  | .local _ .vmem, ⟨3, _⟩ => ⟨S1x256x11264, .bf16⟩
  | .local _ .vmem, ⟨4, _⟩ => ⟨S1x256x128, .bf16⟩
  | .local _ .vmem, ⟨5, _⟩ => ⟨S1x256x128, .bf16⟩
  | .local _ .vmem, ⟨6, _⟩ => ⟨S1024x2048, .f32⟩
  | .local _ .vmem, ⟨7, _⟩ => ⟨S1024x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x128, .bf16⟩
  | .local _ .vmem, ⟨12, _⟩ => ⟨S8x1024x128, .bf16⟩
  | .local _ .vmem, ⟨13, _⟩ => ⟨S8x1024x128, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x11270 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 11], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x2048x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== Reference2Ideal.lean ====
abbrev S8x4096x2048 : Shape := ⟨3, ![8, 4096, 2048]⟩
abbrev S4x2048 : Shape := ⟨2, ![4, 2048]⟩
abbrev S4x2048x11270 : Shape := ⟨3, ![4, 2048, 11270]⟩
abbrev S_ : Shape := ⟨0, ![]⟩
abbrev S8x4096 : Shape := ⟨2, ![8, 4096]⟩
abbrev S8x4096x1 : Shape := ⟨3, ![8, 4096, 1]⟩
abbrev S1x2048 : Shape := ⟨2, ![1, 2048]⟩
abbrev S2048 : Shape := ⟨1, ![2048]⟩
abbrev S1x1x2048 : Shape := ⟨3, ![1, 1, 2048]⟩
abbrev S1x2048x11270 : Shape := ⟨3, ![1, 2048, 11270]⟩
abbrev S2048x11270 : Shape := ⟨2, ![2048, 11270]⟩
abbrev S8x4096x11270 : Shape := ⟨3, ![8, 4096, 11270]⟩
abbrev S8x4096x4608 : Shape := ⟨3, ![8, 4096, 4608]⟩
abbrev S8x4096x6 : Shape := ⟨3, ![8, 4096, 6]⟩
abbrev S8x4096x512 : Shape := ⟨3, ![8, 4096, 512]⟩
abbrev S8x4096x6144 : Shape := ⟨3, ![8, 4096, 6144]⟩
abbrev S8x4096x11264 : Shape := ⟨3, ![8, 4096, 11264]⟩
abbrev S32768x88x128 : Shape := ⟨3, ![32768, 88, 128]⟩
abbrev S32768x6 : Shape := ⟨2, ![32768, 6]⟩
abbrev S32768x128 : Shape := ⟨2, ![32768, 128]⟩
abbrev S88x32768x128 : Shape := ⟨3, ![88, 32768, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S4x2048x11270, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S1x2048x11270, .f32⟩
  | .hbm, ⟨22, _⟩ => ⟨S2048x11270, .f32⟩
  | .hbm, ⟨23, _⟩ => ⟨S8x4096x11270, .f32⟩
  | .hbm, ⟨24, _⟩ => ⟨S8x4096x4608, .f32⟩
  | .hbm, ⟨25, _⟩ => ⟨S8x4096x6, .f32⟩
  | .hbm, ⟨26, _⟩ => ⟨S8x4096x512, .f32⟩
  | .hbm, ⟨27, _⟩ => ⟨S8x4096x6144, .f32⟩
  | .hbm, ⟨28, _⟩ => ⟨S8x4096x6144, .f32⟩
  | .hbm, ⟨29, _⟩ => ⟨S8x4096x6144, .f32⟩
  | .hbm, ⟨30, _⟩ => ⟨S_, .f32⟩
  | .hbm, ⟨31, _⟩ => ⟨S8x4096x6144, .f32⟩
  | .hbm, ⟨32, _⟩ => ⟨S8x4096x6144, .f32⟩
  | .hbm, ⟨33, _⟩ => ⟨S_, .f32⟩
  | .hbm, ⟨34, _⟩ => ⟨S8x4096x6144, .f32⟩
  | .hbm, ⟨35, _⟩ => ⟨S8x4096x6144, .f32⟩
  | .hbm, ⟨36, _⟩ => ⟨S8x4096x11264, .f32⟩
  | .hbm, ⟨37, _⟩ => ⟨S32768x88x128, .f32⟩
  | .hbm, ⟨38, _⟩ => ⟨S32768x6, .f32⟩
  | .hbm, ⟨39, _⟩ => ⟨S_, .i32⟩
  | .hbm, ⟨40, _⟩ => ⟨S_, .f32⟩
  | .hbm, ⟨41, _⟩ => ⟨S32768x128, .f32⟩
  | .hbm, ⟨42, _⟩ => ⟨S88x32768x128, .f32⟩
  | .hbm, ⟨43, _⟩ => ⟨S88x32768x128, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel3.lean ====
abbrev S144 : Shape := ⟨1, ![144]⟩
abbrev S1 : Shape := ⟨1, ![1]⟩
abbrev S589824x128 : Shape := ⟨2, ![589824, 128]⟩
abbrev S4x16x2048x1024 : Shape := ⟨4, ![4, 16, 2048, 1024]⟩
abbrev S4x16x1024x2048 : Shape := ⟨4, ![4, 16, 1024, 2048]⟩
abbrev S1179648x128 : Shape := ⟨2, ![1179648, 128]⟩
abbrev S4096x128 : Shape := ⟨2, ![4096, 128]⟩
abbrev S1x1x2048x1024 : Shape := ⟨4, ![1, 1, 2048, 1024]⟩
abbrev S1x1x1024x2048 : Shape := ⟨4, ![1, 1, 1024, 2048]⟩
abbrev S8192x128 : Shape := ⟨2, ![8192, 128]⟩
abbrev S512x128 : Shape := ⟨2, ![512, 128]⟩
abbrev S512x1024 : Shape := ⟨2, ![512, 1024]⟩
abbrev S1x1x1024x1024 : Shape := ⟨4, ![1, 1, 1024, 1024]⟩
abbrev S1024x1024 : Shape := ⟨2, ![1024, 1024]⟩
abbrev S1024x2048 : Shape := ⟨2, ![1024, 2048]⟩
abbrev S512x2048 : Shape := ⟨2, ![512, 2048]⟩
abbrev S4096x2x128 : Shape := ⟨3, ![4096, 2, 128]⟩
abbrev S512x2x128 : Shape := ⟨3, ![512, 2, 128]⟩
abbrev S512x1x128 : Shape := ⟨3, ![512, 1, 128]⟩

abbrev nBuf : Space → Nat
  | .hbm => 8
  | .vmem => 10
  | .smem => 2
  | _ => 0

abbrev bufTy : (tb : Table) → Fin (tcTables nBuf tb) → BufTy
  | .hbm, ⟨0, _⟩ => ⟨S589824x128, .i32⟩
  | .hbm, ⟨1, _⟩ => ⟨S4x16x2048x1024, .f32⟩
  | .hbm, ⟨2, _⟩ => ⟨S4x16x2048x1024, .f32⟩
  | .hbm, ⟨3, _⟩ => ⟨S4x16x1024x2048, .f32⟩
  | .hbm, ⟨4, _⟩ => ⟨S4x16x2048x1024, .bf16⟩
  | .hbm, ⟨5, _⟩ => ⟨S4x16x2048x1024, .bf16⟩
  | .hbm, ⟨6, _⟩ => ⟨S4x16x1024x2048, .bf16⟩
  | .hbm, ⟨7, _⟩ => ⟨S1179648x128, .bf16⟩
  | .local _ .vmem, ⟨0, _⟩ => ⟨S4096x128, .i32⟩
  | .local _ .vmem, ⟨1, _⟩ => ⟨S4096x128, .i32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1024x2048, .bf16⟩
  | .local _ .vmem, ⟨7, _⟩ => ⟨S1x1x1024x2048, .bf16⟩
  | .local _ .vmem, ⟨8, _⟩ => ⟨S8192x128, .bf16⟩
  | .local _ .vmem, ⟨9, _⟩ => ⟨S8192x128, .bf16⟩
  | .local _ .smem, ⟨0, _⟩ => ⟨S144, .i32⟩
  | .local _ .smem, ⟨1, _⟩ => ⟨S1, .i32⟩
  | _, _ => ⟨S589824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
variable {F : FTy → Type} [FloatOps F]
-- ==== Reference3Ideal.lean ====
abbrev S144 : Shape := ⟨1, ![144]⟩
abbrev S1 : Shape := ⟨1, ![1]⟩
abbrev S589824x128 : Shape := ⟨2, ![589824, 128]⟩
abbrev S4x16x2048x1024 : Shape := ⟨4, ![4, 16, 2048, 1024]⟩
abbrev S4x16x1024x2048 : Shape := ⟨4, ![4, 16, 1024, 2048]⟩
abbrev S589824x128x2 : Shape := ⟨3, ![589824, 128, 2]⟩
abbrev S144x512x8x128x2 : Shape := ⟨5, ![144, 512, 8, 128, 2]⟩
abbrev S144x512x2x8x128 : Shape := ⟨5, ![144, 512, 2, 8, 128]⟩
abbrev S144x512x2048 : Shape := ⟨3, ![144, 512, 2048]⟩
abbrev S1x16x2048x1024 : Shape := ⟨4, ![1, 16, 2048, 1024]⟩
abbrev S16x2048x1024 : Shape := ⟨3, ![16, 2048, 1024]⟩
abbrev S_ : Shape := ⟨0, ![]⟩
abbrev S144x1 : Shape := ⟨2, ![144, 1]⟩
abbrev S144x2048x1024 : Shape := ⟨3, ![144, 2048, 1024]⟩
abbrev S144x512x1024 : Shape := ⟨3, ![144, 512, 1024]⟩
abbrev S1x16x1024x2048 : Shape := ⟨4, ![1, 16, 1024, 2048]⟩
abbrev S16x1024x2048 : Shape := ⟨3, ![16, 1024, 2048]⟩
abbrev S144x1024x2048 : Shape := ⟨3, ![144, 1024, 2048]⟩
abbrev S144x1x1 : Shape := ⟨3, ![144, 1, 1]⟩
abbrev S73728x2x8x128 : Shape := ⟨4, ![73728, 2, 8, 128]⟩
abbrev S73728x8x2x128 : Shape := ⟨4, ![73728, 8, 2, 128]⟩
abbrev S1179648x128 : Shape := ⟨2, ![1179648, 128]⟩

abbrev nBuf : Space → Nat
  | .hbm => 71
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S589824x128, .i32⟩
  | .hbm, ⟨3, _⟩ => ⟨S4x16x2048x1024, .f32⟩
  | .hbm, ⟨4, _⟩ => ⟨S4x16x2048x1024, .f32⟩
  | .hbm, ⟨5, _⟩ => ⟨S4x16x1024x2048, .f32⟩
  | .hbm, ⟨6, _⟩ => ⟨S589824x128x2, .bf16⟩
  | .hbm, ⟨7, _⟩ => ⟨S589824x128x2, .f32⟩
  | .hbm, ⟨8, _⟩ => ⟨S144x512x8x128x2, .f32⟩
  | .hbm, ⟨9, _⟩ => ⟨S144x512x2x8x128, .f32⟩
  | .hbm, ⟨10, _⟩ => ⟨S144x512x2048, .f32⟩
  | .hbm, ⟨11, _⟩ => ⟨S1x16x2048x1024, .f32⟩
  | .hbm, ⟨12, _⟩ => ⟨S16x2048x1024, .f32⟩
  | .hbm, ⟨13, _⟩ => ⟨S_, .i32⟩
  | .hbm, ⟨14, _⟩ => ⟨S144, .i32⟩
  | .hbm, ⟨15, _⟩ => ⟨S144, .i1⟩
  | .hbm, ⟨16, _⟩ => ⟨S_, .i32⟩
  | .hbm, ⟨17, _⟩ => ⟨S144, .i32⟩
  | .hbm, ⟨18, _⟩ => ⟨S144, .i32⟩
  | .hbm, ⟨19, _⟩ => ⟨S144, .i32⟩
  | .hbm, ⟨20, _⟩ => ⟨S144x1, .i32⟩
  | .hbm, ⟨21, _⟩ => ⟨S144x2048x1024, .f32⟩
  | .hbm, ⟨22, _⟩ => ⟨S144x512x1024, .f32⟩
  | .hbm, ⟨23, _⟩ => ⟨S144x512x1024, .f32⟩
  | .hbm, ⟨24, _⟩ => ⟨S144x512x1024, .f32⟩
  | .hbm, ⟨25, _⟩ => ⟨S_, .f32⟩
  | .hbm, ⟨26, _⟩ => ⟨S144x512x1024, .f32⟩
  | .hbm, ⟨27, _⟩ => ⟨S144x512x1024, .f32⟩
  | .hbm, ⟨28, _⟩ => ⟨S_, .f32⟩
  | .hbm, ⟨29, _⟩ => ⟨S144x512x1024, .f32⟩
  | .hbm, ⟨30, _⟩ => ⟨S144x512x1024, .f32⟩
  | .hbm, ⟨31, _⟩ => ⟨S144x512x1024, .f32⟩
  | .hbm, ⟨32, _⟩ => ⟨S1x16x2048x1024, .f32⟩
  | .hbm, ⟨33, _⟩ => ⟨S16x2048x1024, .f32⟩
  | .hbm, ⟨34, _⟩ => ⟨S_, .i32⟩
  | .hbm, ⟨35, _⟩ => ⟨S144, .i32⟩
  | .hbm, ⟨36, _⟩ => ⟨S144, .i1⟩
  | .hbm, ⟨37, _⟩ => ⟨S_, .i32⟩
  | .hbm, ⟨38, _⟩ => ⟨S144, .i32⟩
  | .hbm, ⟨39, _⟩ => ⟨S144, .i32⟩
  | .hbm, ⟨40, _⟩ => ⟨S144, .i32⟩
  | .hbm, ⟨41, _⟩ => ⟨S144x1, .i32⟩
  | .hbm, ⟨42, _⟩ => ⟨S144x2048x1024, .f32⟩
  | .hbm, ⟨43, _⟩ => ⟨S144x512x1024, .f32⟩
  | .hbm, ⟨44, _⟩ => ⟨S144x512x1024, .f32⟩
  | .hbm, ⟨45, _⟩ => ⟨S1x16x1024x2048, .f32⟩
  | .hbm, ⟨46, _⟩ => ⟨S16x1024x2048, .f32⟩
  | .hbm, ⟨47, _⟩ => ⟨S_, .i32⟩
  | .hbm, ⟨48, _⟩ => ⟨S144, .i32⟩
  | .hbm, ⟨49, _⟩ => ⟨S144, .i1⟩
  | .hbm, ⟨50, _⟩ => ⟨S_, .i32⟩
  | .hbm, ⟨51, _⟩ => ⟨S144, .i32⟩
  | .hbm, ⟨52, _⟩ => ⟨S144, .i32⟩
  | .hbm, ⟨53, _⟩ => ⟨S144, .i32⟩
  | .hbm, ⟨54, _⟩ => ⟨S144x1, .i32⟩
  | .hbm, ⟨55, _⟩ => ⟨S144x1024x2048, .f32⟩
  | .hbm, ⟨56, _⟩ => ⟨S144x512x2048, .f32⟩
  | .hbm, ⟨57, _⟩ => ⟨S144, .i32⟩
  | .hbm, ⟨58, _⟩ => ⟨S_, .i32⟩
  | .hbm, ⟨59, _⟩ => ⟨S144, .i32⟩
  | .hbm, ⟨60, _⟩ => ⟨S144, .i1⟩
  | .hbm, ⟨61, _⟩ => ⟨S144x1x1, .i1⟩
  | .hbm, ⟨62, _⟩ => ⟨S_, .f32⟩
  | .hbm, ⟨63, _⟩ => ⟨S_, .f32⟩
  | .hbm, ⟨64, _⟩ => ⟨S144x512x2048, .i1⟩
  | .hbm, ⟨65, _⟩ => ⟨S144x512x2048, .f32⟩
  | .hbm, ⟨66, _⟩ => ⟨S144x512x2048, .f32⟩
  | .hbm, ⟨67, _⟩ => ⟨S73728x2x8x128, .f32⟩
  | .hbm, ⟨68, _⟩ => ⟨S73728x8x2x128, .f32⟩
  | .hbm, ⟨69, _⟩ => ⟨S1179648x128, .f32⟩
  | .hbm, ⟨70, _⟩ => ⟨S1179648x128, .bf16⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Proof.AttnRun.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The attention call: what its body leaves in its result at each grid point, from any contents of its arrays. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off the array's contents when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A value for the part of window 0's buffer no fetch fills; there is no such part. -/
def fillv0 : (cfg1.win 0).block.Idx → Elt F (cfg1.win 0).elt := fun _ => Classical.choice inferInstance
/-- What input window 0's buffer holds when the body runs at `t`: its block of the array. -/
def in0 (c : Dev nD) (t : Fin cfg1.N) : (cfg1.win 0).block.Idx → Elt F (cfg1.win 0).elt :=
  (cfg1.win 0).fill (cfg1.grid.coords t) fillv0 (blk1 V c 0 t)
/-- No block of window 0 is cut. -/
theorem xsize0 : ∀ t : Fin cfg1.N, ∀ a, (cfg1.win 0).xsize (cfg1.grid.coords t) a = (cfg1.win 0).size a := by decide +kernel
theorem moved0 (t : Fin cfg1.N) (j : (cfg1.win 0).block.Idx) : (cfg1.win 0).moved (cfg1.grid.coords t) j = true :=
  ((cfg1.win 0).moved_iff _ j).mpr fun a => by rw [xsize0 t a]; exact (j a).isLt
/-- So a fetch fills the whole buffer, whatever it held. -/
theorem fill0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved0 t j), dif_pos (moved0 t j)]
theorem before0_of {c : Dev nD} (dat : Dat τ (Elt F) Unit ℕ (UR sig nD τ) ℕ cfg1 c) (hA : dat.A 0 = V c (Pipeline.arrRef spec1 0))
    (hafter : ∀ t, dat.after 0 t = in0 V c t) (t : Fin cfg1.N) (d) : dat.before 0 t d = in0 V c t :=
  (dat.before_in_eq_fetched 0 rfl (fun _ => rfl)
      (fun t t' h => funext fun a => congrArg (fun n => Pipeline.Clip.of n ((cfg1.win 0).size a) (S88x32768x128.size a)) (congrFun h a))
      (fun t => by rw [hafter]; unfold in0; rw [Pipeline.Window.cut_fill]; unfold Dat.blockOf blk1; rw [hA]; try rfl) t d).trans
    (by unfold Dat.fetched in0; rw [fill0 t d fillv0]; unfold Dat.blockOf blk1; rw [hA]; try rfl)
/-- A value for the part of window 1's buffer no fetch fills; there is no such part. -/
def fillv1 : (cfg1.win 1).block.Idx → Elt F (cfg1.win 1).elt := fun _ => Classical.choice inferInstance
/-- What input window 1's buffer holds when the body runs at `t`: its block of the array. -/
def in1 (c : Dev nD) (t : Fin cfg1.N) : (cfg1.win 1).block.Idx → Elt F (cfg1.win 1).elt :=
  (cfg1.win 1).fill (cfg1.grid.coords t) fillv1 (blk1 V c 1 t)
/-- No block of window 1 is cut. -/
theorem xsize1 : ∀ t : Fin cfg1.N, ∀ a, (cfg1.win 1).xsize (cfg1.grid.coords t) a = (cfg1.win 1).size a := by decide +kernel
theorem moved1 (t : Fin cfg1.N) (j : (cfg1.win 1).block.Idx) : (cfg1.win 1).moved (cfg1.grid.coords t) j = true :=
  ((cfg1.win 1).moved_iff _ j).mpr fun a => by rw [xsize1 t a]; exact (j a).isLt
/-- So a fetch fills the whole buffer, whatever it held. -/
theorem fill1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1 t j), dif_pos (moved1 t j)]
theorem before1_of {c : Dev nD} (dat : Dat τ (Elt F) Unit ℕ (UR sig nD τ) ℕ cfg1 c) (hA : dat.A 1 = V c (Pipeline.arrRef spec1 1))
    (hafter : ∀ t, dat.after 1 t = in1 V c t) (t : Fin cfg1.N) (d) : dat.before 1 t d = in1 V c t :=
  (dat.before_in_eq_fetched 1 rfl (fun _ => rfl)
      (fun t t' h => funext fun a => congrArg (fun n => Pipeline.Clip.of n ((cfg1.win 1).size a) (S88x32768x128.size a)) (congrFun h a))
      (fun t => by rw [hafter]; unfold in1; rw [Pipeline.Window.cut_fill]; unfold Dat.blockOf blk1; rw [hA]; try rfl) t d).trans
    (by unfold Dat.fetched in1; rw [fill1 t d fillv1]; unfold Dat.blockOf blk1; rw [hA]; try rfl)
/-- Input window 2's buffer holds its block at every point, fetched there or earlier. -/
theorem before2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's buffer holds its block at every point, fetched there or earlier. -/
theorem before3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- One buffer of the result's window, through which the contents left are stated. -/
abbrev VO4 : View sig .tc .vmem S6x512x128 .bf16 := (Memref.whole cc1_stg4_0 : Memref sig .tc .vmem S6x512x128 .bf16).view
abbrev ms0 (t : Fin cfg1.N) : Memref sig .tc .vmem S6x512x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S6x4096x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S6x512x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S6x4096x256 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S6x512x128 .bf16 := win1_4.stage (cfg1.slots t 4)
abbrev hs4 (t : Fin cfg1.N) : (ms4 t).IsWhole := hstage1_4 ((cfg1.slots t 4).cast nbuf1_4)

set_option maxHeartbeats 8000000 in
/-- The body's run on any buffers: the pieces it stores into the result, and that it hands the inputs back. -/
noncomputable def run (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole)
    (x0 : Vec F S6x512x128 .bf16) (x1 : Vec F S6x4096x128 .bf16) (x2 : Vec F S6x512x128 .bf16) (x3 : Vec F S6x4096x256 .bf16) :
    { L4 : List (View.Piece (Elt F) S6x512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_attn_forget i arg2 harg2 arg3 harg3 arg4 harg4 arg5 harg5 arg6 harg6) K } := by
  refine ⟨?_, fun E K => ?run⟩
  case run =>
    simp only [cc1_attn_forget_eq_skeleton]; unfold cc1_attn_forget_skel
    simp only [k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The six pieces tile the result's block. -/
theorem cover (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole)
    (x0 : Vec F S6x512x128 .bf16) (x1 : Vec F S6x4096x128 .bf16) (x2 : Vec F S6x512x128 .bf16) (x3 : Vec F S6x4096x256 .bf16) (y : S6x512x128.Idx) :
    ∃ pc ∈ (run c i arg2 harg2 arg3 harg3 arg4 harg4 arg5 harg5 arg6 harg6 x0 x1 x2 x3).1, y ∈ pc.1.set :=
  View.cover_of_tiledL (run c i arg2 harg2 arg3 harg3 arg4 harg4 arg5 harg5 arg6 harg6 x0 x1 x2 x3).1 S1x512x128.size (by sl_kernel_rfl) y

/-- What the run leaves in the result's buffer. -/
def out (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole)
    (x0 : Vec F S6x512x128 .bf16) (x1 : Vec F S6x4096x128 .bf16) (x2 : Vec F S6x512x128 .bf16) (x3 : Vec F S6x4096x256 .bf16) : Vec F S6x512x128 .bf16 :=
  VO4.read (Elt F) (VO4.writes (Elt F) VO4.junk (run c i arg2 harg2 arg3 harg3 arg4 harg4 arg5 harg5 arg6 harg6 x0 x1 x2 x3).1)

/-- The result's block after point `t`. -/
def outAt (c : Dev nD) (t : Fin cfg1.N) : Vec F S6x512x128 .bf16 :=
  out c (grid1.coords t) (ms0 t) (hs0 t) (ms1 t) (hs1 t) (ms2 t) (hs2 t) (ms3 t) (hs3 t) (ms4 t) (hs4 t) (in0 V c t) (in1 V c t) (blk1 V c 2 t) (blk1 V c 3 t)

/-- The call's data: the arrays as entered, the inputs left as fetched, the result at `outAt`. -/
def dat (c : Dev nD) : Dat τ (Elt F) Unit ℕ (UR sig nD τ) ℕ cfg1 c where
  A w := V c (Pipeline.arrRef spec1 w)
  after w t := match w with
    | ⟨0, _⟩ => in0 V c t
    | ⟨1, _⟩ => in1 V c t
    | ⟨2, _⟩ => blk1 V c 2 t
    | ⟨3, _⟩ => blk1 V c 3 t
    | ⟨4, _⟩ => (outAt V c t)
  Φ _ := Pipeline.ΦA spec1 c
  q w := Pipeline.shareOf spec1 w
  owed _ := 0

theorem A_eq (c : Dev nD) (w : Fin cfg1.W) : (dat V c).A w = V c (Pipeline.arrRef spec1 w) := by
  dsimp only [dat]
theorem after0 (c : Dev nD) (t : Fin cfg1.N) : (dat V c).after 0 t = in0 V c t := by dsimp only [dat]
theorem after1 (c : Dev nD) (t : Fin cfg1.N) : (dat V c).after 1 t = in1 V c t := by dsimp only [dat]
theorem after2 (c : Dev nD) (t : Fin cfg1.N) : (dat V c).after 2 t = blk1 V c 2 t := by dsimp only [dat]
theorem after3 (c : Dev nD) (t : Fin cfg1.N) : (dat V c).after 3 t = blk1 V c 3 t := by dsimp only [dat]
theorem after4 (c : Dev nD) (t : Fin cfg1.N) : (dat V c).after 4 t = (outAt V c t) := by dsimp only [dat]
theorem before0 (c : Dev nD) (t : Fin cfg1.N) (d) : (dat V c).before 0 t d = in0 V c t :=
  before0_of V (dat V c) (A_eq V c 0) (after0 V c) t d
theorem before1 (c : Dev nD) (t : Fin cfg1.N) (d) : (dat V c).before 1 t d = in1 V c t :=
  before1_of V (dat V c) (A_eq V c 1) (after1 V c) t d
theorem before2 (c : Dev nD) (t : Fin cfg1.N) (d) : (dat V c).before 2 t d = blk1 V c 2 t :=
  before2_of V (dat V c) (A_eq V c 2) (after2 V c) t d
theorem before3 (c : Dev nD) (t : Fin cfg1.N) (d) : (dat V c).before 3 t d = blk1 V c 3 t :=
  before3_of V (dat V c) (A_eq V c 3) (after3 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4]
  unfold outAt
  unfold out
  iintro ⟨HΦ, Ho, ⟨%d0, H0⟩, ⟨%d1, H1⟩, ⟨%d2, H2⟩, ⟨%d3, H3⟩, ⟨%d4, H4⟩⟩
  iapply ((run c (grid1.coords t) _ _ _ _ _ _ _ _ _ _ (in0 V c t) (in1 V c t) (blk1 V c 2 t) (blk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The body table's row at point `t`'s slots is the body as `bodyAt1` spells it. -/
theorem row (t : Fin cfg1.N) :
    defs₀ (F := F) .tc cfg1.body (cfg1.bodyArgs t (cfg1.slots t)) = bodyAt1 t := by
  unfold defs₀; rw [Defs.onTc_tc]

/-- The body's obligation at every point. -/
theorem body_obligation (c : Dev nD) : BodyObligation (dat (F := F) V c) (defs₀ (F := F)) Variants.none () Set.univ := fun t => by
  rw [bigSep_W1, bigSep_W1, row]
  exact triple_restated (sound_body V c t) rfl .rfl fun _ => .rfl

end Cert.KernelIdeal.Attn

end
-- ==== Proof.GateRun.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The gates' running sum: what the call's body leaves in its results and its carried row at each grid point, from any contents of its arrays. -/

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off the array's contents when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or earlier. -/
theorem before0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Input window 1's buffer holds its block at every point, fetched there or earlier. -/
theorem before1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- A value for the part of window 2's buffer no fetch fills; there is no such part. -/
def fillv2 : (cfg0.win 2).block.Idx → Elt F (cfg0.win 2).elt := fun _ => Classical.choice inferInstance
/-- What input window 2's buffer holds when the body runs at `t`: its block of the array. -/
def in2 (c : Dev nD) (t : Fin cfg0.N) : (cfg0.win 2).block.Idx → Elt F (cfg0.win 2).elt :=
  (cfg0.win 2).fill (cfg0.grid.coords t) fillv2 (blk0 V c 2 t)
/-- No block of window 2 is cut. -/
theorem xsize2 : ∀ t : Fin cfg0.N, ∀ a, (cfg0.win 2).xsize (cfg0.grid.coords t) a = (cfg0.win 2).size a := by decide +kernel
theorem moved2 (t : Fin cfg0.N) (j : (cfg0.win 2).block.Idx) : (cfg0.win 2).moved (cfg0.grid.coords t) j = true :=
  ((cfg0.win 2).moved_iff _ j).mpr fun a => by rw [xsize2 t a]; exact (j a).isLt
/-- So a fetch fills the whole buffer, whatever it held. -/
theorem fill2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved2 t j), dif_pos (moved2 t j)]
theorem before2_of {c : Dev nD} (dat : Dat τ (Elt F) Unit ℕ (UR sig nD τ) ℕ cfg0 c) (hA : dat.A 2 = V c (Pipeline.arrRef spec0 2))
    (hafter : ∀ t, dat.after 2 t = in2 V c t) (t : Fin cfg0.N) (d) : dat.before 2 t d = in2 V c t :=
  (dat.before_in_eq_fetched 2 rfl (fun _ => rfl)
      (fun t t' h => funext fun a => congrArg (fun n => Pipeline.Clip.of n ((cfg0.win 2).size a) (S88x32768x128.size a)) (congrFun h a))
      (fun t => by rw [hafter]; unfold in2; rw [Pipeline.Window.cut_fill]; unfold Dat.blockOf blk0; rw [hA]; try rfl) t d).trans
    (by unfold Dat.fetched in2; rw [fill2 t d fillv2]; unfold Dat.blockOf blk0; rw [hA]; try rfl)
/-- The condition of the body's one branch, from the grid coordinates: the first block of a sequence. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val % 8 = 0)

/-- One buffer of each result's window and the carried row, through which the contents left are stated. -/
abbrev VO3 : View sig .tc .vmem S6x512x128 .bf16 := (Memref.whole cc0_stg3_0 : Memref sig .tc .vmem S6x512x128 .bf16).view
abbrev VO4 : View sig .tc .vmem S6x512x256 .bf16 := (Memref.whole cc0_stg4_0 : Memref sig .tc .vmem S6x512x256 .bf16).view
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S6x512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S6x512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S6x512x256 .bf16 := win0_4.stage (cfg0.slots t 4)
abbrev hs4 (t : Fin cfg0.N) : (ms4 t).IsWhole := hstage0_4 ((cfg0.slots t 4).cast nbuf0_4)
abbrev scM : Memref sig .tc .vmem S1x128 .f32 := Memref.whole cc0_scratch0
abbrev VS : View sig .tc .vmem S1x128 .f32 := scM.view

/-- A buffer of the TensorCore held whole at something. -/
abbrev some' (c : Dev nD) (b : Ref sig .tc) : sProp 𝕄 := iprop(∃ f : Buf (Elt F) ((c : Thread nD τ).loc b), ((c : Thread nD τ).loc b) ↦{fullShare} f)
/-- What the call does not touch: the other call's staging buffers and the generator register. -/
def away (c : Dev nD) : sProp 𝕄 :=
  iprop((some' (F := F) c cc1_stg0_0 ∗ some' (F := F) c cc1_stg0_1 ∗ some' (F := F) c cc1_stg1_0 ∗ some' (F := F) c cc1_stg1_1 ∗ some' (F := F) c cc1_stg2_0 ∗ some' (F := F) c cc1_stg2_1 ∗ some' (F := F) c cc1_stg3_0 ∗ some' (F := F) c cc1_stg3_1 ∗ some' (F := F) c cc1_stg4_0 ∗ some' (F := F) c cc1_stg4_1) ∗ (∃ r, prngReg c r))

/-- The invariant between points: the carried row's buffer at something, and what the call does not touch. -/
theorem PhiA_eq (c : Dev nD) :
    (Pipeline.ΦA spec0 c : sProp 𝕄)
      = iprop((∃ d, owns (c : Thread nD τ) scM fullShare d) ∗ away (F := F) c) := by
  unfold Pipeline.ΦA away; rw [scopedRest0_eq]; simp only [scM, owns_whole]; exact Idealize.SL.BI.Entails.antisymm Idealize.SL.BI.sep_assoc Idealize.SL.BI.sep_assoc'

set_option maxHeartbeats 8000000 in
/-- The body's run at a sequence's first block: the pieces it stores into the two results and the carried row. -/
noncomputable def runA (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) :
    { L : List (View.Piece (Elt F) S6x512x128 .bf16) × List (View.Piece (Elt F) S6x512x256 .bf16) × List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2)) -∗ K ⟨⟩))
          ⊢ wp frame (wpE (defs₀ (F := F)) Variants.none c none) E (cc0_forget_cumsum i arg2 harg2 arg3 harg3 arg4 harg4 arg5 harg5 arg6 harg6 arg7 harg7) K } := by
  refine ⟨⟨?_, ?_, ?_⟩, fun E K => ?run⟩
  case run =>
    simp only [cc0_forget_cumsum_eq_skeleton]; unfold cc0_forget_cumsum_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact HS0

set_option maxHeartbeats 8000000 in
/-- The body's run at a sequence's later block: the pieces it stores into the two results and the carried row. -/
noncomputable def runB (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) :
    { L : List (View.Piece (Elt F) S6x512x128 .bf16) × List (View.Piece (Elt F) S6x512x256 .bf16) × List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2)) -∗ K ⟨⟩))
          ⊢ wp frame (wpE (defs₀ (F := F)) Variants.none c none) E (cc0_forget_cumsum i arg2 harg2 arg3 harg3 arg4 harg4 arg5 harg5 arg6 harg6 arg7 harg7) K } := by
  refine ⟨⟨?_, ?_, ?_⟩, fun E K => ?run⟩
  case run =>
    simp only [cc0_forget_cumsum_eq_skeleton]; unfold cc0_forget_cumsum_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    iexists _; iexact HS0

theorem coverA_3 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) (y : S6x512x128.Idx) :
    ∃ pc ∈ (runA c i arg2 harg2 arg3 harg3 arg4 harg4 arg5 harg5 arg6 harg6 arg7 harg7 hc x0 x1 x2).1.1, y ∈ pc.1.set :=
  View.cover_of_tiledL (runA c i arg2 harg2 arg3 harg3 arg4 harg4 arg5 harg5 arg6 harg6 arg7 harg7 hc x0 x1 x2).1.1 S1x512x128.size (by sl_kernel_rfl) y
def outA_3 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) : Vec F S6x512x128 .bf16 :=
  VO3.read (Elt F) (VO3.writes (Elt F) VO3.junk (runA c i arg2 harg2 arg3 harg3 arg4 harg4 arg5 harg5 arg6 harg6 arg7 harg7 hc x0 x1 x2).1.1)

theorem coverA_4 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) (y : S6x512x256.Idx) :
    ∃ pc ∈ (runA c i arg2 harg2 arg3 harg3 arg4 harg4 arg5 harg5 arg6 harg6 arg7 harg7 hc x0 x1 x2).1.2.1, y ∈ pc.1.set :=
  View.cover_of_tiledL (runA c i arg2 harg2 arg3 harg3 arg4 harg4 arg5 harg5 arg6 harg6 arg7 harg7 hc x0 x1 x2).1.2.1 S1x512x128.size (by sl_kernel_rfl) y
def outA_4 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) : Vec F S6x512x256 .bf16 :=
  VO4.read (Elt F) (VO4.writes (Elt F) VO4.junk (runA c i arg2 harg2 arg3 harg3 arg4 harg4 arg5 harg5 arg6 harg6 arg7 harg7 hc x0 x1 x2).1.2.1)

theorem coverA_S (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) (y : S1x128.Idx) :
    ∃ pc ∈ (runA c i arg2 harg2 arg3 harg3 arg4 harg4 arg5 harg5 arg6 harg6 arg7 harg7 hc x0 x1 x2).1.2.2, y ∈ pc.1.set :=
  View.cover_of_tiledL (runA c i arg2 harg2 arg3 harg3 arg4 harg4 arg5 harg5 arg6 harg6 arg7 harg7 hc x0 x1 x2).1.2.2 S1x128.size (by sl_kernel_rfl) y
def outA_S (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : first i)
    (x0 : Vec F S512x128 .f32) (x1 : Vec F S1x1x128 .f32) (x2 : Vec F S6x512x128 .bf16) : Vec F S1x128 .f32 :=
  VS.read (Elt F) (VS.writes (Elt F) VS.junk (runA c i arg2 harg2 arg3 harg3 arg4 harg4 arg5 harg5 arg6 harg6 arg7 harg7 hc x0 x1 x2).1.2.2)

theorem coverB_3 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) (y : S6x512x128.Idx) :
    ∃ pc ∈ (runB c i arg2 harg2 arg3 harg3 arg4 harg4 arg5 harg5 arg6 harg6 arg7 harg7 hc x0 x1 x2 xs).1.1, y ∈ pc.1.set :=
  View.cover_of_tiledL (runB c i arg2 harg2 arg3 harg3 arg4 harg4 arg5 harg5 arg6 harg6 arg7 harg7 hc x0 x1 x2 xs).1.1 S1x512x128.size (by sl_kernel_rfl) y
def outB_3 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) : Vec F S6x512x128 .bf16 :=
  VO3.read (Elt F) (VO3.writes (Elt F) VO3.junk (runB c i arg2 harg2 arg3 harg3 arg4 harg4 arg5 harg5 arg6 harg6 arg7 harg7 hc x0 x1 x2 xs).1.1)

theorem coverB_4 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) (y : S6x512x256.Idx) :
    ∃ pc ∈ (runB c i arg2 harg2 arg3 harg3 arg4 harg4 arg5 harg5 arg6 harg6 arg7 harg7 hc x0 x1 x2 xs).1.2.1, y ∈ pc.1.set :=
  View.cover_of_tiledL (runB c i arg2 harg2 arg3 harg3 arg4 harg4 arg5 harg5 arg6 harg6 arg7 harg7 hc x0 x1 x2 xs).1.2.1 S1x512x128.size (by sl_kernel_rfl) y
def outB_4 (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) : Vec F S6x512x256 .bf16 :=
  VO4.read (Elt F) (VO4.writes (Elt F) VO4.junk (runB c i arg2 harg2 arg3 harg3 arg4 harg4 arg5 harg5 arg6 harg6 arg7 harg7 hc x0 x1 x2 xs).1.2.1)

theorem coverB_S (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) (y : S1x128.Idx) :
    ∃ pc ∈ (runB c i arg2 harg2 arg3 harg3 arg4 harg4 arg5 harg5 arg6 harg6 arg7 harg7 hc x0 x1 x2 xs).1.2.2, y ∈ pc.1.set :=
  View.cover_of_tiledL (runB c i arg2 harg2 arg3 harg3 arg4 harg4 arg5 harg5 arg6 harg6 arg7 harg7 hc x0 x1 x2 xs).1.2.2 S1x128.size (by sl_kernel_rfl) y
def outB_S (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole) (hc : ¬first i)
    (x0 : Vec F S512x128 .f32) (x1 : Vec F S1x1x128 .f32) (x2 : Vec F S6x512x128 .bf16) (xs : Vec F S1x128 .f32) : Vec F S1x128 .f32 :=
  VS.read (Elt F) (VS.writes (Elt F) VS.junk (runB c i arg2 harg2 arg3 harg3 arg4 harg4 arg5 harg5 arg6 harg6 arg7 harg7 hc x0 x1 x2 xs).1.2.2)

/-- What the carried row holds after the body at position `n`. -/
def rowAt (c : Dev nD) : (n : ℕ) → n < cfg0.N → Vec F S1x128 .f32
  | 0, hn => outA_S c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((first_iff ⟨0, hn⟩).mpr (Nat.zero_mod _)) (blk0 V c 0 ⟨0, hn⟩) (blk0 V c 1 ⟨0, hn⟩) (in2 V c ⟨0, hn⟩)
  | n + 1, hn =>
    if h0 : (n + 1) % 8 = 0 then
      outA_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((first_iff ⟨n + 1, hn⟩).mpr h0) (blk0 V c 0 ⟨n + 1, hn⟩) (blk0 V c 1 ⟨n + 1, hn⟩) (in2 V c ⟨n + 1, hn⟩)
    else
      outB_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((first_iff ⟨n + 1, hn⟩).mp h)) (blk0 V c 0 ⟨n + 1, hn⟩) (blk0 V c 1 ⟨n + 1, hn⟩) (in2 V c ⟨n + 1, hn⟩) (rowAt c n (Nat.lt_of_succ_lt hn))

theorem rowAt_A (c : Dev nD) (t : Fin cfg0.N) (h0 : t.val % 8 = 0) :
    rowAt V c t.val t.isLt = outA_S c (grid0.coords t) (ms0 t) (hs0 t) (ms1 t) (hs1 t) (ms2 t) (hs2 t) (ms3 t) (hs3 t) (ms4 t) (hs4 t) scM (Memref.isWhole_whole _) ((first_iff t).mpr h0) (blk0 V c 0 t) (blk0 V c 1 t) (in2 V c t) := by
  obtain ⟨n, hn⟩ := t
  cases n with
  | zero => exact rfl
  | succ n => exact (dif_pos h0).trans rfl

theorem rowAt_B (c : Dev nD) (t : Fin cfg0.N) (h0 : ¬t.val % 8 = 0) :
    rowAt V c t.val t.isLt = outB_S c (grid0.coords t) (ms0 t) (hs0 t) (ms1 t) (hs1 t) (ms2 t) (hs2 t) (ms3 t) (hs3 t) (ms4 t) (hs4 t) scM (Memref.isWhole_whole _) (fun h => h0 ((first_iff t).mp h)) (blk0 V c 0 t) (blk0 V c 1 t) (in2 V c t) (rowAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- Result 3's block after point `t`. -/
def outAt3 (c : Dev nD) (t : Fin cfg0.N) : Vec F S6x512x128 .bf16 :=
  if h0 : t.val % 8 = 0 then outA_3 c (grid0.coords t) (ms0 t) (hs0 t) (ms1 t) (hs1 t) (ms2 t) (hs2 t) (ms3 t) (hs3 t) (ms4 t) (hs4 t) scM (Memref.isWhole_whole _) ((first_iff t).mpr h0) (blk0 V c 0 t) (blk0 V c 1 t) (in2 V c t)
  else outB_3 c (grid0.coords t) (ms0 t) (hs0 t) (ms1 t) (hs1 t) (ms2 t) (hs2 t) (ms3 t) (hs3 t) (ms4 t) (hs4 t) scM (Memref.isWhole_whole _) (fun h => h0 ((first_iff t).mp h)) (blk0 V c 0 t) (blk0 V c 1 t) (in2 V c t) (rowAt V c (t.val - 1) (Nat.lt_of_le_of_lt (Nat.sub_le _ _) t.isLt))

/-- Result 4's block after point `t`. -/
def outAt4 (c : Dev nD) (t : Fin cfg0.N) : Vec F S6x512x256 .bf16 :=
  if h0 : t.val % 8 = 0 then outA_4 c (grid0.coords t) (ms0 t) (hs0 t) (ms1 t) (hs1 t) (ms2 t) (hs2 t) (ms3 t) (hs3 t) (ms4 t) (hs4 t) scM (Memref.isWhole_whole _) ((first_iff t).mpr h0) (blk0 V c 0 t) (blk0 V c 1 t) (in2 V c t)
  else outB_4 c (grid0.coords t) (ms0 t) (hs0 t) (ms1 t) (hs1 t) (ms2 t) (hs2 t) (ms3 t) (hs3 t) (ms4 t) (hs4 t) scM (Memref.isWhole_whole _) (fun h => h0 ((first_iff t).mp h)) (blk0 V c 0 t) (blk0 V c 1 t) (in2 V c t) (rowAt V c (t.val - 1) (Nat.lt_of_le_of_lt (Nat.sub_le _ _) t.isLt))

/-- The invariant before position `n`: the carried row at what the point before left. -/
def PhiS (c : Dev nD) : (n : ℕ) → n ≤ cfg0.N → sProp 𝕄
  | 0, _ => Pipeline.ΦA spec0 c
  | n + 1, hn => iprop(owns (c : Thread nD τ) scM fullShare (rowAt V c n hn) ∗ away (F := F) c)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (rowAt V c n hn) ∗ away (F := F) c) := rfl
theorem PhiS_pos (c : Dev nD) (n : ℕ) (h : n ≤ cfg0.N) (hz : n ≠ 0) :
    PhiS V c n h = iprop(owns (c : Thread nD τ) scM fullShare (rowAt V c (n - 1) (by omega)) ∗ away (F := F) c) := by
  cases n with
  | zero => exact absurd rfl hz
  | succ n => rfl

/-- The call's data: the arrays as entered, the inputs left as fetched, the results at `outAt3`, `outAt4`. -/
def dat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => in2 V c t
    | ⟨3, _⟩ => outAt3 V c t
    | ⟨4, _⟩ => outAt4 V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; exact Pipeline.Dat.Φ_castSucc (PhiS V c) t
theorem after0 (c : Dev nD) (t : Fin cfg0.N) : (dat V c).after 0 t = blk0 V c 0 t := by dsimp only [dat]
theorem after1 (c : Dev nD) (t : Fin cfg0.N) : (dat V c).after 1 t = blk0 V c 1 t := by dsimp only [dat]
theorem after2 (c : Dev nD) (t : Fin cfg0.N) : (dat V c).after 2 t = in2 V c t := by dsimp only [dat]
theorem after3 (c : Dev nD) (t : Fin cfg0.N) : (dat V c).after 3 t = outAt3 V c t := by dsimp only [dat]
theorem after4 (c : Dev nD) (t : Fin cfg0.N) : (dat V c).after 4 t = outAt4 V c t := by dsimp only [dat]
theorem before0 (c : Dev nD) (t : Fin cfg0.N) (d) : (dat V c).before 0 t d = blk0 V c 0 t :=
  before0_of V (dat V c) (A_eq V c 0) (after0 V c) t d
theorem before1 (c : Dev nD) (t : Fin cfg0.N) (d) : (dat V c).before 1 t d = blk0 V c 1 t :=
  before1_of V (dat V c) (A_eq V c 1) (after1 V c) t d
theorem before2 (c : Dev nD) (t : Fin cfg0.N) (d) : (dat V c).before 2 t d = in2 V c t :=
  before2_of V (dat V c) (A_eq V c 2) (after2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 8000000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl,
    after0, after1, after2, after3, after4]
  rw [show (dat V c).Φ t.succ = PhiS V c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc V c t, PhiS_zero V c _ _ hz, PhiA_eq]
      rw [rowAt_A V c t h0]
      unfold outAt3 outAt4
      rw [dif_pos h0, dif_pos h0]
      unfold outA_S outA_3 outA_4
      iintro ⟨⟨HS0, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((first_iff t).mpr h0) (blk0 V c 0 t) (blk0 V c 1 t) (in2 V c t)).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (coverA_S c _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ )
      unfold owns; iexists _; isplitr
      swap; · iexact H4
      ipureintro; exact View.read_writes_of_cover _ _ _ _ _ (coverA_4 c _ _ _ _ _ _ _ _ _ _ _ _ _ _ _ _ _ )
    · rw [PhiS_castSucc V c t, PhiS_pos V c _ _ hz]
      rw [rowAt_A V c t h0]
      unfold outAt3 outAt4
      rw [dif_pos h0, dif_pos h0]
      unfold outA_S outA_3 outA_4
      iintro ⟨⟨HS0, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((first_iff t).mpr h0) (blk0 V c 0 t) (blk0 V c 1 t) (in2 V c t)).2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (coverA_S c _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA_3 c _ _ _ _ _ _ _ _ _ _ _ _ _ _ _ _ _ )
      unfold owns; iexists _; isplitr
      swap; · iexact H4
      ipureintro; exact View.read_writes_of_cover _ _ _ _ _ (coverA_4 c _ _ _ _ _ _ _ _ _ _ _ _ _ _ _ _ _ )
  · by_cases hz : t.val = 0
    · exfalso; omega
    · rw [PhiS_castSucc V c t, PhiS_pos V c _ _ hz]
      rw [rowAt_B V c t h0]
      unfold outAt3 outAt4
      rw [dif_neg h0, dif_neg h0]
      unfold outB_S outB_3 outB_4
      iintro ⟨⟨HS0, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ (fun h => h0 ((first_iff t).mp h)) (blk0 V c 0 t) (blk0 V c 1 t) (in2 V c t) _).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (coverB_S c _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverB_3 c _ _ _ _ _ _ _ _ _ _ _ _ _ _ _ _ _ _ )
      unfold owns; iexists _; isplitr
      swap; · iexact H4
      ipureintro; exact View.read_writes_of_cover _ _ _ _ _ (coverB_4 c _ _ _ _ _ _ _ _ _ _ _ _ _ _ _ _ _ _ )

/-- The body table's row at point `t`'s slots is the body as `bodyAt0` spells it. -/
theorem row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dat (F := F) V c) (defs₀ (F := F)) Variants.none () Set.univ := fun t => by
  rw [bigSep_W0, bigSep_W0, row]
  exact triple_restated (sound_body V c t) rfl .rfl fun _ => .rfl

/-- What the launch hands the call is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the carried row's contents are forgotten. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨HS0, Hg⟩
  isplitl [HS0]
  · iexists _; iexact HS0
  iexact Hg

end Cert.KernelIdeal.Gate

end
-- ==== Proof.BothRun.lean ====
module

public import proofs.«01_k».proof.Proof.AttnRun
public import proofs.«01_k».proof.Proof.GateRun
public import proofs.«01_k».proof.Proof.Gen.KernelIdeal.Regions
public import Idealize.ShloMosaic.Lib.Pipeline.RegionArrays

/-! The whole program: the gates' running sum, then the attention reading what it left. -/

@[expose] public section

set_option maxRecDepth 16384

noncomputable section

namespace Cert.KernelIdeal.Both

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents when the first call is entered, -/
abbrev VG (c : Dev nD) (b : Ref sig .tc) : Buf (Elt F) ((c : Thread nD τ).loc b) := V3 m c b
/-- what it leaves in its two results, -/
def resQ (c : Dev nD) : Buf (Elt F) ((c : Thread nD τ).loc main_v2_0) := (Gate.dat (VG m) c).arrAt 3 cfg0.N
def resK (c : Dev nD) : Buf (Elt F) ((c : Thread nD τ).loc main_v2_1) := (Gate.dat (VG m) c).arrAt 4 cfg0.N
/-- the contents when the second is entered, -/
def W4 (c : Dev nD) : Valuation τ sig (Elt F) := Function.update (Function.update (V3 m c) main_v2_0 (resQ m c)) main_v2_1 (resK m c)
abbrev VA (c : Dev nD) (b : Ref sig .tc) : Buf (Elt F) ((c : Thread nD τ).loc b) := W4 m c b
/-- and what that leaves in its result. -/
def resO (c : Dev nD) : Buf (Elt F) ((c : Thread nD τ).loc main_v3) := (Attn.dat (VA m) c).arrAt 4 cfg1.N
def W5 (c : Dev nD) : Valuation τ sig (Elt F) := Function.update (W4 m c) main_v3 (resO m c)

theorem W4_of (c : Dev nD) (r : Ref sig .tc) (h : r ∉ ([main_v2_0, main_v2_1] : List (Ref sig .tc))) : W4 m c r = V3 m c r := by
  unfold W4
  rw [Function.update_of_ne (StableHlo.devRef_ne_of_ne (List.ne_of_not_mem_cons (List.not_mem_of_not_mem_cons h)) : (Proc.devRef .tc r : DevRef τ sig) ≠ Proc.devRef .tc main_v2_1),
    Function.update_of_ne (StableHlo.devRef_ne_of_ne (List.ne_of_not_mem_cons h) : (Proc.devRef .tc r : DevRef τ sig) ≠ Proc.devRef .tc main_v2_0)]
theorem W5_of (c : Dev nD) (r : Ref sig .tc) (h : r ≠ main_v3) : W5 m c r = W4 m c r := by
  unfold W5
  rw [Function.update_of_ne (StableHlo.devRef_ne_of_ne h : (Proc.devRef .tc r : DevRef τ sig) ≠ Proc.devRef .tc main_v3)]
theorem W4_q (c : Dev nD) : W4 m c main_v2_0 = resQ m c := by
  unfold W4
  rw [Function.update_of_ne (StableHlo.devRef_ne_of_ne (by decide : main_v2_0 ≠ main_v2_1) : (Proc.devRef .tc main_v2_0 : DevRef τ sig) ≠ Proc.devRef .tc main_v2_1)]
  exact Function.update_self ..
theorem W4_k (c : Dev nD) : W4 m c main_v2_1 = resK m c := Function.update_self ..
theorem W5_o (c : Dev nD) : W5 m c main_v3 = resO m c := Function.update_self ..

/-- A device buffer that is no given reference's is untouched by an update there. -/
theorem W4_off (c : Dev nD) (b : DevRef τ sig) (h0 : b ≠ Proc.devRef .tc main_v2_0) (h1 : b ≠ Proc.devRef .tc main_v2_1) : W4 m c b = V3 m c b := by
  unfold W4; rw [Function.update_of_ne h1, Function.update_of_ne h0]
theorem W5_off (c : Dev nD) (b : DevRef τ sig) (h : b ≠ Proc.devRef .tc main_v3) : W5 m c b = W4 m c b := by
  unfold W5; rw [Function.update_of_ne h]

/-- No host operation and no call writes an argument. -/
theorem W5_arg (c : Dev nD) (r : Ref sig .tc) (h : r ∉ ([main_c, main_call0_v0, main_v0, main_v1, main_v2_0, main_v2_1, main_v3] : List (Ref sig .tc))) :
    W5 m c r = m ((c : Thread nD τ).loc r) := by
  simp only [List.mem_cons, List.not_mem_nil, or_false, not_or] at h
  obtain ⟨h1, h2, h3, h4, h5, h6, h7⟩ := h
  exact (W5_of m c r h7).trans <| (W4_of m c r (by simp [h5, h6])).trans <| (V3_of m c r (by simp [h4])).trans <| (V2_of m c r (by simp [h2, h3])).trans <| (V1_of m c r (by simp [h1])).trans rfl

/-! ## The two calls over the buffers held -/

/-- The buffers held at a valuation are a call's arrays, shared among its inputs, and the others. -/
theorem held_split {cfg : Cfg sig Λ₀} {c : Dev nD} (dat : Dat τ (Elt F) Unit ℕ (UR sig nD τ) ℕ cfg c) (hsh : Pipeline.SharedIn cfg.spec)
    (harr : ∀ w, (cfg.spec w).arr.IsWhole) (hq : ∀ w, (cfg.spec w).isOut = false → dat.q w = Pipeline.shareOf cfg.spec w)
    (hun : ∀ w, (Pipeline.arrRef cfg.spec w).isScoped = false) (W : Valuation τ sig (Elt F))
    (G : (w : Fin cfg.W) → Buf (Elt F) ((cfg.spec w).arr.view.loc (c.tc : Thread nD τ))) (hG : ∀ w, G w = W (Proc.devRef .tc (Pipeline.arrRef cfg.spec w))) :
    (StableHlo.held (c : Thread nD τ) (Pipeline.ucRefs τ sig) W : sProp 𝕄)
      = iprop(dat.arrays G ∗ StableHlo.held (c : Thread nD τ) (Pipeline.ucRefs τ sig \ Pipeline.arrRefs cfg.spec) W) := by
  rw [StableHlo.held_sub_split (c.tc : Thread nD τ) (Pipeline.arrRefs_sub_ucRefs cfg.spec hun) W,
    ← dat.arrBufs_eq_arrays hsh harr hq (fun b => W b) G hG]
  congr 1
  unfold Pipeline.arrBufs StableHlo.held Pipeline.arrRefs
  rw [bigSep_map]
  rfl

/-- The two calls' data. -/
def pdats : (p : Fin 2) → (c : Dev nD) → Dat τ (Elt F) Unit ℕ (UR sig nD τ) ℕ (cfgs p) c
  | ⟨0, _⟩ => fun c => Gate.dat (VG m) c
  | ⟨1, _⟩ => fun c => Attn.dat (VA m) c

abbrev L : GSem nD τ sig → Finset Unit := fun _ => ∅
abbrev lv : GSem nD τ sig → Unit → ℕ := fun _ _ => 0
/-- What rides beside the buffers: the core owing nothing, and the generator register. -/
abbrev E (c : Dev nD) : sProp 𝕄 := iprop((∃ W, owes (c : Thread nD τ) (0 : CellTallies nD τ sig Unit) W) ∗ ∃ r, prngReg c r)

theorem notArr0 (b : DevRef τ sig) (hb : b ∈ Pipeline.ucRefs τ sig \ Pipeline.arrRefs spec0) (w : Fin 5) : b ≠ Proc.devRef .tc (Pipeline.arrRef spec0 w) := by
  rintro rfl
  exact (Finset.mem_sdiff.mp hb).2 (Finset.mem_map.mpr ⟨_, Finset.mem_image.mpr ⟨w, Finset.mem_univ _, rfl⟩, rfl⟩)
theorem notArr1 (b : DevRef τ sig) (hb : b ∈ Pipeline.ucRefs τ sig \ Pipeline.arrRefs spec1) (w : Fin 5) : b ≠ Proc.devRef .tc (Pipeline.arrRef spec1 w) := by
  rintro rfl
  exact (Finset.mem_sdiff.mp hb).2 (Finset.mem_map.mpr ⟨_, Finset.mem_image.mpr ⟨w, Finset.mem_univ _, rfl⟩, rfl⟩)

theorem un0 : ∀ w : Fin 5, (Pipeline.arrRef spec0 w).isScoped = false := by decide
theorem un1 : ∀ w : Fin 5, (Pipeline.arrRef spec1 w).isScoped = false := by decide

theorem gate_enter (c : Dev nD) : (StableHlo.held (c : Thread nD τ) (Pipeline.ucRefs τ sig) (V3 m c) : sProp 𝕄)
    = iprop((Gate.dat (VG m) c).arrays ((Gate.dat (VG m) c).arrAt · 0) ∗ StableHlo.held (c : Thread nD τ) (Pipeline.ucRefs τ sig \ Pipeline.arrRefs spec0) (V3 m c)) :=
  held_split (cfg := cfg0) (Gate.dat (VG m) c) launch0.to₀.sharedIn launch0.arr_whole
    (fun w hw => (Gate.dat (VG m) c).q_eq_shareOf_of_share_full launch0.win.arr_inj ((Gate.dat (VG m) c).share_full fun _ => rfl) w hw)
    un0 (V3 m c) _ (fun w => Gate.A_eq (VG m) c w)

theorem gate_leave (c : Dev nD) : (StableHlo.held (c : Thread nD τ) (Pipeline.ucRefs τ sig) (W4 m c) : sProp 𝕄)
    = iprop((Gate.dat (VG m) c).arrays ((Gate.dat (VG m) c).arrAt · cfg0.N) ∗ StableHlo.held (c : Thread nD τ) (Pipeline.ucRefs τ sig \ Pipeline.arrRefs spec0) (V3 m c)) := by
  rw [held_split (cfg := cfg0) (Gate.dat (VG m) c) launch0.to₀.sharedIn launch0.arr_whole
    (fun w hw => (Gate.dat (VG m) c).q_eq_shareOf_of_share_full launch0.win.arr_inj ((Gate.dat (VG m) c).share_full fun _ => rfl) w hw)
    un0 (W4 m c) ((Gate.dat (VG m) c).arrAt · cfg0.N) (fun w => by
      fin_cases w
      · exact ((Gate.dat (VG m) c).arrAt_in 0 rfl _).trans ((Gate.A_eq (VG m) c 0).trans (W4_of m c main_arg0 (by decide)).symm)
      · exact ((Gate.dat (VG m) c).arrAt_in 1 rfl _).trans ((Gate.A_eq (VG m) c 1).trans (W4_of m c main_v1 (by decide)).symm)
      · exact ((Gate.dat (VG m) c).arrAt_in 2 rfl _).trans ((Gate.A_eq (VG m) c 2).trans (W4_of m c main_arg2 (by decide)).symm)
      · exact (W4_q m c).symm
      · exact (W4_k m c).symm)]
  rw [StableHlo.held_congr (c.tc : Thread nD τ) (S := Pipeline.ucRefs τ sig \ Pipeline.arrRefs cfg0.spec) (V := W4 m c) (V' := V3 m c)
    (fun b hb => W4_off m c b (notArr0 b hb 3) (notArr0 b hb 4))]

theorem attn_enter (c : Dev nD) : (StableHlo.held (c : Thread nD τ) (Pipeline.ucRefs τ sig) (W4 m c) : sProp 𝕄)
    = iprop((Attn.dat (VA m) c).arrays ((Attn.dat (VA m) c).arrAt · 0) ∗ StableHlo.held (c : Thread nD τ) (Pipeline.ucRefs τ sig \ Pipeline.arrRefs spec1) (W4 m c)) :=
  held_split (cfg := cfg1) (Attn.dat (VA m) c) sharedIn1 arr_whole1 (fun w _ => rfl)
    un1 (W4 m c) _ (fun w => Attn.A_eq (VA m) c w)

theorem attn_leave (c : Dev nD) : (StableHlo.held (c : Thread nD τ) (Pipeline.ucRefs τ sig) (W5 m c) : sProp 𝕄)
    = iprop((Attn.dat (VA m) c).arrays ((Attn.dat (VA m) c).arrAt · cfg1.N) ∗ StableHlo.held (c : Thread nD τ) (Pipeline.ucRefs τ sig \ Pipeline.arrRefs spec1) (W4 m c)) := by
  rw [held_split (cfg := cfg1) (Attn.dat (VA m) c) sharedIn1 arr_whole1 (fun w _ => rfl)
    un1 (W5 m c) ((Attn.dat (VA m) c).arrAt · cfg1.N) (fun w => by
      fin_cases w
      · exact ((Attn.dat (VA m) c).arrAt_in 0 rfl _).trans ((Attn.A_eq (VA m) c 0).trans (W5_of m c main_arg2 (by decide)).symm)
      · exact ((Attn.dat (VA m) c).arrAt_in 1 rfl _).trans ((Attn.A_eq (VA m) c 1).trans (W5_of m c main_arg2 (by decide)).symm)
      · exact ((Attn.dat (VA m) c).arrAt_in 2 rfl _).trans ((Attn.A_eq (VA m) c 2).trans (W5_of m c main_v2_0 (by decide)).symm)
      · exact ((Attn.dat (VA m) c).arrAt_in 3 rfl _).trans ((Attn.A_eq (VA m) c 3).trans (W5_of m c main_v2_1 (by decide)).symm)
      · exact (W5_o m c).symm)]
  rw [StableHlo.held_congr (c.tc : Thread nD τ) (S := Pipeline.ucRefs τ sig \ Pipeline.arrRefs cfg1.spec) (V := W5 m c) (V' := W4 m c)
    (fun b hb => W5_off m c b (notArr1 b hb 4))]

set_option backward.isDefEq.respectTransparency.types false in
/-- The first call as a step of the program. -/
def regG : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Gate.body_obligation (VG m) c).loose
  hwaits := Pipeline.hwaits_of_owed_zero _ _ _ _ L lv 0 fun _ _ => rfl
  pre c := iprop(StableHlo.held (c : Thread nD τ) (Pipeline.ucRefs τ sig) (V3 m c) ∗ E (F := F) c)
  post c := iprop(StableHlo.held (c : Thread nD τ) (Pipeline.ucRefs τ sig) (W4 m c) ∗ E (F := F) c)
  X c := iprop(∃ r, prngReg c r)
  Y c := iprop(∃ r, prngReg c r)
  Z c := StableHlo.held (c : Thread nD τ) (Pipeline.ucRefs τ sig \ Pipeline.arrRefs spec0) (V3 m c)
  hentry c := by
    rw [Pipeline.ownSems0_none, gate_enter]
    iintro ⟨⟨⟨Ha, Hr⟩, HO, Hp⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec0 c by
    unfold Pipeline.ΦA
    iintro ⟨Hp, -, Hr⟩
    isplitl [Hr]; · iexact Hr
    iexact Hp).trans (Gate.hin (VG m) c)
  hout c := (Gate.hout (VG m) c).trans (by
    rw [Pipeline.ownSems0_none]; unfold Pipeline.ΦA
    iintro ⟨Hr, Hp⟩
    isplitl [Hp]; · iexact Hp
    isplitr; · iempintro
    iexact Hr)
  hexit c := by
    rw [gate_leave]
    iintro ⟨Ha, HO, HY, HZ⟩
    imodintro
    isplitl [Ha HZ]
    · isplitl [Ha]; · iexact Ha
      iexact HZ
    isplitl [HO]
    · unfold Pipeline.Dat.owesAt Pipeline.owesWithin
      icases HO with ⟨%W, -, HO⟩; iexists W; iexact HO
    iexact HY

set_option backward.isDefEq.respectTransparency.types false in
/-- The second call as a step of the program. -/
def regA : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Attn.body_obligation (VA m) c).loose
  hwaits := Pipeline.hwaits_of_owed_zero _ _ _ _ L lv 1 fun _ _ => rfl
  pre c := iprop(StableHlo.held (c : Thread nD τ) (Pipeline.ucRefs τ sig) (W4 m c) ∗ E (F := F) c)
  post c := iprop(StableHlo.held (c : Thread nD τ) (Pipeline.ucRefs τ sig) (W5 m c) ∗ E (F := F) c)
  X c := iprop(∃ r, prngReg c r)
  Y c := iprop(∃ r, prngReg c r)
  Z c := StableHlo.held (c : Thread nD τ) (Pipeline.ucRefs τ sig \ Pipeline.arrRefs spec1) (W4 m c)
  hentry c := by
    rw [Pipeline.ownSems0_none, attn_enter]
    iintro ⟨⟨⟨Ha, Hr⟩, HO, Hp⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec1 c by
    unfold Pipeline.ΦA
    iintro ⟨Hp, -, Hr⟩
    isplitl [Hr]; · iexact Hr
    iexact Hp)
  hout c := (show Pipeline.ΦA spec1 c ⊢ _ by
    rw [Pipeline.ownSems0_none]; unfold Pipeline.ΦA
    iintro ⟨Hr, Hp⟩
    isplitl [Hp]; · iexact Hp
    isplitr; · iempintro
    iexact Hr)
  hexit c := by
    rw [attn_leave]
    iintro ⟨Ha, HO, HY, HZ⟩
    imodintro
    isplitl [Ha HZ]
    · isplitl [Ha]; · iexact Ha
      iexact HZ
    isplitl [HO]
    · unfold Pipeline.Dat.owesAt Pipeline.owesWithin
      icases HO with ⟨%W, -, HO⟩; iexists W; iexact HO
    iexact HY

/-! ## The run -/

set_option backward.isDefEq.respectTransparency.types false in
/-- The program runs to its end with the result at what the second call leaves, the arguments as launched and every
    counter at zero. -/
theorem run : θ_run defs (onTc (τ := τ) (main (F := F))) ⟨m, fun _ => 0, ρ⟩ (fun r => (∀ c : Dev nD,
      r.2.mem ((c.tc : Thread nD τ).loc main_v3) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ Variants.none L lv m ρ main
    (segs m Variants.none L lv (fun _ => E (F := F)) () (pdats m) (regG m) (regA m))
    (fun c Q => by
      rewrite [main_chain c, Seg.run_eq_chain,
        show (segs m Variants.none L lv (fun _ => E (F := F)) () (pdats m) (regG m) (regA m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) c))
    (Tₙ := fun c => StableHlo.held (c : Thread nD τ) (Pipeline.ucRefs τ sig) (W5 m c))
    (hch := fun c => ⟨.rfl, .rfl, .rfl, .rfl, .rfl, sep_mono .rfl (by iintro ⟨HO, -⟩; iexact HO)⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v3) = resO m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro
    exact ⟨(h (Proc.devRef .tc main_v3) (Finset.mem_filter.mpr ⟨StableHlo.devRef_mem_tcRefs main_v3, by decide⟩)).trans (W5_o m c),
      (h (Proc.devRef .tc main_arg0) (Finset.mem_filter.mpr ⟨StableHlo.devRef_mem_tcRefs main_arg0, by decide⟩)).trans (W5_arg m c main_arg0 (by decide)),
      (h (Proc.devRef .tc main_arg1) (Finset.mem_filter.mpr ⟨StableHlo.devRef_mem_tcRefs main_arg1, by decide⟩)).trans (W5_arg m c main_arg1 (by decide)),
      (h (Proc.devRef .tc main_arg2) (Finset.mem_filter.mpr ⟨StableHlo.devRef_mem_tcRefs main_arg2, by decide⟩)).trans (W5_arg m c main_arg2 (by decide))⟩
  · iexact HSI

/-- The program leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Both

end
-- ==== Proof.Softmax.lean ====
module

public import Idealize.ShloMosaic.PureOps.Ideal
public import Mathlib.Analysis.SpecialFunctions.Pow.Real

/-! Softmax taken block after block, over extended reals: the running maximum, the running normalizer and the running
    weighted sum of one query row, their step, and their quotient at the end as the softmax of the whole row. -/

@[expose] public section

noncomputable section

namespace Cert.Softmax

open Idealize.ShloMosaic

variable {κ : Type} [Fintype κ]

theorem exp2_nonneg (x : EReal) : 0 ≤ Ideal.exp2 x := by
  induction x with
  | bot => simp
  | top => simp
  | coe r => rw [Ideal.exp2_coe]; exact_mod_cast (Real.rpow_pos_of_pos two_pos r).le

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top {a m : EReal} (h : a ≤ m) (hm : m ≠ ⊤) : a - m ≠ ⊤ := by
  induction m with
  | bot => rw [le_bot_iff.mp h]; decide
  | top => exact absurd rfl hm
  | coe r =>
    induction a with
    | bot => rw [EReal.bot_sub]; exact bot_ne_top
    | top => exact absurd (top_le_iff.mp h) (EReal.coe_ne_top _)
    | coe x => rw [← EReal.coe_sub]; exact EReal.coe_ne_top _

/-- A weight taken against an earlier maximum is carried to a later one by the factor between the two. -/
theorem rescale {a m m' : EReal} (h : a ≤ m) (h' : m ≤ m') (hm : m' ≠ ⊤) :
    Ideal.exp2 (m - m') * Ideal.exp2 (a - m) = Ideal.exp2 (a - m') := by
  have hm1 : m ≠ ⊤ := fun e => hm (top_le_iff.mp (e ▸ h'))
  induction a with
  | bot => rw [EReal.bot_sub, EReal.bot_sub, Ideal.exp2_bot, mul_zero]
  | top => exact absurd (top_le_iff.mp h) hm1
  | coe x =>
    induction m with
    | bot => exact absurd (le_bot_iff.mp h) (EReal.coe_ne_bot _)
    | top => exact absurd rfl hm1
    | coe y =>
      induction m' with
      | bot => exact absurd (le_bot_iff.mp h') (EReal.coe_ne_bot _)
      | top => exact absurd rfl hm
      | coe z =>
        rw [← EReal.coe_sub, ← EReal.coe_sub, ← EReal.coe_sub, Ideal.exp2_coe, Ideal.exp2_coe, Ideal.exp2_coe, ← EReal.coe_mul]
        norm_cast
        show (2 : ℝ) ^ (y - z) * (2 : ℝ) ^ (x - y) = (2 : ℝ) ^ (x - z)
        rw [← Real.rpow_add two_pos]; congr 1; ring

/-- A factor that is neither negative nor infinite moves into a sum. -/
theorem mul_sum {ι : Type} {c : EReal} (h0 : 0 ≤ c) (ht : c ≠ ⊤) (s : Finset ι) (f : ι → EReal) :
    c * ∑ i ∈ s, f i = ∑ i ∈ s, c * f i := by
  classical
  induction s using Finset.induction with
  | empty => simp
  | insert a s ha ih => rw [Finset.sum_insert ha, Finset.sum_insert ha, EReal.left_distrib_of_nonneg_of_ne_top h0 ht, ih]

/-! ## The state after some blocks -/

variable (S v : ℕ → κ → EReal)

/-- The largest logit of the first `n` blocks, -/
def mx (n : ℕ) : EReal := (Finset.range n).sup fun b => Finset.univ.fold max ⊥ (S b)
/-- the sum of the weights taken against `m`, -/
def ln (n : ℕ) (m : EReal) : EReal := ∑ b ∈ Finset.range n, ∑ j, Ideal.exp2 (S b j - m)
/-- and the sum of the values so weighted. -/
def ac (n : ℕ) (m : EReal) : EReal := ∑ b ∈ Finset.range n, ∑ j, Ideal.exp2 (S b j - m) * v b j

theorem fold_sup (f : κ → EReal) : Finset.univ.fold max ⊥ f = Finset.univ.sup f := rfl

theorem mx_zero : mx S 0 = ⊥ := rfl
theorem ln_zero (m : EReal) : ln S 0 m = 0 := rfl
theorem ac_zero (m : EReal) : ac S v 0 m = 0 := rfl

theorem mx_succ (n : ℕ) : mx S (n + 1) = max (mx S n) (Finset.univ.fold max ⊥ (S n)) := by
  unfold mx; rw [Finset.range_add_one, Finset.sup_insert, max_comm]

theorem le_mx {n b : ℕ} (hb : b < n) (j : κ) : S b j ≤ mx S n :=
  le_trans (Finset.le_sup (f := S b) (Finset.mem_univ j)) (Finset.le_sup (f := fun b => Finset.univ.fold max ⊥ (S b)) (Finset.mem_range.mpr hb))

theorem mx_ne_top (h : ∀ b j, S b j ≠ ⊤) (n : ℕ) : mx S n ≠ ⊤ := by
  refine ne_of_lt ((Finset.sup_lt_iff (by decide : (⊥ : EReal) < ⊤)).mpr fun b _ => ?_)
  rw [fold_sup]
  exact (Finset.sup_lt_iff (by decide : (⊥ : EReal) < ⊤)).mpr fun j _ => lt_top_iff_ne_top.mpr (h b j)

theorem mx_mono (n : ℕ) : mx S n ≤ mx S (n + 1) := by rw [mx_succ]; exact le_max_left _ _

theorem ln_succ (h : ∀ b j, S b j ≠ ⊤) (n : ℕ) :
    Ideal.exp2 (mx S n - mx S (n + 1)) * ln S n (mx S n) + ∑ j, Ideal.exp2 (S n j - mx S (n + 1)) = ln S (n + 1) (mx S (n + 1)) := by
  unfold ln
  rw [Finset.sum_range_succ, mul_sum (exp2_nonneg _) (exp2_ne_top (sub_ne_top (mx_mono S n) (mx_ne_top S h _)))]
  congr 1
  refine Finset.sum_congr rfl fun b hb => ?_
  rw [mul_sum (exp2_nonneg _) (exp2_ne_top (sub_ne_top (mx_mono S n) (mx_ne_top S h _)))]
  exact Finset.sum_congr rfl fun j _ => rescale (le_mx S (Finset.mem_range.mp hb) j) (mx_mono S n) (mx_ne_top S h _)

theorem ac_succ (h : ∀ b j, S b j ≠ ⊤) (n : ℕ) :
    Ideal.exp2 (mx S n - mx S (n + 1)) * ac S v n (mx S n) + ∑ j, Ideal.exp2 (S n j - mx S (n + 1)) * v n j = ac S v (n + 1) (mx S (n + 1)) := by
  unfold ac
  rw [Finset.sum_range_succ, mul_sum (exp2_nonneg _) (exp2_ne_top (sub_ne_top (mx_mono S n) (mx_ne_top S h _)))]
  congr 1
  refine Finset.sum_congr rfl fun b hb => ?_
  rw [mul_sum (exp2_nonneg _) (exp2_ne_top (sub_ne_top (mx_mono S n) (mx_ne_top S h _)))]
  exact Finset.sum_congr rfl fun j _ => by
    rw [← mul_assoc, rescale (le_mx S (Finset.mem_range.mp hb) j) (mx_mono S n) (mx_ne_top S h _)]

/-! ## The quotient -/

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The weight in base two of a logit is the weight in base e of the logit times log 2. -/
theorem exp_eq {x : EReal} (hx : x ≠ ⊤) (m : ℝ) :
    Ideal.exp (x * ((Real.log 2 : ℝ) : EReal) - ((m : EReal)) * ((Real.log 2 : ℝ) : EReal)) = Ideal.exp2 (x - (m : EReal)) := by
  have hl : 0 < Real.log 2 := Real.log_pos one_lt_two
  induction x with
  | bot => rw [EReal.bot_mul_coe_of_pos hl, EReal.bot_sub, EReal.bot_sub]; rfl
  | top => exact absurd rfl hx
  | coe r =>
    rw [← EReal.coe_mul, ← EReal.coe_mul, ← EReal.coe_sub, ← EReal.coe_sub, Ideal.exp2_coe]
    show ((Real.exp _ : ℝ) : EReal) = _
    congr 1
    show _ = (2 : ℝ) ^ (r - m)
    rw [Real.rpow_def_of_pos two_pos]; congr 1; ring

variable {ι : Type} [Fintype ι]

/-- The running quotient after the last block is the softmax of the row `Q` weighting `u`: the row is the blocks' logits
    laid out by `e`, in base e, with no logit beyond the blocks taken. -/
theorem quotient (n : ℕ) (N : ℕ) (hn : n ≤ N) (e : ι ≃ Fin N × κ) (Q u : ι → EReal) (h : ∀ b j, S b j ≠ ⊤)
    (hQ : ∀ k, Q k = S (e k).1 (e k).2 * ((Real.log 2 : ℝ) : EReal)) (hu : ∀ k, u k = v (e k).1 (e k).2)
    (hbot : ∀ b j, n ≤ b → S b j = ⊥) (hreal : ∃ b j, b < n ∧ S b j ≠ ⊥) :
    Ideal.div (ac S v n (mx S n)) (ln S n (mx S n))
      = ∑ k, Ideal.div (Ideal.exp (Q k - max ⊥ (Finset.univ.fold max ⊥ Q))) (∑ k', Ideal.exp (Q k' - max ⊥ (Finset.univ.fold max ⊥ Q))) * u k := by
  have hl : 0 < Real.log 2 := Real.log_pos one_lt_two
  obtain ⟨b₀, j₀, hb₀, hS₀⟩ := hreal
  -- the maximum is real
  obtain ⟨m, hm⟩ : ∃ m : ℝ, mx S n = (m : EReal) := by
    have h1 := mx_ne_top S h n
    have h2 : mx S n ≠ ⊥ := fun e => hS₀ (le_bot_iff.mp (e ▸ le_mx S hb₀ j₀))
    exact ⟨(mx S n).toReal, (EReal.coe_toReal h1 h2).symm⟩
  -- and the row's maximum is the same in base e
  have hmono : Monotone fun x : EReal => x * ((Real.log 2 : ℝ) : EReal) :=
    fun a b hab => mul_le_mul_of_nonneg_right hab (by exact_mod_cast hl.le)
  have hM : max ⊥ (Finset.univ.fold max ⊥ Q) = (m : EReal) * ((Real.log 2 : ℝ) : EReal) := by
    rw [max_eq_right bot_le, fold_sup, ← hm]
    apply le_antisymm
    · refine Finset.sup_le fun k _ => ?_
      rw [hQ k]
      refine hmono ?_
      by_cases hk : ((e k).1 : ℕ) < n
      · exact le_mx S hk _
      · rw [hbot _ _ (not_lt.mp hk)]; exact bot_le
    · obtain ⟨b, hb, hb'⟩ := Finset.exists_mem_eq_sup (Finset.range n) ⟨b₀, Finset.mem_range.mpr hb₀⟩ fun b => Finset.univ.fold max ⊥ (S b)
      obtain ⟨j, -, hj'⟩ := Finset.exists_mem_eq_sup (Finset.univ : Finset κ) ⟨j₀, Finset.mem_univ _⟩ (S b)
      have hbn := Finset.mem_range.mp hb
      have : mx S n = S b j := by unfold mx; rw [hb', fold_sup, hj']
      rw [this]
      have hk := hQ (e.symm (⟨b, lt_of_lt_of_le hbn hn⟩, j))
      rw [Equiv.apply_symm_apply] at hk
      show S b j * _ ≤ _
      rw [← hk]
      exact Finset.le_sup (Finset.mem_univ _)
  have hexp : ∀ k, Ideal.exp (Q k - max ⊥ (Finset.univ.fold max ⊥ Q)) = Ideal.exp2 (S (e k).1 (e k).2 - (m : EReal)) := fun k => by
    rw [hM, hQ k]; exact exp_eq (h _ _) m
  -- a sum over the row is the sum over the blocks taken
  have hsum : ∀ w : ℕ → κ → EReal, ∑ k, Ideal.exp2 (S (e k).1 (e k).2 - (m : EReal)) * w (e k).1 (e k).2
      = ∑ b ∈ Finset.range n, ∑ j, Ideal.exp2 (S b j - (m : EReal)) * w b j := fun w => by
    rw [e.sum_comp (fun p : Fin N × κ => Ideal.exp2 (S p.1 p.2 - (m : EReal)) * w p.1 p.2), Fintype.sum_prod_type,
      Fin.sum_univ_eq_sum_range (fun b => ∑ j, Ideal.exp2 (S b j - (m : EReal)) * w b j) N]
    refine (Finset.sum_subset (Finset.range_mono hn) fun b _ hb => Finset.sum_eq_zero fun j _ => ?_).symm
    rw [hbot b j (not_lt.mp fun h' => hb (Finset.mem_range.mpr h')), EReal.bot_sub, Ideal.exp2_bot, zero_mul]
  have hln : ∑ k, Ideal.exp2 (S (e k).1 (e k).2 - (m : EReal)) = ln S n (mx S n) := by
    have := hsum fun _ _ => 1
    simp only [mul_one] at this
    rw [this, hm]; rfl
  have hac : ∑ k, Ideal.exp2 (S (e k).1 (e k).2 - (m : EReal)) * u k = ac S v n (mx S n) := by
    simp only [hu]; rw [hsum v, hm]; rfl
  -- the normalizer is a positive real
  obtain ⟨Z, hZ0, hZ⟩ : ∃ Z : ℝ, 0 < Z ∧ ln S n (mx S n) = (Z : EReal) := by
    have hw : ∀ k, ∃ w : ℝ, Ideal.exp2 (S (e k).1 (e k).2 - (m : EReal)) = (w : EReal) ∧ 0 ≤ w := fun k => by
      have h0 := exp2_nonneg (S (e k).1 (e k).2 - (m : EReal))
      have ht : Ideal.exp2 (S (e k).1 (e k).2 - (m : EReal)) ≠ ⊤ := exp2_ne_top (by
        have := h (e k).1 (e k).2
        generalize S (e k).1 (e k).2 = a at this
        induction a with
        | bot => rw [EReal.bot_sub]; exact bot_ne_top
        | top => exact absurd rfl this
        | coe r => rw [← EReal.coe_sub]; exact EReal.coe_ne_top _)
      have hb : Ideal.exp2 (S (e k).1 (e k).2 - (m : EReal)) ≠ ⊥ := fun hh => by rw [hh] at h0; exact absurd h0 (by decide)
      exact ⟨_, (EReal.coe_toReal ht hb).symm, EReal.toReal_nonneg h0⟩
    choose w hw hw0 using hw
    refine ⟨∑ k, w k, ?_, by rw [← hln, coe_sum]; exact Finset.sum_congr rfl fun k _ => hw k⟩
    refine Finset.sum_pos' (fun k _ => hw0 k) ⟨e.symm (⟨b₀, lt_of_lt_of_le hb₀ hn⟩, j₀), Finset.mem_univ _, ?_⟩
    have h1 := hw (e.symm (⟨b₀, lt_of_lt_of_le hb₀ hn⟩, j₀))
    rw [Equiv.apply_symm_apply] at h1
    have h2 := h b₀ j₀
    simp only at h1
    generalize S b₀ j₀ = a at h1 h2 hS₀
    induction a with
    | bot => exact absurd rfl hS₀
    | top => exact absurd rfl h2
    | coe r =>
      rw [← EReal.coe_sub, Ideal.exp2_coe] at h1
      rw [← EReal.coe_eq_coe_iff.mp h1]
      exact Real.rpow_pos_of_pos two_pos _
  simp only [hexp, hln]
  rw [← hac, hZ]
  have hi : ∀ x : EReal, Ideal.div x (Z : EReal) = ((1 / Z : ℝ) : EReal) * x := fun x => by rw [Ideal.div_coe hZ0.ne', mul_comm]
  simp only [hi]
  rw [mul_sum (by exact_mod_cast (one_div_pos.mpr hZ0).le) (EReal.coe_ne_top _)]
  exact Finset.sum_congr rfl fun k _ => (mul_assoc _ _ _).symm

end Cert.Softmax

end
-- ==== Proof.AttnStep.lean ====
module

public import proofs.«01_k».proof.Proof.AttnRun
public import proofs.«01_k».proof.Proof.Softmax
public import Idealize.ShloMosaic.Lib.WholeRead
public import Idealize.ShloMosaic.Lib.Pipeline.ValueKit
public import Idealize.ShloMosaic.Lib.Pointwise

/-! The attention's body: what it stores is, head by head, the running softmax over the key blocks before the query
    block's own, one more step over that block masked, and the quotient. -/

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- The logits of a query block against a key block; -/
def score (q : FVec F S512x256 .bf16) (k : Vec F S1x512x256 .bf16) : FVec F S512x512 .f32 :=
  matmul dot_S512x256_S512x256_S512x512_1_1_0_0_n_n none q (shapeCast S512x256 k shapeCasts_S1x512x256_S512x256) (constant S512x512 .f32 0x00000000#32)
/-- those under the mask; -/
def masked (s : FVec F S512x512 .f32) : FVec F S512x512 .f32 := select k1_pay66 s (broadcast S512x512 (Named.named κ "mask" 0xF149F2CA#32))
/-- the new maximum, -/
def newM (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)
/-- the factor that carries the old weights to it, -/
def newF (s : FVec F S512x512 .f32) (m : FVec F S512x1 .f32) : FVec F S512x1 .f32 := exp2 (subf m (newM s m))
/-- the block's weights, -/
def newP (s : FVec F S512x512 .f32) (m : FVec F S512x1 .f32) : FVec F S512x512 .f32 := exp2 (subf s (broadcastTo S512x512 (newM s m) broadcasts_S512x1_S512x512))
/-- the new normalizer -/
def newL (s : FVec F S512x512 .f32) (m l : FVec F S512x1 .f32) : FVec F S512x1 .f32 :=
  addf (mulf (newF s m) l) (shapeCast S512x1 (multiReduction .add [1] S512 (newP s m) 0x00000000#32 reduces_S512x512_S512 (.inl rfl) rfl) shapeCasts_S512_S512x1)
/-- and the new weighted sum. -/
def newA (s : FVec F S512x512 .f32) (v : Vec F S1x512x128 .bf16) (m : FVec F S512x1 .f32) (a : FVec F S512x128 .f32) : FVec F S512x128 .f32 :=
  addf (mulf (broadcastTo S512x128 (newF s m) broadcasts_S512x1_S512x128) a)
    (matmul dot_S512x512_S512x128_S512x128_1_0_0_1_n_n none (truncf .bf16 (newP s m) bitsLt_bf16_f32) (shapeCast S512x128 v shapeCasts_S1x512x128_S512x128) (constant S512x128 .f32 0x00000000#32))

/-- One head's state: maximum, normalizer, weighted sum. -/
abbrev St (F : FTy → Type) [FloatOps F] : Type := FVec F S512x1 .f32 × FVec F S512x1 .f32 × FVec F S512x128 .f32
def step (s : FVec F S512x512 .f32) (v : Vec F S1x512x128 .bf16) (a : St F) : St F := (newM s a.1, newL s a.1 a.2.1, newA s v a.1 a.2.2)
def start : St F := (k1_pay74, k1_pay75, k1_pay76)
/-- The state after `n` key blocks. -/
def head (q : FVec F S512x256 .bf16) (K : ℕ → Vec F S1x512x256 .bf16) (W : ℕ → Vec F S1x512x128 .bf16) : ℕ → St F
  | 0 => start
  | n + 1 => step (score q (K n)) (W n) (head q K W n)

/-- The quotient stored. -/
def quot (a : St F) : FVec F S1x512x128 .bf16 :=
  shapeCast S1x512x128 (truncf .bf16 (divf a.2.2 (broadcastTo S512x128 a.2.1 broadcasts_S512x1_S512x128)) bitsLt_bf16_f32) shapeCasts_S512x128_S1x512x128

/-- Head `h`'s block of a buffer. -/
def hAt (x : Vec F S6x512x128 .bf16) (h : Fin 6) : Vec F S1x512x128 .bf16 := fun y => x (ix3 h (y 1) (y 2))
/-- Block `n` of 512 rows of head `h`'s keys, -/
def kAt (x : Vec F S6x4096x256 .bf16) (h : Fin 6) (n : ℕ) : Vec F S1x512x256 .bf16 := fun y => x (ix3 h ⟨(512 * n + (y 1).val) % 4096, Nat.mod_lt _ (by decide)⟩ (y 2))
/-- and of its values. -/
def vAt (x : Vec F S6x4096x128 .bf16) (h : Fin 6) (n : ℕ) : Vec F S1x512x128 .bf16 := fun y => x (ix3 h ⟨(512 * n + (y 1).val) % 4096, Nat.mod_lt _ (by decide)⟩ (y 2))

/-- What is stored for head `h` of query block `n`. -/
def stored (x0 : Vec F S6x512x128 .bf16) (x1 : Vec F S6x4096x128 .bf16) (x2 : Vec F S6x512x128 .bf16) (x3 : Vec F S6x4096x256 .bf16) (h : Fin 6) (n : ℕ) : FVec F S1x512x128 .bf16 :=
  quot (step (masked (score (k1_pay67 (hAt x0 h) (hAt x2 h)) (kAt x3 h n))) (vAt x1 h n) (head (k1_pay67 (hAt x0 h) (hAt x2 h)) (kAt x3 h) (vAt x1 h) n))

/-! ## The loads -/

theorem trips : ∀ i : grid1.Coords, (k1_t1_loop i).trips = (i 1).val := by decide +kernel
theorem trips2 : ∀ i : grid1.Coords, (k1_t2_loop i).trips = 0 := by decide +kernel
theorem trip_lt (i : grid1.Coords) (k : Fin (k1_t1_loop i).trips) : k.val < 8 := by have h := k.isLt; have h1 := trips i; have h2 : (i 1).val < 8 := (i 1).isLt; omega

theorem ivNat : ∀ k < 8, (Scalar.indexCast (Scalar.muli (Scf.iv 0#32 1#32 k) 512#32) : Index).toNat = 512 * k := by decide +kernel
theorem iNat : ∀ k < 8, (Scalar.indexCast (Scalar.muli (BitVec.ofNat 32 k) 512#32) : Index).toNat = 512 * k := by decide +kernel

theorem off1 (i : grid1.Coords) (k : Fin (k1_t1_loop i).trips) : k1_off1 i k = ![0, 512 * k.val, 0] := congrArg (fun n : ℕ => (![0, n, 0] : Fin 3 → ℕ)) (ivNat _ (trip_lt i k))
theorem off2 (i : grid1.Coords) (k : Fin (k1_t1_loop i).trips) : k1_off2 i k = ![0, 512 * k.val, 0] := congrArg (fun n : ℕ => (![0, n, 0] : Fin 3 → ℕ)) (ivNat _ (trip_lt i k))
theorem off3 (i : grid1.Coords) (k : Fin (k1_t1_loop i).trips) : k1_off3 i k = ![1, 512 * k.val, 0] := congrArg (fun n : ℕ => (![1, n, 0] : Fin 3 → ℕ)) (ivNat _ (trip_lt i k))
theorem off4 (i : grid1.Coords) (k : Fin (k1_t1_loop i).trips) : k1_off4 i k = ![1, 512 * k.val, 0] := congrArg (fun n : ℕ => (![1, n, 0] : Fin 3 → ℕ)) (ivNat _ (trip_lt i k))
theorem off5 (i : grid1.Coords) (k : Fin (k1_t1_loop i).trips) : k1_off5 i k = ![2, 512 * k.val, 0] := congrArg (fun n : ℕ => (![2, n, 0] : Fin 3 → ℕ)) (ivNat _ (trip_lt i k))
theorem off6 (i : grid1.Coords) (k : Fin (k1_t1_loop i).trips) : k1_off6 i k = ![2, 512 * k.val, 0] := congrArg (fun n : ℕ => (![2, n, 0] : Fin 3 → ℕ)) (ivNat _ (trip_lt i k))
theorem off7 (i : grid1.Coords) (k : Fin (k1_t1_loop i).trips) : k1_off7 i k = ![3, 512 * k.val, 0] := congrArg (fun n : ℕ => (![3, n, 0] : Fin 3 → ℕ)) (ivNat _ (trip_lt i k))
theorem off8 (i : grid1.Coords) (k : Fin (k1_t1_loop i).trips) : k1_off8 i k = ![3, 512 * k.val, 0] := congrArg (fun n : ℕ => (![3, n, 0] : Fin 3 → ℕ)) (ivNat _ (trip_lt i k))
theorem off9 (i : grid1.Coords) (k : Fin (k1_t1_loop i).trips) : k1_off9 i k = ![4, 512 * k.val, 0] := congrArg (fun n : ℕ => (![4, n, 0] : Fin 3 → ℕ)) (ivNat _ (trip_lt i k))
theorem off10 (i : grid1.Coords) (k : Fin (k1_t1_loop i).trips) : k1_off10 i k = ![4, 512 * k.val, 0] := congrArg (fun n : ℕ => (![4, n, 0] : Fin 3 → ℕ)) (ivNat _ (trip_lt i k))
theorem off11 (i : grid1.Coords) (k : Fin (k1_t1_loop i).trips) : k1_off11 i k = ![5, 512 * k.val, 0] := congrArg (fun n : ℕ => (![5, n, 0] : Fin 3 → ℕ)) (ivNat _ (trip_lt i k))
theorem off12 (i : grid1.Coords) (k : Fin (k1_t1_loop i).trips) : k1_off12 i k = ![5, 512 * k.val, 0] := congrArg (fun n : ℕ => (![5, n, 0] : Fin 3 → ℕ)) (ivNat _ (trip_lt i k))
theorem off25 (i : grid1.Coords) : k1_off25 i = ![0, 512 * (i 1).val, 0] := congrArg (fun n : ℕ => (![0, n, 0] : Fin 3 → ℕ)) (iNat _ (i 1).isLt)
theorem off26 (i : grid1.Coords) : k1_off26 i = ![0, 512 * (i 1).val, 0] := congrArg (fun n : ℕ => (![0, n, 0] : Fin 3 → ℕ)) (iNat _ (i 1).isLt)
theorem off27 (i : grid1.Coords) : k1_off27 i = ![1, 512 * (i 1).val, 0] := congrArg (fun n : ℕ => (![1, n, 0] : Fin 3 → ℕ)) (iNat _ (i 1).isLt)
theorem off28 (i : grid1.Coords) : k1_off28 i = ![1, 512 * (i 1).val, 0] := congrArg (fun n : ℕ => (![1, n, 0] : Fin 3 → ℕ)) (iNat _ (i 1).isLt)
theorem off29 (i : grid1.Coords) : k1_off29 i = ![2, 512 * (i 1).val, 0] := congrArg (fun n : ℕ => (![2, n, 0] : Fin 3 → ℕ)) (iNat _ (i 1).isLt)
theorem off30 (i : grid1.Coords) : k1_off30 i = ![2, 512 * (i 1).val, 0] := congrArg (fun n : ℕ => (![2, n, 0] : Fin 3 → ℕ)) (iNat _ (i 1).isLt)
theorem off31 (i : grid1.Coords) : k1_off31 i = ![3, 512 * (i 1).val, 0] := congrArg (fun n : ℕ => (![3, n, 0] : Fin 3 → ℕ)) (iNat _ (i 1).isLt)
theorem off32 (i : grid1.Coords) : k1_off32 i = ![3, 512 * (i 1).val, 0] := congrArg (fun n : ℕ => (![3, n, 0] : Fin 3 → ℕ)) (iNat _ (i 1).isLt)
theorem off33 (i : grid1.Coords) : k1_off33 i = ![4, 512 * (i 1).val, 0] := congrArg (fun n : ℕ => (![4, n, 0] : Fin 3 → ℕ)) (iNat _ (i 1).isLt)
theorem off34 (i : grid1.Coords) : k1_off34 i = ![4, 512 * (i 1).val, 0] := congrArg (fun n : ℕ => (![4, n, 0] : Fin 3 → ℕ)) (iNat _ (i 1).isLt)
theorem off35 (i : grid1.Coords) : k1_off35 i = ![5, 512 * (i 1).val, 0] := congrArg (fun n : ℕ => (![5, n, 0] : Fin 3 → ℕ)) (iNat _ (i 1).isLt)
theorem off36 (i : grid1.Coords) : k1_off36 i = ![5, 512 * (i 1).val, 0] := congrArg (fun n : ℕ => (![5, n, 0] : Fin 3 → ℕ)) (iNat _ (i 1).isLt)

/-- A load of one head's block of 512 rows. -/
theorem read_k {m : Memref sig .tc .vmem S6x4096x256 .bf16} (hm : m.IsWhole) (x : Vec F S6x4096x256 .bf16) (h : Fin 6) (n : ℕ) (hn : n < 8) {off : Fin 3 → ℕ}
    (e : off = ![h.val, 512 * n, 0]) (inb : ∀ a, off a + (![1, 512, 256] : Fin 3 → ℕ) a ≤ S6x4096x256.size a) :
    View.readAt (Elt F) m.view (Rect.unit off ![1, 512, 256] inb).toLoadRect (hm.unread x) = kAt x h n := by
  subst e
  funext y
  refine (hm.readAt_unread x _ y).trans (congrArg x (funext fun a => Fin.ext ?_))
  have h0 : (y 0).val < 1 := (y 0).isLt
  have h1 : (y 1).val < 512 := (y 1).isLt
  fin_cases a
  · show h.val + 1 * (y 0).val = h.val; omega
  · show 512 * n + 1 * (y 1).val = (512 * n + (y 1).val) % 4096; omega
  · show 0 + 1 * (y 2).val = (y 2).val; omega
theorem read_v {m : Memref sig .tc .vmem S6x4096x128 .bf16} (hm : m.IsWhole) (x : Vec F S6x4096x128 .bf16) (h : Fin 6) (n : ℕ) (hn : n < 8) {off : Fin 3 → ℕ}
    (e : off = ![h.val, 512 * n, 0]) (inb : ∀ a, off a + (![1, 512, 128] : Fin 3 → ℕ) a ≤ S6x4096x128.size a) :
    View.readAt (Elt F) m.view (Rect.unit off ![1, 512, 128] inb).toLoadRect (hm.unread x) = vAt x h n := by
  subst e
  funext y
  refine (hm.readAt_unread x _ y).trans (congrArg x (funext fun a => Fin.ext ?_))
  have h0 : (y 0).val < 1 := (y 0).isLt
  have h1 : (y 1).val < 512 := (y 1).isLt
  fin_cases a
  · show h.val + 1 * (y 0).val = h.val; omega
  · show 512 * n + 1 * (y 1).val = (512 * n + (y 1).val) % 4096; omega
  · show 0 + 1 * (y 2).val = (y 2).val; omega
theorem read_h {m : Memref sig .tc .vmem S6x512x128 .bf16} (hm : m.IsWhole) (x : Vec F S6x512x128 .bf16) (h : Fin 6)
    (inb : ∀ a, (![h.val, 0, 0] : Fin 3 → ℕ) a + (![1, 512, 128] : Fin 3 → ℕ) a ≤ S6x512x128.size a) :
    View.readAt (Elt F) m.view (Rect.unit (s := S6x512x128) ![h.val, 0, 0] ![1, 512, 128] inb).toLoadRect (hm.unread x) = hAt x h := by
  funext y
  refine (hm.readAt_unread x _ y).trans (congrArg x (funext fun a => Fin.ext ?_))
  have h0 : (y 0).val < 1 := (y 0).isLt
  fin_cases a
  · show h.val + 1 * (y 0).val = h.val; omega
  · show 0 + 1 * (y 1).val = (y 1).val; omega
  · show 0 + 1 * (y 2).val = (y 2).val; omega

/-! ## The loop -/

abbrev qs (v11 v20 v29 : FVec F S512x256 .bf16) (v32 : FVec F S512x128 .f32) (cst_19 : F .f32) (v36 v39 v45 v48 v54 : Vec F S1x512x128 .bf16) : Fin 6 → FVec F S512x256 .bf16 :=
  ![v11, v20, v29, k1_pay71 v32 cst_19 v36, k1_pay72 v39 v45, k1_pay73 v48 v54]

abbrev Tup (F : FTy → Type) [FloatOps F] : Type := FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32
/-- The six heads' states side by side. -/
def pack (s : Fin 6 → St F) : Tup F :=
  ((s 0).1, (s 0).2.1, (s 0).2.2, (s 1).1, (s 1).2.1, (s 1).2.2, (s 2).1, (s 2).2.1, (s 2).2.2, (s 3).1, (s 3).2.1, (s 3).2.2, (s 4).1, (s 4).2.1, (s 4).2.2, (s 5).1, (s 5).2.1, (s 5).2.2)

set_option maxHeartbeats 4000000 in
/-- One trip steps every head. -/
theorem trip_eq (𝒱 : Variants) (bd : Option 𝒱.V) (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole) (arg1 : BitVec 32) (v11 v20 v29 : FVec F S512x256 .bf16) (v32 : FVec F S512x128 .f32) (cst_19 : F .f32) (v36 v39 v45 v48 v54 : Vec F S1x512x128 .bf16)
    (x1 : Vec F S6x4096x128 .bf16) (x3 : Vec F S6x4096x256 .bf16) (k : Fin (k1_t1_loop i).trips) (s : Fin 6 → St F) :
    (trip_k1_t1 (F := F) 𝒱 c bd i arg2 harg2 arg3 harg3 arg4 harg4 arg5 harg5 arg6 harg6 arg1 v11 v20 v29 v32 cst_19 v36 v39 v45 v48 v54 (harg3.unread x1) (harg5.unread x3) k).1 (pack s)
      = pack fun h => step (score (qs v11 v20 v29 v32 cst_19 v36 v39 v45 v48 v54 h) (kAt x3 h k.val)) (vAt x1 h k.val) (s h) := by
  unfold trip_k1_t1
  show (newM (score (qs v11 v20 v29 v32 cst_19 v36 v39 v45 v48 v54 0) (View.readAt (Elt F) arg5.view (Rect.unit (s := S6x4096x256) (k1_off1 i k) ![1, 512, 256] (k1_off1_inb i k)).toLoadRect (harg5.unread x3))) (s 0).1, newL (score (qs v11 v20 v29 v32 cst_19 v36 v39 v45 v48 v54 0) (View.readAt (Elt F) arg5.view (Rect.unit (s := S6x4096x256) (k1_off1 i k) ![1, 512, 256] (k1_off1_inb i k)).toLoadRect (harg5.unread x3))) (s 0).1 (s 0).2.1, newA (score (qs v11 v20 v29 v32 cst_19 v36 v39 v45 v48 v54 0) (View.readAt (Elt F) arg5.view (Rect.unit (s := S6x4096x256) (k1_off1 i k) ![1, 512, 256] (k1_off1_inb i k)).toLoadRect (harg5.unread x3))) (View.readAt (Elt F) arg3.view (Rect.unit (s := S6x4096x128) (k1_off2 i k) ![1, 512, 128] (k1_off2_inb i k)).toLoadRect (harg3.unread x1)) (s 0).1 (s 0).2.2, newM (score (qs v11 v20 v29 v32 cst_19 v36 v39 v45 v48 v54 1) (View.readAt (Elt F) arg5.view (Rect.unit (s := S6x4096x256) (k1_off3 i k) ![1, 512, 256] (k1_off3_inb i k)).toLoadRect (harg5.unread x3))) (s 1).1, newL (score (qs v11 v20 v29 v32 cst_19 v36 v39 v45 v48 v54 1) (View.readAt (Elt F) arg5.view (Rect.unit (s := S6x4096x256) (k1_off3 i k) ![1, 512, 256] (k1_off3_inb i k)).toLoadRect (harg5.unread x3))) (s 1).1 (s 1).2.1, newA (score (qs v11 v20 v29 v32 cst_19 v36 v39 v45 v48 v54 1) (View.readAt (Elt F) arg5.view (Rect.unit (s := S6x4096x256) (k1_off3 i k) ![1, 512, 256] (k1_off3_inb i k)).toLoadRect (harg5.unread x3))) (View.readAt (Elt F) arg3.view (Rect.unit (s := S6x4096x128) (k1_off4 i k) ![1, 512, 128] (k1_off4_inb i k)).toLoadRect (harg3.unread x1)) (s 1).1 (s 1).2.2, newM (score (qs v11 v20 v29 v32 cst_19 v36 v39 v45 v48 v54 2) (View.readAt (Elt F) arg5.view (Rect.unit (s := S6x4096x256) (k1_off5 i k) ![1, 512, 256] (k1_off5_inb i k)).toLoadRect (harg5.unread x3))) (s 2).1, newL (score (qs v11 v20 v29 v32 cst_19 v36 v39 v45 v48 v54 2) (View.readAt (Elt F) arg5.view (Rect.unit (s := S6x4096x256) (k1_off5 i k) ![1, 512, 256] (k1_off5_inb i k)).toLoadRect (harg5.unread x3))) (s 2).1 (s 2).2.1, newA (score (qs v11 v20 v29 v32 cst_19 v36 v39 v45 v48 v54 2) (View.readAt (Elt F) arg5.view (Rect.unit (s := S6x4096x256) (k1_off5 i k) ![1, 512, 256] (k1_off5_inb i k)).toLoadRect (harg5.unread x3))) (View.readAt (Elt F) arg3.view (Rect.unit (s := S6x4096x128) (k1_off6 i k) ![1, 512, 128] (k1_off6_inb i k)).toLoadRect (harg3.unread x1)) (s 2).1 (s 2).2.2, newM (score (qs v11 v20 v29 v32 cst_19 v36 v39 v45 v48 v54 3) (View.readAt (Elt F) arg5.view (Rect.unit (s := S6x4096x256) (k1_off7 i k) ![1, 512, 256] (k1_off7_inb i k)).toLoadRect (harg5.unread x3))) (s 3).1, newL (score (qs v11 v20 v29 v32 cst_19 v36 v39 v45 v48 v54 3) (View.readAt (Elt F) arg5.view (Rect.unit (s := S6x4096x256) (k1_off7 i k) ![1, 512, 256] (k1_off7_inb i k)).toLoadRect (harg5.unread x3))) (s 3).1 (s 3).2.1, newA (score (qs v11 v20 v29 v32 cst_19 v36 v39 v45 v48 v54 3) (View.readAt (Elt F) arg5.view (Rect.unit (s := S6x4096x256) (k1_off7 i k) ![1, 512, 256] (k1_off7_inb i k)).toLoadRect (harg5.unread x3))) (View.readAt (Elt F) arg3.view (Rect.unit (s := S6x4096x128) (k1_off8 i k) ![1, 512, 128] (k1_off8_inb i k)).toLoadRect (harg3.unread x1)) (s 3).1 (s 3).2.2, newM (score (qs v11 v20 v29 v32 cst_19 v36 v39 v45 v48 v54 4) (View.readAt (Elt F) arg5.view (Rect.unit (s := S6x4096x256) (k1_off9 i k) ![1, 512, 256] (k1_off9_inb i k)).toLoadRect (harg5.unread x3))) (s 4).1, newL (score (qs v11 v20 v29 v32 cst_19 v36 v39 v45 v48 v54 4) (View.readAt (Elt F) arg5.view (Rect.unit (s := S6x4096x256) (k1_off9 i k) ![1, 512, 256] (k1_off9_inb i k)).toLoadRect (harg5.unread x3))) (s 4).1 (s 4).2.1, newA (score (qs v11 v20 v29 v32 cst_19 v36 v39 v45 v48 v54 4) (View.readAt (Elt F) arg5.view (Rect.unit (s := S6x4096x256) (k1_off9 i k) ![1, 512, 256] (k1_off9_inb i k)).toLoadRect (harg5.unread x3))) (View.readAt (Elt F) arg3.view (Rect.unit (s := S6x4096x128) (k1_off10 i k) ![1, 512, 128] (k1_off10_inb i k)).toLoadRect (harg3.unread x1)) (s 4).1 (s 4).2.2, newM (score (qs v11 v20 v29 v32 cst_19 v36 v39 v45 v48 v54 5) (View.readAt (Elt F) arg5.view (Rect.unit (s := S6x4096x256) (k1_off11 i k) ![1, 512, 256] (k1_off11_inb i k)).toLoadRect (harg5.unread x3))) (s 5).1, newL (score (qs v11 v20 v29 v32 cst_19 v36 v39 v45 v48 v54 5) (View.readAt (Elt F) arg5.view (Rect.unit (s := S6x4096x256) (k1_off11 i k) ![1, 512, 256] (k1_off11_inb i k)).toLoadRect (harg5.unread x3))) (s 5).1 (s 5).2.1, newA (score (qs v11 v20 v29 v32 cst_19 v36 v39 v45 v48 v54 5) (View.readAt (Elt F) arg5.view (Rect.unit (s := S6x4096x256) (k1_off11 i k) ![1, 512, 256] (k1_off11_inb i k)).toLoadRect (harg5.unread x3))) (View.readAt (Elt F) arg3.view (Rect.unit (s := S6x4096x128) (k1_off12 i k) ![1, 512, 128] (k1_off12_inb i k)).toLoadRect (harg3.unread x1)) (s 5).1 (s 5).2.2) = _
  rw [read_k harg5 x3 0 k.val (trip_lt i k) (off1 i k), read_v harg3 x1 0 k.val (trip_lt i k) (off2 i k), read_k harg5 x3 1 k.val (trip_lt i k) (off3 i k), read_v harg3 x1 1 k.val (trip_lt i k) (off4 i k), read_k harg5 x3 2 k.val (trip_lt i k) (off5 i k), read_v harg3 x1 2 k.val (trip_lt i k) (off6 i k), read_k harg5 x3 3 k.val (trip_lt i k) (off7 i k), read_v harg3 x1 3 k.val (trip_lt i k) (off8 i k), read_k harg5 x3 4 k.val (trip_lt i k) (off9 i k), read_v harg3 x1 4 k.val (trip_lt i k) (off10 i k), read_k harg5 x3 5 k.val (trip_lt i k) (off11 i k), read_v harg3 x1 5 k.val (trip_lt i k) (off12 i k)]
  rfl

/-- After `n` trips every head has taken `n` key blocks. -/
theorem st_eq (𝒱 : Variants) (bd : Option 𝒱.V) (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole) (arg1 : BitVec 32) (v11 v20 v29 : FVec F S512x256 .bf16) (v32 : FVec F S512x128 .f32) (cst_19 : F .f32) (v36 v39 v45 v48 v54 : Vec F S1x512x128 .bf16)
    (x1 : Vec F S6x4096x128 .bf16) (x3 : Vec F S6x4096x256 .bf16) (n : ℕ) (hn : n ≤ (k1_t1_loop i).trips) :
    st_k1_t1 (F := F) 𝒱 c bd i arg2 harg2 arg3 harg3 arg4 harg4 arg5 harg5 arg6 harg6 arg1 v11 v20 v29 v32 cst_19 v36 v39 v45 v48 v54 (harg3.unread x1) (harg5.unread x3) (pack fun _ => start) n
      = pack fun h => head (qs v11 v20 v29 v32 cst_19 v36 v39 v45 v48 v54 h) (kAt x3 h) (vAt x1 h) n := by
  induction n with
  | zero => rfl
  | succ n ih =>
    refine (st_k1_t1_succ 𝒱 c bd i arg2 harg2 arg3 harg3 arg4 harg4 arg5 harg5 arg6 harg6 arg1 v11 v20 v29 v32 cst_19 v36 v39 v45 v48 v54 (harg3.unread x1) (harg5.unread x3) (pack fun _ => start) ⟨n, hn⟩).trans ?_
    rw [show (⟨n, hn⟩ : Fin (k1_t1_loop i).trips).val = n from rfl, ih (Nat.le_of_lt hn)]
    exact trip_eq 𝒱 bd c i arg2 harg2 arg3 harg3 arg4 harg4 arg5 harg5 arg6 harg6 arg1 v11 v20 v29 v32 cst_19 v36 v39 v45 v48 v54 x1 x3 ⟨n, hn⟩ _

/-! ## The pieces -/

/-- Head `h`'s state before its query block's own keys. -/
def headAt (x0 : Vec F S6x512x128 .bf16) (x1 : Vec F S6x4096x128 .bf16) (x2 : Vec F S6x512x128 .bf16) (x3 : Vec F S6x4096x256 .bf16) (h : Fin 6) (n : ℕ) : St F := head (k1_pay67 (hAt x0 h) (hAt x2 h)) (kAt x3 h) (vAt x1 h) n

section
variable (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole)
    (x0 : Vec F S6x512x128 .bf16) (x1 : Vec F S6x4096x128 .bf16) (x2 : Vec F S6x512x128 .bf16) (x3 : Vec F S6x4096x256 .bf16)

theorem trips2' (i : grid1.Coords) : Scf.trips (k1_t2_loop i).lb (k1_t2_loop i).ub (k1_t2_loop i).st = 0 := trips2 i

theorem qs_eq (h : Fin 6) : qs (run.sl.r c arg2 harg2 arg4 harg4 x0 x2) (run.sl.r_1 c arg2 harg2 arg4 harg4 x0 x2) (run.sl.r_2 c arg2 harg2 arg4 harg4 x0 x2) (run.sl.r_3 c arg2 harg2 x0) run.sl.cst_19 (View.readAt (Elt F) arg4.view (Rect.unit (s := S6x512x128) ![3, 0, 0] ![1, 512, 128] inb_S6x512x128_S1x512x128_3_0_0).toLoadRect (harg4.unread x2)) (View.readAt (Elt F) arg2.view (Rect.unit (s := S6x512x128) ![4, 0, 0] ![1, 512, 128] inb_S6x512x128_S1x512x128_4_0_0).toLoadRect (harg2.unread x0)) (View.readAt (Elt F) arg4.view (Rect.unit (s := S6x512x128) ![4, 0, 0] ![1, 512, 128] inb_S6x512x128_S1x512x128_4_0_0).toLoadRect (harg4.unread x2)) (View.readAt (Elt F) arg2.view (Rect.unit (s := S6x512x128) ![5, 0, 0] ![1, 512, 128] inb_S6x512x128_S1x512x128_5_0_0).toLoadRect (harg2.unread x0)) (View.readAt (Elt F) arg4.view (Rect.unit (s := S6x512x128) ![5, 0, 0] ![1, 512, 128] inb_S6x512x128_S1x512x128_5_0_0).toLoadRect (harg4.unread x2)) h
    = k1_pay67 (hAt x0 h) (hAt x2 h) := by
  fin_cases h
  · exact congrArg₂ k1_pay67 (read_h harg2 x0 0 inb_S6x512x128_S1x512x128_0_0_0) (read_h harg4 x2 0 inb_S6x512x128_S1x512x128_0_0_0)
  · exact congrArg₂ k1_pay67 (read_h harg2 x0 1 inb_S6x512x128_S1x512x128_1_0_0) (read_h harg4 x2 1 inb_S6x512x128_S1x512x128_1_0_0)
  · exact congrArg₂ k1_pay67 (read_h harg2 x0 2 inb_S6x512x128_S1x512x128_2_0_0) (read_h harg4 x2 2 inb_S6x512x128_S1x512x128_2_0_0)
  · exact congrArg₂ k1_pay67 (read_h harg2 x0 3 inb_S6x512x128_S1x512x128_3_0_0) (read_h harg4 x2 3 inb_S6x512x128_S1x512x128_3_0_0)
  · exact congrArg₂ k1_pay67 (read_h harg2 x0 4 inb_S6x512x128_S1x512x128_4_0_0) (read_h harg4 x2 4 inb_S6x512x128_S1x512x128_4_0_0)
  · exact congrArg₂ k1_pay67 (read_h harg2 x0 5 inb_S6x512x128_S1x512x128_5_0_0) (read_h harg4 x2 5 inb_S6x512x128_S1x512x128_5_0_0)

/-- The loop leaves every head at the state before its query block's own keys. -/
theorem loop_eq : (st_k1_t1 Variants.none c none i arg2 harg2 arg3 harg3 arg4 harg4 arg5 harg5 arg6 harg6 (BitVec.ofNat 32 (i 1).val) (run.sl.r c arg2 harg2 arg4 harg4 x0 x2) (run.sl.r_1 c arg2 harg2 arg4 harg4 x0 x2) (run.sl.r_2 c arg2 harg2 arg4 harg4 x0 x2) (run.sl.r_3 c arg2 harg2 x0) run.sl.cst_19 (View.readAt (Elt F) arg4.view (Rect.unit (s := S6x512x128) ![3, 0, 0] ![1, 512, 128] inb_S6x512x128_S1x512x128_3_0_0).toLoadRect (harg4.unread x2)) (View.readAt (Elt F) arg2.view (Rect.unit (s := S6x512x128) ![4, 0, 0] ![1, 512, 128] inb_S6x512x128_S1x512x128_4_0_0).toLoadRect (harg2.unread x0)) (View.readAt (Elt F) arg4.view (Rect.unit (s := S6x512x128) ![4, 0, 0] ![1, 512, 128] inb_S6x512x128_S1x512x128_4_0_0).toLoadRect (harg4.unread x2)) (View.readAt (Elt F) arg2.view (Rect.unit (s := S6x512x128) ![5, 0, 0] ![1, 512, 128] inb_S6x512x128_S1x512x128_5_0_0).toLoadRect (harg2.unread x0)) (View.readAt (Elt F) arg4.view (Rect.unit (s := S6x512x128) ![5, 0, 0] ![1, 512, 128] inb_S6x512x128_S1x512x128_5_0_0).toLoadRect (harg4.unread x2)) (harg3.unread x1) (harg5.unread x3) (k1_pay74, k1_pay75, k1_pay76, k1_pay74, k1_pay75, k1_pay76, k1_pay74, k1_pay75, k1_pay76, k1_pay74, k1_pay75, k1_pay76, k1_pay74, k1_pay75, k1_pay76, k1_pay74, k1_pay75, k1_pay76) (Scf.trips (k1_t1_loop i).lb (k1_t1_loop i).ub (k1_t1_loop i).st)) = pack fun h => headAt x0 x1 x2 x3 h (i 1).val := by
  refine (show _ = _ from st_eq Variants.none none c i arg2 harg2 arg3 harg3 arg4 harg4 arg5 harg5 arg6 harg6 (BitVec.ofNat 32 (i 1).val) _ _ _ _ _ _ _ _ _ _ x1 x3 _ le_rfl).trans ?_
  rw [trips i]
  exact congrArg pack (funext fun h => congrArg (fun q => head q (kAt x3 h) (vAt x1 h) (i 1).val) (qs_eq c arg2 harg2 arg4 harg4 x0 x2 h))

theorem res0 : run.sl.r_7 c i arg2 harg2 arg3 harg3 arg4 harg4 arg5 harg5 arg6 harg6 x0 x1 x2 x3 = (headAt x0 x1 x2 x3 0 (i 1).val).1 := by
  delta run.sl.r_7
  rw [trips2' i, st_k1_t2_zero]
  dsimp only
  rw [loop_eq c i arg2 harg2 arg3 harg3 arg4 harg4 arg5 harg5 arg6 harg6 x0 x1 x2 x3]
  rfl
theorem res1 : run.sl.r_8 c i arg2 harg2 arg3 harg3 arg4 harg4 arg5 harg5 arg6 harg6 x0 x1 x2 x3 = (headAt x0 x1 x2 x3 0 (i 1).val).2.1 := by
  delta run.sl.r_8
  rw [trips2' i, st_k1_t2_zero]
  dsimp only
  rw [loop_eq c i arg2 harg2 arg3 harg3 arg4 harg4 arg5 harg5 arg6 harg6 x0 x1 x2 x3]
  rfl
theorem res2 : run.sl.r_9 c i arg2 harg2 arg3 harg3 arg4 harg4 arg5 harg5 arg6 harg6 x0 x1 x2 x3 = (headAt x0 x1 x2 x3 0 (i 1).val).2.2 := by
  delta run.sl.r_9
  rw [trips2' i, st_k1_t2_zero]
  dsimp only
  rw [loop_eq c i arg2 harg2 arg3 harg3 arg4 harg4 arg5 harg5 arg6 harg6 x0 x1 x2 x3]
  rfl
theorem res3 : run.sl.r_10 c i arg2 harg2 arg3 harg3 arg4 harg4 arg5 harg5 arg6 harg6 x0 x1 x2 x3 = (headAt x0 x1 x2 x3 1 (i 1).val).1 := by
  delta run.sl.r_10
  rw [trips2' i, st_k1_t2_zero]
  dsimp only
  rw [loop_eq c i arg2 harg2 arg3 harg3 arg4 harg4 arg5 harg5 arg6 harg6 x0 x1 x2 x3]
  rfl
theorem res4 : run.sl.r_11 c i arg2 harg2 arg3 harg3 arg4 harg4 arg5 harg5 arg6 harg6 x0 x1 x2 x3 = (headAt x0 x1 x2 x3 1 (i 1).val).2.1 := by
  delta run.sl.r_11
  rw [trips2' i, st_k1_t2_zero]
  dsimp only
  rw [loop_eq c i arg2 harg2 arg3 harg3 arg4 harg4 arg5 harg5 arg6 harg6 x0 x1 x2 x3]
  rfl
theorem res5 : run.sl.r_12 c i arg2 harg2 arg3 harg3 arg4 harg4 arg5 harg5 arg6 harg6 x0 x1 x2 x3 = (headAt x0 x1 x2 x3 1 (i 1).val).2.2 := by
  delta run.sl.r_12
  rw [trips2' i, st_k1_t2_zero]
  dsimp only
  rw [loop_eq c i arg2 harg2 arg3 harg3 arg4 harg4 arg5 harg5 arg6 harg6 x0 x1 x2 x3]
  rfl
theorem res6 : run.sl.r_13 c i arg2 harg2 arg3 harg3 arg4 harg4 arg5 harg5 arg6 harg6 x0 x1 x2 x3 = (headAt x0 x1 x2 x3 2 (i 1).val).1 := by
  delta run.sl.r_13
  rw [trips2' i, st_k1_t2_zero]
  dsimp only
  rw [loop_eq c i arg2 harg2 arg3 harg3 arg4 harg4 arg5 harg5 arg6 harg6 x0 x1 x2 x3]
  rfl
theorem res7 : run.sl.r_14 c i arg2 harg2 arg3 harg3 arg4 harg4 arg5 harg5 arg6 harg6 x0 x1 x2 x3 = (headAt x0 x1 x2 x3 2 (i 1).val).2.1 := by
  delta run.sl.r_14
  rw [trips2' i, st_k1_t2_zero]
  dsimp only
  rw [loop_eq c i arg2 harg2 arg3 harg3 arg4 harg4 arg5 harg5 arg6 harg6 x0 x1 x2 x3]
  rfl
theorem res8 : run.sl.r_15 c i arg2 harg2 arg3 harg3 arg4 harg4 arg5 harg5 arg6 harg6 x0 x1 x2 x3 = (headAt x0 x1 x2 x3 2 (i 1).val).2.2 := by
  delta run.sl.r_15
  rw [trips2' i, st_k1_t2_zero]
  dsimp only
  rw [loop_eq c i arg2 harg2 arg3 harg3 arg4 harg4 arg5 harg5 arg6 harg6 x0 x1 x2 x3]
  rfl
theorem res9 : run.sl.r_16 c i arg2 harg2 arg3 harg3 arg4 harg4 arg5 harg5 arg6 harg6 x0 x1 x2 x3 = (headAt x0 x1 x2 x3 3 (i 1).val).1 := by
  delta run.sl.r_16
  rw [trips2' i, st_k1_t2_zero]
  dsimp only
  rw [loop_eq c i arg2 harg2 arg3 harg3 arg4 harg4 arg5 harg5 arg6 harg6 x0 x1 x2 x3]
  rfl
theorem res10 : run.sl.r_17 c i arg2 harg2 arg3 harg3 arg4 harg4 arg5 harg5 arg6 harg6 x0 x1 x2 x3 = (headAt x0 x1 x2 x3 3 (i 1).val).2.1 := by
  delta run.sl.r_17
  rw [trips2' i, st_k1_t2_zero]
  dsimp only
  rw [loop_eq c i arg2 harg2 arg3 harg3 arg4 harg4 arg5 harg5 arg6 harg6 x0 x1 x2 x3]
  rfl
theorem res11 : run.sl.r_18 c i arg2 harg2 arg3 harg3 arg4 harg4 arg5 harg5 arg6 harg6 x0 x1 x2 x3 = (headAt x0 x1 x2 x3 3 (i 1).val).2.2 := by
  delta run.sl.r_18
  rw [trips2' i, st_k1_t2_zero]
  dsimp only
  rw [loop_eq c i arg2 harg2 arg3 harg3 arg4 harg4 arg5 harg5 arg6 harg6 x0 x1 x2 x3]
  rfl
theorem res12 : run.sl.r_19 c i arg2 harg2 arg3 harg3 arg4 harg4 arg5 harg5 arg6 harg6 x0 x1 x2 x3 = (headAt x0 x1 x2 x3 4 (i 1).val).1 := by
  delta run.sl.r_19
  rw [trips2' i, st_k1_t2_zero]
  dsimp only
  rw [loop_eq c i arg2 harg2 arg3 harg3 arg4 harg4 arg5 harg5 arg6 harg6 x0 x1 x2 x3]
  rfl
theorem res13 : run.sl.r_20 c i arg2 harg2 arg3 harg3 arg4 harg4 arg5 harg5 arg6 harg6 x0 x1 x2 x3 = (headAt x0 x1 x2 x3 4 (i 1).val).2.1 := by
  delta run.sl.r_20
  rw [trips2' i, st_k1_t2_zero]
  dsimp only
  rw [loop_eq c i arg2 harg2 arg3 harg3 arg4 harg4 arg5 harg5 arg6 harg6 x0 x1 x2 x3]
  rfl
theorem res14 : run.sl.r_21 c i arg2 harg2 arg3 harg3 arg4 harg4 arg5 harg5 arg6 harg6 x0 x1 x2 x3 = (headAt x0 x1 x2 x3 4 (i 1).val).2.2 := by
  delta run.sl.r_21
  rw [trips2' i, st_k1_t2_zero]
  dsimp only
  rw [loop_eq c i arg2 harg2 arg3 harg3 arg4 harg4 arg5 harg5 arg6 harg6 x0 x1 x2 x3]
  rfl
theorem res15 : run.sl.r_22 c i arg2 harg2 arg3 harg3 arg4 harg4 arg5 harg5 arg6 harg6 x0 x1 x2 x3 = (headAt x0 x1 x2 x3 5 (i 1).val).1 := by
  delta run.sl.r_22
  rw [trips2' i, st_k1_t2_zero]
  dsimp only
  rw [loop_eq c i arg2 harg2 arg3 harg3 arg4 harg4 arg5 harg5 arg6 harg6 x0 x1 x2 x3]
  rfl
theorem res16 : run.sl.r_23 c i arg2 harg2 arg3 harg3 arg4 harg4 arg5 harg5 arg6 harg6 x0 x1 x2 x3 = (headAt x0 x1 x2 x3 5 (i 1).val).2.1 := by
  delta run.sl.r_23
  rw [trips2' i, st_k1_t2_zero]
  dsimp only
  rw [loop_eq c i arg2 harg2 arg3 harg3 arg4 harg4 arg5 harg5 arg6 harg6 x0 x1 x2 x3]
  rfl
theorem res17 : run.sl.r_24 c i arg2 harg2 arg3 harg3 arg4 harg4 arg5 harg5 arg6 harg6 x0 x1 x2 x3 = (headAt x0 x1 x2 x3 5 (i 1).val).2.2 := by
  delta run.sl.r_24
  rw [trips2' i, st_k1_t2_zero]
  dsimp only
  rw [loop_eq c i arg2 harg2 arg3 harg3 arg4 harg4 arg5 harg5 arg6 harg6 x0 x1 x2 x3]
  rfl

set_option maxHeartbeats 1000000 in
/-- The pieces the body stores. -/
theorem run_eq : (run c i arg2 harg2 arg3 harg3 arg4 harg4 arg5 harg5 arg6 harg6 x0 x1 x2 x3).1
      = [⟨Rect.unit (s := S6x512x128) ![5, 0, 0] ![1, 512, 128] inb_S6x512x128_S1x512x128_5_0_0, stored x0 x1 x2 x3 5 (i 1).val⟩,
      ⟨Rect.unit (s := S6x512x128) ![4, 0, 0] ![1, 512, 128] inb_S6x512x128_S1x512x128_4_0_0, stored x0 x1 x2 x3 4 (i 1).val⟩,
      ⟨Rect.unit (s := S6x512x128) ![3, 0, 0] ![1, 512, 128] inb_S6x512x128_S1x512x128_3_0_0, stored x0 x1 x2 x3 3 (i 1).val⟩,
      ⟨Rect.unit (s := S6x512x128) ![2, 0, 0] ![1, 512, 128] inb_S6x512x128_S1x512x128_2_0_0, stored x0 x1 x2 x3 2 (i 1).val⟩,
      ⟨Rect.unit (s := S6x512x128) ![1, 0, 0] ![1, 512, 128] inb_S6x512x128_S1x512x128_1_0_0, stored x0 x1 x2 x3 1 (i 1).val⟩,
      ⟨Rect.unit (s := S6x512x128) ![0, 0, 0] ![1, 512, 128] inb_S6x512x128_S1x512x128_0_0_0, stored x0 x1 x2 x3 0 (i 1).val⟩] := by
  unfold run
  dsimp only
  simp only [run.sl.r_25, run.sl.r_26, run.sl.r_27, run.sl.r_28, run.sl.r_29, run.sl.r_30, run.sl.r_31, run.sl.r_32, run.sl.r_33, run.sl.r_34, run.sl.r_35, run.sl.r_36, run.sl.r_37, run.sl.r_38, run.sl.r_39, run.sl.r_40, run.sl.r_41, run.sl.r_42, run.sl.r_43]
  simp only [res0, res1, res2, res3, res4, res5, res6, res7, res8, res9, res10, res11, res12, res13, res14, res15, res16, res17]
  rw [read_k harg5 x3 0 (i 1).val (i 1).isLt (off25 i), read_v harg3 x1 0 (i 1).val (i 1).isLt (off26 i), read_k harg5 x3 1 (i 1).val (i 1).isLt (off27 i), read_v harg3 x1 1 (i 1).val (i 1).isLt (off28 i), read_k harg5 x3 2 (i 1).val (i 1).isLt (off29 i), read_v harg3 x1 2 (i 1).val (i 1).isLt (off30 i), read_k harg5 x3 3 (i 1).val (i 1).isLt (off31 i), read_v harg3 x1 3 (i 1).val (i 1).isLt (off32 i), read_k harg5 x3 4 (i 1).val (i 1).isLt (off33 i), read_v harg3 x1 4 (i 1).val (i 1).isLt (off34 i), read_k harg5 x3 5 (i 1).val (i 1).isLt (off35 i), read_v harg3 x1 5 (i 1).val (i 1).isLt (off36 i)]
  rw [show run.sl.r c arg2 harg2 arg4 harg4 x0 x2 = k1_pay67 (hAt x0 0) (hAt x2 0) from qs_eq c arg2 harg2 arg4 harg4 x0 x2 0, show run.sl.r_1 c arg2 harg2 arg4 harg4 x0 x2 = k1_pay67 (hAt x0 1) (hAt x2 1) from qs_eq c arg2 harg2 arg4 harg4 x0 x2 1, show run.sl.r_2 c arg2 harg2 arg4 harg4 x0 x2 = k1_pay67 (hAt x0 2) (hAt x2 2) from qs_eq c arg2 harg2 arg4 harg4 x0 x2 2, show run.sl.r_4 c arg2 harg2 arg4 harg4 x0 x2 = k1_pay67 (hAt x0 3) (hAt x2 3) from qs_eq c arg2 harg2 arg4 harg4 x0 x2 3, show run.sl.r_5 c arg2 harg2 arg4 harg4 x0 x2 = k1_pay67 (hAt x0 4) (hAt x2 4) from qs_eq c arg2 harg2 arg4 harg4 x0 x2 4, show run.sl.r_6 c arg2 harg2 arg4 harg4 x0 x2 = k1_pay67 (hAt x0 5) (hAt x2 5) from qs_eq c arg2 harg2 arg4 harg4 x0 x2 5]
  unfold stored
  rfl

end

end Cert.KernelIdeal.Attn

end
-- ==== Proof.AttnRead.lean ====
module

public import proofs.«01_k».proof.Proof.AttnStep
public import Idealize.ShloMosaic.Lib.WordCmp

/-! The attention's step read element by element over extended reals. -/

@[expose] public section

set_option maxRecDepth 16384

noncomputable section

namespace Cert.KernelIdeal.Attn

open Cert.KernelIdeal Cert.KernelIdeal.Gen
open Idealize.ShloMosaic Idealize.ShloMosaic.TcCoe

theorem mask_eq : (Named.named κ "mask" 0xF149F2CA#32 : Ideal .f32) = (⊥ : EReal) := IdealRules.named_const.ideal_named_scalar _ _ _ _ rfl

theorem negInf : Ideal.ofBits .f32 0xFF800000#32 = (⊥ : EReal) := by simp [Ideal.ofBits, Ideal.ieee]

/-- The factor of the queries: the scale, for exponentials in base 2. -/
def qsc : EReal := (((11863283 / 134217728) * (Real.log 2)⁻¹ : ℝ) : EReal)
theorem qsc_eq : (Named.named κ "qscale" 0x3E0293EE#32 : Ideal .f32) = qsc := IdealRules.named_const.ideal_named_scalar _ _ _ _ rfl

theorem sle_iff (a b : Fin 512) : IntOp.cmpi .sle (BitVec.ofNat 32 a.val) (BitVec.ofNat 32 b.val) = if a.val ≤ b.val then 1#1 else 0#1 := by
  have h := a.isLt
  have h' := b.isLt
  have e : ∀ c : Fin 512, (BitVec.ofNat 32 c.val).toNat = c.val := fun c => by
    have h := c.isLt
    simp only [BitVec.toNat_ofNat]; omega
  rw [WordCmp.cmpi_sle_of_lt (by rw [e]; omega) (by rw [e]; omega), e, e]
  by_cases hc : a.val ≤ b.val
  · rw [if_pos hc, decide_eq_true hc]; rfl
  · rw [if_neg hc, decide_eq_false hc]; rfl

section
variable (s : FVec Ideal S512x512 .f32) (m l : FVec Ideal S512x1 .f32) (a : FVec Ideal S512x128 .f32) (v : Vec Ideal S1x512x128 .bf16)

theorem newM_apply (r : Fin 512) : newM s m (ix2 r (0 : Fin 1)) = max (m (ix2 r (0 : Fin 1))) (Finset.univ.fold max ⊥ fun j : Fin 512 => s (ix2 r j)) := by
  pointwise [newM]
  rw [negInf]
theorem newF_apply (r : Fin 512) : newF s m (ix2 r (0 : Fin 1)) = Ideal.exp2 (m (ix2 r (0 : Fin 1)) - newM s m (ix2 r (0 : Fin 1))) := by
  pointwise [newF]
  rfl
theorem newP_apply (r j : Fin 512) : newP s m (ix2 r j) = Ideal.exp2 (s (ix2 r j) - newM s m (ix2 r (0 : Fin 1))) := by
  pointwise [newP]
  rfl
theorem newL_apply (r : Fin 512) : newL s m l (ix2 r (0 : Fin 1)) = newF s m (ix2 r (0 : Fin 1)) * l (ix2 r (0 : Fin 1)) + ∑ j : Fin 512, newP s m (ix2 r j) := by
  pointwise [newL]
theorem newA_apply (r : Fin 512) (d : Fin 128) : newA s v m a (ix2 r d) = newF s m (ix2 r (0 : Fin 1)) * a (ix2 r d) + ∑ j : Fin 512, newP s m (ix2 r j) * v (ix3 (0 : Fin 1) j d) := by
  pointwise [newA]
theorem masked_apply (r j : Fin 512) : masked s (ix2 r j) = if j.val ≤ r.val then s (ix2 r j) else (⊥ : EReal) := by
  pointwise [masked, k1_pay66]
  rw [sle_iff, mask_eq]
  split <;> rfl
theorem quot_apply (b : St Ideal) (r : Fin 512) (d : Fin 128) : quot b (ix3 (0 : Fin 1) r d) = Ideal.div (b.2.2 (ix2 r d)) (b.2.1 (ix2 r (0 : Fin 1))) := by
  pointwise [quot]
theorem score_apply (v w : Vec Ideal S1x512x128 .bf16) (k : Vec Ideal S1x512x256 .bf16) (r j : Fin 512) :
    score (k1_pay67 v w) k (ix2 r j) = (∑ x : Fin 128, (v (ix3 (0 : Fin 1) r x) : EReal) * qsc * k (ix3 (0 : Fin 1) j (⟨x.val, by omega⟩ : Fin 256)))
      + ∑ x : Fin 128, (w (ix3 (0 : Fin 1) r x) : EReal) * k (ix3 (0 : Fin 1) j (⟨128 + x.val, by omega⟩ : Fin 256)) := by
  rw [← qsc_eq]
  pointwise [score, k1_pay67]
end
theorem start_m (r : Fin 512) : (start (F := Ideal)).1 (ix2 r (0 : Fin 1)) = (⊥ : EReal) := by
  pointwise [start, k1_pay74]
  exact mask_eq
theorem start_l (r : Fin 512) : (start (F := Ideal)).2.1 (ix2 r (0 : Fin 1)) = (0 : EReal) := by
  pointwise [start, k1_pay75]
theorem start_a (r : Fin 512) (d : Fin 128) : (start (F := Ideal)).2.2 (ix2 r d) = (0 : EReal) := by
  pointwise [start, k1_pay76]

open Cert.Softmax

/-- A step adds a block to the running maximum, normalizer and weighted sum of each row. -/
theorem step_row (S v : ℕ → Fin 512 → EReal) (s : FVec Ideal S512x512 .f32) (w : Vec Ideal S1x512x128 .bf16) (b : St Ideal) (r : Fin 512) (d : Fin 128) (n : ℕ)
    (hs : ∀ k j, S k j ≠ ⊤) (h1 : ∀ j, s (ix2 r j) = S n j) (h2 : ∀ j, w (ix3 (0 : Fin 1) j d) = v n j)
    (hb : b.1 (ix2 r (0 : Fin 1)) = mx S n ∧ b.2.1 (ix2 r (0 : Fin 1)) = ln S n (mx S n) ∧ b.2.2 (ix2 r d) = ac S v n (mx S n)) :
    (step s w b).1 (ix2 r (0 : Fin 1)) = mx S (n + 1) ∧ (step s w b).2.1 (ix2 r (0 : Fin 1)) = ln S (n + 1) (mx S (n + 1)) ∧ (step s w b).2.2 (ix2 r d) = ac S v (n + 1) (mx S (n + 1)) := by
  obtain ⟨hm, hl, ha⟩ := hb
  have e1 : newM s b.1 (ix2 r (0 : Fin 1)) = mx S (n + 1) := by
    rw [newM_apply, hm, mx_succ]; simp only [h1]
  refine ⟨e1, ?_, ?_⟩
  · refine (newL_apply s b.1 b.2.1 r).trans ?_
    simp only [newF_apply, newP_apply, e1, hm, hl, h1]
    exact ln_succ S hs n
  · refine (newA_apply s b.1 b.2.2 w r d).trans ?_
    simp only [newF_apply, newP_apply, e1, hm, ha, h1, h2]
    exact ac_succ S v hs n

/-- The state after `n` blocks. -/
theorem head_row (S v : ℕ → Fin 512 → EReal) (q : FVec Ideal S512x256 .bf16) (K : ℕ → Vec Ideal S1x512x256 .bf16) (W : ℕ → Vec Ideal S1x512x128 .bf16) (r : Fin 512) (d : Fin 128) (n : ℕ)
    (hs : ∀ k j, S k j ≠ ⊤) (h1 : ∀ k < n, ∀ j, score q (K k) (ix2 r j) = S k j) (h2 : ∀ k < n, ∀ j, W k (ix3 (0 : Fin 1) j d) = v k j) :
    (head q K W n).1 (ix2 r (0 : Fin 1)) = mx S n ∧ (head q K W n).2.1 (ix2 r (0 : Fin 1)) = ln S n (mx S n) ∧ (head q K W n).2.2 (ix2 r d) = ac S v n (mx S n) := by
  induction n with
  | zero => exact ⟨start_m r, start_l r, start_a r d⟩
  | succ n ih =>
    exact step_row S v _ _ _ r d n hs (h1 n (Nat.lt_succ_self n)) (h2 n (Nat.lt_succ_self n)) (ih (fun k hk => h1 k (Nat.lt_succ_of_lt hk)) fun k hk => h2 k (Nat.lt_succ_of_lt hk))

/-- What a row of the stored block holds. -/
theorem stored_apply (S v : ℕ → Fin 512 → EReal) (x0 : Vec Ideal S6x512x128 .bf16) (x1 : Vec Ideal S6x4096x128 .bf16) (x2 : Vec Ideal S6x512x128 .bf16) (x3 : Vec Ideal S6x4096x256 .bf16) (h : Fin 6) (n : ℕ)
    (r : Fin 512) (d : Fin 128) (hs : ∀ k j, S k j ≠ ⊤)
    (h1 : ∀ k < n, ∀ j, score (k1_pay67 (hAt x0 h) (hAt x2 h)) (kAt x3 h k) (ix2 r j) = S k j)
    (h3 : ∀ j : Fin 512, (if j.val ≤ r.val then score (k1_pay67 (hAt x0 h) (hAt x2 h)) (kAt x3 h n) (ix2 r j) else (⊥ : EReal)) = S n j)
    (h2 : ∀ k ≤ n, ∀ j, vAt x1 h k (ix3 (0 : Fin 1) j d) = v k j) :
    stored x0 x1 x2 x3 h n (ix3 (0 : Fin 1) r d) = Ideal.div (ac S v (n + 1) (mx S (n + 1))) (ln S (n + 1) (mx S (n + 1))) := by
  refine (quot_apply _ r d).trans ?_
  obtain ⟨_, e2, e3⟩ := step_row S v (masked (score (k1_pay67 (hAt x0 h) (hAt x2 h)) (kAt x3 h n))) (vAt x1 h n) _ r d n hs
    (fun j => (masked_apply _ r j).trans (h3 j)) (h2 n le_rfl) (head_row S v (k1_pay67 (hAt x0 h) (hAt x2 h)) (kAt x3 h) (vAt x1 h) r d n hs h1 fun k hk => h2 k (Nat.le_of_lt hk))
  rw [e2, e3]

end Cert.KernelIdeal.Attn

end
-- ==== Proof.GateStep.lean ====
module

public import proofs.«01_k».proof.Proof.GateRun
public import proofs.«01_k».proof.Proof.AttnRead
public import Idealize.ShloMosaic.Lib.VecWindow

/-! The gate's body: what it stores is, head by head, the cumulative sums' column split in pieces and laid over the
    lanes, the keys beside it, and the carried row. -/

@[expose] public section

set_option maxRecDepth 16384

noncomputable section

namespace Cert.KernelIdeal.Gate

open Cert.KernelIdeal Cert.KernelIdeal.Gen
open Idealize.ShloMosaic Idealize.ShloMosaic.TcCoe

variable {F : FTy → Type} [FloatOps F] [Named F]

/-- A column of the cumulative sums for exponentials in base 2, -/
def lg (c : FVec F S512x128 .f32) (off : Fin 2 → ℕ) (hs : S512x128.Slices off S512x1) : FVec F S512x1 .f32 :=
  mulf (extractStridedSlice S512x1 off c hs) (broadcast S512x1 (Named.named κ "log2e" 0x3FB8AA3B#32))
/-- its pieces, -/
def hi (y : FVec F S512x1 .f32) : FVec F S512x1 .f32 := extf .f32 (truncf .bf16 y bitsLt_bf16_f32) bitsLt_bf16_f32
def mid (y : FVec F S512x1 .f32) : FVec F S512x1 .f32 := hi (subf y (hi y))
def lo (y : FVec F S512x1 .f32) : FVec F S512x1 .f32 := hi (subf (subf y (hi y)) (mid y))
def lane : IVec S1x128 32 := iota .tc S1x128 32 [1] iota_S1x128_d1_w32
/-- the queries' lanes of them -/
def QA (y : FVec F S512x1 .f32) : FVec F S1x512x128 .bf16 :=
  k0_pay18 lane (hi y) (mid y) (lo y) k0_pay13 (Scalar.select (Scalar.cmpi .eq 3#32 0#32) 1#32 3#32) k0_pay14 k0_pay15
/-- and the keys'. -/
def KA (y : FVec F S512x1 .f32) : FVec F S1x512x128 .bf16 :=
  k0_pay20 (k0_pay17 lane (hi y) (mid y) (lo y) k0_pay13 (Scalar.select (Scalar.cmpi .eq 3#32 0#32) 1#32 3#32) k0_pay14 k0_pay15)

section
variable (c : Dev nD) (i : grid0.Coords) (arg2 : Memref sig .tc .vmem S512x128 .f32) (harg2 : arg2.IsWhole) (arg3 : Memref sig .tc .vmem S1x1x128 .f32) (harg3 : arg3.IsWhole) (arg4 : Memref sig .tc .vmem S6x512x128 .bf16) (harg4 : arg4.IsWhole) (arg5 : Memref sig .tc .vmem S6x512x128 .bf16) (harg5 : arg5.IsWhole) (arg6 : Memref sig .tc .vmem S6x512x256 .bf16) (harg6 : arg6.IsWhole) (arg7 : Memref sig .tc .vmem S1x128 .f32) (harg7 : arg7.IsWhole)
    (x0 : Vec F S512x128 .f32) (x1 : Vec F S1x1x128 .f32) (x2 : Vec F S6x512x128 .bf16) (xs : Vec F S1x128 .f32)

theorem v36B : runB.sl.v36 c arg2 harg2 arg3 harg3 arg7 harg7 x0 x1 xs = k0_pay4 x0 x1 xs := by
  refine (show _ = k0_pay4 (View.readAt (Elt F) arg2.view (Rect.unit (s := S512x128) ![0, 0] S512x128.size inb_S512x128_S512x128_0_0).toLoadRect (harg2.unread x0))
    (View.readAt (Elt F) arg3.view (Rect.unit (s := S1x1x128) ![0, 0, 0] S1x1x128.size inb_S1x1x128_S1x1x128_0_0_0).toLoadRect (harg3.unread x1))
    (View.readAt (Elt F) arg7.view (Rect.unit (s := S1x128) ![0, 0] S1x128.size inb_S1x128_S1x128_0_0).toLoadRect (harg7.unread xs)) from rfl).trans ?_
  rw [View.readAt_full, View.readAt_full, View.readAt_full, harg2.read_unread, harg3.read_unread, harg7.read_unread]

theorem v36A : runA.sl.v36 c arg2 harg2 arg3 harg3 arg7 x0 x1 = k0_pay4 x0 x1 k0_pay3 := by
  refine (show _ = k0_pay4 (View.readAt (Elt F) arg2.view (Rect.unit (s := S512x128) ![0, 0] S512x128.size inb_S512x128_S512x128_0_0).toLoadRect (harg2.unread x0))
    (View.readAt (Elt F) arg3.view (Rect.unit (s := S1x1x128) ![0, 0, 0] S1x1x128.size inb_S1x1x128_S1x1x128_0_0_0).toLoadRect (harg3.unread x1))
    (View.readCov arg7.view [⟨Rect.unit (s := S1x128) ![0, 0] S1x128.size inb_S1x128_S1x128_0_0, k0_pay3⟩] (Rect.unit (s := S1x128) ![0, 0] S1x128.size inb_S1x128_S1x128_0_0).toLoadRect) from rfl).trans ?_
  rw [View.readAt_full, View.readAt_full, View.readCov_full, harg2.read_unread, harg3.read_unread]

theorem re0 {m : Memref sig .tc .vmem S6x512x128 .bf16} (hm : m.IsWhole) (x : Vec F S6x512x128 .bf16) : View.readAt (Elt F) m.view (Rect.unit (s := S6x512x128) ![0, 0, 0] ![1, 512, 128] inb_S6x512x128_S1x512x128_0_0_0).toLoadRect (hm.unread x) = Attn.hAt x 0 := Attn.read_h hm x 0 _
theorem re1 {m : Memref sig .tc .vmem S6x512x128 .bf16} (hm : m.IsWhole) (x : Vec F S6x512x128 .bf16) : View.readAt (Elt F) m.view (Rect.unit (s := S6x512x128) ![1, 0, 0] ![1, 512, 128] inb_S6x512x128_S1x512x128_1_0_0).toLoadRect (hm.unread x) = Attn.hAt x 1 := Attn.read_h hm x 1 _
theorem re2 {m : Memref sig .tc .vmem S6x512x128 .bf16} (hm : m.IsWhole) (x : Vec F S6x512x128 .bf16) : View.readAt (Elt F) m.view (Rect.unit (s := S6x512x128) ![2, 0, 0] ![1, 512, 128] inb_S6x512x128_S1x512x128_2_0_0).toLoadRect (hm.unread x) = Attn.hAt x 2 := Attn.read_h hm x 2 _
theorem re3 {m : Memref sig .tc .vmem S6x512x128 .bf16} (hm : m.IsWhole) (x : Vec F S6x512x128 .bf16) : View.readAt (Elt F) m.view (Rect.unit (s := S6x512x128) ![3, 0, 0] ![1, 512, 128] inb_S6x512x128_S1x512x128_3_0_0).toLoadRect (hm.unread x) = Attn.hAt x 3 := Attn.read_h hm x 3 _
theorem re4 {m : Memref sig .tc .vmem S6x512x128 .bf16} (hm : m.IsWhole) (x : Vec F S6x512x128 .bf16) : View.readAt (Elt F) m.view (Rect.unit (s := S6x512x128) ![4, 0, 0] ![1, 512, 128] inb_S6x512x128_S1x512x128_4_0_0).toLoadRect (hm.unread x) = Attn.hAt x 4 := Attn.read_h hm x 4 _
theorem re5 {m : Memref sig .tc .vmem S6x512x128 .bf16} (hm : m.IsWhole) (x : Vec F S6x512x128 .bf16) : View.readAt (Elt F) m.view (Rect.unit (s := S6x512x128) ![5, 0, 0] ![1, 512, 128] inb_S6x512x128_S1x512x128_5_0_0).toLoadRect (hm.unread x) = Attn.hAt x 5 := Attn.read_h hm x 5 _

/-- The row carried to the next block, -/
def last (C : FVec F S512x128 .f32) : FVec F S1x128 .f32 :=
  shapeCast S1x128 (extractStridedSlice S1x128 ![511, 0] C slices_S512x128_o511_0_S1x128) shapeCasts_S1x128_S1x128
def LS (C : FVec F S512x128 .f32) (T : List (View.Piece (Elt F) S1x128 .f32)) : List (View.Piece (Elt F) S1x128 .f32) :=
  ⟨Rect.unit ![0, 0] S1x128.size inb_S1x128_S1x128_0_0, last C⟩ :: T
/-- the stores into the queries' lanes, -/
def LQ (C : FVec F S512x128 .f32) : List (View.Piece (Elt F) S6x512x128 .bf16) :=
  [⟨Rect.unit ![5, 0, 0] ![1, 512, 128] inb_S6x512x128_S1x512x128_5_0_0, QA (lg C ![0, 5] slices_S512x128_o0_5_S512x1)⟩, ⟨Rect.unit ![4, 0, 0] ![1, 512, 128] inb_S6x512x128_S1x512x128_4_0_0, QA (lg C ![0, 4] slices_S512x128_o0_4_S512x1)⟩, ⟨Rect.unit ![3, 0, 0] ![1, 512, 128] inb_S6x512x128_S1x512x128_3_0_0, QA (lg C ![0, 3] slices_S512x128_o0_3_S512x1)⟩, ⟨Rect.unit ![2, 0, 0] ![1, 512, 128] inb_S6x512x128_S1x512x128_2_0_0, QA (lg C ![0, 2] slices_S512x128_o0_2_S512x1)⟩, ⟨Rect.unit ![1, 0, 0] ![1, 512, 128] inb_S6x512x128_S1x512x128_1_0_0, QA (lg C ![0, 1] slices_S512x128_o0_1_S512x1)⟩, ⟨Rect.unit ![0, 0, 0] ![1, 512, 128] inb_S6x512x128_S1x512x128_0_0_0, QA (lg C ![0, 0] slices_S512x128_o0_0_S512x1)⟩]
/-- and into the keys and theirs. -/
def LK (C : FVec F S512x128 .f32) (x2 : Vec F S6x512x128 .bf16) : List (View.Piece (Elt F) S6x512x256 .bf16) :=
  [⟨Rect.unit ![5, 0, 128] ![1, 512, 128] inb_S6x512x256_S1x512x128_5_0_128, KA (lg C ![0, 5] slices_S512x128_o0_5_S512x1)⟩,
    ⟨Rect.unit ![5, 0, 0] ![1, 512, 128] inb_S6x512x256_S1x512x128_5_0_0, k0_pay19 (Attn.hAt x2 5)⟩, ⟨Rect.unit ![4, 0, 128] ![1, 512, 128] inb_S6x512x256_S1x512x128_4_0_128, KA (lg C ![0, 4] slices_S512x128_o0_4_S512x1)⟩,
    ⟨Rect.unit ![4, 0, 0] ![1, 512, 128] inb_S6x512x256_S1x512x128_4_0_0, k0_pay19 (Attn.hAt x2 4)⟩, ⟨Rect.unit ![3, 0, 128] ![1, 512, 128] inb_S6x512x256_S1x512x128_3_0_128, KA (lg C ![0, 3] slices_S512x128_o0_3_S512x1)⟩,
    ⟨Rect.unit ![3, 0, 0] ![1, 512, 128] inb_S6x512x256_S1x512x128_3_0_0, k0_pay19 (Attn.hAt x2 3)⟩, ⟨Rect.unit ![2, 0, 128] ![1, 512, 128] inb_S6x512x256_S1x512x128_2_0_128, KA (lg C ![0, 2] slices_S512x128_o0_2_S512x1)⟩,
    ⟨Rect.unit ![2, 0, 0] ![1, 512, 128] inb_S6x512x256_S1x512x128_2_0_0, k0_pay19 (Attn.hAt x2 2)⟩, ⟨Rect.unit ![1, 0, 128] ![1, 512, 128] inb_S6x512x256_S1x512x128_1_0_128, KA (lg C ![0, 1] slices_S512x128_o0_1_S512x1)⟩,
    ⟨Rect.unit ![1, 0, 0] ![1, 512, 128] inb_S6x512x256_S1x512x128_1_0_0, k0_pay19 (Attn.hAt x2 1)⟩, ⟨Rect.unit ![0, 0, 128] ![1, 512, 128] inb_S6x512x256_S1x512x128_0_0_128, KA (lg C ![0, 0] slices_S512x128_o0_0_S512x1)⟩,
    ⟨Rect.unit ![0, 0, 0] ![1, 512, 128] inb_S6x512x256_S1x512x128_0_0_0, k0_pay19 (Attn.hAt x2 0)⟩]

theorem qB (hc : ¬first i) : (runB c i arg2 harg2 arg3 harg3 arg4 harg4 arg5 harg5 arg6 harg6 arg7 harg7 hc x0 x1 x2 xs).1.1 = LQ (k0_pay4 x0 x1 xs) :=
  (show _ = LQ (runB.sl.v36 c arg2 harg2 arg3 harg3 arg7 harg7 x0 x1 xs) from rfl).trans (congrArg LQ (v36B ..))

theorem kB (hc : ¬first i) : (runB c i arg2 harg2 arg3 harg3 arg4 harg4 arg5 harg5 arg6 harg6 arg7 harg7 hc x0 x1 x2 xs).1.2.1 = LK (k0_pay4 x0 x1 xs) x2 := by
  refine (show _ = ([⟨Rect.unit ![5, 0, 128] ![1, 512, 128] inb_S6x512x256_S1x512x128_5_0_128, KA (lg (runB.sl.v36 c arg2 harg2 arg3 harg3 arg7 harg7 x0 x1 xs) ![0, 5] slices_S512x128_o0_5_S512x1)⟩, ⟨Rect.unit ![5, 0, 0] ![1, 512, 128] inb_S6x512x256_S1x512x128_5_0_0, k0_pay19 (View.readAt (Elt F) arg4.view (Rect.unit (s := S6x512x128) ![5, 0, 0] ![1, 512, 128] inb_S6x512x128_S1x512x128_5_0_0).toLoadRect (harg4.unread x2))⟩, ⟨Rect.unit ![4, 0, 128] ![1, 512, 128] inb_S6x512x256_S1x512x128_4_0_128, KA (lg (runB.sl.v36 c arg2 harg2 arg3 harg3 arg7 harg7 x0 x1 xs) ![0, 4] slices_S512x128_o0_4_S512x1)⟩, ⟨Rect.unit ![4, 0, 0] ![1, 512, 128] inb_S6x512x256_S1x512x128_4_0_0, k0_pay19 (View.readAt (Elt F) arg4.view (Rect.unit (s := S6x512x128) ![4, 0, 0] ![1, 512, 128] inb_S6x512x128_S1x512x128_4_0_0).toLoadRect (harg4.unread x2))⟩, ⟨Rect.unit ![3, 0, 128] ![1, 512, 128] inb_S6x512x256_S1x512x128_3_0_128, KA (lg (runB.sl.v36 c arg2 harg2 arg3 harg3 arg7 harg7 x0 x1 xs) ![0, 3] slices_S512x128_o0_3_S512x1)⟩, ⟨Rect.unit ![3, 0, 0] ![1, 512, 128] inb_S6x512x256_S1x512x128_3_0_0, k0_pay19 (View.readAt (Elt F) arg4.view (Rect.unit (s := S6x512x128) ![3, 0, 0] ![1, 512, 128] inb_S6x512x128_S1x512x128_3_0_0).toLoadRect (harg4.unread x2))⟩, ⟨Rect.unit ![2, 0, 128] ![1, 512, 128] inb_S6x512x256_S1x512x128_2_0_128, KA (lg (runB.sl.v36 c arg2 harg2 arg3 harg3 arg7 harg7 x0 x1 xs) ![0, 2] slices_S512x128_o0_2_S512x1)⟩, ⟨Rect.unit ![2, 0, 0] ![1, 512, 128] inb_S6x512x256_S1x512x128_2_0_0, k0_pay19 (View.readAt (Elt F) arg4.view (Rect.unit (s := S6x512x128) ![2, 0, 0] ![1, 512, 128] inb_S6x512x128_S1x512x128_2_0_0).toLoadRect (harg4.unread x2))⟩, ⟨Rect.unit ![1, 0, 128] ![1, 512, 128] inb_S6x512x256_S1x512x128_1_0_128, KA (lg (runB.sl.v36 c arg2 harg2 arg3 harg3 arg7 harg7 x0 x1 xs) ![0, 1] slices_S512x128_o0_1_S512x1)⟩, ⟨Rect.unit ![1, 0, 0] ![1, 512, 128] inb_S6x512x256_S1x512x128_1_0_0, k0_pay19 (View.readAt (Elt F) arg4.view (Rect.unit (s := S6x512x128) ![1, 0, 0] ![1, 512, 128] inb_S6x512x128_S1x512x128_1_0_0).toLoadRect (harg4.unread x2))⟩, ⟨Rect.unit ![0, 0, 128] ![1, 512, 128] inb_S6x512x256_S1x512x128_0_0_128, KA (lg (runB.sl.v36 c arg2 harg2 arg3 harg3 arg7 harg7 x0 x1 xs) ![0, 0] slices_S512x128_o0_0_S512x1)⟩, ⟨Rect.unit ![0, 0, 0] ![1, 512, 128] inb_S6x512x256_S1x512x128_0_0_0, k0_pay19 (View.readAt (Elt F) arg4.view (Rect.unit (s := S6x512x128) ![0, 0, 0] ![1, 512, 128] inb_S6x512x128_S1x512x128_0_0_0).toLoadRect (harg4.unread x2))⟩] : List (View.Piece (Elt F) S6x512x256 .bf16)) from rfl).trans ?_
  rw [v36B]
  rw [LK, ← re0 harg4 x2, ← re1 harg4 x2, ← re2 harg4 x2, ← re3 harg4 x2, ← re4 harg4 x2, ← re5 harg4 x2]

theorem sB (hc : ¬first i) : (runB c i arg2 harg2 arg3 harg3 arg4 harg4 arg5 harg5 arg6 harg6 arg7 harg7 hc x0 x1 x2 xs).1.2.2 = LS (k0_pay4 x0 x1 xs) [] :=
  (show _ = LS (runB.sl.v36 c arg2 harg2 arg3 harg3 arg7 harg7 x0 x1 xs) [] from rfl).trans (congrArg (fun C => LS C []) (v36B ..))

theorem qA (hc : first i) : (runA c i arg2 harg2 arg3 harg3 arg4 harg4 arg5 harg5 arg6 harg6 arg7 harg7 hc x0 x1 x2).1.1 = LQ (k0_pay4 x0 x1 k0_pay3) :=
  (show _ = LQ (runA.sl.v36 c arg2 harg2 arg3 harg3 arg7 x0 x1) from rfl).trans (congrArg LQ (v36A ..))

theorem kA (hc : first i) : (runA c i arg2 harg2 arg3 harg3 arg4 harg4 arg5 harg5 arg6 harg6 arg7 harg7 hc x0 x1 x2).1.2.1 = LK (k0_pay4 x0 x1 k0_pay3) x2 := by
  refine (show _ = ([⟨Rect.unit ![5, 0, 128] ![1, 512, 128] inb_S6x512x256_S1x512x128_5_0_128, KA (lg (runA.sl.v36 c arg2 harg2 arg3 harg3 arg7 x0 x1) ![0, 5] slices_S512x128_o0_5_S512x1)⟩, ⟨Rect.unit ![5, 0, 0] ![1, 512, 128] inb_S6x512x256_S1x512x128_5_0_0, k0_pay19 (View.readAt (Elt F) arg4.view (Rect.unit (s := S6x512x128) ![5, 0, 0] ![1, 512, 128] inb_S6x512x128_S1x512x128_5_0_0).toLoadRect (harg4.unread x2))⟩, ⟨Rect.unit ![4, 0, 128] ![1, 512, 128] inb_S6x512x256_S1x512x128_4_0_128, KA (lg (runA.sl.v36 c arg2 harg2 arg3 harg3 arg7 x0 x1) ![0, 4] slices_S512x128_o0_4_S512x1)⟩, ⟨Rect.unit ![4, 0, 0] ![1, 512, 128] inb_S6x512x256_S1x512x128_4_0_0, k0_pay19 (View.readAt (Elt F) arg4.view (Rect.unit (s := S6x512x128) ![4, 0, 0] ![1, 512, 128] inb_S6x512x128_S1x512x128_4_0_0).toLoadRect (harg4.unread x2))⟩, ⟨Rect.unit ![3, 0, 128] ![1, 512, 128] inb_S6x512x256_S1x512x128_3_0_128, KA (lg (runA.sl.v36 c arg2 harg2 arg3 harg3 arg7 x0 x1) ![0, 3] slices_S512x128_o0_3_S512x1)⟩, ⟨Rect.unit ![3, 0, 0] ![1, 512, 128] inb_S6x512x256_S1x512x128_3_0_0, k0_pay19 (View.readAt (Elt F) arg4.view (Rect.unit (s := S6x512x128) ![3, 0, 0] ![1, 512, 128] inb_S6x512x128_S1x512x128_3_0_0).toLoadRect (harg4.unread x2))⟩, ⟨Rect.unit ![2, 0, 128] ![1, 512, 128] inb_S6x512x256_S1x512x128_2_0_128, KA (lg (runA.sl.v36 c arg2 harg2 arg3 harg3 arg7 x0 x1) ![0, 2] slices_S512x128_o0_2_S512x1)⟩, ⟨Rect.unit ![2, 0, 0] ![1, 512, 128] inb_S6x512x256_S1x512x128_2_0_0, k0_pay19 (View.readAt (Elt F) arg4.view (Rect.unit (s := S6x512x128) ![2, 0, 0] ![1, 512, 128] inb_S6x512x128_S1x512x128_2_0_0).toLoadRect (harg4.unread x2))⟩, ⟨Rect.unit ![1, 0, 128] ![1, 512, 128] inb_S6x512x256_S1x512x128_1_0_128, KA (lg (runA.sl.v36 c arg2 harg2 arg3 harg3 arg7 x0 x1) ![0, 1] slices_S512x128_o0_1_S512x1)⟩, ⟨Rect.unit ![1, 0, 0] ![1, 512, 128] inb_S6x512x256_S1x512x128_1_0_0, k0_pay19 (View.readAt (Elt F) arg4.view (Rect.unit (s := S6x512x128) ![1, 0, 0] ![1, 512, 128] inb_S6x512x128_S1x512x128_1_0_0).toLoadRect (harg4.unread x2))⟩, ⟨Rect.unit ![0, 0, 128] ![1, 512, 128] inb_S6x512x256_S1x512x128_0_0_128, KA (lg (runA.sl.v36 c arg2 harg2 arg3 harg3 arg7 x0 x1) ![0, 0] slices_S512x128_o0_0_S512x1)⟩, ⟨Rect.unit ![0, 0, 0] ![1, 512, 128] inb_S6x512x256_S1x512x128_0_0_0, k0_pay19 (View.readAt (Elt F) arg4.view (Rect.unit (s := S6x512x128) ![0, 0, 0] ![1, 512, 128] inb_S6x512x128_S1x512x128_0_0_0).toLoadRect (harg4.unread x2))⟩] : List (View.Piece (Elt F) S6x512x256 .bf16)) from rfl).trans ?_
  rw [v36A]
  rw [LK, ← re0 harg4 x2, ← re1 harg4 x2, ← re2 harg4 x2, ← re3 harg4 x2, ← re4 harg4 x2, ← re5 harg4 x2]

theorem sA (hc : first i) : (runA c i arg2 harg2 arg3 harg3 arg4 harg4 arg5 harg5 arg6 harg6 arg7 harg7 hc x0 x1 x2).1.2.2 = LS (k0_pay4 x0 x1 k0_pay3) [⟨Rect.unit ![0, 0] ![1, 128] inb_S1x128_S1x128_0_0, k0_pay3⟩] :=
  (show _ = LS (runA.sl.v36 c arg2 harg2 arg3 harg3 arg7 x0 x1) [⟨Rect.unit ![0, 0] ![1, 128] inb_S1x128_S1x128_0_0, k0_pay3⟩] from rfl).trans (congrArg (fun C => LS C [⟨Rect.unit ![0, 0] ![1, 128] inb_S1x128_S1x128_0_0, k0_pay3⟩]) (v36A ..))

end
end Cert.KernelIdeal.Gate

end
-- ==== Proof.GateRead.lean ====
module

public import proofs.«01_k».proof.Proof.GateStep

/-! The gate's step read element by element over extended reals. -/

@[expose] public section

set_option maxRecDepth 16384

noncomputable section

namespace Cert.KernelIdeal.Gate

open Cert.KernelIdeal Cert.KernelIdeal.Gen
open Idealize.ShloMosaic Idealize.ShloMosaic.TcCoe

/-- The log of the sigmoid. -/
def lsig (x : ℝ) : ℝ := min x 0 - Real.log (1 + Real.exp (-|x|))

theorem lsig_eq (x : ℝ) : min (x : EReal) 0 - Ideal.log1p (Ideal.exp (0 - max (x : EReal) (-(x : EReal)))) = (lsig x : EReal) := by
  have e1 : max (x : EReal) (-(x : EReal)) = ((|x| : ℝ) : EReal) := by
    rw [← EReal.coe_neg, ← EReal.coe_strictMono.monotone.map_max]; rfl
  have e2 : (0 : EReal) - ((|x| : ℝ) : EReal) = ((-|x| : ℝ) : EReal) := by
    rw [← EReal.coe_zero, ← EReal.coe_sub, zero_sub]
  have h : ¬ (1 + Real.exp (-|x|) ≤ 0) := by
    have := Real.exp_pos (-|x|); linarith
  rw [e1, e2, Ideal.exp_coe]
  unfold Ideal.log1p
  rw [← EReal.coe_one, ← EReal.coe_add, Ideal.log_coe, if_neg h, ← EReal.coe_zero, ← EReal.coe_strictMono.monotone.map_min, ← EReal.coe_sub]
  rfl

theorem coe_sub_self (x : ℝ) : (x : EReal) - (x : EReal) = 0 := by
  rw [← EReal.coe_sub, sub_self, EReal.coe_zero]

theorem lsig_eq' (x : ℝ) : min (x : EReal) 0 - Ideal.log1p (Ideal.exp (0 - FloatOps.absf (F := Ideal) (φ := .f32) (x : EReal))) = (lsig x : EReal) := lsig_eq x

/-- Row `k`'s place in row `r`'s sum. -/
theorem tri (r k : Fin 512) (x : ℝ) :
    (FloatOps.sitofp (F := Ideal) FTy.f32 (BitVec.setWidth 32 (IntOp.cmpi CmpIPredicate.sle (BitVec.ofNat 32 k.val) (BitVec.ofNat 32 r.val))) : EReal)
      * (x : EReal) = ((if k.val ≤ r.val then x else 0 : ℝ) : EReal) := by
  rw [Attn.sle_iff]
  by_cases h : k.val ≤ r.val
  · rw [if_pos h, if_pos h]
    exact (congrArg (· * (x : EReal)) (show ((((BitVec.setWidth 32 1#1).toInt : ℝ)) : EReal) = 1 by norm_num [show (BitVec.setWidth 32 1#1).toInt = 1 by decide])).trans (one_mul _)
  · rw [if_neg h, if_neg h]
    exact (congrArg (· * (x : EReal)) (show ((((BitVec.setWidth 32 0#1).toInt : ℝ)) : EReal) = 0 by norm_num [show (BitVec.setWidth 32 0#1).toInt = 0 by decide])).trans ((zero_mul _).trans EReal.coe_zero.symm)

section
variable (x0 : Vec Ideal S512x128 .f32) (x1 : Vec Ideal S1x1x128 .f32) (xs : Vec Ideal S1x128 .f32)

theorem pay4_apply (r : Fin 512) (l : Fin 128) (g : Fin 512 → ℝ) (hg : ∀ k, x0 (ix2 k l) + x1 (ix3 (0 : Fin 1) (0 : Fin 1) l) = (g k : EReal)) :
    k0_pay4 x0 x1 xs (ix2 r l) = (((∑ k : Fin 512, if k.val ≤ r.val then lsig (g k) else 0 : ℝ)) : EReal) + xs (ix2 (0 : Fin 1) l) := by
  pointwise [k0_pay4]
  congr 1
  simp only [hg, lsig_eq', coe_sub_self, sub_zero, mul_zero, Finset.sum_const_zero, add_zero, tri]
  exact (Softmax.coe_sum _ _).symm
end
def w3 : BitVec 32 := Scalar.select (Scalar.cmpi CmpIPredicate.eq 3#32 0#32) 1#32 3#32
/-- The lane's remainder by three. -/
def rm (l : Fin 128) : BitVec 32 :=
  Scalar.select (IntOp.andi (IntOp.xori (IntOp.cmpi .slt (IntOp.remsi .vector (BitVec.ofNat 32 l.val) w3) 0#32) (Scalar.cmpi .slt w3 0#32))
    (IntOp.cmpi .ne (IntOp.remsi .vector (BitVec.ofNat 32 l.val) w3) 0#32))
    (IntOp.addi (IntOp.remsi .vector (BitVec.ofNat 32 l.val) w3) w3) (IntOp.remsi .vector (BitVec.ofNat 32 l.val) w3)

theorem lanes : ∀ l : Fin 128,
    (IntOp.cmpi .slt (BitVec.ofNat 32 l.val) 3#32 = 1#1 ↔ l.val < 3) ∧ (IntOp.cmpi .slt (BitVec.ofNat 32 l.val) 6#32 = 1#1 ↔ l.val < 6)
    ∧ (IntOp.cmpi .eq (rm l) 0#32 = 1#1 ↔ l.val % 3 = 0) ∧ (IntOp.cmpi .eq (rm l) 1#32 = 1#1 ↔ l.val % 3 = 1) := by decide +kernel

theorem sel_eq {c : BitVec 1} {p : Prop} [Decidable p] (h : c = 1#1 ↔ p) {α : Type} (a b : α) : Scalar.select c a b = if p then a else b := by
  unfold Scalar.select
  by_cases hp : p
  · rw [if_pos hp, if_pos (show c = 1 from h.mpr hp)]
  · rw [if_neg hp, if_neg (show ¬c = 1 from fun e => hp (h.mp e))]

theorem QA_apply (y : FVec Ideal S512x1 .f32) (r : Fin 512) (l : Fin 128) (z : ℝ) (hz : y (ix2 r (0 : Fin 1)) = (z : EReal)) :
    QA y (ix3 (0 : Fin 1) r l) = if l.val = 0 then (z : EReal) else if l.val < 3 then 0 else if l.val < 6 then 1 else 0 := by
  have H := lanes l
  have hl := l.isLt
  unfold rm w3 at H
  pointwise [QA, k0_pay18, k0_pay13, k0_pay14, k0_pay15, k0_pay16, hi, mid, lo, lane]
  simp only [hz, coe_sub_self, sub_zero]
  rw [sel_eq H.1, sel_eq H.2.1, sel_eq H.2.2.1, sel_eq H.2.2.2]
  split_ifs <;> first | rfl | omega | exact zero_sub _ | exact sub_zero _
theorem KA_apply (y : FVec Ideal S512x1 .f32) (r : Fin 512) (l : Fin 128) (z : ℝ) (hz : y (ix2 r (0 : Fin 1)) = (z : EReal)) :
    KA y (ix3 (0 : Fin 1) r l) = if l.val < 3 then 1 else if l.val = 3 then -(z : EReal) else 0 := by
  have H := lanes l
  have hl := l.isLt
  unfold rm w3 at H
  pointwise [KA, k0_pay20, k0_pay17, k0_pay13, k0_pay14, k0_pay15, k0_pay16, hi, mid, lo, lane]
  simp only [hz, coe_sub_self, sub_zero]
  rw [sel_eq H.1, sel_eq H.2.1, sel_eq H.2.2.1, sel_eq H.2.2.2]
  split_ifs <;> first | rfl | omega | exact zero_sub _ | exact sub_zero _
end Cert.KernelIdeal.Gate

end
-- ==== Proof.GateVal.lean ====
module

public import proofs.«01_k».proof.Proof.GateRead
public import Idealize.ShloMosaic.Lib.Pipeline.ValueKit

/-! What the gate's call leaves: the running sums of the log-sigmoids, in the queries' lanes and beside the keys. -/

@[expose] public section

set_option maxRecDepth 16384

noncomputable section

namespace Cert.KernelIdeal.Gate

open Cert.KernelIdeal Cert.KernelIdeal.Gen
open Idealize.ShloMosaic Idealize.ShloMosaic.TcCoe

theorem log2e_eq : (Named.named κ "log2e" 0x3FB8AA3B#32 : Ideal .f32) = (((Real.log 2)⁻¹ : ℝ) : EReal) := IdealRules.named_const.ideal_named_scalar _ _ _ _ rfl

/-- Head `h`'s column. -/
def col (C : FVec Ideal S512x128 .f32) (h : Fin 6) : FVec Ideal S512x1 .f32 :=
  fun i => C (ix2 (i 0) ⟨h.val, by omega⟩) * (((Real.log 2)⁻¹ : ℝ) : EReal)

theorem lg_eq (C : FVec Ideal S512x128 .f32) (h : Fin 6) (hs : S512x128.Slices ![0, h.val] S512x1) : lg C ![0, h.val] hs = col C h := by
  funext i
  idx_vars i
  pointwise [lg, col]
  rw [log2e_eq]
  blk_ext

/-- A head's block stored at its place reads at its own index. -/
theorem hit {α : Type} (f : Fin 6 → S1x512x128.Idx → α) (h : Fin 6) (inb : ∀ a, (![h.val, 0, 0] : Fin 3 → ℕ) a + (![1, 512, 128] : Fin 3 → ℕ) a ≤ S6x512x128.size a)
    (x : (Rect.unit (s := S6x512x128) ![h.val, 0, 0] ![1, 512, 128] inb).shape.Idx) :
    f h x = f ((Rect.unit (s := S6x512x128) ![h.val, 0, 0] ![1, 512, 128] inb).emb x 0)
      (ix3 (0 : Fin 1) ((Rect.unit (s := S6x512x128) ![h.val, 0, 0] ![1, 512, 128] inb).emb x 1) ((Rect.unit (s := S6x512x128) ![h.val, 0, 0] ![1, 512, 128] inb).emb x 2)) := by
  have h0 : (x 0).val < 1 := (x 0).isLt
  refine congrArg₂ f (Fin.ext ?_) (funext fun a => Fin.ext ?_)
  · show h.val = h.val + 1 * (x 0).val
    omega
  · fin_cases a
    · show (x 0).val = 0; omega
    · show (x 1).val = 0 + 1 * (x 1).val; omega
    · show (x 2).val = 0 + 1 * (x 2).val; omega

theorem readQ (C : FVec Ideal S512x128 .f32) (y : S6x512x128.Idx) (hc : ∃ p ∈ LQ C, y ∈ p.1.set) :
    VO3.read (Elt Ideal) (VO3.writes (Elt Ideal) VO3.junk (LQ C)) y = QA (col C (y 0)) (ix3 (0 : Fin 1) (y 1) (y 2)) := by
  refine View.read_writes_apply_of_pieces VO3 _ (fun y : S6x512x128.Idx => QA (col C (y 0)) (ix3 (0 : Fin 1) (y 1) (y 2))) (LQ C) ?_ y hc
  intro p hp
  unfold LQ at hp
  simp only [List.mem_cons, List.not_mem_nil, or_false] at hp
  rcases hp with rfl | rfl | rfl | rfl | rfl | rfl <;> intro x
  · exact (congrFun (congrArg QA (lg_eq C 5 _)) x).trans (hit (fun h => QA (col C h)) 5 inb_S6x512x128_S1x512x128_5_0_0 x)
  · exact (congrFun (congrArg QA (lg_eq C 4 _)) x).trans (hit (fun h => QA (col C h)) 4 inb_S6x512x128_S1x512x128_4_0_0 x)
  · exact (congrFun (congrArg QA (lg_eq C 3 _)) x).trans (hit (fun h => QA (col C h)) 3 inb_S6x512x128_S1x512x128_3_0_0 x)
  · exact (congrFun (congrArg QA (lg_eq C 2 _)) x).trans (hit (fun h => QA (col C h)) 2 inb_S6x512x128_S1x512x128_2_0_0 x)
  · exact (congrFun (congrArg QA (lg_eq C 1 _)) x).trans (hit (fun h => QA (col C h)) 1 inb_S6x512x128_S1x512x128_1_0_0 x)
  · exact (congrFun (congrArg QA (lg_eq C 0 _)) x).trans (hit (fun h => QA (col C h)) 0 inb_S6x512x128_S1x512x128_0_0_0 x)

/-- The keys' block with its lanes beside it. -/
def KV (C : FVec Ideal S512x128 .f32) (x2 : Vec Ideal S6x512x128 .bf16) (y : S6x512x256.Idx) : EReal :=
  if h : (y 2).val < 128 then x2 (ix3 (y 0) (y 1) ⟨(y 2).val, h⟩) else KA (col C (y 0)) (ix3 (0 : Fin 1) (y 1) ⟨(y 2).val - 128, by have : (y 2).val < 256 := (y 2).isLt; omega⟩)

theorem hitK (C : FVec Ideal S512x128 .f32) (x2 : Vec Ideal S6x512x128 .bf16) (h : Fin 6) (inb : ∀ a, (![h.val, 0, 128] : Fin 3 → ℕ) a + (![1, 512, 128] : Fin 3 → ℕ) a ≤ S6x512x256.size a)
    (x : (Rect.unit (s := S6x512x256) ![h.val, 0, 128] ![1, 512, 128] inb).shape.Idx) :
    KA (col C h) x = KV C x2 ((Rect.unit (s := S6x512x256) ![h.val, 0, 128] ![1, 512, 128] inb).emb x) := by
  have h0 : (x 0).val < 1 := (x 0).isLt
  have h2 : (x 2).val < 128 := (x 2).isLt
  have e2 : ((Rect.unit (s := S6x512x256) ![h.val, 0, 128] ![1, 512, 128] inb).emb x 2).val = 128 + 1 * (x 2).val := rfl
  unfold KV
  rw [dif_neg (by rw [e2]; omega)]
  refine congrArg₂ (fun h => KA (col C h)) (Fin.ext ?_) (funext fun a => Fin.ext ?_)
  · show h.val = h.val + 1 * (x 0).val
    omega
  · fin_cases a
    · show (x 0).val = 0; omega
    · show (x 1).val = 0 + 1 * (x 1).val; omega
    · show (x 2).val = 128 + 1 * (x 2).val - 128; omega

theorem pay19_apply (v : Vec Ideal S1x512x128 .bf16) : k0_pay19 v = v := by
  funext i
  idx_vars i
  pointwise [k0_pay19]

theorem hitX (C : FVec Ideal S512x128 .f32) (x2 : Vec Ideal S6x512x128 .bf16) (h : Fin 6) (inb : ∀ a, (![h.val, 0, 0] : Fin 3 → ℕ) a + (![1, 512, 128] : Fin 3 → ℕ) a ≤ S6x512x256.size a)
    (x : (Rect.unit (s := S6x512x256) ![h.val, 0, 0] ![1, 512, 128] inb).shape.Idx) :
    k0_pay19 (Attn.hAt x2 h) x = KV C x2 ((Rect.unit (s := S6x512x256) ![h.val, 0, 0] ![1, 512, 128] inb).emb x) := by
  have h0 : (x 0).val < 1 := (x 0).isLt
  have h2 : (x 2).val < 128 := (x 2).isLt
  have e2 : ((Rect.unit (s := S6x512x256) ![h.val, 0, 0] ![1, 512, 128] inb).emb x 2).val = 0 + 1 * (x 2).val := rfl
  rw [pay19_apply]
  unfold KV Attn.hAt
  rw [dif_pos (by rw [e2]; omega)]
  refine congrArg x2 (funext fun a => Fin.ext ?_)
  fin_cases a
  · show h.val = h.val + 1 * (x 0).val; omega
  · show (x 1).val = 0 + 1 * (x 1).val; omega
  · show (x 2).val = 0 + 1 * (x 2).val; omega

theorem readK (C : FVec Ideal S512x128 .f32) (x2 : Vec Ideal S6x512x128 .bf16) (y : S6x512x256.Idx) (hc : ∃ p ∈ LK C x2, y ∈ p.1.set) :
    VO4.read (Elt Ideal) (VO4.writes (Elt Ideal) VO4.junk (LK C x2)) y = KV C x2 y := by
  refine View.read_writes_apply_of_pieces VO4 _ (KV C x2) (LK C x2) ?_ y hc
  intro p hp
  unfold LK at hp
  simp only [List.mem_cons, List.not_mem_nil, or_false] at hp
  rcases hp with rfl | rfl | rfl | rfl | rfl | rfl | rfl | rfl | rfl | rfl | rfl | rfl <;> intro x
  · exact (congrFun (congrArg KA (lg_eq C 5 _)) x).trans (hitK C x2 5 inb_S6x512x256_S1x512x128_5_0_128 x)
  · exact hitX C x2 5 inb_S6x512x256_S1x512x128_5_0_0 x
  · exact (congrFun (congrArg KA (lg_eq C 4 _)) x).trans (hitK C x2 4 inb_S6x512x256_S1x512x128_4_0_128 x)
  · exact hitX C x2 4 inb_S6x512x256_S1x512x128_4_0_0 x
  · exact (congrFun (congrArg KA (lg_eq C 3 _)) x).trans (hitK C x2 3 inb_S6x512x256_S1x512x128_3_0_128 x)
  · exact hitX C x2 3 inb_S6x512x256_S1x512x128_3_0_0 x
  · exact (congrFun (congrArg KA (lg_eq C 2 _)) x).trans (hitK C x2 2 inb_S6x512x256_S1x512x128_2_0_128 x)
  · exact hitX C x2 2 inb_S6x512x256_S1x512x128_2_0_0 x
  · exact (congrFun (congrArg KA (lg_eq C 1 _)) x).trans (hitK C x2 1 inb_S6x512x256_S1x512x128_1_0_128 x)
  · exact hitX C x2 1 inb_S6x512x256_S1x512x128_1_0_0 x
  · exact (congrFun (congrArg KA (lg_eq C 0 _)) x).trans (hitK C x2 0 inb_S6x512x256_S1x512x128_0_0_128 x)
  · exact hitX C x2 0 inb_S6x512x256_S1x512x128_0_0_0 x

theorem last_apply (C : FVec Ideal S512x128 .f32) (l : Fin 128) : last C (ix2 (0 : Fin 1) l) = C (ix2 (511 : Fin 512) l) := by
  pointwise [last]

theorem readS (C : FVec Ideal S512x128 .f32) (T : List (View.Piece (Elt Ideal) S1x128 .f32)) :
    VS.read (Elt Ideal) (VS.writes (Elt Ideal) VS.junk (LS C T)) = last C :=
  View.read_writes_full VS _ _ _ _

/-! ## The sums along a sequence -/

theorem sum_le (f : ℕ → ℝ) (r : Fin 512) : (∑ k : Fin 512, if k.val ≤ r.val then f k.val else 0) = ∑ k ∈ Finset.range (r.val + 1), f k := by
  have hr := r.isLt
  rw [Fin.sum_univ_eq_sum_range (fun k => if k ≤ r.val then f k else 0) 512, ← Finset.sum_filter]
  refine Finset.sum_congr (Finset.ext fun k => ?_) fun _ _ => rfl
  simp only [Finset.mem_filter, Finset.mem_range]
  omega

/-- The running sum at position `n` of sequence `b`, over the log-sigmoids of the gates `g`. -/
def cum (g : ℕ → ℝ) (b n : ℕ) : ℝ := ∑ k ∈ Finset.range n, lsig (g (4096 * b + k))

variable (V : (c : Dev nD) → (b : Ref sig .tc) → Buf (Elt Ideal) ((c : Thread nD τ).loc b)) (c : Dev nD)

theorem idx0 : ∀ t : Fin cfg0.N, win0_0.index t = ![t.val, 0] ∧ win0_1.index t = ![1, 0, 0] ∧ win0_2.index t = ![12, t.val, 0]
    ∧ win0_3.index t = ![0, t.val, 0] ∧ win0_4.index t = ![0, t.val, 0] ∧ t.val < 64 :=
  (by decide +kernel : ∀ t : Fin grid0.N, _)

theorem x0_apply (t : Fin cfg0.N) (T : Fin 32768) (r : Fin 512) (l : Fin 128) (hT : T.val = 512 * t.val + r.val) :
    (show Vec Ideal S512x128 .f32 from blk0 V c 0 t) (ix2 r l) = (show Vec Ideal S32768x128 .f32 from V c main_arg0) (ix2 T l) := by
  have hh := hT
  blk_ext! [blk0, idx0 t]

theorem x1_apply (t : Fin cfg0.N) (l : Fin 128) :
    (show Vec Ideal S1x1x128 .f32 from blk0 V c 1 t) (ix3 (0 : Fin 1) (0 : Fin 1) l) = (show Vec Ideal S4x1x128 .f32 from V c main_v1) (ix3 (1 : Fin 4) (0 : Fin 1) l) := by
  blk_ext! [blk0, idx0 t]

theorem x2_apply (t : Fin cfg0.N) (T : Fin 32768) (h : Fin 6) (r : Fin 512) (d : Fin 128) (hT : T.val = 512 * t.val + r.val) :
    (show Vec Ideal S6x512x128 .bf16 from in2 V c t) (ix3 h r d) = (show Vec Ideal S88x32768x128 .bf16 from V c main_arg2) (ix3 (⟨72 + h.val, by omega⟩ : Fin 88) T d) := by
  have hh := hT
  show (cfg0.win 2).fill (cfg0.grid.coords t) fillv2 (blk0 V c 2 t) (ix3 h r d) = _
  unfold Pipeline.Window.fill
  rw [dif_pos (moved2 t _)]
  blk_ext! [blk0, idx0 t]

variable (g : Fin 6 → ℕ → ℝ)

/-- The gates a head adds up are the reals `g`. -/
def Gates : Prop := ∀ (h : Fin 6) (T : Fin 32768),
  (show Vec Ideal S32768x128 .f32 from V c main_arg0) (ix2 T ⟨h.val, by omega⟩) + (show Vec Ideal S4x1x128 .f32 from V c main_v1) (ix3 (1 : Fin 4) (0 : Fin 1) ⟨h.val, by omega⟩) = (g h T.val : EReal)

theorem step_C (hg : Gates V c g) (t : Fin cfg0.N) (xs : Vec Ideal S1x128 .f32) (h : Fin 6)
    (hxs : xs (ix2 (0 : Fin 1) (⟨h.val, by omega⟩ : Fin 128)) = (cum (g h) (t.val / 8) (512 * (t.val % 8)) : EReal)) (r : Fin 512) :
    k0_pay4 (blk0 V c 0 t) (blk0 V c 1 t) xs (ix2 r ⟨h.val, by omega⟩) = (cum (g h) (t.val / 8) (512 * (t.val % 8) + (r.val + 1)) : EReal) := by
  have ht : t.val < 64 := (idx0 t).2.2.2.2.2
  refine (pay4_apply _ _ _ r _ (fun k => g h (512 * t.val + k.val)) fun k => ?_).trans ?_
  · have hk : 512 * t.val + k.val < 32768 := by have := k.isLt; omega
    refine (congrArg₂ (· + ·) (x0_apply V c t ⟨_, hk⟩ k _ rfl) (x1_apply V c t _)).trans (hg h ⟨_, hk⟩)
  · rw [hxs, ← EReal.coe_add, add_comm]
    refine congrArg _ ?_
    unfold cum
    rw [Finset.sum_range_add]
    refine congrArg _ ((sum_le (fun k => lsig (g h (512 * t.val + k))) r).trans (Finset.sum_congr rfl fun k _ => ?_))
    rw [show 512 * t.val + k = 4096 * (t.val / 8) + (512 * (t.val % 8) + k) by omega]

theorem zeros (l : Fin 128) : (k0_pay3 : FVec Ideal S1x128 .f32) (ix2 (0 : Fin 1) l) = 0 := by
  pointwise [k0_pay3]

theorem cum_zero (f : ℕ → ℝ) (b : ℕ) : cum f b 0 = 0 := Finset.sum_range_zero _

theorem row_A (hg : Gates V c g) (t : Fin cfg0.N) (h0 : t.val % 8 = 0) (h : Fin 6) :
    rowAt V c t.val t.isLt (ix2 (0 : Fin 1) (⟨h.val, by omega⟩ : Fin 128)) = (cum (g h) (t.val / 8) (512 * (t.val % 8 + 1)) : EReal) := by
  rw [rowAt_A V c t h0]
  unfold outA_S
  rw [sA, readS, last_apply]
  refine (step_C V c g hg t (k0_pay3 (F := Ideal)) h ?_ 511).trans (by rw [show 512 * (t.val % 8) + ((511 : Fin 512).val + 1) = 512 * (t.val % 8 + 1) from by show _ + (511 + 1) = _; omega])
  rw [zeros, h0, Nat.mul_zero, cum_zero, EReal.coe_zero]

theorem row_apply (hg : Gates V c g) : ∀ (n : ℕ) (hn : n < cfg0.N) (h : Fin 6),
    rowAt V c n hn (ix2 (0 : Fin 1) (⟨h.val, by omega⟩ : Fin 128)) = (cum (g h) (n / 8) (512 * (n % 8 + 1)) : EReal)
  | 0, hn, h => row_A V c g hg ⟨0, hn⟩ (Nat.zero_mod _) h
  | n + 1, hn, h => by
    by_cases h0 : (n + 1) % 8 = 0
    · exact row_A V c g hg ⟨n + 1, hn⟩ h0 h
    · rw [rowAt_B V c ⟨n + 1, hn⟩ h0]
      unfold outB_S
      rw [sB, readS, last_apply]
      refine (step_C V c g hg ⟨n + 1, hn⟩ _ h ?_ 511).trans (by rw [show 512 * ((n + 1) % 8) + ((511 : Fin 512).val + 1) = 512 * ((n + 1) % 8 + 1) from by show _ + (511 + 1) = _; omega])
      refine (row_apply hg n (Nat.lt_of_succ_lt hn) h).trans ?_
      show _ = (cum (g h) ((n + 1) / 8) (512 * ((n + 1) % 8)) : EReal)
      rw [show (n + 1) / 8 = n / 8 by omega, show n % 8 + 1 = (n + 1) % 8 by omega]

/-- The row the point `t` starts from. -/
def rowIn (t : Fin cfg0.N) : Vec Ideal S1x128 .f32 :=
  if h0 : t.val % 8 = 0 then k0_pay3 (F := Ideal) else rowAt V c (t.val - 1) (Nat.lt_of_le_of_lt (Nat.sub_le _ _) t.isLt)

theorem rowIn_apply (hg : Gates V c g) (t : Fin cfg0.N) (h : Fin 6) :
    rowIn V c t (ix2 (0 : Fin 1) (⟨h.val, by omega⟩ : Fin 128)) = (cum (g h) (t.val / 8) (512 * (t.val % 8)) : EReal) := by
  unfold rowIn
  by_cases h0 : t.val % 8 = 0
  · rw [dif_pos h0, zeros, h0, Nat.mul_zero, cum_zero, EReal.coe_zero]
  · rw [dif_neg h0]
    refine (row_apply V c g hg _ _ h).trans ?_
    rw [show (t.val - 1) / 8 = t.val / 8 by omega, show (t.val - 1) % 8 + 1 = t.val % 8 by omega]

theorem outAt3_eq (t : Fin cfg0.N) (y : S6x512x128.Idx) :
    outAt3 V c t y = QA (col (k0_pay4 (blk0 V c 0 t) (blk0 V c 1 t) (rowIn V c t)) (y 0)) (ix3 (0 : Fin 1) (y 1) (y 2)) := by
  unfold outAt3 rowIn
  by_cases h0 : t.val % 8 = 0
  · rw [dif_pos h0, dif_pos h0]
    have hc := coverA_3 c (grid0.coords t) (ms0 t) (hs0 t) (ms1 t) (hs1 t) (ms2 t) (hs2 t) (ms3 t) (hs3 t) (ms4 t) (hs4 t) scM (Memref.isWhole_whole _) ((first_iff t).mpr h0) (blk0 V c 0 t) (blk0 V c 1 t) (in2 V c t) y
    unfold outA_3
    rw [qA] at hc ⊢
    exact readQ _ y hc
  · rw [dif_neg h0, dif_neg h0]
    have hc := coverB_3 c (grid0.coords t) (ms0 t) (hs0 t) (ms1 t) (hs1 t) (ms2 t) (hs2 t) (ms3 t) (hs3 t) (ms4 t) (hs4 t) scM (Memref.isWhole_whole _) (fun h => h0 ((first_iff t).mp h)) (blk0 V c 0 t) (blk0 V c 1 t) (in2 V c t) (rowAt V c (t.val - 1) (Nat.lt_of_le_of_lt (Nat.sub_le _ _) t.isLt)) y
    unfold outB_3
    rw [qB] at hc ⊢
    exact readQ _ y hc

theorem outAt4_eq (t : Fin cfg0.N) (y : S6x512x256.Idx) :
    outAt4 V c t y = KV (k0_pay4 (blk0 V c 0 t) (blk0 V c 1 t) (rowIn V c t)) (in2 V c t) y := by
  unfold outAt4 rowIn
  by_cases h0 : t.val % 8 = 0
  · rw [dif_pos h0, dif_pos h0]
    have hc := coverA_4 c (grid0.coords t) (ms0 t) (hs0 t) (ms1 t) (hs1 t) (ms2 t) (hs2 t) (ms3 t) (hs3 t) (ms4 t) (hs4 t) scM (Memref.isWhole_whole _) ((first_iff t).mpr h0) (blk0 V c 0 t) (blk0 V c 1 t) (in2 V c t) y
    unfold outA_4
    rw [kA] at hc ⊢
    exact readK _ _ y hc
  · rw [dif_neg h0, dif_neg h0]
    have hc := coverB_4 c (grid0.coords t) (ms0 t) (hs0 t) (ms1 t) (hs1 t) (ms2 t) (hs2 t) (ms3 t) (hs3 t) (ms4 t) (hs4 t) scM (Memref.isWhole_whole _) (fun h => h0 ((first_iff t).mp h)) (blk0 V c 0 t) (blk0 V c 1 t) (in2 V c t) (rowAt V c (t.val - 1) (Nat.lt_of_le_of_lt (Nat.sub_le _ _) t.isLt)) y
    unfold outB_4
    rw [kB] at hc ⊢
    exact readK _ _ y hc

/-- The running sum, for exponentials in base 2, at a place of the whole array. -/
def fc (h : Fin 6) (T : ℕ) : ℝ := cum (g h) (T / 4096) (T % 4096 + 1) * (Real.log 2)⁻¹

theorem col_apply (hg : Gates V c g) (t : Fin cfg0.N) (h : Fin 6) (r : Fin 512) :
    col (k0_pay4 (blk0 V c 0 t) (blk0 V c 1 t) (rowIn V c t)) h (ix2 r (0 : Fin 1)) = (fc g h (512 * t.val + r.val) : EReal) := by
  have hr := r.isLt
  refine (congrArg (· * (((Real.log 2)⁻¹ : ℝ) : EReal)) (step_C V c g hg t (rowIn V c t) h (rowIn_apply V c g hg t h) r)).trans ?_
  unfold fc
  rw [← EReal.coe_mul, show (512 * t.val + r.val) / 4096 = t.val / 8 by omega, show (512 * t.val + r.val) % 4096 + 1 = 512 * (t.val % 8) + (r.val + 1) by omega]

/-- The queries' lanes, -/
def lanesQ (h : Fin 6) (T : Fin 32768) (l : Fin 128) : EReal := if l.val = 0 then (fc g h T.val : EReal) else if l.val < 3 then 0 else if l.val < 6 then 1 else 0
def RQ (i : S6x32768x128.Idx) : EReal := lanesQ g (i 0) (i 1) (i 2)
/-- and the keys with theirs. -/
def lanesK (h : Fin 6) (T : Fin 32768) (l : Fin 256) : EReal :=
  if hl : l.val < 128 then (show Vec Ideal S88x32768x128 .bf16 from V c main_arg2) (ix3 (⟨72 + h.val, by omega⟩ : Fin 88) T ⟨l.val, hl⟩)
  else if l.val - 128 < 3 then 1 else if l.val - 128 = 3 then -(fc g h T.val : EReal) else 0
def RK (i : S6x32768x256.Idx) : EReal := lanesK V c g (i 0) (i 1) (i 2)

theorem final3 (hg : Gates V c g) : (dat V c).arrAt 3 cfg0.N = RQ g := by
  refine (dat V c).arrAt_eq_of_covers 3 _ (by decide +kernel) fun t _ y => ?_
  blk_simp
  rw [after3]
  refine (outAt3_eq V c t y).trans ((QA_apply _ _ _ _ (col_apply V c g hg t (y 0) (y 1))).trans ?_)
  have ht : t.val < 64 := (idx0 t).2.2.2.2.2
  have h1 : (y 1).val < 512 := (y 1).isLt
  have e : (win0_3.blk t).view.emb y = ix3 (y 0) (⟨512 * t.val + (y 1).val, by omega⟩ : Fin 32768) (y 2) := by
    blk_ext [idx0 t]
  rw [e]
  rfl

theorem final4 (hg : Gates V c g) : (dat V c).arrAt 4 cfg0.N = RK V c g := by
  refine (dat V c).arrAt_eq_of_covers 4 _ (by decide +kernel) fun t _ y => ?_
  blk_simp
  rw [after4]
  refine (outAt4_eq V c t y).trans ?_
  have ht : t.val < 64 := (idx0 t).2.2.2.2.2
  have h1 : (y 1).val < 512 := (y 1).isLt
  have e : (win0_4.blk t).view.emb y = ix3 (y 0) (⟨512 * t.val + (y 1).val, by omega⟩ : Fin 32768) (y 2) := by
    blk_ext [idx0 t]
  rw [e]
  show _ = lanesK V c g (y 0) ⟨512 * t.val + (y 1).val, by omega⟩ (y 2)
  unfold KV lanesK
  by_cases h : (y 2).val < 128
  · rw [dif_pos h, dif_pos h]
    exact x2_apply V c t ⟨512 * t.val + (y 1).val, by omega⟩ (y 0) (y 1) ⟨(y 2).val, h⟩ rfl
  · rw [dif_neg h, dif_neg h]
    exact KA_apply _ _ _ _ (col_apply V c g hg t (y 0) (y 1))

end Cert.KernelIdeal.Gate

end
-- ==== Proof.AttnVal.lean ====
module

public import proofs.«01_k».proof.Proof.GateVal

/-! What the attention's call leaves: each head's softmax over the positions up to the query's, weighting the values. -/

@[expose] public section

set_option maxRecDepth 16384

noncomputable section

namespace Cert.KernelIdeal.Attn

open Cert.KernelIdeal Cert.KernelIdeal.Gen
open Idealize.ShloMosaic Idealize.ShloMosaic.TcCoe

section
variable (c : Dev nD) (i : grid1.Coords) (arg2 : Memref sig .tc .vmem S6x512x128 .bf16) (harg2 : arg2.IsWhole) (arg3 : Memref sig .tc .vmem S6x4096x128 .bf16) (harg3 : arg3.IsWhole) (arg4 : Memref sig .tc .vmem S6x512x128 .bf16) (harg4 : arg4.IsWhole) (arg5 : Memref sig .tc .vmem S6x4096x256 .bf16) (harg5 : arg5.IsWhole) (arg6 : Memref sig .tc .vmem S6x512x128 .bf16) (harg6 : arg6.IsWhole)
    (x0 : Vec Ideal S6x512x128 .bf16) (x1 : Vec Ideal S6x4096x128 .bf16) (x2 : Vec Ideal S6x512x128 .bf16) (x3 : Vec Ideal S6x4096x256 .bf16)

theorem out_apply (y : S6x512x128.Idx) :
    out c i arg2 harg2 arg3 harg3 arg4 harg4 arg5 harg5 arg6 harg6 x0 x1 x2 x3 y = stored x0 x1 x2 x3 (y 0) (i 1).val (ix3 (0 : Fin 1) (y 1) (y 2)) := by
  have hc := cover c i arg2 harg2 arg3 harg3 arg4 harg4 arg5 harg5 arg6 harg6 x0 x1 x2 x3 y
  unfold out
  rw [run_eq] at hc ⊢
  refine View.read_writes_apply_of_pieces VO4 _ (fun y : S6x512x128.Idx => stored x0 x1 x2 x3 (y 0) (i 1).val (ix3 (0 : Fin 1) (y 1) (y 2))) _ ?_ y hc
  intro p hp
  simp only [List.mem_cons, List.not_mem_nil, or_false] at hp
  rcases hp with rfl | rfl | rfl | rfl | rfl | rfl <;> intro x
  · exact Gate.hit (fun h => stored x0 x1 x2 x3 h (i 1).val) 5 inb_S6x512x128_S1x512x128_5_0_0 x
  · exact Gate.hit (fun h => stored x0 x1 x2 x3 h (i 1).val) 4 inb_S6x512x128_S1x512x128_4_0_0 x
  · exact Gate.hit (fun h => stored x0 x1 x2 x3 h (i 1).val) 3 inb_S6x512x128_S1x512x128_3_0_0 x
  · exact Gate.hit (fun h => stored x0 x1 x2 x3 h (i 1).val) 2 inb_S6x512x128_S1x512x128_2_0_0 x
  · exact Gate.hit (fun h => stored x0 x1 x2 x3 h (i 1).val) 1 inb_S6x512x128_S1x512x128_1_0_0 x
  · exact Gate.hit (fun h => stored x0 x1 x2 x3 h (i 1).val) 0 inb_S6x512x128_S1x512x128_0_0_0 x
end

variable (V : (c : Dev nD) → (b : Ref sig .tc) → Buf (Elt Ideal) ((c : Thread nD τ).loc b)) (c : Dev nD)

theorem idx1 : ∀ t : Fin cfg1.N, win1_0.index t = ![11, t.val, 0] ∧ win1_1.index t = ![13, t.val / 8, 0] ∧ win1_2.index t = ![0, t.val, 0]
    ∧ win1_3.index t = ![0, t.val / 8, 0] ∧ win1_4.index t = ![0, t.val, 0] ∧ (grid1.coords t 1).val = t.val % 8 ∧ t.val < 64 :=
  (by decide +kernel : ∀ t : Fin grid1.N, _)

theorem x0_apply (t : Fin cfg1.N) (T : Fin 32768) (h : Fin 6) (r : Fin 512) (d : Fin 128) (hT : T.val = 512 * t.val + r.val) :
    (show Vec Ideal S6x512x128 .bf16 from in0 V c t) (ix3 h r d) = (show Vec Ideal S88x32768x128 .bf16 from V c main_arg2) (ix3 (⟨66 + h.val, by omega⟩ : Fin 88) T d) := by
  have hh := hT
  show (cfg1.win 0).fill (cfg1.grid.coords t) fillv0 (blk1 V c 0 t) (ix3 h r d) = _
  unfold Pipeline.Window.fill
  rw [dif_pos (moved0 t _)]
  blk_ext! [blk1, idx1 t]

theorem x1_apply (t : Fin cfg1.N) (T : Fin 32768) (h : Fin 6) (s : Fin 4096) (d : Fin 128) (hT : T.val = 4096 * (t.val / 8) + s.val) :
    (show Vec Ideal S6x4096x128 .bf16 from in1 V c t) (ix3 h s d) = (show Vec Ideal S88x32768x128 .bf16 from V c main_arg2) (ix3 (⟨78 + h.val, by omega⟩ : Fin 88) T d) := by
  have hh := hT
  show (cfg1.win 1).fill (cfg1.grid.coords t) fillv1 (blk1 V c 1 t) (ix3 h s d) = _
  unfold Pipeline.Window.fill
  rw [dif_pos (moved1 t _)]
  blk_ext! [blk1, idx1 t]

theorem x2_apply (t : Fin cfg1.N) (T : Fin 32768) (h : Fin 6) (r : Fin 512) (d : Fin 128) (hT : T.val = 512 * t.val + r.val) :
    (show Vec Ideal S6x512x128 .bf16 from blk1 V c 2 t) (ix3 h r d) = (show Vec Ideal S6x32768x128 .bf16 from V c main_v2_0) (ix3 h T d) := by
  have hh := hT
  blk_ext! [blk1, idx1 t]

theorem x3_apply (t : Fin cfg1.N) (T : Fin 32768) (h : Fin 6) (s : Fin 4096) (d : Fin 256) (hT : T.val = 4096 * (t.val / 8) + s.val) :
    (show Vec Ideal S6x4096x256 .bf16 from blk1 V c 3 t) (ix3 h s d) = (show Vec Ideal S6x32768x256 .bf16 from V c main_v2_1) (ix3 h T d) := by
  have hh := hT
  blk_ext! [blk1, idx1 t]

/-! ## The logits -/

variable (g : Fin 6 → ℕ → ℝ) (q k : Fin 6 → ℕ → Fin 128 → ℝ)

/-- The logit of a query at `T` with a key at `T'`. -/
def logit (h : Fin 6) (T T' : ℕ) : ℝ :=
  (∑ x : Fin 128, q h T x * k h T' x) * (11863283 / 134217728) + (Gate.cum (g h) (T / 4096) (T % 4096 + 1) - Gate.cum (g h) (T' / 4096) (T' % 4096 + 1))

theorem lanes_sum (a b : ℝ) :
    (∑ x : Fin 128, (if x.val = 0 then (a : EReal) else if x.val < 3 then 0 else if x.val < 6 then 1 else 0) * (if x.val < 3 then 1 else if x.val = 3 then -(b : EReal) else 0))
      = ((a - b : ℝ) : EReal) := by
  have e : ∀ x : Fin 128, ((if x.val = 0 then (a : EReal) else if x.val < 3 then 0 else if x.val < 6 then 1 else 0) * (if x.val < 3 then 1 else if x.val = 3 then -(b : EReal) else 0) : EReal)
      = (((if x = 0 then a else 0) + (if x = 3 then -b else 0) : ℝ) : EReal) := by
    intro x
    by_cases h0 : x.val = 0
    · obtain rfl : x = 0 := Fin.ext h0
      simp
    by_cases h3 : x.val = 3
    · obtain rfl : x = 3 := Fin.ext h3
      simp
    have n0 : ¬x = 0 := fun e => h0 (congrArg Fin.val e)
    have n3 : ¬x = 3 := fun e => h3 (congrArg Fin.val e)
    rw [if_neg h0, if_neg n0, if_neg n3]
    by_cases hl : x.val < 3
    · rw [if_pos hl, if_pos hl]; simp
    · rw [if_neg hl, if_neg hl, if_neg h3]; simp
  simp only [e]
  rw [← Softmax.coe_sum, Finset.sum_add_distrib, Finset.sum_ite_eq' Finset.univ, Finset.sum_ite_eq' Finset.univ, if_pos (Finset.mem_univ _), if_pos (Finset.mem_univ _), sub_eq_add_neg]

theorem logit_eq (h : Fin 6) (T T' : ℕ) :
    (∑ x : Fin 128, ((q h T x : ℝ) : EReal) * qsc * ((k h T' x : ℝ) : EReal)) + ((Gate.fc g h T - Gate.fc g h T' : ℝ) : EReal) = ((logit g q k h T T' * (Real.log 2)⁻¹ : ℝ) : EReal) := by
  unfold qsc
  simp only [← EReal.coe_mul]
  rw [← Softmax.coe_sum, ← EReal.coe_add]
  refine congrArg _ ?_
  unfold logit Gate.fc
  rw [add_mul, Finset.sum_mul, Finset.sum_mul, sub_mul]
  refine congrArg (· + _) (Finset.sum_congr rfl fun x _ => ?_)
  ring

/-- The projection's planes the attention's queries and keys are read from hold the reals `q` and `k`. -/
def Planes (X : Vec Ideal S88x32768x128 .bf16) : Prop := ∀ (h : Fin 6) (T : Fin 32768) (d : Fin 128),
  X (ix3 (⟨66 + h.val, by omega⟩ : Fin 88) T d) = (q h T.val d : EReal) ∧ X (ix3 (⟨72 + h.val, by omega⟩ : Fin 88) T d) = (k h T.val d : EReal)

/-- The logits of a query's row, -/
def lrow (h : Fin 6) (T : Fin 32768) (s : Fin 4096) : EReal := if s.val ≤ T.val % 4096 then (logit g q k h T.val (4096 * (T.val / 4096) + s.val) : EReal) else ⊥
/-- the values they weight, -/
def val (X : Vec Ideal S88x32768x128 .bf16) (h : Fin 6) (T : Fin 32768) (d : Fin 128) (s : Fin 4096) : EReal :=
  X (ix3 (⟨78 + h.val, by omega⟩ : Fin 88) ⟨4096 * (T.val / 4096) + s.val, by have := T.isLt; have := s.isLt; omega⟩ d)
/-- and the attention's result. -/
def att (Q u : Fin 4096 → EReal) : EReal :=
  ∑ s, Ideal.div (Ideal.exp (Q s - max ⊥ (Finset.univ.fold max ⊥ Q))) (∑ s', Ideal.exp (Q s' - max ⊥ (Finset.univ.fold max ⊥ Q))) * u s
def RO (X : Vec Ideal S88x32768x128 .bf16) (i : S6x32768x128.Idx) : EReal := att (lrow g q k (i 0) (i 1)) (val X (i 0) (i 1) (i 2))

/-- Positions by block and place in it. -/
def pos : Fin 4096 ≃ Fin 8 × Fin 512 := (finProdFinEquiv (m := 8) (n := 512)).symm
theorem pos_fst (s : Fin 4096) : (pos s).1.val = s.val / 512 := rfl
theorem pos_snd (s : Fin 4096) : (pos s).2.val = s.val % 512 := rfl

variable (V' : (c : Dev nD) → (b : Ref sig .tc) → Buf (Elt Ideal) ((c : Thread nD τ).loc b))

theorem score_eq (hP : Planes q k (V c main_arg2)) (hV : V' c main_arg2 = V c main_arg2) (hQ : V c main_v2_0 = Gate.RQ g) (hK : V c main_v2_1 = Gate.RK V' c g)
    (t : Fin cfg1.N) (h : Fin 6) (n : ℕ) (hn : n < 8) (r j : Fin 512) :
    score (k1_pay67 (hAt (in0 V c t) h) (hAt (blk1 V c 2 t) h)) (kAt (blk1 V c 3 t) h n) (ix2 r j)
      = ((logit g q k h (512 * t.val + r.val) (4096 * (t.val / 8) + (512 * n + j.val)) * (Real.log 2)⁻¹ : ℝ) : EReal) := by
  have ht : t.val < 64 := (idx1 t).2.2.2.2.2.2
  have hr := r.isLt
  have hj := j.isLt
  have em : (512 * n + j.val) % 4096 = 512 * n + j.val := Nat.mod_eq_of_lt (by omega)
  obtain ⟨T, hT⟩ : ∃ T : Fin 32768, T.val = 512 * t.val + r.val := ⟨⟨512 * t.val + r.val, by omega⟩, rfl⟩
  obtain ⟨T', hT'⟩ : ∃ T : Fin 32768, T.val = 4096 * (t.val / 8) + (512 * n + j.val) := ⟨⟨4096 * (t.val / 8) + (512 * n + j.val), by omega⟩, rfl⟩
  rw [← hT, ← hT', ← logit_eq, ← lanes_sum]
  refine (score_apply _ _ _ r j).trans (congrArg₂ (· + ·) (Finset.sum_congr rfl fun x _ => ?_) (Finset.sum_congr rfl fun x _ => ?_))
  · have hx := x.isLt
    refine congrArg₂ (fun a b : EReal => a * qsc * b) ((x0_apply V c t T h r x hT).trans (hP h T x).1) ?_
    refine (x3_apply V c t T' h ⟨(512 * n + j.val) % 4096, Nat.mod_lt _ (by decide)⟩ ⟨x.val, by omega⟩ (hT'.trans (congrArg _ em.symm))).trans ?_
    rw [hK]
    refine (show _ = Gate.lanesK V' c g h T' ⟨x.val, by omega⟩ from rfl).trans ?_
    unfold Gate.lanesK
    rw [dif_pos hx, hV]
    exact (hP h T' x).2
  · have hx := x.isLt
    refine congrArg₂ (fun a b : EReal => a * b) ((x2_apply V c t T h r x hT).trans ?_) ?_
    · rw [hQ]; rfl
    · refine (x3_apply V c t T' h ⟨(512 * n + j.val) % 4096, Nat.mod_lt _ (by decide)⟩ ⟨128 + x.val, by omega⟩ (hT'.trans (congrArg _ em.symm))).trans ?_
      rw [hK]
      refine (show _ = Gate.lanesK V' c g h T' ⟨128 + x.val, by omega⟩ from rfl).trans ?_
      unfold Gate.lanesK
      rw [dif_neg (by show ¬(128 + x.val < 128); omega), show (128 + x.val - 128) = x.val from by omega]

theorem point (hP : Planes q k (V c main_arg2)) (hV : V' c main_arg2 = V c main_arg2) (hQ : V c main_v2_0 = Gate.RQ g) (hK : V c main_v2_1 = Gate.RK V' c g)
    (t : Fin cfg1.N) (h : Fin 6) (r : Fin 512) (d : Fin 128) (T : Fin 32768) (hT : T.val = 512 * t.val + r.val) :
    stored (in0 V c t) (in1 V c t) (blk1 V c 2 t) (blk1 V c 3 t) h (t.val % 8) (ix3 (0 : Fin 1) r d) = att (lrow g q k h T) (val (V c main_arg2) h T d) := by
  have ht : t.val < 64 := (idx1 t).2.2.2.2.2.2
  have hr := r.isLt
  have hb : T.val / 4096 = t.val / 8 := by omega
  have hs : T.val % 4096 = 512 * (t.val % 8) + r.val := by omega
  have hlog : Real.log 2 ≠ 0 := (Real.log_pos one_lt_two).ne'
  refine (stored_apply (fun n j => if 512 * n + j.val ≤ T.val % 4096 then ((logit g q k h T.val (4096 * (T.val / 4096) + (512 * n + j.val)) * (Real.log 2)⁻¹ : ℝ) : EReal) else ⊥)
    (fun n j => val (V c main_arg2) h T d ⟨(512 * n + j.val) % 4096, Nat.mod_lt _ (by decide)⟩) _ _ _ _ h (t.val % 8) r d ?_ ?_ ?_ ?_).trans
    (Softmax.quotient _ _ (t.val % 8 + 1) 8 (by omega) pos _ _ ?_ ?_ ?_ ?_ ?_)
  · intro n j
    (try dsimp only)
    split
    · exact EReal.coe_ne_top _
    · exact bot_ne_top
  · intro n hn j
    have hj := j.isLt
    (try dsimp only)
    rw [if_pos (by omega), hT, show (512 * t.val + r.val) / 4096 = t.val / 8 by omega]
    exact score_eq V c g q k V' hP hV hQ hK t h n (by omega) r j
  · intro j
    have hj := j.isLt
    (try dsimp only)
    by_cases hc : j.val ≤ r.val
    · rw [if_pos hc, if_pos (by omega), hT, show (512 * t.val + r.val) / 4096 = t.val / 8 by omega]
      exact score_eq V c g q k V' hP hV hQ hK t h _ (by omega) r j
    · rw [if_neg hc, if_neg (by omega)]
  · intro n hn j
    exact x1_apply V c t ⟨4096 * (T.val / 4096) + (512 * n + j.val) % 4096, by omega⟩ h ⟨(512 * n + j.val) % 4096, Nat.mod_lt _ (by decide)⟩ d (congrArg (fun z => 4096 * z + (512 * n + j.val) % 4096) hb)
  · intro n j
    (try dsimp only)
    split
    · exact EReal.coe_ne_top _
    · exact bot_ne_top
  · intro s
    (try dsimp only)
    rw [pos_fst, pos_snd, show 512 * (s.val / 512) + s.val % 512 = s.val by omega]
    unfold lrow
    split
    · rw [← EReal.coe_mul, inv_mul_cancel_right₀ hlog]
    · exact (EReal.bot_mul_coe_of_pos (Real.log_pos one_lt_two)).symm
  · intro s
    (try dsimp only)
    have e : (⟨(512 * (pos s).1.val + (pos s).2.val) % 4096, Nat.mod_lt _ (by decide)⟩ : Fin 4096) = s := Fin.ext (by
      show (512 * (pos s).1.val + (pos s).2.val) % 4096 = s.val
      have := s.isLt
      rw [pos_fst, pos_snd]; omega)
    rw [e]
  · intro n j hn
    exact if_neg (by omega)
  · refine ⟨0, 0, by omega, ?_⟩
    (try dsimp only)
    rw [if_pos (by show 512 * 0 + 0 ≤ _; omega)]
    exact EReal.coe_ne_bot _

theorem final (hP : Planes q k (V c main_arg2)) (hV : V' c main_arg2 = V c main_arg2) (hQ : V c main_v2_0 = Gate.RQ g) (hK : V c main_v2_1 = Gate.RK V' c g) :
    (dat V c).arrAt 4 cfg1.N = RO g q k (V c main_arg2) := by
  refine (dat V c).arrAt_eq_of_covers 4 _ (by decide +kernel) fun t _ y => ?_
  blk_simp
  rw [after4]
  have ht : t.val < 64 := (idx1 t).2.2.2.2.2.2
  have h1 : (y 1).val < 512 := (y 1).isLt
  have e : (win1_4.blk t).view.emb y = ix3 (y 0) (⟨512 * t.val + (y 1).val, by omega⟩ : Fin 32768) (y 2) := by
    blk_ext [idx1 t]
  rw [e]
  unfold outAt
  refine (out_apply ..).trans ?_
  rw [(idx1 t).2.2.2.2.2.1]
  exact point V c g q k V' hP hV hQ hK t (y 0) (y 1) (y 2) ⟨512 * t.val + (y 1).val, by omega⟩ rfl

end Cert.KernelIdeal.Attn

end
-- ==== Proof.RefGate.lean ====
module

public import proofs.«01_k».proof.Proof.Gen.ReferenceIdeal.Read
public import proofs.«01_k».proof.Proof.GateVal

/-! The reference's gates: the log of the sigmoid, and its running sum over each sequence. -/

@[expose] public section

set_option maxRecDepth 16384

noncomputable section

namespace Cert.ReferenceIdeal.RefVal

open Cert.ReferenceIdeal Cert.ReferenceIdeal.Gen Cert.ReferenceIdeal.Read
open Idealize.ShloMosaic Idealize.ShloMosaic.TcCoe
open Cert.KernelIdeal.Gate (lsig lsig_eq cum hit sum_le)

/-- The sigmoid's log as the reference spells it, at a real. -/
theorem lsig_ref (r : ℝ) :
    FloatOps.hostNegf (F := Ideal) (φ := .f32) (Scalar.select (FloatOps.cmpf (F := Ideal) (φ := .f32) .une (FloatOps.subf (F := Ideal) (φ := .f32) (FloatOps.hostNegf (F := Ideal) (φ := .f32) (r : EReal)) (FloatOps.ofBits (F := Ideal) .f32 0x00000000#32)) (FloatOps.subf (F := Ideal) (φ := .f32) (FloatOps.hostNegf (F := Ideal) (φ := .f32) (r : EReal)) (FloatOps.ofBits (F := Ideal) .f32 0x00000000#32)))
      (FloatOps.addf (F := Ideal) (φ := .f32) (FloatOps.hostNegf (F := Ideal) (φ := .f32) (r : EReal)) (FloatOps.ofBits (F := Ideal) .f32 0x00000000#32))
      (FloatOps.addf (F := Ideal) (φ := .f32) (FloatOps.maximumf (F := Ideal) (φ := .f32) (FloatOps.hostNegf (F := Ideal) (φ := .f32) (r : EReal)) (FloatOps.ofBits (F := Ideal) .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (FloatOps.hostNegf (F := Ideal) (φ := .f32) (r : EReal)) (FloatOps.ofBits (F := Ideal) .f32 0x00000000#32))))))))
      = (lsig r : EReal) := by
  have hz : (FloatOps.ofBits (F := Ideal) .f32 0x00000000#32 : EReal) = 0 := Ideal.ofBits_zero_f32
  have hd : (-(r : EReal)) - (0 : EReal) = ((-r : ℝ) : EReal) := by rw [sub_zero, EReal.coe_neg]
  have hsel : ∀ (d a b : EReal), Scalar.select (FloatOps.cmpf (F := Ideal) (φ := .f32) .une d d) a b = b := fun d a b => by
    have e : FloatOps.cmpf (F := Ideal) (φ := .f32) .une d d = 0#1 := by
      show Ideal.cmp .une d d = 0#1
      simp [Ideal.cmp]
    rw [e]; rfl
  rw [hsel, hz]
  show -((max (-(r : EReal)) 0) + Ideal.log1p (Ideal.exp (-(max ((-(r : EReal)) - 0) (-((-(r : EReal)) - 0)))))) = _
  rw [hd, ← lsig_eq]
  have e1 : max ((-r : ℝ) : EReal) (-((-r : ℝ) : EReal)) = max (r : EReal) (-(r : EReal)) := by
    rw [EReal.coe_neg, neg_neg, max_comm]
  rw [e1, zero_sub]
  have e0 : max (r : EReal) (-(r : EReal)) = ((|r| : ℝ) : EReal) := by
    rw [← EReal.coe_neg, ← EReal.coe_strictMono.monotone.map_max]; rfl
  rw [e0, show -((|r| : ℝ) : EReal) = ((-|r| : ℝ) : EReal) from rfl, Ideal.exp_coe]
  unfold Ideal.log1p
  have h : ¬ (1 + Real.exp (-|r|) ≤ 0) := by
    have := Real.exp_pos (-|r|); linarith
  rw [← EReal.coe_one, ← EReal.coe_add, Ideal.log_coe, if_neg h, ← EReal.coe_zero, ← EReal.coe_neg, ← EReal.coe_strictMono.monotone.map_min, ← EReal.coe_strictMono.monotone.map_max,
    ← EReal.coe_add, ← EReal.coe_neg, ← EReal.coe_sub]
  congr 1
  have : max (-r) 0 = -(min r 0) := by rw [← max_neg_neg, neg_zero]
  rw [this]; ring

section
variable (x0 : (⟨S32768x128, .f32⟩ : BufTy).Contents (Elt Ideal)) (x1 : (⟨S4x6, .f32⟩ : BufTy).Contents (Elt Ideal)) (g : Fin 6 → ℕ → ℝ)

/-- Each gate's logit is the real `g` says. -/
def GatesAt : Prop := ∀ (h : Fin 6) (T : Fin 32768),
  (show Vec Ideal S32768x128 .f32 from x0) (ix2 T ⟨h.val, by omega⟩) + (show Vec Ideal S4x6 .f32 from x1) (ix2 (1 : Fin 4) h) = (g h T.val : EReal)

theorem v15_at (hg : GatesAt x0 x1 g) (b : Fin 8) (s : Fin 4096) (h : Fin 6) :
    val_main_v15 (F := Ideal) x0 x1 (ix3 b s h) = (g h (4096 * b.val + s.val) : EReal) := by
  rw [val_main_v15_apply, val_main_v10_apply, val_main_v9_apply, val_main_v14_apply, val_main_v13_apply, val_main_v12_apply, val_main_v11_apply]
  have hs := s.isLt; have hb := b.isLt; have hh := h.isLt
  refine Eq.trans ?_ (hg h ⟨4096 * b.val + s.val, by omega⟩)
  refine congrArg₂ (fun (a b : EReal) => a + b) (congrArg x0 (funext fun a => Fin.ext ?_)) (congrArg x1 (funext fun a => Fin.ext ?_))
  · match a with
    | ⟨0, _⟩ => show ((b.val * 4096 + s.val) * 6 + h.val) / 6 = 4096 * b.val + s.val; omega
    | ⟨1, _⟩ => show ((b.val * 4096 + s.val) * 6 + h.val) % 6 = h.val; omega
  · match a with
    | ⟨0, _⟩ => rfl
    | ⟨1, _⟩ => first | rfl | (show h.val % 6 = h.val; omega)

theorem v16_at (hg : GatesAt x0 x1 g) (b : Fin 8) (s : Fin 4096) (h : Fin 6) :
    val_main_v16 (F := Ideal) x0 x1 (ix3 b s h) = (lsig (g h (4096 * b.val + s.val)) : EReal) := by
  rw [val_main_v16_apply, val_main_call0_v1_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply, val_main_call0_call0_v2_apply,
    val_main_call0_call0_v5_apply, val_main_call0_call0_v0_apply, val_main_call0_v0_apply, v15_at x0 x1 g hg]
  exact lsig_ref _

abbrev W17 : Shape := ⟨S8x4096x6.rank, ![1, 4096, 1]⟩
theorem numel17 : W17.numel = 4096 := by decide +kernel

theorem symm17 (n : Fin W17.numel) : W17.rowMajor.symm n = ix3 (0 : Fin 1) (n.cast numel17) (0 : Fin 1) := by
  rw [Equiv.symm_apply_eq]
  apply Fin.ext
  rw [Shape.rowMajor_val_three]
  show n.val = (0 * 4096 + n.val) * 1 + 0
  omega

theorem foldl_add {ι : Type} (f : ι → EReal) : ∀ (l : List ι) (a : EReal), l.foldl (fun r n => r + f n) a = a + (l.map f).sum
  | [], a => (add_zero a).symm
  | x :: l, a => by rw [List.foldl_cons, foldl_add f l, List.map_cons, List.sum_cons, add_assoc]

theorem finRange_sum {N : ℕ} (f : Fin N → EReal) : ((List.finRange N).map f).sum = ∑ n, f n := by
  rw [← List.ofFn_eq_map, List.sum_ofFn]

/-- A float sum over windows: the initial value and the sum of what each place of the window holds. -/
theorem window_sum {s t u : Shape} (window strides lo hi : Fin s.rank → ℕ) (x : FVec Ideal s .f32) (init : u.Idx → Ideal .f32) (hw : s.ReduceWindows window strides lo hi t) (hu : 0 < u.numel) (j : t.Idx) :
    Host.reduceWindowAdd (F := Ideal) (φ := .f32) window strides lo hi x init hw hu j
      = (init (Shape.Idx.first hu) : EReal) + ∑ n : Fin (⟨s.rank, window⟩ : Shape).numel,
          (if hin : ∀ a, lo a ≤ (j (a.cast hw.1.symm)).val * strides a + ((⟨s.rank, window⟩ : Shape).rowMajor.symm n a).val
              ∧ (j (a.cast hw.1.symm)).val * strides a + ((⟨s.rank, window⟩ : Shape).rowMajor.symm n a).val - lo a < s.size a
            then (x (fun a => ⟨(j (a.cast hw.1.symm)).val * strides a + ((⟨s.rank, window⟩ : Shape).rowMajor.symm n a).val - lo a, (hin a).2⟩) : EReal)
            else (init (Shape.Idx.first hu) : EReal)) := by
  rw [← finRange_sum, ← foldl_add]
  unfold Host.reduceWindowAdd
  show Ideal.hostReduceWindowAdd window strides lo hi hw x (init (Shape.Idx.first hu)) j = _
  unfold Ideal.hostReduceWindowAdd Host.reduceWindow
  dsimp only
  refine congrArg (fun f => List.foldl f (init (Shape.Idx.first hu)) (List.finRange (⟨s.rank, window⟩ : Shape).numel)) (funext fun r => funext fun n => congrArg (fun y : EReal => r + y) ?_)
  split
  · rfl
  · rfl

set_option maxRecDepth 65536 in
theorem v17_at (hg : GatesAt x0 x1 g) (b : Fin 8) (s : Fin 4096) (h : Fin 6) :
    val_main_v17 (F := Ideal) x0 x1 (ix3 b s h) = (cum (g h) b.val (s.val + 1) : EReal) := by
  have hs := s.isLt; have hb := b.isLt; have hh := h.isLt
  have hv : (val_main_call1_call0_v0 (F := Ideal)) (Shape.Idx.first h_S_) = (0 : EReal) := by
    show Ideal.ofBits .f32 0x00000000#32 = 0
    exact Ideal.ofBits_zero_f32
  unfold val_main_v17
  refine (window_sum _ _ _ _ _ _ _ _ _).trans ?_
  refine (congrArg₂ (fun (a b : EReal) => a + b) hv (Finset.sum_congr rfl fun n _ => (?_ : _ = ((if 4095 ≤ s.val + n.val then lsig (g h (4096 * b.val + (s.val + n.val - 4095))) else 0 : ℝ) : EReal)))).trans ?_
  · have hn : n.val < 4096 := (n.cast numel17).isLt
    have w0 : (W17.rowMajor.symm n 0).val = 0 := by rw [symm17]; rfl
    have w1 : (W17.rowMajor.symm n 1).val = n.val := by rw [symm17]; rfl
    have w2 : (W17.rowMajor.symm n 2).val = 0 := by rw [symm17]; rfl
    dsimp only
    split
    · next hin =>
      have h1 := hin 1
      change 4095 ≤ s.val * 1 + (W17.rowMajor.symm n 1).val ∧ s.val * 1 + (W17.rowMajor.symm n 1).val - 4095 < 4096 at h1
      rw [w1] at h1
      rw [if_pos (by omega)]
      refine (congrArg _ (funext fun a => Fin.ext ?_)).trans (v16_at x0 x1 g hg b ⟨s.val + n.val - 4095, by omega⟩ h)
      match a with
      | ⟨0, _⟩ => show b.val * 1 + (W17.rowMajor.symm n 0).val - 0 = b.val; rw [w0]; omega
      | ⟨1, _⟩ => show s.val * 1 + (W17.rowMajor.symm n 1).val - 4095 = s.val + n.val - 4095; rw [w1]; omega
      | ⟨2, _⟩ => show h.val * 1 + (W17.rowMajor.symm n 2).val - 0 = h.val; rw [w2]; omega
    · next hin =>
      rw [if_neg fun hle => hin fun a => by
        match a with
        | ⟨0, _⟩ => show 0 ≤ b.val * 1 + (W17.rowMajor.symm n 0).val ∧ b.val * 1 + (W17.rowMajor.symm n 0).val - 0 < 8; rw [w0]; omega
        | ⟨1, _⟩ => show 4095 ≤ s.val * 1 + (W17.rowMajor.symm n 1).val ∧ s.val * 1 + (W17.rowMajor.symm n 1).val - 4095 < 4096; rw [w1]; omega
        | ⟨2, _⟩ => show 0 ≤ h.val * 1 + (W17.rowMajor.symm n 2).val ∧ h.val * 1 + (W17.rowMajor.symm n 2).val - 0 < 6; rw [w2]; omega]
      exact hv
  · rw [zero_add, ← Cert.Softmax.coe_sum]
    congr 1
    have e2 : (∑ n : Fin W17.numel, if 4095 ≤ s.val + n.val then lsig (g h (4096 * b.val + (s.val + n.val - 4095))) else 0)
        = ∑ n : Fin 4096, if 4095 ≤ s.val + n.val then lsig (g h (4096 * b.val + (s.val + n.val - 4095))) else 0 := Fintype.sum_equiv (finCongr numel17) _ _ (fun n => rfl)
    refine e2.trans ?_
    unfold cum
    rw [Finset.sum_fin_eq_sum_range]
    have e : ∀ k ∈ Finset.range 4096, (if hk : k < 4096 then (if 4095 ≤ s.val + k then lsig (g h (4096 * b.val + (s.val + k - 4095))) else 0) else 0)
        = if 4095 ≤ s.val + k then lsig (g h (4096 * b.val + (s.val + k - 4095))) else 0 := fun k hk => dif_pos (Finset.mem_range.1 hk)
    rw [Finset.sum_congr rfl e, ← Finset.sum_filter]
    refine Finset.sum_bij' (fun k _ => s.val + k - 4095) (fun j _ => j + 4095 - s.val) ?_ ?_ ?_ ?_ ?_
    · intro k hk; rw [Finset.mem_filter, Finset.mem_range] at hk; rw [Finset.mem_range]; omega
    · intro j hj; rw [Finset.mem_range] at hj; rw [Finset.mem_filter, Finset.mem_range]; omega
    · intro k hk; rw [Finset.mem_filter, Finset.mem_range] at hk; show s.val + k - 4095 + 4095 - s.val = k; omega
    · intro j hj; rw [Finset.mem_range] at hj; show s.val + (j + 4095 - s.val) - 4095 = j; omega
    · intro k hk; rfl
end

end Cert.ReferenceIdeal.RefVal

end
-- ==== Proof.RefVal.lean ====
module

public import proofs.«01_k».proof.Proof.RefGate
public import proofs.«01_k».proof.Proof.AttnVal

/-! The reference's attention, as the softmax over each row's logits. -/

@[expose] public section

set_option maxRecDepth 16384

noncomputable section

namespace Cert.ReferenceIdeal.RefVal

open Cert.ReferenceIdeal Cert.ReferenceIdeal.Gen Cert.ReferenceIdeal.Read
open Idealize.ShloMosaic Idealize.ShloMosaic.TcCoe
open Cert.KernelIdeal.Gate (cum)
open Cert.KernelIdeal.Attn (logit lrow Planes att RO negInf sle_iff)

theorem scale_eq : Ideal.ofBits .f32 0x3DB504F3#32 = ((11863283 / 134217728 : ℝ) : EReal) := by
  simp [Ideal.ofBits, Ideal.ieee]
  rw [← EReal.coe_mul]; norm_num

section
variable (x0 : (⟨S32768x128, .f32⟩ : BufTy).Contents (Elt Ideal)) (x1 : (⟨S4x6, .f32⟩ : BufTy).Contents (Elt Ideal)) (x2 : (⟨S88x32768x128, .bf16⟩ : BufTy).Contents (Elt Ideal))
variable (g : Fin 6 → ℕ → ℝ) (q k : Fin 6 → ℕ → Fin 128 → ℝ)

theorem v2_at (h : Fin 6) (b : Fin 8) (s : Fin 4096) (d : Fin 128) :
    val_main_v2 (F := Ideal) x2 (ix4 h b s d) = x2 (ix3 (⟨66 + h.val, by omega⟩ : Fin 88) (⟨4096 * b.val + s.val, by omega⟩ : Fin 32768) d) := by
  rw [val_main_v2_apply, val_main_v1_apply, val_main_v0_apply]
  have hs := s.isLt; have hb := b.isLt; have hh := h.isLt; have hd := d.isLt
  refine congrArg x2 (funext fun a => Fin.ext ?_)
  match a with
  | ⟨0, _⟩ => show 66 + (((h.val * 8 + b.val) * 4096 + s.val) * 128 + d.val) / 4194304 = 66 + h.val; omega
  | ⟨1, _⟩ => show (((h.val * 8 + b.val) * 4096 + s.val) * 128 + d.val) / 128 % 32768 = 4096 * b.val + s.val; omega
  | ⟨2, _⟩ => show (((h.val * 8 + b.val) * 4096 + s.val) * 128 + d.val) % 128 = d.val; omega

theorem v5_at (h : Fin 6) (b : Fin 8) (s : Fin 4096) (d : Fin 128) :
    val_main_v5 (F := Ideal) x2 (ix4 h b s d) = x2 (ix3 (⟨72 + h.val, by omega⟩ : Fin 88) (⟨4096 * b.val + s.val, by omega⟩ : Fin 32768) d) := by
  rw [val_main_v5_apply, val_main_v4_apply, val_main_v3_apply]
  have hs := s.isLt; have hb := b.isLt; have hh := h.isLt; have hd := d.isLt
  refine congrArg x2 (funext fun a => Fin.ext ?_)
  match a with
  | ⟨0, _⟩ => show 72 + (((h.val * 8 + b.val) * 4096 + s.val) * 128 + d.val) / 4194304 = 72 + h.val; omega
  | ⟨1, _⟩ => show (((h.val * 8 + b.val) * 4096 + s.val) * 128 + d.val) / 128 % 32768 = 4096 * b.val + s.val; omega
  | ⟨2, _⟩ => show (((h.val * 8 + b.val) * 4096 + s.val) * 128 + d.val) % 128 = d.val; omega

theorem v8_at (h : Fin 6) (b : Fin 8) (s : Fin 4096) (d : Fin 128) :
    val_main_v8 (F := Ideal) x2 (ix4 h b s d) = x2 (ix3 (⟨78 + h.val, by omega⟩ : Fin 88) (⟨4096 * b.val + s.val, by omega⟩ : Fin 32768) d) := by
  rw [val_main_v8_apply, val_main_v7_apply, val_main_v6_apply]
  have hs := s.isLt; have hb := b.isLt; have hh := h.isLt; have hd := d.isLt
  refine congrArg x2 (funext fun a => Fin.ext ?_)
  match a with
  | ⟨0, _⟩ => show 78 + (((h.val * 8 + b.val) * 4096 + s.val) * 128 + d.val) / 4194304 = 78 + h.val; omega
  | ⟨1, _⟩ => show (((h.val * 8 + b.val) * 4096 + s.val) * 128 + d.val) / 128 % 32768 = 4096 * b.val + s.val; omega
  | ⟨2, _⟩ => show (((h.val * 8 + b.val) * 4096 + s.val) * 128 + d.val) % 128 = d.val; omega

theorem v18_at (hg : GatesAt x0 x1 g) (h : Fin 6) (b : Fin 8) (s : Fin 4096) :
    val_main_v18 (F := Ideal) x0 x1 (ix3 h b s) = (cum (g h) b.val (s.val + 1) : EReal) := by
  rw [val_main_v18_apply]
  refine (congrArg (val_main_v17 (F := Ideal) x0 x1) (funext fun a => Fin.ext ?_)).trans (v17_at x0 x1 g hg b s h)
  match a with
  | ⟨0, _⟩ => rfl
  | ⟨1, _⟩ => rfl
  | ⟨2, _⟩ => rfl

theorem v25_at (hg : GatesAt x0 x1 g) (h : Fin 6) (b : Fin 8) (s s' : Fin 4096) :
    val_main_v25 (F := Ideal) x0 x1 (ix4 h b s s') = (cum (g h) b.val (s.val + 1) : EReal) := by
  rw [val_main_v25_apply, val_main_v24_apply]
  have e : idx_main_v24 (idx_main_v25 (ix4 h b s s')) = ix3 h b s := funext fun a => Fin.ext (match a with | ⟨0, _⟩ => rfl | ⟨1, _⟩ => rfl | ⟨2, _⟩ => rfl)
  rw [e, v18_at x0 x1 g hg]

theorem v28_at (hg : GatesAt x0 x1 g) (h : Fin 6) (b : Fin 8) (s s' : Fin 4096) :
    val_main_v28 (F := Ideal) x0 x1 (ix4 h b s s') = (cum (g h) b.val (s'.val + 1) : EReal) := by
  rw [val_main_v28_apply, val_main_v27_apply]
  have e : idx_main_v27 (idx_main_v28 (ix4 h b s s')) = ix3 h b s' := funext fun a => Fin.ext (match a with | ⟨0, _⟩ => rfl | ⟨1, _⟩ => rfl | ⟨2, _⟩ => rfl)
  rw [e, v18_at x0 x1 g hg]

theorem v21_at (hP : Planes q k x2) (h : Fin 6) (b : Fin 8) (s s' : Fin 4096) :
    val_main_v21 (F := Ideal) x2 (ix4 h b s s') = ((∑ d : Fin 128, q h (4096 * b.val + s.val) d * k h (4096 * b.val + s'.val) d : ℝ) : EReal) := by
  have hs := s.isLt; have hs' := s'.isLt; have hb := b.isLt
  rw [val_main_v21_apply, Cert.Softmax.coe_sum]
  refine Finset.sum_congr rfl fun d _ => ?_
  have l : lidx_main_v21 (ix4 h b s s') d = ix4 h b s d := funext fun a => Fin.ext (match a with | ⟨0, _⟩ => rfl | ⟨1, _⟩ => rfl | ⟨2, _⟩ => rfl | ⟨3, _⟩ => rfl)
  have r : ridx_main_v21 (ix4 h b s s') d = ix4 h b s' d := funext fun a => Fin.ext (match a with | ⟨0, _⟩ => rfl | ⟨1, _⟩ => rfl | ⟨2, _⟩ => rfl | ⟨3, _⟩ => rfl)
  rw [l, r, v2_at, v5_at, EReal.coe_mul]
  exact congrArg₂ (fun (a b : EReal) => a * b) (hP h ⟨4096 * b.val + s.val, by omega⟩ d).1 (hP h ⟨4096 * b.val + s'.val, by omega⟩ d).2

theorem v22_at (i : S6x8x4096x4096.Idx) : val_main_v22 (F := Ideal) i = ((11863283 / 134217728 : ℝ) : EReal) := by
  rw [val_main_v22_apply, val_main_cst_apply]
  exact scale_eq

theorem v29_at (hg : GatesAt x0 x1 g) (hP : Planes q k x2) (h : Fin 6) (b : Fin 8) (s s' : Fin 4096) :
    val_main_v29 (F := Ideal) x0 x1 x2 (ix4 h b s s') = (logit g q k h (4096 * b.val + s.val) (4096 * b.val + s'.val) : EReal) := by
  have hs := s.isLt; have hs' := s'.isLt; have hb := b.isLt
  have a1 : (4096 * b.val + s.val) / 4096 = b.val := by omega
  have a2 : (4096 * b.val + s.val) % 4096 = s.val := by omega
  have a3 : (4096 * b.val + s'.val) / 4096 = b.val := by omega
  have a4 : (4096 * b.val + s'.val) % 4096 = s'.val := by omega
  have er : logit g q k h (4096 * b.val + s.val) (4096 * b.val + s'.val)
      = (∑ d : Fin 128, q h (4096 * b.val + s.val) d * k h (4096 * b.val + s'.val) d) * (11863283 / 134217728) + cum (g h) b.val (s.val + 1) - cum (g h) b.val (s'.val + 1) := by
    unfold logit
    rw [a1, a2, a3, a4, add_sub_assoc]
  rw [val_main_v29_apply, val_main_v26_apply, val_main_v23_apply, v25_at x0 x1 g hg, v28_at x0 x1 g hg, v22_at, v21_at x2 q k hP, er, EReal.coe_sub, EReal.coe_add, EReal.coe_mul]
  rfl

theorem mask_at (h : Fin 6) (b : Fin 8) (s s' : Fin 4096) :
    val_main_call2_v1 (F := Ideal) (ix4 h b s s') = IntOp.cmpi .sle (BitVec.ofNat 32 s'.val) (BitVec.ofNat 32 s.val) := by
  rw [val_main_call2_v1_apply, val_main_v35_apply, val_main_v34_apply, val_main_v32_apply, val_main_v33_apply, val_main_v30_apply, val_main_v31_apply]
  rfl

theorem v36_at (hg : GatesAt x0 x1 g) (hP : Planes q k x2) (h : Fin 6) (b : Fin 8) (s s' : Fin 4096) :
    val_main_v36 (F := Ideal) x0 x1 x2 (ix4 h b s s') = lrow g q k h (⟨4096 * b.val + s.val, by omega⟩ : Fin 32768) s' := by
  have hs := s.isLt; have hs' := s'.isLt; have hb := b.isLt
  have a1 : (4096 * b.val + s.val) / 4096 = b.val := by omega
  have a2 : (4096 * b.val + s.val) % 4096 = s.val := by omega
  rw [val_main_v36_apply, v29_at x0 x1 x2 g q k hg hP, mask_at]
  have hm : val_main_call2_v2 (F := Ideal) (ix4 h b s s') = (⊥ : EReal) := negInf
  rw [hm]
  unfold lrow
  rw [a1, a2]
  refine Cert.KernelIdeal.Gate.sel_eq ?_ _ _
  have e : ∀ c : Fin 4096, (BitVec.ofNat 32 c.val).toNat = c.val := fun c => by
    have := c.isLt
    rw [BitVec.toNat_ofNat]; exact Nat.mod_eq_of_lt (by omega)
  rw [WordCmp.cmpi_sle_of_lt (by rw [e]; omega) (by rw [e]; omega), e, e]
  by_cases hc : s'.val ≤ s.val
  · rw [decide_eq_true hc]; exact ⟨fun _ => hc, fun _ => rfl⟩
  · rw [decide_eq_false hc]; exact ⟨fun h => absurd h (by decide), fun h => absurd h hc⟩

theorem v37_at (hg : GatesAt x0 x1 g) (hP : Planes q k x2) (h : Fin 6) (b : Fin 8) (s : Fin 4096) :
    val_main_v37 (F := Ideal) x0 x1 x2 (ix3 h b s) = Finset.univ.fold max (⊥ : EReal) (lrow g q k h (⟨4096 * b.val + s.val, by omega⟩ : Fin 32768)) := by
  have e : val_main_v37 (F := Ideal) x0 x1 x2 (ix3 h b s) = Finset.univ.fold max (⊥ : EReal) (fun s' : Fin 4096 => val_main_v36 (F := Ideal) x0 x1 x2 (ix4 h b s s')) := by
    unfold val_main_v37
    generalize val_main_v36 (F := Ideal) x0 x1 x2 = y
    pointwise [val_main_cst_1]
    rw [negInf]
  rw [e]
  exact congrArg (Finset.univ.fold max (⊥ : EReal)) (funext fun s' => v36_at x0 x1 x2 g q k hg hP h b s s')

theorem v41_at (hg : GatesAt x0 x1 g) (hP : Planes q k x2) (h : Fin 6) (b : Fin 8) (s s' : Fin 4096) :
    val_main_v41 (F := Ideal) x0 x1 x2 (ix4 h b s s') = max (⊥ : EReal) (Finset.univ.fold max (⊥ : EReal) (lrow g q k h (⟨4096 * b.val + s.val, by omega⟩ : Fin 32768))) := by
  rw [val_main_v41_apply, val_main_v40_apply, val_main_v39_apply]
  have e : idx_main_v40 (idx_main_v41 (ix4 h b s s')) = ix3 h b s := funext fun a => Fin.ext (match a with | ⟨0, _⟩ => rfl | ⟨1, _⟩ => rfl | ⟨2, _⟩ => rfl)
  have hm : val_main_v38 (F := Ideal) (ix3 h b s) = (⊥ : EReal) := negInf
  rw [e, v37_at x0 x1 x2 g q k hg hP, hm]
  rfl

theorem v43_at (hg : GatesAt x0 x1 g) (hP : Planes q k x2) (h : Fin 6) (b : Fin 8) (s s' : Fin 4096) :
    val_main_v43 (F := Ideal) x0 x1 x2 (ix4 h b s s') = Ideal.exp (lrow g q k h (⟨4096 * b.val + s.val, by omega⟩ : Fin 32768) s' - max (⊥ : EReal) (Finset.univ.fold max (⊥ : EReal) (lrow g q k h (⟨4096 * b.val + s.val, by omega⟩ : Fin 32768)))) := by
  rw [val_main_v43_apply, val_main_v42_apply, v36_at x0 x1 x2 g q k hg hP, v41_at x0 x1 x2 g q k hg hP]
  rfl

theorem v46_at (hg : GatesAt x0 x1 g) (hP : Planes q k x2) (h : Fin 6) (b : Fin 8) (s s' : Fin 4096) :
    val_main_v46 (F := Ideal) x0 x1 x2 (ix4 h b s s') = ∑ t : Fin 4096, Ideal.exp (lrow g q k h (⟨4096 * b.val + s.val, by omega⟩ : Fin 32768) t - max (⊥ : EReal) (Finset.univ.fold max (⊥ : EReal) (lrow g q k h (⟨4096 * b.val + s.val, by omega⟩ : Fin 32768)))) := by
  rw [val_main_v46_apply, val_main_v45_apply, val_main_v44_apply]
  have hz : (val_main_cst_3 (F := Ideal)) (Shape.Idx.first h_S_) = (0 : EReal) := Ideal.ofBits_zero_f32
  rw [hz, zero_add]
  refine Finset.sum_congr rfl fun t _ => ?_
  have e : idx_main_v44 (idx_main_v45 (idx_main_v46 (ix4 h b s s'))) t = ix4 h b s t := funext fun a => Fin.ext (match a with | ⟨0, _⟩ => rfl | ⟨1, _⟩ => rfl | ⟨2, _⟩ => rfl | ⟨3, _⟩ => rfl)
  rw [e, v43_at x0 x1 x2 g q k hg hP]

theorem v48_at (hg : GatesAt x0 x1 g) (hP : Planes q k x2) (h : Fin 6) (b : Fin 8) (s : Fin 4096) (d : Fin 128) :
    val_main_v48 (F := Ideal) x0 x1 x2 (ix4 h b s d)
      = att (lrow g q k h (⟨4096 * b.val + s.val, by omega⟩ : Fin 32768)) (Cert.KernelIdeal.Attn.val x2 h (⟨4096 * b.val + s.val, by omega⟩ : Fin 32768) d) := by
  have hs := s.isLt; have hb := b.isLt
  have a1 : (4096 * b.val + s.val) / 4096 = b.val := by omega
  rw [val_main_v48_apply]
  unfold att
  refine Finset.sum_congr rfl fun t _ => ?_
  have l : lidx_main_v48 (ix4 h b s d) t = ix4 h b s t := funext fun a => Fin.ext (match a with | ⟨0, _⟩ => rfl | ⟨1, _⟩ => rfl | ⟨2, _⟩ => rfl | ⟨3, _⟩ => rfl)
  have r : ridx_main_v48 (ix4 h b s d) t = ix4 h b t d := funext fun a => Fin.ext (match a with | ⟨0, _⟩ => rfl | ⟨1, _⟩ => rfl | ⟨2, _⟩ => rfl | ⟨3, _⟩ => rfl)
  rw [l, r, val_main_v47_apply, v43_at x0 x1 x2 g q k hg hP, v46_at x0 x1 x2 g q k hg hP, v8_at]
  refine congrArg₂ (fun (a b : EReal) => a * b) rfl ?_
  unfold Cert.KernelIdeal.Attn.val
  refine congrArg x2 (funext fun a => Fin.ext ?_)
  match a with
  | ⟨0, _⟩ => rfl
  | ⟨1, _⟩ => show 4096 * b.val + t.val = 4096 * ((4096 * b.val + s.val) / 4096) + t.val; rw [a1]
  | ⟨2, _⟩ => rfl

/-- The reference's result. -/
theorem v50_eq (hg : GatesAt x0 x1 g) (hP : Planes q k x2) : val_main_v50 (F := Ideal) x0 x1 x2 = RO g q k x2 := by
  funext i
  rw [val_main_v50_apply, val_main_v49_apply]
  have h0 : (i 0).val < 6 := (i 0).isLt; have h1 : (i 1).val < 32768 := (i 1).isLt; have h2 : (i 2).val < 128 := (i 2).isLt
  have e : idx_main_v49 i = ix4 (show Fin 6 from i 0) (⟨(i 1).val / 4096, by omega⟩ : Fin 8) (⟨(i 1).val % 4096, by omega⟩ : Fin 4096) (show Fin 128 from i 2) := funext fun a => Fin.ext (by
    match a with
    | ⟨0, _⟩ => show (((i 0).val * 32768 + (i 1).val) * 128 + (i 2).val) / 4194304 = (i 0).val; omega
    | ⟨1, _⟩ => show (((i 0).val * 32768 + (i 1).val) * 128 + (i 2).val) / 524288 % 8 = (i 1).val / 4096; omega
    | ⟨2, _⟩ => show (((i 0).val * 32768 + (i 1).val) * 128 + (i 2).val) / 128 % 4096 = (i 1).val % 4096; omega
    | ⟨3, _⟩ => show (((i 0).val * 32768 + (i 1).val) * 128 + (i 2).val) % 128 = (i 2).val; omega)
  rw [e]
  refine (v48_at x0 x1 x2 g q k hg hP (show Fin 6 from i 0) ⟨(i 1).val / 4096, by omega⟩ ⟨(i 1).val % 4096, by omega⟩ (show Fin 128 from i 2)).trans ?_
  have eT : (⟨4096 * ((i 1).val / 4096) + (i 1).val % 4096, by omega⟩ : Fin 32768) = i 1 := Fin.ext (by show 4096 * ((i 1).val / 4096) + (i 1).val % 4096 = (i 1).val; omega)
  unfold RO
  exact congrArg₂ att (congrArg (fun T : Fin 32768 => lrow g q k (i 0) T) eT) (congrArg (fun T : Fin 32768 => Cert.KernelIdeal.Attn.val x2 (i 0) T (i 2)) eT)
end

end Cert.ReferenceIdeal.RefVal

end
-- ==== Proof.BothVal.lean ====
module

public import proofs.«01_k».proof.Proof.BothRun
public import proofs.«01_k».proof.Proof.AttnVal
public import proofs.«01_k».proof.Proof.RefVal
public import Idealize.ShloMosaic.Lib.Claim
public import Idealize.ShloMosaic.Lib.KernelVsHost

/-! What the whole program leaves in its result. -/

@[expose] public section

set_option maxRecDepth 16384

noncomputable section

namespace Cert.KernelIdeal.Both

open Cert.KernelIdeal Cert.KernelIdeal.Gen
open Idealize.ShloMosaic Idealize.ShloMosaic.TcCoe

variable (m : (ℓ : Loc nD τ sig) → Buf (Elt Ideal) ℓ)

theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg2 (c : Dev nD) : V3 m c main_arg2 = m ((c : Thread nD τ).loc main_arg2) :=
  (V3_of m c main_arg2 (by decide)).trans <| (V2_of m c main_arg2 (by decide)).trans <| (V1_of m c main_arg2 (by decide)).trans rfl

/-- The padded bias at a head. -/
theorem V3_bias (c : Dev nD) (h : Fin 6) :
    (show Vec Ideal S4x1x128 .f32 from V3 m c main_v1) (ix3 (1 : Fin 4) (0 : Fin 1) (⟨h.val, by omega⟩ : Fin 128))
      = (show Vec Ideal S4x6 .f32 from m ((c : Thread nD τ).loc main_arg1)) (ix2 (1 : Fin 4) h) := by
  refine (congrFun (show V3 m c main_v1 = shapeCast S4x1x128 (pad S4x128 ![0, 0] ![0, 122] ![0, 0] (m ((c : Thread nD τ).loc main_arg1)) (sitofp (F := Ideal) .f32 (constantI S_ 32 0#32)) pads_S4x6_S4x128_000_01220 h_S_) shapeCasts_S4x128_S4x1x128 from by
    show StableHlo.after hostOps0_2 (StableHlo.after hostOps0_1 (StableHlo.after hostOps0 (V0 m c))) (Proc.devRef .tc main_v1) = _
    entry_read
    rfl) _).trans ?_
  refine (shapeCast_apply _ shapeCasts_S4x128_S4x1x128 _ (ix2 (1 : Fin 4) (⟨h.val, by omega⟩ : Fin 128)) (by
    rw [Shape.rowMajor_val_two, Shape.rowMajor_val_three]; rfl)).trans ?_
  refine pad_apply_of_inside _ _ _ _ _ _ _ _ (ix2 (1 : Fin 4) h) (fun a => match a with
    | ⟨0, _⟩ => rfl
    | ⟨1, _⟩ => by show h.val = 0 + h.val * (0 + 1); omega)

theorem resO_eq (c : Dev nD) (g : Fin 6 → ℕ → ℝ) (q k : Fin 6 → ℕ → Fin 128 → ℝ)
    (hg : Cert.ReferenceIdeal.RefVal.GatesAt (m ((c : Thread nD τ).loc main_arg0)) (m ((c : Thread nD τ).loc main_arg1)) g)
    (hP : Attn.Planes q k (m ((c : Thread nD τ).loc main_arg2))) :
    resO m c = Attn.RO g q k (m ((c : Thread nD τ).loc main_arg2)) := by
  have e2 : VA m c main_arg2 = m ((c : Thread nD τ).loc main_arg2) := (W4_of m c main_arg2 (by decide)).trans (V3_arg2 m c)
  have hG : Gate.Gates (VG m) c g := fun h T => by
    refine Eq.trans (congrArg₂ (fun (a b : EReal) => a + b) (congrFun (V3_arg0 m c) _) (V3_bias m c h)) (hg h T)
  have h := Attn.final (VA m) c g q k (VG m) (by rw [e2]; exact hP) ((V3_arg2 m c).trans e2.symm)
    ((W4_q m c).trans (Gate.final3 (VG m) c g hG)) ((W4_k m c).trans (Gate.final4 (VG m) c g hG))
  unfold resO
  rw [h, e2]

end Cert.KernelIdeal.Both

end
-- ==== Proof.PreFinite.lean ====
module

public import proofs.«01_k».proof.Defs
public import proofs.«01_k».proof.Proof.AttnVal
public import proofs.«01_k».proof.Proof.RefGate
public import Idealize.ShloMosaic.Lib.ReduceAll

/-! What the precondition says: the gates, their biases, the queries and the keys are real numbers. -/

@[expose] public section

set_option maxRecDepth 16384

noncomputable section

namespace Cert.PreFinite

open Idealize.ShloMosaic Idealize.ShloMosaic.TcCoe Cert.Pre_finite Cert.Pre_finite.Facts

/-- A number below infinity in magnitude is real. -/
theorem real_of_abs (x : EReal) (h : FloatOps.cmpf (F := Ideal) (φ := .f32) .olt (FloatOps.hostAbsf (F := Ideal) (φ := .f32) x) (FloatOps.ofBits (F := Ideal) .f32 0x7F800000#32) = 1#1) : (x.toReal : EReal) = x := by
  have hi : (FloatOps.ofBits (F := Ideal) .f32 0x7F800000#32 : EReal) = ⊤ := by
    show Ideal.ofBits .f32 0x7F800000#32 = ⊤
    simp [Ideal.ofBits, Ideal.ieee]
  rw [hi] at h
  have h' : max x (-x) < ⊤ := by
    by_contra hc
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hc]; rfl
    exact absurd (e.symm.trans h) (by decide)
  refine EReal.coe_toReal (fun e => ?_) (fun e => ?_)
  · rw [e] at h'; exact absurd (lt_of_le_of_lt (le_max_left _ _) h') (lt_irrefl _)
  · rw [e, EReal.neg_bot] at h'; exact absurd (lt_of_le_of_lt (le_max_right _ _) h') (lt_irrefl _)

theorem and_one {a b : BitVec 1} (h : IntOp.andi a b = 1#1) : a = 1#1 ∧ b = 1#1 := by revert a b; decide

instance : Subsingleton S_.Idx := ⟨fun a b => funext fun i => i.elim0⟩

section
variable [Cert.Pre_finite.Facts] (x0 : FVec Ideal S32768x128 .f32) (x1 : FVec Ideal S4x6 .f32) (x2 : FVec Ideal S88x32768x128 .bf16)

theorem split (h : fn (F := Ideal) x0 x1 x2 = fun _ => 1#1) :
    (∀ i, FloatOps.cmpf (F := Ideal) (φ := .f32) .olt (FloatOps.hostAbsf (F := Ideal) (φ := .f32) (extractStridedSlice S32768x6 ![0, 0] x0 slices_S32768x128_S32768x6_0_0 i)) (FloatOps.ofBits (F := Ideal) .f32 0x7F800000#32) = 1#1)
    ∧ (∀ i, FloatOps.cmpf (F := Ideal) (φ := .f32) .olt (FloatOps.hostAbsf (F := Ideal) (φ := .f32) (shapeCast S6 (extractStridedSlice S1x6 ![1, 0] x1 slices_S4x6_S1x6_1_0) shapeCasts_S1x6_S6 i)) (FloatOps.ofBits (F := Ideal) .f32 0x7F800000#32) = 1#1)
    ∧ (∀ i, FloatOps.cmpf (F := Ideal) (φ := .f32) .olt (FloatOps.hostAbsf (F := Ideal) (φ := .f32) (extractStridedSlice S12x32768x128 ![66, 0, 0] x2 slices_S88x32768x128_S12x32768x128_66_0_0 i)) (FloatOps.ofBits (F := Ideal) .f32 0x7F800000#32) = 1#1) := by
  have h' := congrFun h (Shape.Idx.first h_S_)
  unfold fn fn_part1 at h'
  obtain ⟨h1, h3⟩ := and_one h'
  obtain ⟨h1, h2⟩ := and_one h1
  exact ⟨fun i => Host.reduce_andi_all _ _ _ _ _ h1 i, fun i => Host.reduce_andi_all _ _ _ _ _ h2 i, fun i => Host.reduce_andi_all _ _ _ _ _ h3 i⟩

theorem gates (h : fn (F := Ideal) x0 x1 x2 = fun _ => 1#1) (T : Fin 32768) (l : Fin 6) :
    ((x0 (ix2 T (⟨l.val, by omega⟩ : Fin 128)) : EReal).toReal : EReal) = x0 (ix2 T (⟨l.val, by omega⟩ : Fin 128)) := by
  have e : extractStridedSlice S32768x6 ![0, 0] x0 slices_S32768x128_S32768x6_0_0 (ix2 T l) = x0 (ix2 T (⟨l.val, by omega⟩ : Fin 128)) :=
    extractStridedSlice_apply ![0, 0] x0 slices_S32768x128_S32768x6_0_0 (ix2 T l) (ix2 T (⟨l.val, by omega⟩ : Fin 128)) (fun a => match a with
      | ⟨0, _⟩ => by show T.val = 0 + T.val; omega
      | ⟨1, _⟩ => by show l.val = 0 + l.val; omega)
  exact real_of_abs _ (by rw [← e]; exact (split x0 x1 x2 h).1 (ix2 T l))

theorem bias (h : fn (F := Ideal) x0 x1 x2 = fun _ => 1#1) (l : Fin 6) :
    ((x1 (ix2 (1 : Fin 4) l) : EReal).toReal : EReal) = x1 (ix2 (1 : Fin 4) l) := by
  have e : shapeCast S6 (extractStridedSlice S1x6 ![1, 0] x1 slices_S4x6_S1x6_1_0) shapeCasts_S1x6_S6 (ix1 l) = x1 (ix2 (1 : Fin 4) l) := by
    refine (shapeCast_apply _ shapeCasts_S1x6_S6 (ix1 l) (ix2 (0 : Fin 1) l) (by rw [Shape.rowMajor_val_two, Shape.rowMajor_val_one]; show 0 * 6 + l.val = l.val; omega)).trans ?_
    exact extractStridedSlice_apply ![1, 0] x1 slices_S4x6_S1x6_1_0 (ix2 (0 : Fin 1) l) (ix2 (1 : Fin 4) l) (fun a => match a with
      | ⟨0, _⟩ => rfl
      | ⟨1, _⟩ => by show l.val = 0 + l.val; omega)
  exact real_of_abs _ (by rw [← e]; exact (split x0 x1 x2 h).2.1 (ix1 l))

theorem planes (h : fn (F := Ideal) x0 x1 x2 = fun _ => 1#1) (p : Fin 12) (T : Fin 32768) (d : Fin 128) :
    ((x2 (ix3 (⟨66 + p.val, by omega⟩ : Fin 88) T d) : EReal).toReal : EReal) = x2 (ix3 (⟨66 + p.val, by omega⟩ : Fin 88) T d) := by
  have e : extractStridedSlice S12x32768x128 ![66, 0, 0] x2 slices_S88x32768x128_S12x32768x128_66_0_0 (ix3 p T d) = x2 (ix3 (⟨66 + p.val, by omega⟩ : Fin 88) T d) :=
    extractStridedSlice_apply ![66, 0, 0] x2 slices_S88x32768x128_S12x32768x128_66_0_0 (ix3 p T d) (ix3 (⟨66 + p.val, by omega⟩ : Fin 88) T d) (fun a => match a with
      | ⟨0, _⟩ => rfl
      | ⟨1, _⟩ => by show T.val = 0 + T.val; omega
      | ⟨2, _⟩ => by show d.val = 0 + d.val; omega)
  exact real_of_abs _ (by rw [← e]; exact (split x0 x1 x2 h).2.2 (ix3 p T d))

/-- The gates' logits, the queries and the keys as real numbers. -/
def gR (h : Fin 6) (T : ℕ) : ℝ := if hT : T < 32768 then (x0 (ix2 (⟨T, hT⟩ : Fin 32768) (⟨h.val, by omega⟩ : Fin 128)) : EReal).toReal + (x1 (ix2 (1 : Fin 4) h) : EReal).toReal else 0
def qR (h : Fin 6) (T : ℕ) (d : Fin 128) : ℝ := if hT : T < 32768 then (x2 (ix3 (⟨66 + h.val, by omega⟩ : Fin 88) (⟨T, hT⟩ : Fin 32768) d) : EReal).toReal else 0
def kR (h : Fin 6) (T : ℕ) (d : Fin 128) : ℝ := if hT : T < 32768 then (x2 (ix3 (⟨72 + h.val, by omega⟩ : Fin 88) (⟨T, hT⟩ : Fin 32768) d) : EReal).toReal else 0

theorem gatesAt (h : fn (F := Ideal) x0 x1 x2 = fun _ => 1#1) : Cert.ReferenceIdeal.RefVal.GatesAt x0 x1 (gR x0 x1) := by
  intro l T
  unfold gR
  rw [dif_pos T.isLt, EReal.coe_add]
  exact (congrArg₂ (fun (a b : EReal) => a + b) (gates x0 x1 x2 h T l) (bias x0 x1 x2 h l)).symm

theorem planesAt (h : fn (F := Ideal) x0 x1 x2 = fun _ => 1#1) : Cert.KernelIdeal.Attn.Planes (qR x2) (kR x2) x2 := by
  intro l T d
  unfold qR kR
  rw [dif_pos T.isLt, dif_pos T.isLt]
  refine ⟨(planes x0 x1 x2 h ⟨l.val, by omega⟩ T d).symm, ?_⟩
  have e : (⟨66 + (6 + l.val), by omega⟩ : Fin 88) = ⟨72 + l.val, by omega⟩ := Fin.ext (by show 66 + (6 + l.val) = 72 + l.val; omega)
  have := planes x0 x1 x2 h ⟨6 + l.val, by omega⟩ T d
  rw [e] at this
  exact this.symm
end

end Cert.PreFinite

end
-- ==== Proof.PrepRun.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The weights' rearrangement: what the call's body leaves in its two results at each grid point, from any contents of its arrays. -/

@[expose] public section

set_option maxRecDepth 16384

noncomputable section

namespace Cert.Kernel2Ideal.Prep

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array's contents when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or earlier. -/
theorem before0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- One buffer of each result's window, through which the contents left are stated. -/
abbrev VO1 : View sig .tc .vmem S1x256x11264 .bf16 := (Memref.whole cc0_stg1_0 : Memref sig .tc .vmem S1x256x11264 .bf16).view
abbrev VO2 : View sig .tc .vmem S1x256x128 .bf16 := (Memref.whole cc0_stg2_0 : Memref sig .tc .vmem S1x256x128 .bf16).view
abbrev ms0 (t : Fin cfg0.N) : Memref sig .tc .vmem S1x256x11270 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x11264 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x128 .bf16 := win0_2.stage (cfg0.slots t 2)
abbrev hs2 (t : Fin cfg0.N) : (ms2 t).IsWhole := hstage0_2 ((cfg0.slots t 2).cast nbuf0_2)

set_option maxHeartbeats 8000000 in
/-- The body's run on any buffers: the pieces it stores into the two results, and that it hands the input back. -/
noncomputable def run (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec F S1x256x11270 .bf16) :
    { L : List (View.Piece (Elt F) S1x256x11264 .bf16) × List (View.Piece (Elt F) S1x256x128 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L.1) ∗ (∃ f, arg4.view.loc (c : Thread nD τ) ↦[arg4.view.set]{fullShare} arg4.view.writes (Elt F) f L.2)) -∗ K ⟨⟩))
          ⊢ wp frame (wpE (defs₀ (F := F)) Variants.none c none) E (cc0_prep_w_in i arg2 harg2 arg3 harg3 arg4 harg4) K } := by
  refine ⟨⟨?_, ?_⟩, fun E K => ?run⟩
  case run =>
    simp only [cc0_prep_w_in_eq_skeleton]; unfold cc0_prep_w_in_skel
    simp only [k0_part1_eq_skeleton]
    unfold owns
    iintro ⟨⟨%f0, %hf0, H0⟩, ⟨%d1, %f1, -, H1⟩, ⟨%d2, %f2, -, H2⟩, Hk⟩
    obtain rfl := harg2.eq_unread hf0
    sl_exec
    sl_step
    iapply Hk
    isplitl [H0]
    · iexists _; isplitr; · ipureintro; exact harg2.read_unread _
      iexact H0
    isplitl [H1]
    · iexists _; iexact H1
    iexists _; iexact H2

theorem cover_1 (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec F S1x256x11270 .bf16) (y : S1x256x11264.Idx) :
    ∃ pc ∈ (run c i arg2 harg2 arg3 harg3 arg4 harg4 x0).1.1, y ∈ pc.1.set :=
  View.cover_of_tiledBy (run c i arg2 harg2 arg3 harg3 arg4 harg4 x0).1.1 ![1, 256, 512] (by sl_kernel_rfl) y
/-- What the run leaves in result 1's buffer. -/
def out_1 (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec F S1x256x11270 .bf16) : Vec F S1x256x11264 .bf16 :=
  VO1.read (Elt F) (VO1.writes (Elt F) VO1.junk (run c i arg2 harg2 arg3 harg3 arg4 harg4 x0).1.1)
/-- Result 1's block after point `t`. -/
def outAt1 (c : Dev nD) (t : Fin cfg0.N) : Vec F S1x256x11264 .bf16 :=
  out_1 c (grid0.coords t) (ms0 t) (hs0 t) (ms1 t) (hs1 t) (ms2 t) (hs2 t) (blk0 V c 0 t)

theorem cover_2 (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec F S1x256x11270 .bf16) (y : S1x256x128.Idx) :
    ∃ pc ∈ (run c i arg2 harg2 arg3 harg3 arg4 harg4 x0).1.2, y ∈ pc.1.set :=
  View.cover_of_tiledBy (run c i arg2 harg2 arg3 harg3 arg4 harg4 x0).1.2 ![1, 256, 128] (by sl_kernel_rfl) y
/-- What the run leaves in result 2's buffer. -/
def out_2 (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec F S1x256x11270 .bf16) : Vec F S1x256x128 .bf16 :=
  VO2.read (Elt F) (VO2.writes (Elt F) VO2.junk (run c i arg2 harg2 arg3 harg3 arg4 harg4 x0).1.2)
/-- Result 2's block after point `t`. -/
def outAt2 (c : Dev nD) (t : Fin cfg0.N) : Vec F S1x256x128 .bf16 :=
  out_2 c (grid0.coords t) (ms0 t) (hs0 t) (ms1 t) (hs1 t) (ms2 t) (hs2 t) (blk0 V c 0 t)

/-- The call's data: the arrays as entered, the input left as fetched, the results at `outAt1`, `outAt2`. -/
def dat (c : Dev nD) : Dat τ (Elt F) Unit ℕ (UR sig nD τ) ℕ cfg0 c where
  A w := V c (Pipeline.arrRef spec0 w)
  after w t := match w with
    | ⟨0, _⟩ => blk0 V c 0 t
    | ⟨1, _⟩ => outAt1 V c t
    | ⟨2, _⟩ => outAt2 V c t
  Φ _ := Pipeline.ΦA spec0 c
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = blk0 V c 0 t := by dsimp only [dat]
theorem after1 (c : Dev nD) (t : Fin cfg0.N) : (dat V c).after 1 t = outAt1 V c t := by dsimp only [dat]
theorem after2 (c : Dev nD) (t : Fin cfg0.N) : (dat V c).after 2 t = outAt2 V c t := by dsimp only [dat]
theorem before0 (c : Dev nD) (t : Fin cfg0.N) (d) : (dat V c).before 0 t d = blk0 V c 0 t :=
  before0_of V (dat V c) (A_eq V c 0) (after0 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

set_option maxHeartbeats 8000000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).owesAt () t.succ = (dat V c).owesAt () t.castSucc from rfl,
    show (dat V c).Φ t.succ = (dat V c).Φ t.castSucc from rfl, after0, after1, after2]
  unfold outAt1 outAt2 out_1 out_2
  iintro ⟨HΦ, Ho, ⟨%d0, H0⟩, ⟨%d1, H1⟩, ⟨%d2, H2⟩⟩
  iapply ((run c (grid0.coords t) _ _ _ _ _ _ (blk0 V c 0 t)).2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover_1 c _ _ _ _ _ _ _ _)
  unfold owns; iexists _; isplitr
  swap; · iexact H2
  ipureintro; exact View.read_writes_of_cover _ _ _ _ _ (cover_2 c _ _ _ _ _ _ _ _)

/-- The body table's row at point `t`'s slots is the body as `bodyAt0` spells it. -/
theorem row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dat (F := F) V c) (defs₀ (F := F)) Variants.none () Set.univ := fun t => by
  rw [bigSep_W0, bigSep_W0, row]
  exact triple_restated (sound_body V c t) rfl .rfl fun _ => .rfl

end Cert.Kernel2Ideal.Prep

end
-- ==== Proof.ProjRun.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The normalization and projection: what the call's body leaves in its results and in the rows it keeps at each grid point, from any contents of its arrays. -/

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array's contents when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or earlier. -/
theorem before0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's buffer holds its block at every point, fetched there or earlier. -/
theorem before1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's buffer holds its block at every point, fetched there or earlier. -/
theorem before2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Input window 3's buffer holds its block at every point, fetched there or earlier. -/
theorem before3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
/-- The condition of the body's one branch, from the grid coordinates: the first block of columns. -/
theorem first_iff : ∀ t : Fin cfg1.N, k1_cond1 (grid1.coords t) = 1#1 ↔ t.val % 11 = 0 :=
  (fun t => by
    have ht : t.val < 352 := Nat.lt_of_lt_of_eq t.isLt N_1
    have e1 : (grid1.coords t 1).val = t.val / 1 % 11 := Pipeline.Grid.coords_val t 1 (by decide) rfl
    unfold k1_cond1
    simp only [e1]
    word_cmp
   : ∀ t : Fin grid1.N, k1_cond1 (grid1.coords t) = 1#1 ↔ t.val % 11 = 0)

/-- One buffer of each result's window and the rows kept, through which the contents left are stated. -/
abbrev VO4 : View sig .tc .vmem S8x1024x128 .bf16 := (Memref.whole cc1_stg4_0 : Memref sig .tc .vmem S8x1024x128 .bf16).view
abbrev VO5 : View sig .tc .vmem S1024x128 .f32 := (Memref.whole cc1_stg5_0 : Memref sig .tc .vmem S1024x128 .f32).view
abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2048x128 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S8x1024x128 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x128 .f32 := win1_5.stage (cfg1.slots t 5)
abbrev hs5 (t : Fin cfg1.N) : (ms5 t).IsWhole := hstage1_5 ((cfg1.slots t 5).cast nbuf1_5)
abbrev scM : Memref sig .tc .vmem S1024x2048 .bf16 := Memref.whole cc1_scratch0
abbrev VS : View sig .tc .vmem S1024x2048 .bf16 := scM.view

/-- A buffer of the TensorCore held whole at something. -/
abbrev some' (c : Dev nD) (b : Ref sig .tc) : sProp 𝕄 := iprop(∃ f : Buf (Elt F) ((c : Thread nD τ).loc b), ((c : Thread nD τ).loc b) ↦{fullShare} f)
/-- What the call does not touch: the other call's staging buffers and the generator register. -/
def away (c : Dev nD) : sProp 𝕄 :=
  iprop((some' (F := F) c cc0_stg0_0 ∗ some' (F := F) c cc0_stg0_1 ∗ some' (F := F) c cc0_stg1_0 ∗ some' (F := F) c cc0_stg1_1 ∗ some' (F := F) c cc0_stg2_0 ∗ some' (F := F) c cc0_stg2_1) ∗ ∃ r, prngReg c r)

/-- The invariant between points: the kept rows' buffer at something, and what the call does not touch. -/
theorem PhiA_eq (c : Dev nD) :
    (Pipeline.ΦA spec1 c : sProp 𝕄)
      = iprop((∃ d, owns (c : Thread nD τ) scM fullShare d) ∗ away (F := F) c) := by
  unfold Pipeline.ΦA away; rw [scopedRest1_eq]; simp only [scM, owns_whole]
  refine Idealize.SL.BI.Entails.antisymm (show (_ : sProp 𝕄) ⊢ _ from ?_) (show (_ : sProp 𝕄) ⊢ _ from ?_)
  · iintro ⟨⟨H1, H2, H3, H4, H5, H6, HS⟩, Hp⟩
    isplitl [HS]; · iexact HS
    isplitr [Hp]
    · isplitl [H1]; · iexact H1
      isplitl [H2]; · iexact H2
      isplitl [H3]; · iexact H3
      isplitl [H4]; · iexact H4
      isplitl [H5]; · iexact H5
      iexact H6
    iexact Hp
  · iintro ⟨HS, ⟨H1, H2, H3, H4, H5, H6⟩, Hp⟩
    isplitr [Hp]
    · isplitl [H1]; · iexact H1
      isplitl [H2]; · iexact H2
      isplitl [H3]; · iexact H3
      isplitl [H4]; · iexact H4
      isplitl [H5]; · iexact H5
      isplitl [H6]; · iexact H6
      iexact HS
    iexact Hp

set_option maxHeartbeats 8000000 in
/-- The body's run at a row block's first block of columns: the pieces it stores into the two results and the kept rows. -/
noncomputable def runA (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) :
    { L : List (View.Piece (Elt F) S8x1024x128 .bf16) × List (View.Piece (Elt F) S1024x128 .f32) × List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2)) -∗ K ⟨⟩))
          ⊢ wp frame (wpE (defs₀ (F := F)) Variants.none c none) E (cc1_norm_proj i arg2 harg2 arg3 harg3 arg4 harg4 arg5 harg5 arg6 harg6 arg7 harg7 arg8 harg8) K } := by
  refine ⟨⟨?_, ?_, ?_⟩, fun E K => ?run⟩
  case run =>
    simp only [cc1_norm_proj_eq_skeleton]; unfold cc1_norm_proj_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    iexists _; iexact HS0

set_option maxHeartbeats 8000000 in
/-- The body's run at a later block of columns: the pieces it stores into the first result; the second and the kept rows stay. -/
noncomputable def runB (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : ¬k1_cond1 i = 1#1)
    (x0 : Vec F S1024x2048 .f32) (x1 : Vec F S1x1x2048 .f32) (x2 : Vec F S1x2048x1024 .bf16) (x3 : Vec F S1x2048x128 .bf16) (xf : Vec F S1024x128 .f32) (xs : Vec F S1024x2048 .bf16) :
    { L : List (View.Piece (Elt F) S8x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xf ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare xf ∗ owns (c : Thread nD τ) arg8 fullShare xs) -∗ K ⟨⟩))
          ⊢ wp frame (wpE (defs₀ (F := F)) Variants.none c none) E (cc1_norm_proj i arg2 harg2 arg3 harg3 arg4 harg4 arg5 harg5 arg6 harg6 arg7 harg7 arg8 harg8) K } := by
  refine ⟨?_, fun E K => ?run⟩
  case run =>
    simp only [cc1_norm_proj_eq_skeleton]; unfold cc1_norm_proj_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact harg7.read_unread _
      iexact H5
    iexists _; isplitr; · ipureintro; exact harg8.read_unread _
    iexact HS0

theorem coverA_4 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) (y : S8x1024x128.Idx) :
    ∃ pc ∈ (runA c i arg2 harg2 arg3 harg3 arg4 harg4 arg5 harg5 arg6 harg6 arg7 harg7 arg8 harg8 hc x0 x1 x2 x3).1.1, y ∈ pc.1.set :=
  View.cover_of_tiledL (runA c i arg2 harg2 arg3 harg3 arg4 harg4 arg5 harg5 arg6 harg6 arg7 harg7 arg8 harg8 hc x0 x1 x2 x3).1.1 S1x1024x128.size (by sl_kernel_rfl) y
def outA_4 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) : Vec F S8x1024x128 .bf16 :=
  VO4.read (Elt F) (VO4.writes (Elt F) VO4.junk (runA c i arg2 harg2 arg3 harg3 arg4 harg4 arg5 harg5 arg6 harg6 arg7 harg7 arg8 harg8 hc x0 x1 x2 x3).1.1)

theorem coverA_5 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) (y : S1024x128.Idx) :
    ∃ pc ∈ (runA c i arg2 harg2 arg3 harg3 arg4 harg4 arg5 harg5 arg6 harg6 arg7 harg7 arg8 harg8 hc x0 x1 x2 x3).1.2.1, y ∈ pc.1.set :=
  View.cover_of_tiledL (runA c i arg2 harg2 arg3 harg3 arg4 harg4 arg5 harg5 arg6 harg6 arg7 harg7 arg8 harg8 hc x0 x1 x2 x3).1.2.1 S1024x128.size (by sl_kernel_rfl) y
def outA_5 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) : Vec F S1024x128 .f32 :=
  VO5.read (Elt F) (VO5.writes (Elt F) VO5.junk (runA c i arg2 harg2 arg3 harg3 arg4 harg4 arg5 harg5 arg6 harg6 arg7 harg7 arg8 harg8 hc x0 x1 x2 x3).1.2.1)

theorem coverA_S (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) (y : S1024x2048.Idx) :
    ∃ pc ∈ (runA c i arg2 harg2 arg3 harg3 arg4 harg4 arg5 harg5 arg6 harg6 arg7 harg7 arg8 harg8 hc x0 x1 x2 x3).1.2.2, y ∈ pc.1.set :=
  View.cover_of_tiledL (runA c i arg2 harg2 arg3 harg3 arg4 harg4 arg5 harg5 arg6 harg6 arg7 harg7 arg8 harg8 hc x0 x1 x2 x3).1.2.2 S1024x2048.size (by sl_kernel_rfl) y
def outA_S (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : k1_cond1 i = 1#1)
    (x0 : Vec F S1024x2048 .f32) (x1 : Vec F S1x1x2048 .f32) (x2 : Vec F S1x2048x1024 .bf16) (x3 : Vec F S1x2048x128 .bf16) : Vec F S1024x2048 .bf16 :=
  VS.read (Elt F) (VS.writes (Elt F) VS.junk (runA c i arg2 harg2 arg3 harg3 arg4 harg4 arg5 harg5 arg6 harg6 arg7 harg7 arg8 harg8 hc x0 x1 x2 x3).1.2.2)

theorem coverB_4 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : ¬k1_cond1 i = 1#1)
    (x0 : Vec F S1024x2048 .f32) (x1 : Vec F S1x1x2048 .f32) (x2 : Vec F S1x2048x1024 .bf16) (x3 : Vec F S1x2048x128 .bf16) (xf : Vec F S1024x128 .f32) (xs : Vec F S1024x2048 .bf16) (y : S8x1024x128.Idx) :
    ∃ pc ∈ (runB c i arg2 harg2 arg3 harg3 arg4 harg4 arg5 harg5 arg6 harg6 arg7 harg7 arg8 harg8 hc x0 x1 x2 x3 xf xs).1, y ∈ pc.1.set :=
  View.cover_of_tiledL (runB c i arg2 harg2 arg3 harg3 arg4 harg4 arg5 harg5 arg6 harg6 arg7 harg7 arg8 harg8 hc x0 x1 x2 x3 xf xs).1 S1x1024x128.size (by sl_kernel_rfl) y
def outB_4 (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole) (hc : ¬k1_cond1 i = 1#1)
    (x0 : Vec F S1024x2048 .f32) (x1 : Vec F S1x1x2048 .f32) (x2 : Vec F S1x2048x1024 .bf16) (x3 : Vec F S1x2048x128 .bf16) (xf : Vec F S1024x128 .f32) (xs : Vec F S1024x2048 .bf16) : Vec F S8x1024x128 .bf16 :=
  VO4.read (Elt F) (VO4.writes (Elt F) VO4.junk (runB c i arg2 harg2 arg3 harg3 arg4 harg4 arg5 harg5 arg6 harg6 arg7 harg7 arg8 harg8 hc x0 x1 x2 x3 xf xs).1)

/-- The kept rows after the body at point `t`, a first block of columns, -/
def rowsA (c : Dev nD) (t : Fin cfg1.N) (h0 : t.val % 11 = 0) : Vec F S1024x2048 .bf16 :=
  outA_S c (grid1.coords t) (ms0 t) (hs0 t) (ms1 t) (hs1 t) (ms2 t) (hs2 t) (ms3 t) (hs3 t) (ms4 t) (hs4 t) (ms5 t) (hs5 t) scM (Memref.isWhole_whole _) ((first_iff t).mpr h0) (blk1 V c 0 t) (blk1 V c 1 t) (blk1 V c 2 t) (blk1 V c 3 t)
/-- and after the body at position `n`: unchanged since the row block's first block of columns. -/
def rowsAt (c : Dev nD) : (n : ℕ) → n < cfg1.N → Vec F S1024x2048 .bf16
  | 0, hn => rowsA V c ⟨0, hn⟩ (Nat.zero_mod _)
  | n + 1, hn =>
    if h0 : (n + 1) % 11 = 0 then rowsA V c ⟨n + 1, hn⟩ h0
    else rowsAt c n (Nat.lt_of_succ_lt hn)

theorem rowsAt_A (c : Dev nD) (t : Fin cfg1.N) (h0 : t.val % 11 = 0) : rowsAt V c t.val t.isLt = rowsA V c t h0 := by
  obtain ⟨n, hn⟩ := t
  cases n with
  | zero => exact rfl
  | succ n => exact (dif_pos h0).trans rfl
theorem rowsAt_B (c : Dev nD) (t : Fin cfg1.N) (h0 : ¬t.val % 11 = 0) :
    rowsAt V c t.val t.isLt = rowsAt V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans rfl

/-- The second result's block after the body at point `t`, a first block of columns, -/
def logitA (c : Dev nD) (t : Fin cfg1.N) (h0 : t.val % 11 = 0) : Vec F S1024x128 .f32 :=
  outA_5 c (grid1.coords t) (ms0 t) (hs0 t) (ms1 t) (hs1 t) (ms2 t) (hs2 t) (ms3 t) (hs3 t) (ms4 t) (hs4 t) (ms5 t) (hs5 t) scM (Memref.isWhole_whole _) ((first_iff t).mpr h0) (blk1 V c 0 t) (blk1 V c 1 t) (blk1 V c 2 t) (blk1 V c 3 t)
/-- and after the body at position `n`: unchanged since the row block's first block of columns. -/
def logitAt (c : Dev nD) : (n : ℕ) → n < cfg1.N → Vec F S1024x128 .f32
  | 0, hn => logitA V c ⟨0, hn⟩ (Nat.zero_mod _)
  | n + 1, hn =>
    if h0 : (n + 1) % 11 = 0 then logitA V c ⟨n + 1, hn⟩ h0
    else logitAt c n (Nat.lt_of_succ_lt hn)

theorem logitAt_A (c : Dev nD) (t : Fin cfg1.N) (h0 : t.val % 11 = 0) : logitAt V c t.val t.isLt = logitA V c t h0 := by
  obtain ⟨n, hn⟩ := t
  cases n with
  | zero => exact rfl
  | succ n => exact (dif_pos h0).trans rfl
theorem logitAt_B (c : Dev nD) (t : Fin cfg1.N) (h0 : ¬t.val % 11 = 0) :
    logitAt V c t.val t.isLt = logitAt V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans rfl

/-- The first result's block after point `t`. -/
def outAt4 (c : Dev nD) (t : Fin cfg1.N) : Vec F S8x1024x128 .bf16 :=
  if h0 : t.val % 11 = 0 then outA_4 c (grid1.coords t) (ms0 t) (hs0 t) (ms1 t) (hs1 t) (ms2 t) (hs2 t) (ms3 t) (hs3 t) (ms4 t) (hs4 t) (ms5 t) (hs5 t) scM (Memref.isWhole_whole _) ((first_iff t).mpr h0) (blk1 V c 0 t) (blk1 V c 1 t) (blk1 V c 2 t) (blk1 V c 3 t)
  else outB_4 c (grid1.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) (blk1 V c 0 t) (blk1 V c 1 t) (blk1 V c 2 t) (blk1 V c 3 t) (logitAt V c (t.val - 1) (Nat.lt_of_le_of_lt (Nat.sub_le _ _) t.isLt)) (rowsAt V c (t.val - 1) (Nat.lt_of_le_of_lt (Nat.sub_le _ _) t.isLt))

/-- The invariant before position `n`: the kept rows at what the point before left. -/
def PhiS (c : Dev nD) : (n : ℕ) → n ≤ cfg1.N → sProp 𝕄
  | 0, _ => Pipeline.ΦA spec1 c
  | n + 1, hn => iprop(owns (c : Thread nD τ) scM fullShare (rowsAt V c n hn) ∗ away (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare (rowsAt V c n hn) ∗ away (F := F) c) := rfl
theorem PhiS_pos (c : Dev nD) (n : ℕ) (h : n ≤ cfg1.N) (hz : n ≠ 0) :
    PhiS V c n h = iprop(owns (c : Thread nD τ) scM fullShare (rowsAt V c (n - 1) (by omega)) ∗ away (F := F) c) := by
  cases n with
  | zero => exact absurd rfl hz
  | succ n => rfl

/-- The call's data: the arrays as entered, the inputs left as fetched, the results at `outAt4`, `logitAt`. -/
def dat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outAt4 V c t
    | ⟨5, _⟩ => logitAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; exact Pipeline.Dat.Φ_castSucc (PhiS V c) t
theorem after0 (c : Dev nD) (t : Fin cfg1.N) : (dat V c).after 0 t = blk1 V c 0 t := by dsimp only [dat]
theorem after1 (c : Dev nD) (t : Fin cfg1.N) : (dat V c).after 1 t = blk1 V c 1 t := by dsimp only [dat]
theorem after2 (c : Dev nD) (t : Fin cfg1.N) : (dat V c).after 2 t = blk1 V c 2 t := by dsimp only [dat]
theorem after3 (c : Dev nD) (t : Fin cfg1.N) : (dat V c).after 3 t = blk1 V c 3 t := by dsimp only [dat]
theorem after4 (c : Dev nD) (t : Fin cfg1.N) : (dat V c).after 4 t = outAt4 V c t := by dsimp only [dat]
theorem after5 (c : Dev nD) (t : Fin cfg1.N) : (dat V c).after 5 t = logitAt V c t.val t.isLt := by dsimp only [dat]
theorem before0 (c : Dev nD) (t : Fin cfg1.N) (d) : (dat V c).before 0 t d = blk1 V c 0 t :=
  before0_of V (dat V c) (A_eq V c 0) (after0 V c) t d
theorem before1 (c : Dev nD) (t : Fin cfg1.N) (d) : (dat V c).before 1 t d = blk1 V c 1 t :=
  before1_of V (dat V c) (A_eq V c 1) (after1 V c) t d
theorem before2 (c : Dev nD) (t : Fin cfg1.N) (d) : (dat V c).before 2 t d = blk1 V c 2 t :=
  before2_of V (dat V c) (A_eq V c 2) (after2 V c) t d
theorem before3 (c : Dev nD) (t : Fin cfg1.N) (d) : (dat V c).before 3 t d = blk1 V c 3 t :=
  before3_of V (dat V c) (A_eq V c 3) (after3 V c) t d
/-- The second result's window is left alone past the first block of columns. -/
theorem idle5 (t : Fin cfg1.N) : cfg1.idle 5 (cfg1.grid.coords t) = true ↔ ¬t.val % 11 = 0 := by
  rw [← first_iff t]
  show (!(k1_cond1 (grid1.coords t) == 1#1)) = true ↔ _
  rw [Bool.not_eq_true', beq_eq_false_iff_ne]
/-- Its buffer is written back only after a row block's last block of columns. -/
theorem fresh5 : ∀ (n : ℕ) (hn : n < cfg1.N), ¬n % 11 = 0 → cfg1.fresh 5 n = false := fun n => by
  induction n with
  | zero => exact fun _ h0 => absurd (Nat.zero_mod _) h0
  | succ n ih =>
    intro hn h0
    have hN : n < cfg1.N := Nat.lt_of_succ_lt hn
    rw [Pipeline.Cfg.fresh_succ cfg1 5 n hN]
    have hf : (cfg1.win 5).flush ⟨n, hN⟩ = false := by
      rw [Bool.eq_false_iff]; intro h
      have := (flush1_5 ⟨n, hN⟩).mp h
      simp only at this; omega
    rw [hf, Bool.false_or]
    by_cases h : n % 11 = 0
    · rw [Bool.eq_false_iff.mpr fun hi => (idle5 ⟨n, hN⟩).mp hi h, Bool.false_and]
    · rw [ih hN h, Bool.and_false]
/-- Past the first block of columns the body finds there what the point before left. -/
theorem before5 (c : Dev nD) (t : Fin cfg1.N) (h0 : ¬t.val % 11 = 0) (d) :
    (dat V c).before 5 t d = logitAt V c (t.val - 1) (Nat.lt_of_le_of_lt (Nat.sub_le _ _) t.isLt) := by
  rw [(dat V c).before_out_traj 5 rfl (fun _ _ => rfl) (fun t _ h _ => by
      rw [after5, after5]; exact logitAt_B V c t ((idle5 t).mp h)) t.val t rfl d, fresh5 t.val t.isLt h0, if_neg Bool.false_ne_true]
  exact after5 V c _
/-- What the pipeline asks of that buffer after the body at point `t`. -/
def post5 (c : Dev nD) (t : Fin cfg1.N) : sProp 𝕄 :=
  match cfg1.idle 5 (cfg1.grid.coords t) with
  | true =>
    match (cfg1.win 5).flush t with
    | false => iprop(∃ d, owns (c : Thread nD τ) (ms5 t) fullShare ((dat V c).before 5 t d))
    | true => owns (c : Thread nD τ) (ms5 t) fullShare ((dat V c).after 5 t)
  | false => owns (c : Thread nD τ) (ms5 t) fullShare ((dat V c).after 5 t)
theorem post5_of (c : Dev nD) (t : Fin cfg1.N) : (owns (c : Thread nD τ) (ms5 t) fullShare ((dat V c).after 5 t) : sProp 𝕄) ⊢ post5 V c t := by
  unfold post5
  by_cases h0 : t.val % 11 = 0
  · rw [Bool.eq_false_iff.mpr fun hi => (idle5 t).mp hi h0]
  · rw [(idle5 t).mpr h0]
    cases (cfg1.win 5).flush t with
    | true => exact .rfl
    | false =>
      simp only [before5 V c t h0]
      rw [after5, logitAt_B V c t h0]
      iintro H
      iexists (fun _ => Classical.choice inferInstance); iexact H

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 8000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl,
    after0, after1, after2, after3, after4, after5]
  rw [show (dat V c).Φ t.succ = PhiS V c (t.val + 1) t.isLt from rfl, PhiS_succ]
  have hN : t.val < 352 := lt_of_lt_of_eq t.isLt (show cfg1.N = 352 from N_1)
  by_cases h0 : t.val % 11 = 0
  · have hΦ : (dat V c).Φ t.castSucc ⊢ iprop((∃ d, owns (c : Thread nD τ) scM fullShare d) ∗ away (F := F) c) := by
      by_cases hz : t.val = 0
      · rw [PhiS_castSucc V c t, PhiS_zero V c _ _ hz, PhiA_eq]
      · rw [PhiS_castSucc V c t, PhiS_pos V c _ _ hz]
        iintro ⟨HS0, Hg⟩
        isplitl [HS0]; · iexists _; iexact HS0
        iexact Hg
    rw [rowsAt_A V c t h0, logitAt_A V c t h0]
    unfold outAt4 rowsA logitA
    rw [dif_pos h0]
    unfold outA_S outA_4 outA_5
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HS0, Hg⟩
    iapply ((runA c (grid1.coords t) _ _ _ _ _ _ _ _ _ _ _ _ _ _ ((first_iff t).mpr h0) (blk1 V c 0 t) (blk1 V c 1 t) (blk1 V c 2 t) (blk1 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hg]
    · isplitl [HS0]
      · unfold owns; iexists _; isplitr
        swap; · iexact HS0
        ipureintro; exact View.read_writes_of_cover _ _ _ _ _ (coverA_S c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 c _ _ _ _ _ _ _ _ _ _ _ _ _ _ _ _ _ _ _ _)
    unfold owns; iexists _; isplitr
    swap; · iexact H5
    ipureintro; exact View.read_writes_of_cover _ _ _ _ _ (coverA_5 c _ _ _ _ _ _ _ _ _ _ _ _ _ _ _ _ _ _ _ _)
  · have hz : t.val ≠ 0 := fun h => h0 (by rw [h])
    simp only [before5 V c t h0]
    rw [PhiS_castSucc V c t, PhiS_pos V c _ _ hz]
    rw [rowsAt_B V c t h0, logitAt_B V c t h0]
    unfold outAt4
    rw [dif_neg h0]
    unfold outB_4
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid1.coords t) _ _ _ _ _ _ _ _ _ _ _ _ _ _ (fun h => h0 ((first_iff t).mp h)) (blk1 V c 0 t) (blk1 V c 1 t) (blk1 V c 2 t) (blk1 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB_4 c _ _ _ _ _ _ _ _ _ _ _ _ _ _ _ _ _ _ _ _ _ _)
    iexact H5

/-- The body table's row at point `t`'s slots is the body as `bodyAt1` spells it. -/
theorem row (t : Fin cfg1.N) :
    defs₀ (F := F) .tc cfg1.body (cfg1.bodyArgs t (cfg1.slots t)) = bodyAt1 t := by
  unfold defs₀; rw [Defs.onTc_tc]

/-- The body's obligation at every point. -/
theorem body_obligation (c : Dev nD) : BodyObligation (dat (F := F) V c) (defs₀ (F := F)) Variants.none () Set.univ := fun t => by
  rw [bigSep_W1, bigSep_W1, row]
  exact triple_restated (sound_body V c t) rfl .rfl fun _ => sep_mono .rfl (sep_mono .rfl (sep_mono .rfl (sep_mono .rfl (sep_mono .rfl (sep_mono .rfl (sep_mono .rfl (post5_of V c t)))))))

/-- What the launch hands the call is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the kept rows' contents are forgotten. -/
theorem hout (c : Dev nD) : (dat V c).Φ (Fin.last cfg1.N) ⊢ Pipeline.ΦA spec1 c := by
  have ht : (Fin.last cfg1.N).val ≠ 0 := by rw [Fin.val_last]; have : cfg1.N = 352 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨HS0, Hg⟩
  isplitl [HS0]
  · iexists _; iexact HS0
  iexact Hg

end Cert.Kernel2Ideal.Proj

end
-- ==== Proof.PairRun.lean ====
module

public import proofs.«01_k».proof.Proof.PrepRun
public import proofs.«01_k».proof.Proof.ProjRun
public import proofs.«01_k».proof.Proof.Gen.Kernel2Ideal.Regions
public import Idealize.ShloMosaic.Lib.Pipeline.RegionArrays

/-! The input projection's program: the weights' rearrangement, then the normalization and projection reading what it left. -/

@[expose] public section

set_option maxRecDepth 16384

noncomputable section

namespace Cert.Kernel2Ideal.Pair

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the first call is entered, -/
abbrev VP (c : Dev nD) (b : Ref sig .tc) : Buf (Elt F) ((c : Thread nD τ).loc b) := V1 m c b
/-- what it leaves in its two results, -/
def resW (c : Dev nD) : Buf (Elt F) ((c : Thread nD τ).loc main_v1_0) := (Prep.dat (VP m) c).arrAt 1 cfg0.N
def resL (c : Dev nD) : Buf (Elt F) ((c : Thread nD τ).loc main_v1_1) := (Prep.dat (VP m) c).arrAt 2 cfg0.N
def W2 (c : Dev nD) : Valuation τ sig (Elt F) := Function.update (Function.update (V1 m c) main_v1_0 (resW m c)) main_v1_1 (resL m c)
def outs : Outs (F := F) := fun _ r c => W2 m c r
/-- the contents when the second is entered, -/
abbrev VA (c : Dev nD) (b : Ref sig .tc) : Buf (Elt F) ((c : Thread nD τ).loc b) := V3 m (outs m) c b
/-- and what that leaves in its results. -/
def resO (c : Dev nD) : Buf (Elt F) ((c : Thread nD τ).loc main_v4_0) := (Proj.dat (VA m) c).arrAt 4 cfg1.N
def resG (c : Dev nD) : Buf (Elt F) ((c : Thread nD τ).loc main_v4_1) := (Proj.dat (VA m) c).arrAt 5 cfg1.N
def W4 (c : Dev nD) : Valuation τ sig (Elt F) := Function.update (Function.update (V3 m (outs m) c) main_v4_0 (resO m c)) main_v4_1 (resG m c)

theorem W2_w (c : Dev nD) : W2 m c main_v1_0 = resW m c := by
  unfold W2
  rw [Function.update_of_ne (StableHlo.devRef_ne_of_ne (by decide : main_v1_0 ≠ main_v1_1) : (Proc.devRef .tc main_v1_0 : DevRef τ sig) ≠ Proc.devRef .tc main_v1_1)]
  exact Function.update_self ..
theorem W2_l (c : Dev nD) : W2 m c main_v1_1 = resL m c := Function.update_self ..
theorem V2_eq (c : Dev nD) : V2 m (outs m) c = W2 m c := by
  show Function.update (Function.update (V1 m c) (Proc.devRef .tc main_v1_0) (W2 m c main_v1_0)) (Proc.devRef .tc main_v1_1) (W2 m c main_v1_1) = _
  rw [W2_w, W2_l]; rfl
theorem W2_of (c : Dev nD) (r : Ref sig .tc) (h : r ∉ ([main_v1_0, main_v1_1] : List (Ref sig .tc))) : W2 m c r = V1 m c r := by
  rw [← V2_eq]; exact V2_of m (outs m) c r h
theorem W4_of (c : Dev nD) (r : Ref sig .tc) (h : r ∉ ([main_v4_0, main_v4_1] : List (Ref sig .tc))) : W4 m c r = V3 m (outs m) c r := by
  unfold W4
  rw [Function.update_of_ne (StableHlo.devRef_ne_of_ne (List.ne_of_not_mem_cons (List.not_mem_of_not_mem_cons h)) : (Proc.devRef .tc r : DevRef τ sig) ≠ Proc.devRef .tc main_v4_1),
    Function.update_of_ne (StableHlo.devRef_ne_of_ne (List.ne_of_not_mem_cons h) : (Proc.devRef .tc r : DevRef τ sig) ≠ Proc.devRef .tc main_v4_0)]
theorem W4_o (c : Dev nD) : W4 m c main_v4_0 = resO m c := by
  unfold W4
  rw [Function.update_of_ne (StableHlo.devRef_ne_of_ne (by decide : main_v4_0 ≠ main_v4_1) : (Proc.devRef .tc main_v4_0 : DevRef τ sig) ≠ Proc.devRef .tc main_v4_1)]
  exact Function.update_self ..
theorem W4_g (c : Dev nD) : W4 m c main_v4_1 = resG m c := Function.update_self ..

/-- A device buffer that is no given reference's is untouched by an update there. -/
theorem W2_off (c : Dev nD) (b : DevRef τ sig) (h0 : b ≠ Proc.devRef .tc main_v1_0) (h1 : b ≠ Proc.devRef .tc main_v1_1) : W2 m c b = V1 m c b := by
  unfold W2; rw [Function.update_of_ne h1, Function.update_of_ne h0]
theorem W4_off (c : Dev nD) (b : DevRef τ sig) (h0 : b ≠ Proc.devRef .tc main_v4_0) (h1 : b ≠ Proc.devRef .tc main_v4_1) : W4 m c b = V3 m (outs m) c b := by
  unfold W4; rw [Function.update_of_ne h1, Function.update_of_ne h0]

/-- No host operation and no call writes an argument. -/
theorem W4_arg (c : Dev nD) (r : Ref sig .tc) (h : r ∉ ([main_v0, main_v1_0, main_v1_1, main_v2, main_v3, main_v4_0, main_v4_1] : List (Ref sig .tc))) :
    W4 m c r = m ((c : Thread nD τ).loc r) := by
  simp only [List.mem_cons, List.not_mem_nil, or_false, not_or] at h
  obtain ⟨h1, h2, h3, h4, h5, h6, h7⟩ := h
  exact (W4_of m c r (by simp [h6, h7])).trans <| (V3_of m (outs m) c r (by simp [h4, h5])).trans <| (V2_of m (outs m) c r (by simp [h2, h3])).trans <| (V1_of m c r (by simp [h1])).trans rfl

/-! ## The two calls over the buffers held -/

/-- The buffers held at a valuation are a call's arrays, shared among its inputs, and the others. -/
theorem held_split {cfg : Cfg sig Λ₀} {c : Dev nD} (dat : Dat τ (Elt F) Unit ℕ (UR sig nD τ) ℕ cfg c) (hsh : Pipeline.SharedIn cfg.spec)
    (harr : ∀ w, (cfg.spec w).arr.IsWhole) (hq : ∀ w, (cfg.spec w).isOut = false → dat.q w = Pipeline.shareOf cfg.spec w)
    (hun : ∀ w, (Pipeline.arrRef cfg.spec w).isScoped = false) (W : Valuation τ sig (Elt F))
    (G : (w : Fin cfg.W) → Buf (Elt F) ((cfg.spec w).arr.view.loc (c.tc : Thread nD τ))) (hG : ∀ w, G w = W (Proc.devRef .tc (Pipeline.arrRef cfg.spec w))) :
    (StableHlo.held (c : Thread nD τ) (Pipeline.ucRefs τ sig) W : sProp 𝕄)
      = iprop(dat.arrays G ∗ StableHlo.held (c : Thread nD τ) (Pipeline.ucRefs τ sig \ Pipeline.arrRefs cfg.spec) W) := by
  rw [StableHlo.held_sub_split (c.tc : Thread nD τ) (Pipeline.arrRefs_sub_ucRefs cfg.spec hun) W,
    ← dat.arrBufs_eq_arrays hsh harr hq (fun b => W b) G hG]
  congr 1
  unfold Pipeline.arrBufs StableHlo.held Pipeline.arrRefs
  rw [bigSep_map]
  rfl

/-- The two calls' data. -/
def pdats : (p : Fin 2) → (c : Dev nD) → Dat τ (Elt F) Unit ℕ (UR sig nD τ) ℕ (cfgs p) c
  | ⟨0, _⟩ => fun c => Prep.dat (VP m) c
  | ⟨1, _⟩ => fun c => Proj.dat (VA m) c

abbrev L : GSem nD τ sig → Finset Unit := fun _ => ∅
abbrev lv : GSem nD τ sig → Unit → ℕ := fun _ _ => 0
/-- What rides beside the buffers: the core owing nothing, and the generator register. -/
abbrev E (c : Dev nD) : sProp 𝕄 := iprop((∃ W, owes (c : Thread nD τ) (0 : CellTallies nD τ sig Unit) W) ∗ ∃ r, prngReg c r)

theorem notArr0 (b : DevRef τ sig) (hb : b ∈ Pipeline.ucRefs τ sig \ Pipeline.arrRefs spec0) (w : Fin 3) : b ≠ Proc.devRef .tc (Pipeline.arrRef spec0 w) := by
  rintro rfl
  exact (Finset.mem_sdiff.mp hb).2 (Finset.mem_map.mpr ⟨_, Finset.mem_image.mpr ⟨w, Finset.mem_univ _, rfl⟩, rfl⟩)
theorem un0 : ∀ w : Fin 3, (Pipeline.arrRef spec0 w).isScoped = false := by decide
theorem notArr1 (b : DevRef τ sig) (hb : b ∈ Pipeline.ucRefs τ sig \ Pipeline.arrRefs spec1) (w : Fin 6) : b ≠ Proc.devRef .tc (Pipeline.arrRef spec1 w) := by
  rintro rfl
  exact (Finset.mem_sdiff.mp hb).2 (Finset.mem_map.mpr ⟨_, Finset.mem_image.mpr ⟨w, Finset.mem_univ _, rfl⟩, rfl⟩)
theorem un1 : ∀ w : Fin 6, (Pipeline.arrRef spec1 w).isScoped = false := by decide

theorem prep_enter (c : Dev nD) : (StableHlo.held (c : Thread nD τ) (Pipeline.ucRefs τ sig) (V1 m c) : sProp 𝕄)
    = iprop((Prep.dat (VP m) c).arrays ((Prep.dat (VP m) c).arrAt · 0) ∗ StableHlo.held (c : Thread nD τ) (Pipeline.ucRefs τ sig \ Pipeline.arrRefs spec0) (V1 m c)) :=
  held_split (cfg := cfg0) (Prep.dat (VP m) c) launch0.to₀.sharedIn launch0.arr_whole
    (fun w hw => (Prep.dat (VP m) c).q_eq_shareOf_of_share_full launch0.win.arr_inj ((Prep.dat (VP m) c).share_full fun _ => rfl) w hw)
    un0 (V1 m c) _ (fun w => Prep.A_eq (VP m) c w)

theorem prep_leave (c : Dev nD) : (StableHlo.held (c : Thread nD τ) (Pipeline.ucRefs τ sig) (W2 m c) : sProp 𝕄)
    = iprop((Prep.dat (VP m) c).arrays ((Prep.dat (VP m) c).arrAt · cfg0.N) ∗ StableHlo.held (c : Thread nD τ) (Pipeline.ucRefs τ sig \ Pipeline.arrRefs spec0) (V1 m c)) := by
  rw [held_split (cfg := cfg0) (Prep.dat (VP m) c) launch0.to₀.sharedIn launch0.arr_whole
    (fun w hw => (Prep.dat (VP m) c).q_eq_shareOf_of_share_full launch0.win.arr_inj ((Prep.dat (VP m) c).share_full fun _ => rfl) w hw)
    un0 (W2 m c) ((Prep.dat (VP m) c).arrAt · cfg0.N) (fun w => by
      fin_cases w
      · exact ((Prep.dat (VP m) c).arrAt_in 0 rfl _).trans ((Prep.A_eq (VP m) c 0).trans (W2_of m c main_v0 (by decide)).symm)
      · exact (W2_w m c).symm
      · exact (W2_l m c).symm)]
  rw [StableHlo.held_congr (c.tc : Thread nD τ) (S := Pipeline.ucRefs τ sig \ Pipeline.arrRefs cfg0.spec) (V := W2 m c) (V' := V1 m c)
    (fun b hb => W2_off m c b (notArr0 b hb 1) (notArr0 b hb 2))]

theorem proj_enter (c : Dev nD) : (StableHlo.held (c : Thread nD τ) (Pipeline.ucRefs τ sig) (V3 m (outs m) c) : sProp 𝕄)
    = iprop((Proj.dat (VA m) c).arrays ((Proj.dat (VA m) c).arrAt · 0) ∗ StableHlo.held (c : Thread nD τ) (Pipeline.ucRefs τ sig \ Pipeline.arrRefs spec1) (V3 m (outs m) c)) :=
  held_split (cfg := cfg1) (Proj.dat (VA m) c) launch1.to₀.sharedIn launch1.arr_whole
    (fun w hw => (Proj.dat (VA m) c).q_eq_shareOf_of_share_full launch1.win.arr_inj ((Proj.dat (VA m) c).share_full fun _ => rfl) w hw)
    un1 (V3 m (outs m) c) _ (fun w => Proj.A_eq (VA m) c w)

theorem proj_leave (c : Dev nD) : (StableHlo.held (c : Thread nD τ) (Pipeline.ucRefs τ sig) (W4 m c) : sProp 𝕄)
    = iprop((Proj.dat (VA m) c).arrays ((Proj.dat (VA m) c).arrAt · cfg1.N) ∗ StableHlo.held (c : Thread nD τ) (Pipeline.ucRefs τ sig \ Pipeline.arrRefs spec1) (V3 m (outs m) c)) := by
  rw [held_split (cfg := cfg1) (Proj.dat (VA m) c) launch1.to₀.sharedIn launch1.arr_whole
    (fun w hw => (Proj.dat (VA m) c).q_eq_shareOf_of_share_full launch1.win.arr_inj ((Proj.dat (VA m) c).share_full fun _ => rfl) w hw)
    un1 (W4 m c) ((Proj.dat (VA m) c).arrAt · cfg1.N) (fun w => by
      fin_cases w
      · exact ((Proj.dat (VA m) c).arrAt_in 0 rfl _).trans ((Proj.A_eq (VA m) c 0).trans (W4_of m c main_v3 (by decide)).symm)
      · exact ((Proj.dat (VA m) c).arrAt_in 1 rfl _).trans ((Proj.A_eq (VA m) c 1).trans (W4_of m c main_v2 (by decide)).symm)
      · exact ((Proj.dat (VA m) c).arrAt_in 2 rfl _).trans ((Proj.A_eq (VA m) c 2).trans (W4_of m c main_v1_0 (by decide)).symm)
      · exact ((Proj.dat (VA m) c).arrAt_in 3 rfl _).trans ((Proj.A_eq (VA m) c 3).trans (W4_of m c main_v1_1 (by decide)).symm)
      · exact (W4_o m c).symm
      · exact (W4_g m c).symm)]
  rw [StableHlo.held_congr (c.tc : Thread nD τ) (S := Pipeline.ucRefs τ sig \ Pipeline.arrRefs cfg1.spec) (V := W4 m c) (V' := V3 m (outs m) c)
    (fun b hb => W4_off m c b (notArr1 b hb 4) (notArr1 b hb 5))]

set_option backward.isDefEq.respectTransparency.types false in
/-- The first call as a step of the program. -/
def regP : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Prep.body_obligation (VP m) c).loose
  hwaits := Pipeline.hwaits_of_owed_zero _ _ _ _ L lv 0 fun _ _ => rfl
  pre c := iprop(StableHlo.held (c : Thread nD τ) (Pipeline.ucRefs τ sig) (V1 m c) ∗ E (F := F) c)
  post c := iprop(StableHlo.held (c : Thread nD τ) (Pipeline.ucRefs τ sig) (V2 m (outs m) c) ∗ E (F := F) c)
  X c := iprop(∃ r, prngReg c r)
  Y c := iprop(∃ r, prngReg c r)
  Z c := StableHlo.held (c : Thread nD τ) (Pipeline.ucRefs τ sig \ Pipeline.arrRefs spec0) (V1 m c)
  hentry c := by
    rw [Pipeline.ownSems0_none, prep_enter]
    iintro ⟨⟨⟨Ha, Hr⟩, HO, Hp⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec0 c by
    unfold Pipeline.ΦA
    iintro ⟨Hp, -, Hr⟩
    isplitl [Hr]; · iexact Hr
    iexact Hp)
  hout c := (show Pipeline.ΦA spec0 c ⊢ _ by
    rw [Pipeline.ownSems0_none]; unfold Pipeline.ΦA
    iintro ⟨Hr, Hp⟩
    isplitl [Hp]; · iexact Hp
    isplitr; · iempintro
    iexact Hr)
  hexit c := by
    rw [V2_eq, prep_leave]
    iintro ⟨Ha, HO, HY, HZ⟩
    imodintro
    isplitl [Ha HZ]
    · isplitl [Ha]; · iexact Ha
      iexact HZ
    isplitl [HO]
    · unfold Pipeline.Dat.owesAt Pipeline.owesWithin
      icases HO with ⟨%W, -, HO⟩; iexists W; iexact HO
    iexact HY

set_option backward.isDefEq.respectTransparency.types false in
/-- The second call as a step of the program. -/
def regJ : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Proj.body_obligation (VA m) c).loose
  hwaits := Pipeline.hwaits_of_owed_zero _ _ _ _ L lv 1 fun _ _ => rfl
  pre c := iprop(StableHlo.held (c : Thread nD τ) (Pipeline.ucRefs τ sig) (V3 m (outs m) c) ∗ E (F := F) c)
  post c := iprop(StableHlo.held (c : Thread nD τ) (Pipeline.ucRefs τ sig) (W4 m c) ∗ E (F := F) c)
  X c := iprop(∃ r, prngReg c r)
  Y c := iprop(∃ r, prngReg c r)
  Z c := StableHlo.held (c : Thread nD τ) (Pipeline.ucRefs τ sig \ Pipeline.arrRefs spec1) (V3 m (outs m) c)
  hentry c := by
    rw [Pipeline.ownSems0_none, proj_enter]
    iintro ⟨⟨⟨Ha, Hr⟩, HO, Hp⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec1 c by
    unfold Pipeline.ΦA
    iintro ⟨Hp, -, Hr⟩
    isplitl [Hr]; · iexact Hr
    iexact Hp).trans (Proj.hin (VA m) c)
  hout c := (Proj.hout (VA m) c).trans (by
    rw [Pipeline.ownSems0_none]; unfold Pipeline.ΦA
    iintro ⟨Hr, Hp⟩
    isplitl [Hp]; · iexact Hp
    isplitr; · iempintro
    iexact Hr)
  hexit c := by
    rw [proj_leave]
    iintro ⟨Ha, HO, HY, HZ⟩
    imodintro
    isplitl [Ha HZ]
    · isplitl [Ha]; · iexact Ha
      iexact HZ
    isplitl [HO]
    · unfold Pipeline.Dat.owesAt Pipeline.owesWithin
      icases HO with ⟨%W, -, HO⟩; iexists W; iexact HO
    iexact HY

/-! ## The run -/

set_option backward.isDefEq.respectTransparency.types false in
/-- The program runs to its end with the results at what the second call leaves, the arguments as launched and every
    counter at zero. -/
theorem run : θ_run defs (onTc (τ := τ) (main (F := F))) ⟨m, fun _ => 0, ρ⟩ (fun r => (∀ c : Dev nD,
      r.2.mem ((c.tc : Thread nD τ).loc main_v4_0) = resO m c
      ∧ r.2.mem ((c.tc : Thread nD τ).loc main_v4_1) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => E (F := F)) () (pdats m) (regP m) (regJ m))
    (fun c Q => by
      rewrite [main_chain c, Seg.run_eq_chain,
        show (segs m (outs m) Variants.none L lv (fun _ => E (F := F)) () (pdats m) (regP m) (regJ m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) c))
    (Tₙ := fun c => StableHlo.held (c : Thread nD τ) (Pipeline.ucRefs τ sig) (W4 m c))
    (hch := fun c => ⟨.rfl, .rfl, .rfl, .rfl, sep_mono .rfl (by iintro ⟨HO, -⟩; iexact HO)⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v4_0) = resO m c ∧ s.mem ((c.tc : Thread nD τ).loc main_v4_1) = resG m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W4 m c) s') $$ [Hh HSI]
  · isplitl [Hh] <;> iassumption
  icases Hr with ⟨%h, HSI⟩
  imodintro
  isplitr
  · ipureintro
    exact ⟨(h (Proc.devRef .tc main_v4_0) (Finset.mem_filter.mpr ⟨StableHlo.devRef_mem_tcRefs main_v4_0, by decide⟩)).trans (W4_o m c),
      (h (Proc.devRef .tc main_v4_1) (Finset.mem_filter.mpr ⟨StableHlo.devRef_mem_tcRefs main_v4_1, by decide⟩)).trans (W4_g m c),
      (h (Proc.devRef .tc main_arg0) (Finset.mem_filter.mpr ⟨StableHlo.devRef_mem_tcRefs main_arg0, by decide⟩)).trans (W4_arg m c main_arg0 (by decide)),
      (h (Proc.devRef .tc main_arg1) (Finset.mem_filter.mpr ⟨StableHlo.devRef_mem_tcRefs main_arg1, by decide⟩)).trans (W4_arg m c main_arg1 (by decide)),
      (h (Proc.devRef .tc main_arg2) (Finset.mem_filter.mpr ⟨StableHlo.devRef_mem_tcRefs main_arg2, by decide⟩)).trans (W4_arg m c main_arg2 (by decide))⟩
  · iexact HSI

/-- The program leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Cert.Kernel2Ideal.Pair

end
-- ==== Proof.PrepVal.lean ====
module

public import proofs.«01_k».proof.Proof.PrepRun
public import Idealize.ShloMosaic.Lib.Pipeline.ValueKit
public import Idealize.ShloMosaic.Lib.WholeRead
public import Idealize.ShloMosaic.Lib.Pointwise
public import Idealize.ShloMosaic.Lib.VecWindow

/-! What the weights' rearrangement leaves: the columns in the projection's order, and the logits' columns padded with zeros. -/

@[expose] public section

set_option maxRecDepth 16384

noncomputable section

namespace Cert.Kernel2Ideal.Prep

open Cert.Kernel2Ideal Cert.Kernel2Ideal.Gen
open Idealize.ShloMosaic Idealize.ShloMosaic.TcCoe

/-- The weights' column behind a column of the projection: the gates come first, then queries, keys and values, then the memory's queries. -/
def src (j : Fin 11264) : Fin 11270 :=
  ⟨if j.val < 6144 then 5126 + j.val else if j.val < 10752 then j.val - 6144 else j.val - 6138, by split <;> [skip; split] <;> omega⟩

theorem pay1_apply (v : Vec Ideal S1x256x6144 .bf16) : k0_pay1 v = v := by
  funext i
  idx_vars i
  pointwise [k0_pay1]
theorem pay2_apply (v : Vec Ideal S1x256x4608 .bf16) : k0_pay2 v = v := by
  funext i
  idx_vars i
  pointwise [k0_pay2]
theorem pay3_apply (v : Vec Ideal S1x256x512 .bf16) : k0_pay3 v = v := by
  funext i
  idx_vars i
  pointwise [k0_pay3]

theorem sel_eq {c : BitVec 1} {p : Prop} [Decidable p] (h : c = 1#1 ↔ p) {α : Type} (a b : α) : Scalar.select c a b = if p then a else b := by
  unfold Scalar.select
  by_cases hp : p
  · rw [if_pos hp, if_pos (show c = 1 from h.mpr hp)]
  · rw [if_neg hp, if_neg (show ¬c = 1 from fun e => hp (h.mp e))]

theorem lanes : ∀ l : Fin 128, IntOp.cmpi .slt (BitVec.ofNat 32 l.val) 6#32 = 1#1 ↔ l.val < 6 := by decide +kernel

theorem pay4_apply (v : Vec Ideal S1x256x128 .bf16) (r : Fin 256) (l : Fin 128) :
    k0_pay4 v (ix3 (0 : Fin 1) r l) = if l.val < 6 then v (ix3 (0 : Fin 1) r l) else 0 := by
  pointwise [k0_pay4]
  rw [sel_eq (lanes l)]

section
variable (c : Dev nD) (i : grid0.Coords) (arg2 : Memref sig .tc .vmem S1x256x11270 .bf16) (harg2 : arg2.IsWhole) (arg3 : Memref sig .tc .vmem S1x256x11264 .bf16) (harg3 : arg3.IsWhole) (arg4 : Memref sig .tc .vmem S1x256x128 .bf16) (harg4 : arg4.IsWhole)
    (x0 : Vec Ideal S1x256x11270 .bf16)

theorem run_1 : (run c i arg2 harg2 arg3 harg3 arg4 harg4 x0).1.1 =
    ([⟨Rect.unit (s := S1x256x11264) ![0, 0, 10752] S1x256x512.size inb_S1x256x11264_S1x256x512_0_0_10752, k0_pay3 (View.readAt (Elt Ideal) arg2.view (Rect.unit (s := S1x256x11270) ![0, 0, 4614] S1x256x512.size inb_S1x256x11270_S1x256x512_0_0_4614).toLoadRect (harg2.unread x0))⟩,
      ⟨Rect.unit (s := S1x256x11264) ![0, 0, 6144] S1x256x4608.size inb_S1x256x11264_S1x256x4608_0_0_6144, k0_pay2 (View.readAt (Elt Ideal) arg2.view (Rect.unit (s := S1x256x11270) ![0, 0, 0] S1x256x4608.size inb_S1x256x11270_S1x256x4608_0_0_0).toLoadRect (harg2.unread x0))⟩,
      ⟨Rect.unit (s := S1x256x11264) ![0, 0, 0] S1x256x6144.size inb_S1x256x11264_S1x256x6144_0_0_0, k0_pay1 (View.readAt (Elt Ideal) arg2.view (Rect.unit (s := S1x256x11270) ![0, 0, 5126] S1x256x6144.size inb_S1x256x11270_S1x256x6144_0_0_5126).toLoadRect (harg2.unread x0))⟩] : List (View.Piece (Elt Ideal) S1x256x11264 .bf16)) := rfl

theorem run_2 : (run c i arg2 harg2 arg3 harg3 arg4 harg4 x0).1.2 =
    ([⟨Rect.unit (s := S1x256x128) ![0, 0, 0] S1x256x128.size inb_S1x256x128_S1x256x128_0_0_0, k0_pay4 (View.readAt (Elt Ideal) arg2.view (Rect.unit (s := S1x256x11270) ![0, 0, 4608] S1x256x128.size inb_S1x256x11270_S1x256x128_0_0_4608).toLoadRect (harg2.unread x0))⟩] : List (View.Piece (Elt Ideal) S1x256x128 .bf16)) := rfl

theorem hit3 (x : S1x256x512.Idx) :
    k0_pay3 (View.readAt (Elt Ideal) arg2.view (Rect.unit (s := S1x256x11270) ![0, 0, 4614] S1x256x512.size inb_S1x256x11270_S1x256x512_0_0_4614).toLoadRect (harg2.unread x0)) x
      = x0 (ix3 (0 : Fin 1) ((Rect.unit (s := S1x256x11264) ![0, 0, 10752] S1x256x512.size inb_S1x256x11264_S1x256x512_0_0_10752).emb x 1) (src ((Rect.unit (s := S1x256x11264) ![0, 0, 10752] S1x256x512.size inb_S1x256x11264_S1x256x512_0_0_10752).emb x 2))) := by
  refine (congrFun (pay3_apply _) x).trans ?_
  refine (harg2.readAt_unread x0 _ _).trans ?_
  refine congrArg x0 (funext fun a => Fin.ext ?_)
  have h0 : (x 0).val < 1 := (x 0).isLt
  have h2 : (x 2).val < 512 := (x 2).isLt
  fin_cases a
  · show 0 + 1 * (x 0).val = 0; omega
  · rfl
  · show 4614 + 1 * (x 2).val = if 10752 + 1 * (x 2).val < 6144 then 5126 + (10752 + 1 * (x 2).val) else if 10752 + 1 * (x 2).val < 10752 then 10752 + 1 * (x 2).val - 6144 else 10752 + 1 * (x 2).val - 6138
    rw [if_neg (by omega), if_neg (by omega)]; omega

theorem hit2 (x : S1x256x4608.Idx) :
    k0_pay2 (View.readAt (Elt Ideal) arg2.view (Rect.unit (s := S1x256x11270) ![0, 0, 0] S1x256x4608.size inb_S1x256x11270_S1x256x4608_0_0_0).toLoadRect (harg2.unread x0)) x
      = x0 (ix3 (0 : Fin 1) ((Rect.unit (s := S1x256x11264) ![0, 0, 6144] S1x256x4608.size inb_S1x256x11264_S1x256x4608_0_0_6144).emb x 1) (src ((Rect.unit (s := S1x256x11264) ![0, 0, 6144] S1x256x4608.size inb_S1x256x11264_S1x256x4608_0_0_6144).emb x 2))) := by
  refine (congrFun (pay2_apply _) x).trans ?_
  refine (harg2.readAt_unread x0 _ _).trans ?_
  refine congrArg x0 (funext fun a => Fin.ext ?_)
  have h0 : (x 0).val < 1 := (x 0).isLt
  have h2 : (x 2).val < 4608 := (x 2).isLt
  fin_cases a
  · show 0 + 1 * (x 0).val = 0; omega
  · rfl
  · show 0 + 1 * (x 2).val = if 6144 + 1 * (x 2).val < 6144 then 5126 + (6144 + 1 * (x 2).val) else if 6144 + 1 * (x 2).val < 10752 then 6144 + 1 * (x 2).val - 6144 else 6144 + 1 * (x 2).val - 6138
    rw [if_neg (by omega), if_pos (by omega)]; omega

theorem hit1 (x : S1x256x6144.Idx) :
    k0_pay1 (View.readAt (Elt Ideal) arg2.view (Rect.unit (s := S1x256x11270) ![0, 0, 5126] S1x256x6144.size inb_S1x256x11270_S1x256x6144_0_0_5126).toLoadRect (harg2.unread x0)) x
      = x0 (ix3 (0 : Fin 1) ((Rect.unit (s := S1x256x11264) ![0, 0, 0] S1x256x6144.size inb_S1x256x11264_S1x256x6144_0_0_0).emb x 1) (src ((Rect.unit (s := S1x256x11264) ![0, 0, 0] S1x256x6144.size inb_S1x256x11264_S1x256x6144_0_0_0).emb x 2))) := by
  refine (congrFun (pay1_apply _) x).trans ?_
  refine (harg2.readAt_unread x0 _ _).trans ?_
  refine congrArg x0 (funext fun a => Fin.ext ?_)
  have h0 : (x 0).val < 1 := (x 0).isLt
  have h2 : (x 2).val < 6144 := (x 2).isLt
  fin_cases a
  · show 0 + 1 * (x 0).val = 0; omega
  · rfl
  · show 5126 + 1 * (x 2).val = if 0 + 1 * (x 2).val < 6144 then 5126 + (0 + 1 * (x 2).val) else if 0 + 1 * (x 2).val < 10752 then 0 + 1 * (x 2).val - 6144 else 0 + 1 * (x 2).val - 6138
    rw [if_pos (by omega)]; omega

theorem out_1_apply (y : S1x256x11264.Idx) : out_1 c i arg2 harg2 arg3 harg3 arg4 harg4 x0 y = x0 (ix3 (0 : Fin 1) (y 1) (src (y 2))) := by
  have hc := cover_1 c i arg2 harg2 arg3 harg3 arg4 harg4 x0 y
  unfold out_1
  rw [run_1] at hc ⊢
  refine View.read_writes_apply_of_pieces VO1 _ (fun y : S1x256x11264.Idx => x0 (ix3 (0 : Fin 1) (y 1) (src (y 2)))) _ ?_ y hc
  intro p hp
  simp only [List.mem_cons, List.not_mem_nil, or_false] at hp
  rcases hp with rfl | rfl | rfl <;> intro x
  · exact hit3 arg2 harg2 x0 x
  · exact hit2 arg2 harg2 x0 x
  · exact hit1 arg2 harg2 x0 x

/-- A logit's column, or zero past them. -/
def lgt (f : Fin 11270 → EReal) (l : Fin 128) : EReal := if l.val < 6 then f ⟨4608 + l.val, by omega⟩ else 0

theorem out_2_apply (r : Fin 256) (l : Fin 128) :
    out_2 c i arg2 harg2 arg3 harg3 arg4 harg4 x0 (ix3 (0 : Fin 1) r l) = lgt (fun k => x0 (ix3 (0 : Fin 1) r k)) l := by
  unfold out_2
  rw [run_2]
  refine (congrFun (View.read_writes_full VO2 _ _ _ _) _).trans ((pay4_apply _ r l).trans ?_)
  unfold lgt
  refine if_congr Iff.rfl ((harg2.readAt_unread x0 _ _).trans (congrArg x0 (funext fun a => Fin.ext ?_))) rfl
  fin_cases a
  · rfl
  · show 0 + 1 * r.val = r.val; omega
  · show 4608 + 1 * l.val = 4608 + l.val; omega
end

variable (V : (c : Dev nD) → (b : Ref sig .tc) → Buf (Elt Ideal) ((c : Thread nD τ).loc b)) (c : Dev nD)

theorem idx0 : ∀ t : Fin cfg0.N, win0_0.index t = ![t.val / 8, t.val % 8, 0] ∧ win0_1.index t = ![t.val / 8, t.val % 8, 0] ∧ win0_2.index t = ![t.val / 8, t.val % 8, 0] ∧ t.val < 32 :=
  (by decide +kernel : ∀ t : Fin grid0.N, _)

theorem x0_apply (t : Fin cfg0.N) (l : Fin 4) (K : Fin 2048) (r : Fin 256) (j : Fin 11270) (hl : l.val = t.val / 8) (hK : K.val = 256 * (t.val % 8) + r.val) :
    (show Vec Ideal S1x256x11270 .bf16 from blk0 V c 0 t) (ix3 (0 : Fin 1) r j) = (show Vec Ideal S4x2048x11270 .bf16 from V c main_v0) (ix3 l K j) := by
  have h1 := hl; have h2 := hK
  blk_ext! [blk0, idx0 t]

/-- The rearranged weights. -/
def RW (i : S4x2048x11264.Idx) : EReal := (show Vec Ideal S4x2048x11270 .bf16 from V c main_v0) (ix3 (i 0) (i 1) (src (i 2)))
/-- The logits' weights. -/
def RL (i : S4x2048x128.Idx) : EReal := lgt (fun k => (show Vec Ideal S4x2048x11270 .bf16 from V c main_v0) (ix3 (i 0) (i 1) k)) (i 2)

theorem final1 : (dat V c).arrAt 1 cfg0.N = RW V c := by
  refine (dat V c).arrAt_eq_of_covers 1 _ (by decide +kernel) fun t _ y => ?_
  blk_simp
  rw [after1]
  unfold outAt1
  have ht : t.val < 32 := (idx0 t).2.2.2
  have h0 : (y 0).val < 1 := (y 0).isLt
  have h1 : (y 1).val < 256 := (y 1).isLt
  have e : (win0_1.blk t).view.emb y = ix3 (⟨t.val / 8, by omega⟩ : Fin 4) (⟨256 * (t.val % 8) + (y 1).val, by omega⟩ : Fin 2048) (y 2) := by
    blk_ext [idx0 t]
  rw [e]
  refine (out_1_apply ..).trans ?_
  exact x0_apply V c t ⟨t.val / 8, by omega⟩ ⟨256 * (t.val % 8) + (y 1).val, by omega⟩ (y 1) _ rfl rfl

theorem final2 : (dat V c).arrAt 2 cfg0.N = RL V c := by
  refine (dat V c).arrAt_eq_of_covers 2 _ (by decide +kernel) fun t _ y => ?_
  blk_simp
  rw [after2]
  unfold outAt2
  have ht : t.val < 32 := (idx0 t).2.2.2
  have h0 : (y 0).val < 1 := (y 0).isLt
  have h1 : (y 1).val < 256 := (y 1).isLt
  have e : (win0_2.blk t).view.emb y = ix3 (⟨t.val / 8, by omega⟩ : Fin 4) (⟨256 * (t.val % 8) + (y 1).val, by omega⟩ : Fin 2048) (y 2) := by
    blk_ext [idx0 t]
  have ey : y = ix3 (0 : Fin 1) (y 1) (y 2) := by
    funext a; fin_cases a
    · exact Fin.ext (by show (y 0).val = 0; omega)
    · rfl
    · rfl
  rw [e]
  refine (congrArg _ ey).trans ((out_2_apply ..).trans ?_)
  exact congrArg (fun f => lgt f (y 2)) (funext fun k => x0_apply V c t ⟨t.val / 8, by omega⟩ ⟨256 * (t.val % 8) + (y 1).val, by omega⟩ (y 1) k rfl rfl)

end Cert.Kernel2Ideal.Prep

end
-- ==== Proof.ProjVal.lean ====
module

public import proofs.«01_k».proof.Proof.ProjRun
public import proofs.«01_k».proof.Proof.PrepVal
public import Idealize.ShloMosaic.Lib.WholeRead
public import Idealize.ShloMosaic.Lib.Pointwise
public import Idealize.ShloMosaic.Lib.Pipeline.ValueKit
public import Idealize.ShloMosaic.Lib.VecWindow

/-! What the projection's call leaves: the normalized rows times the weights, the gates' columns through the sigmoid. -/

@[expose] public section

set_option maxRecDepth 16384

noncomputable section

namespace Cert.Kernel2Ideal.Proj

open Cert.Kernel2Ideal Cert.Kernel2Ideal.Gen
open Idealize.ShloMosaic Idealize.ShloMosaic.TcCoe

theorem pay3_eq (x0 : Vec Ideal S1024x2048 .f32) (x1 : Vec Ideal S1x1x2048 .f32) : k1_pay3 x0 x1 = k1_pay2 x0 x1 := by
  funext i
  idx_vars i
  pointwise [k1_pay3]

/-- An element of a normalized row with its gain. -/
def xn (f g : Fin 2048 → EReal) (k : Fin 2048) : EReal :=
  f k * Ideal.rsqrt (Ideal.div (∑ k, f k * f k) (Ideal.ofBits FTy.f32 0x45000000#32) + Ideal.ofBits FTy.f32 0x358637BD#32) * g k

theorem pay2_apply (x0 : Vec Ideal S1024x2048 .f32) (x1 : Vec Ideal S1x1x2048 .f32) (r : Fin 1024) (k : Fin 2048) :
    k1_pay2 x0 x1 (ix2 r k) = xn (fun k => x0 (ix2 r k)) (fun k => x1 (ix3 (0 : Fin 1) (0 : Fin 1) k)) k := by
  pointwise [k1_pay2]
  rfl

theorem pay4_apply (x0 : Vec Ideal S1024x2048 .f32) (x1 : Vec Ideal S1x1x2048 .f32) (x3 : Vec Ideal S1x2048x128 .bf16) (r : Fin 1024) (l : Fin 128) :
    k1_pay4 x0 x1 x3 (ix2 r l) = ∑ k : Fin 2048, k1_pay2 x0 x1 (ix2 r k) * x3 (ix3 (0 : Fin 1) k l) := by
  pointwise [k1_pay4]

theorem pay5_apply (v3 : Vec Ideal S1024x2048 .bf16) (v4 : Vec Ideal S1x2048x1024 .bf16) (r : Fin 1024) (j : Fin 1024) :
    k1_pay5 v3 v4 (ix2 r j) = ∑ k : Fin 2048, v3 (ix2 r k) * v4 (ix3 (0 : Fin 1) k j) := by
  pointwise [k1_pay5]

/-- The sigmoid, and where it is taken. -/
def sgm (x : EReal) : EReal := Ideal.div 1 (1 + Ideal.exp (0 - x))
def squash (n : ℕ) (x : EReal) : EReal := if n < 6 then sgm x else x

theorem sel6 (j : Fin 11) (x : EReal) : Scalar.select (Scalar.cmpi CmpIPredicate.slt (BitVec.ofNat 32 j.val) 6#32) (Ideal.div 1 (1 + Ideal.exp (0 - x))) x = squash j.val x :=
  Prep.sel_eq ((by decide +kernel : ∀ j : Fin 11, Scalar.cmpi CmpIPredicate.slt (BitVec.ofNat 32 j.val) 6#32 = 1#1 ↔ j.val < 6) j) _ _

/-- Column `128 h + l` of the product, as stored at slot `h`. -/
def stored (v : FVec Ideal S1024x1024 .f32) (n : ℕ) (h : Fin 8) (y : S1x1024x128.Idx) : EReal :=
  squash n (v (ix2 (y 1) (⟨128 * h.val + (y 2).val, by have h2 : (y 2).val < 128 := (y 2).isLt; omega⟩ : Fin 1024)))

theorem coord (i : grid1.Coords) : (i 1).val < 11 := (i 1).isLt

section
variable (i : grid1.Coords) (v3 : Vec Ideal S1024x2048 .bf16) (v4 : Vec Ideal S1x2048x1024 .bf16)

theorem slot0 : k1_pay6 i v3 v4 = stored (k1_pay5 v3 v4) (i 1).val 0 := by
  funext y
  idx_vars y
  generalize hv : k1_pay5 v3 v4 = v
  pointwise [k1_pay6, hv]
  refine (sel6 ⟨(i 1).val, coord i⟩ _).trans ?_
  refine congrArg (squash (i 1).val) (congrArg v (congrArg (ix2 y1) (Fin.ext ?_)))
  show y2.val = 128 * 0 + y2.val
  omega

theorem slot1 : k1_pay8 (k1_pay7 i v3 v4) = stored (k1_pay5 v3 v4) (i 1).val 1 := by
  funext y
  idx_vars y
  generalize hv : k1_pay5 v3 v4 = v
  pointwise [k1_pay8, k1_pay7, hv]
  refine (sel6 ⟨(i 1).val, coord i⟩ _).trans ?_
  rfl

theorem slot2 : k1_pay9 (BitVec.ofNat 32 (i 1).val) (k1_pay5 v3 v4) = stored (k1_pay5 v3 v4) (i 1).val 2 := by
  funext y
  idx_vars y
  generalize hv : k1_pay5 v3 v4 = v
  pointwise [k1_pay9]
  refine (sel6 ⟨(i 1).val, coord i⟩ _).trans ?_
  rfl

theorem slot3 : k1_pay10 (BitVec.ofNat 32 (i 1).val) (k1_pay5 v3 v4) = stored (k1_pay5 v3 v4) (i 1).val 3 := by
  funext y
  idx_vars y
  generalize hv : k1_pay5 v3 v4 = v
  pointwise [k1_pay10]
  refine (sel6 ⟨(i 1).val, coord i⟩ _).trans ?_
  rfl

theorem slot4 : k1_pay12 (k1_pay11 (BitVec.ofNat 32 (i 1).val) (k1_pay5 v3 v4)) = stored (k1_pay5 v3 v4) (i 1).val 4 := by
  funext y
  idx_vars y
  generalize hv : k1_pay5 v3 v4 = v
  pointwise [k1_pay12, k1_pay11]
  refine (sel6 ⟨(i 1).val, coord i⟩ _).trans ?_
  rfl

theorem slot5 : k1_pay13 (BitVec.ofNat 32 (i 1).val) (k1_pay5 v3 v4) = stored (k1_pay5 v3 v4) (i 1).val 5 := by
  funext y
  idx_vars y
  generalize hv : k1_pay5 v3 v4 = v
  pointwise [k1_pay13]
  refine (sel6 ⟨(i 1).val, coord i⟩ _).trans ?_
  rfl

theorem slot6 : k1_pay14 (BitVec.ofNat 32 (i 1).val) (k1_pay5 v3 v4) = stored (k1_pay5 v3 v4) (i 1).val 6 := by
  funext y
  idx_vars y
  generalize hv : k1_pay5 v3 v4 = v
  pointwise [k1_pay14]
  refine (sel6 ⟨(i 1).val, coord i⟩ _).trans ?_
  rfl

theorem slot7 : k1_pay1 (k1_pay15 (k1_pay5 v3 v4)) (Scalar.cmpi .slt (BitVec.ofNat 32 (i 1).val) 6#32) (k1_pay16 (k1_pay5 v3 v4)) (Scalar.ofBits .f32 0x3F800000#32) = stored (k1_pay5 v3 v4) (i 1).val 7 := by
  funext y
  idx_vars y
  generalize hv : k1_pay5 v3 v4 = v
  pointwise [k1_pay1, k1_pay15, k1_pay16]
  refine (sel6 ⟨(i 1).val, coord i⟩ _).trans ?_
  rfl

/-- The stores into the first result. -/
def LO : List (View.Piece (Elt Ideal) S8x1024x128 .bf16) :=
  [⟨Rect.unit (s := S8x1024x128) ![7, 0, 0] S1x1024x128.size inb_S8x1024x128_S1x1024x128_7_0_0, k1_pay1 (k1_pay15 (k1_pay5 v3 v4)) (Scalar.cmpi .slt (BitVec.ofNat 32 (i 1).val) 6#32) (k1_pay16 (k1_pay5 v3 v4)) (Scalar.ofBits .f32 0x3F800000#32)⟩,
    ⟨Rect.unit (s := S8x1024x128) ![6, 0, 0] S1x1024x128.size inb_S8x1024x128_S1x1024x128_6_0_0, k1_pay14 (BitVec.ofNat 32 (i 1).val) (k1_pay5 v3 v4)⟩,
    ⟨Rect.unit (s := S8x1024x128) ![5, 0, 0] S1x1024x128.size inb_S8x1024x128_S1x1024x128_5_0_0, k1_pay13 (BitVec.ofNat 32 (i 1).val) (k1_pay5 v3 v4)⟩,
    ⟨Rect.unit (s := S8x1024x128) ![4, 0, 0] S1x1024x128.size inb_S8x1024x128_S1x1024x128_4_0_0, k1_pay12 (k1_pay11 (BitVec.ofNat 32 (i 1).val) (k1_pay5 v3 v4))⟩,
    ⟨Rect.unit (s := S8x1024x128) ![3, 0, 0] S1x1024x128.size inb_S8x1024x128_S1x1024x128_3_0_0, k1_pay10 (BitVec.ofNat 32 (i 1).val) (k1_pay5 v3 v4)⟩,
    ⟨Rect.unit (s := S8x1024x128) ![2, 0, 0] S1x1024x128.size inb_S8x1024x128_S1x1024x128_2_0_0, k1_pay9 (BitVec.ofNat 32 (i 1).val) (k1_pay5 v3 v4)⟩,
    ⟨Rect.unit (s := S8x1024x128) ![1, 0, 0] S1x1024x128.size inb_S8x1024x128_S1x1024x128_1_0_0, k1_pay8 (k1_pay7 i v3 v4)⟩,
    ⟨Rect.unit (s := S8x1024x128) ![0, 0, 0] S1x1024x128.size inb_S8x1024x128_S1x1024x128_0_0_0, k1_pay6 i v3 v4⟩]

/-- A slot's block stored at its place reads at its own index. -/
theorem hit {α : Type} (f : Fin 8 → S1x1024x128.Idx → α) (h : Fin 8) (inb : ∀ a, (![h.val, 0, 0] : Fin 3 → ℕ) a + (![1, 1024, 128] : Fin 3 → ℕ) a ≤ S8x1024x128.size a)
    (x : (Rect.unit (s := S8x1024x128) ![h.val, 0, 0] ![1, 1024, 128] inb).shape.Idx) :
    f h x = f ((Rect.unit (s := S8x1024x128) ![h.val, 0, 0] ![1, 1024, 128] inb).emb x 0)
      (ix3 (0 : Fin 1) ((Rect.unit (s := S8x1024x128) ![h.val, 0, 0] ![1, 1024, 128] inb).emb x 1) ((Rect.unit (s := S8x1024x128) ![h.val, 0, 0] ![1, 1024, 128] inb).emb x 2)) := by
  have h0 : (x 0).val < 1 := (x 0).isLt
  refine congrArg₂ f (Fin.ext ?_) (funext fun a => Fin.ext ?_)
  · show h.val = h.val + 1 * (x 0).val
    omega
  · fin_cases a
    · show (x 0).val = 0; omega
    · show (x 1).val = 0 + 1 * (x 1).val; omega
    · show (x 2).val = 0 + 1 * (x 2).val; omega

theorem readO (y : S8x1024x128.Idx) (hc : ∃ p ∈ LO i v3 v4, y ∈ p.1.set) :
    VO4.read (Elt Ideal) (VO4.writes (Elt Ideal) VO4.junk (LO i v3 v4)) y = stored (k1_pay5 v3 v4) (i 1).val (y 0) (ix3 (0 : Fin 1) (y 1) (y 2)) := by
  refine View.read_writes_apply_of_pieces VO4 _ (fun y : S8x1024x128.Idx => stored (k1_pay5 v3 v4) (i 1).val (y 0) (ix3 (0 : Fin 1) (y 1) (y 2))) (LO i v3 v4) ?_ y hc
  intro p hp
  unfold LO at hp
  simp only [List.mem_cons, List.not_mem_nil, or_false] at hp
  rcases hp with rfl | rfl | rfl | rfl | rfl | rfl | rfl | rfl <;> intro x
  · exact (congrFun (slot7 i v3 v4) x).trans (hit (fun h => stored (k1_pay5 v3 v4) (i 1).val h) 7 inb_S8x1024x128_S1x1024x128_7_0_0 x)
  · exact (congrFun (slot6 i v3 v4) x).trans (hit (fun h => stored (k1_pay5 v3 v4) (i 1).val h) 6 inb_S8x1024x128_S1x1024x128_6_0_0 x)
  · exact (congrFun (slot5 i v3 v4) x).trans (hit (fun h => stored (k1_pay5 v3 v4) (i 1).val h) 5 inb_S8x1024x128_S1x1024x128_5_0_0 x)
  · exact (congrFun (slot4 i v3 v4) x).trans (hit (fun h => stored (k1_pay5 v3 v4) (i 1).val h) 4 inb_S8x1024x128_S1x1024x128_4_0_0 x)
  · exact (congrFun (slot3 i v3 v4) x).trans (hit (fun h => stored (k1_pay5 v3 v4) (i 1).val h) 3 inb_S8x1024x128_S1x1024x128_3_0_0 x)
  · exact (congrFun (slot2 i v3 v4) x).trans (hit (fun h => stored (k1_pay5 v3 v4) (i 1).val h) 2 inb_S8x1024x128_S1x1024x128_2_0_0 x)
  · exact (congrFun (slot1 i v3 v4) x).trans (hit (fun h => stored (k1_pay5 v3 v4) (i 1).val h) 1 inb_S8x1024x128_S1x1024x128_1_0_0 x)
  · exact (congrFun (slot0 i v3 v4) x).trans (hit (fun h => stored (k1_pay5 v3 v4) (i 1).val h) 0 inb_S8x1024x128_S1x1024x128_0_0_0 x)
end

section
variable (c : Dev nD) (i : grid1.Coords) (arg2 : Memref sig .tc .vmem S1024x2048 .f32) (harg2 : arg2.IsWhole) (arg3 : Memref sig .tc .vmem S1x1x2048 .f32) (harg3 : arg3.IsWhole) (arg4 : Memref sig .tc .vmem S1x2048x1024 .bf16) (harg4 : arg4.IsWhole) (arg5 : Memref sig .tc .vmem S1x2048x128 .bf16) (harg5 : arg5.IsWhole) (arg6 : Memref sig .tc .vmem S8x1024x128 .bf16) (harg6 : arg6.IsWhole) (arg7 : Memref sig .tc .vmem S1024x128 .f32) (harg7 : arg7.IsWhole) (arg8 : Memref sig .tc .vmem S1024x2048 .bf16) (harg8 : arg8.IsWhole)
    (x0 : Vec Ideal S1024x2048 .f32) (x1 : Vec Ideal S1x1x2048 .f32) (x2 : Vec Ideal S1x2048x1024 .bf16) (x3 : Vec Ideal S1x2048x128 .bf16) (xf : Vec Ideal S1024x128 .f32) (xs : Vec Ideal S1024x2048 .bf16)

theorem oA (hc : k1_cond1 i = 1#1) : (runA c i arg2 harg2 arg3 harg3 arg4 harg4 arg5 harg5 arg6 harg6 arg7 harg7 arg8 harg8 hc x0 x1 x2 x3).1.1 = LO i (k1_pay3 x0 x1) x2 := by
  refine (show _ = LO i (View.readCov arg8.view [⟨(Rect.unit (s := S1024x2048) ![0, 0] S1024x2048.size inb_S1024x2048_S1024x2048_0_0), k1_pay3 (View.readAt (Elt Ideal) arg2.view (Rect.unit (s := S1024x2048) ![0, 0] S1024x2048.size inb_S1024x2048_S1024x2048_0_0).toLoadRect (harg2.unread x0)) (View.readAt (Elt Ideal) arg3.view (Rect.unit (s := S1x1x2048) ![0, 0, 0] S1x1x2048.size inb_S1x1x2048_S1x1x2048_0_0_0).toLoadRect (harg3.unread x1))⟩] (Rect.unit (s := S1024x2048) ![0, 0] S1024x2048.size inb_S1024x2048_S1024x2048_0_0).toLoadRect) (View.readAt (Elt Ideal) arg4.view (Rect.unit (s := S1x2048x1024) ![0, 0, 0] S1x2048x1024.size inb_S1x2048x1024_S1x2048x1024_0_0_0).toLoadRect (harg4.unread x2)) from rfl).trans ?_
  rw [View.readCov_full, View.readAt_full, View.readAt_full, View.readAt_full, harg2.read_unread, harg3.read_unread, harg4.read_unread]

theorem fA (hc : k1_cond1 i = 1#1) : (runA c i arg2 harg2 arg3 harg3 arg4 harg4 arg5 harg5 arg6 harg6 arg7 harg7 arg8 harg8 hc x0 x1 x2 x3).1.2.1 = [⟨(Rect.unit (s := S1024x128) ![0, 0] S1024x128.size inb_S1024x128_S1024x128_0_0), k1_pay4 x0 x1 x3⟩] := by
  refine (show _ = ([⟨(Rect.unit (s := S1024x128) ![0, 0] S1024x128.size inb_S1024x128_S1024x128_0_0), k1_pay4 (View.readAt (Elt Ideal) arg2.view (Rect.unit (s := S1024x2048) ![0, 0] S1024x2048.size inb_S1024x2048_S1024x2048_0_0).toLoadRect (harg2.unread x0)) (View.readAt (Elt Ideal) arg3.view (Rect.unit (s := S1x1x2048) ![0, 0, 0] S1x1x2048.size inb_S1x1x2048_S1x1x2048_0_0_0).toLoadRect (harg3.unread x1)) (View.readAt (Elt Ideal) arg5.view (Rect.unit (s := S1x2048x128) ![0, 0, 0] S1x2048x128.size inb_S1x2048x128_S1x2048x128_0_0_0).toLoadRect (harg5.unread x3))⟩] : List (View.Piece (Elt Ideal) S1024x128 .f32)) from rfl).trans ?_
  rw [View.readAt_full, View.readAt_full, View.readAt_full, harg2.read_unread, harg3.read_unread, harg5.read_unread]

theorem sA (hc : k1_cond1 i = 1#1) : (runA c i arg2 harg2 arg3 harg3 arg4 harg4 arg5 harg5 arg6 harg6 arg7 harg7 arg8 harg8 hc x0 x1 x2 x3).1.2.2 = [⟨(Rect.unit (s := S1024x2048) ![0, 0] S1024x2048.size inb_S1024x2048_S1024x2048_0_0), k1_pay3 x0 x1⟩] := by
  refine (show _ = ([⟨(Rect.unit (s := S1024x2048) ![0, 0] S1024x2048.size inb_S1024x2048_S1024x2048_0_0), k1_pay3 (View.readAt (Elt Ideal) arg2.view (Rect.unit (s := S1024x2048) ![0, 0] S1024x2048.size inb_S1024x2048_S1024x2048_0_0).toLoadRect (harg2.unread x0)) (View.readAt (Elt Ideal) arg3.view (Rect.unit (s := S1x1x2048) ![0, 0, 0] S1x1x2048.size inb_S1x1x2048_S1x1x2048_0_0_0).toLoadRect (harg3.unread x1))⟩] : List (View.Piece (Elt Ideal) S1024x2048 .bf16)) from rfl).trans ?_
  rw [View.readAt_full, View.readAt_full, harg2.read_unread, harg3.read_unread]

theorem oB (hc : ¬k1_cond1 i = 1#1) : (runB c i arg2 harg2 arg3 harg3 arg4 harg4 arg5 harg5 arg6 harg6 arg7 harg7 arg8 harg8 hc x0 x1 x2 x3 xf xs).1 = LO i xs x2 := by
  refine (show _ = LO i (View.readAt (Elt Ideal) arg8.view (Rect.unit (s := S1024x2048) ![0, 0] S1024x2048.size inb_S1024x2048_S1024x2048_0_0).toLoadRect (harg8.unread xs)) (View.readAt (Elt Ideal) arg4.view (Rect.unit (s := S1x2048x1024) ![0, 0, 0] S1x2048x1024.size inb_S1x2048x1024_S1x2048x1024_0_0_0).toLoadRect (harg4.unread x2)) from rfl).trans ?_
  rw [View.readAt_full, View.readAt_full, harg8.read_unread, harg4.read_unread]
end

variable (V : (c : Dev nD) → (b : Ref sig .tc) → Buf (Elt Ideal) ((c : Thread nD τ).loc b)) (c : Dev nD)

theorem idx1 : ∀ t : Fin cfg1.N, win1_0.index t = ![t.val / 11, 0] ∧ win1_1.index t = ![1, 0, 0] ∧ win1_2.index t = ![1, 0, t.val % 11] ∧ win1_3.index t = ![1, 0, 0]
    ∧ win1_4.index t = ![t.val % 11, t.val / 11, 0] ∧ win1_5.index t = ![t.val / 11, 0] ∧ (grid1.coords t 1).val = t.val % 11 ∧ t.val < 352 :=
  (by decide +kernel : ∀ t : Fin grid1.N, _)

/-- The arrays the call reads. -/
abbrev X (i : S32768x2048.Idx) : EReal := (show Vec Ideal S32768x2048 .f32 from V c main_v3) i
abbrev G (i : S4x1x2048.Idx) : EReal := (show Vec Ideal S4x1x2048 .f32 from V c main_v2) i
abbrev W (i : S4x2048x11264.Idx) : EReal := (show Vec Ideal S4x2048x11264 .bf16 from V c main_v1_0) i
abbrev L (i : S4x2048x128.Idx) : EReal := (show Vec Ideal S4x2048x128 .bf16 from V c main_v1_1) i

theorem x0_apply (t : Fin cfg1.N) (T : Fin 32768) (r : Fin 1024) (k : Fin 2048) (hT : T.val = 1024 * (t.val / 11) + r.val) :
    (show Vec Ideal S1024x2048 .f32 from blk1 V c 0 t) (ix2 r k) = (show Vec Ideal S32768x2048 .f32 from V c main_v3) (ix2 T k) := by
  have h1 := hT
  blk_ext! [blk1, idx1 t]
theorem x1_apply (t : Fin cfg1.N) (k : Fin 2048) :
    (show Vec Ideal S1x1x2048 .f32 from blk1 V c 1 t) (ix3 (0 : Fin 1) (0 : Fin 1) k) = (show Vec Ideal S4x1x2048 .f32 from V c main_v2) (ix3 (1 : Fin 4) (0 : Fin 1) k) := by
  blk_ext! [blk1, idx1 t]
theorem x2_apply (t : Fin cfg1.N) (C : Fin 11264) (k : Fin 2048) (j : Fin 1024) (hC : C.val = 1024 * (t.val % 11) + j.val) :
    (show Vec Ideal S1x2048x1024 .bf16 from blk1 V c 2 t) (ix3 (0 : Fin 1) k j) = (show Vec Ideal S4x2048x11264 .bf16 from V c main_v1_0) (ix3 (1 : Fin 4) k C) := by
  have h1 := hC
  blk_ext! [blk1, idx1 t]
theorem x3_apply (t : Fin cfg1.N) (k : Fin 2048) (l : Fin 128) :
    (show Vec Ideal S1x2048x128 .bf16 from blk1 V c 3 t) (ix3 (0 : Fin 1) k l) = (show Vec Ideal S4x2048x128 .bf16 from V c main_v1_1) (ix3 (1 : Fin 4) k l) := by
  blk_ext! [blk1, idx1 t]

/-- A row normalized. -/
def XN (T : Fin 32768) : Fin 2048 → EReal := xn (fun k => X V c (ix2 T k)) (fun k => G V c (ix3 (1 : Fin 4) (0 : Fin 1) k))

theorem norm_apply (t : Fin cfg1.N) (T : Fin 32768) (r : Fin 1024) (k : Fin 2048) (hT : T.val = 1024 * (t.val / 11) + r.val) :
    k1_pay2 (blk1 V c 0 t) (blk1 V c 1 t) (ix2 r k) = XN V c T k :=
  (pay2_apply _ _ r k).trans (congrArg₂ (fun f g => xn f g k) (funext fun k => x0_apply V c t T r k hT) (funext fun k => x1_apply V c t k))

theorem rowsA_eq (t : Fin cfg1.N) (h0 : t.val % 11 = 0) : rowsA V c t h0 = k1_pay2 (blk1 V c 0 t) (blk1 V c 1 t) := by
  unfold rowsA outA_S
  rw [sA]
  exact (View.read_writes_full VS _ _ _ _).trans (pay3_eq _ _)

theorem rowsAt_apply : ∀ (n : ℕ) (hn : n < cfg1.N) (T : Fin 32768) (r : Fin 1024) (k : Fin 2048), T.val = 1024 * (n / 11) + r.val →
    rowsAt V c n hn (ix2 r k) = XN V c T k
  | 0, hn, T, r, k, hT => by
    rw [rowsAt_A V c ⟨0, hn⟩ (Nat.zero_mod _), rowsA_eq]
    exact norm_apply V c ⟨0, hn⟩ T r k hT
  | n + 1, hn, T, r, k, hT => by
    by_cases h0 : (n + 1) % 11 = 0
    · rw [rowsAt_A V c ⟨n + 1, hn⟩ h0, rowsA_eq]
      exact norm_apply V c ⟨n + 1, hn⟩ T r k hT
    · rw [rowsAt_B V c ⟨n + 1, hn⟩ h0]
      exact rowsAt_apply n (Nat.lt_of_succ_lt hn) T r k (by rw [hT]; omega)

/-- The logits' product at an element. -/
def LG (T : Fin 32768) (l : Fin 128) : EReal := ∑ k : Fin 2048, XN V c T k * L V c (ix3 (1 : Fin 4) k l)

theorem logitA_apply (t : Fin cfg1.N) (h0 : t.val % 11 = 0) (T : Fin 32768) (r : Fin 1024) (l : Fin 128) (hT : T.val = 1024 * (t.val / 11) + r.val) :
    logitA V c t h0 (ix2 r l) = LG V c T l := by
  unfold logitA outA_5
  rw [fA]
  refine (congrFun (View.read_writes_full VO5 _ _ _ _) _).trans ((pay4_apply _ _ _ r l).trans ?_)
  exact Finset.sum_congr rfl fun k _ => congrArg₂ (fun (a b : EReal) => a * b) (norm_apply V c t T r k hT) (x3_apply V c t k l)

theorem logitAt_apply : ∀ (n : ℕ) (hn : n < cfg1.N) (T : Fin 32768) (r : Fin 1024) (l : Fin 128), T.val = 1024 * (n / 11) + r.val →
    logitAt V c n hn (ix2 r l) = LG V c T l
  | 0, hn, T, r, l, hT => by
    rw [logitAt_A V c ⟨0, hn⟩ (Nat.zero_mod _)]
    exact logitA_apply V c ⟨0, hn⟩ (Nat.zero_mod _) T r l hT
  | n + 1, hn, T, r, l, hT => by
    by_cases h0 : (n + 1) % 11 = 0
    · rw [logitAt_A V c ⟨n + 1, hn⟩ h0]
      exact logitA_apply V c ⟨n + 1, hn⟩ h0 T r l hT
    · rw [logitAt_B V c ⟨n + 1, hn⟩ h0]
      exact logitAt_apply n (Nat.lt_of_succ_lt hn) T r l (by rw [hT]; omega)

theorem outAt4_eq (t : Fin cfg1.N) (y : S8x1024x128.Idx) :
    outAt4 V c t y = stored (k1_pay5 (rowsAt V c t.val t.isLt) (blk1 V c 2 t)) (t.val % 11) (y 0) (ix3 (0 : Fin 1) (y 1) (y 2)) := by
  rw [← (idx1 t).2.2.2.2.2.2.1]
  unfold outAt4
  by_cases h0 : t.val % 11 = 0
  · rw [dif_pos h0, rowsAt_A V c t h0, rowsA_eq, ← pay3_eq]
    have hc := coverA_4 c (grid1.coords t) (ms0 t) (hs0 t) (ms1 t) (hs1 t) (ms2 t) (hs2 t) (ms3 t) (hs3 t) (ms4 t) (hs4 t) (ms5 t) (hs5 t) scM (Memref.isWhole_whole _) ((first_iff t).mpr h0) (blk1 V c 0 t) (blk1 V c 1 t) (blk1 V c 2 t) (blk1 V c 3 t) y
    unfold outA_4
    rw [oA] at hc ⊢
    exact readO _ _ _ y hc
  · rw [dif_neg h0, rowsAt_B V c t h0]
    have hc := coverB_4 c (grid1.coords t) (ms0 t) (hs0 t) (ms1 t) (hs1 t) (ms2 t) (hs2 t) (ms3 t) (hs3 t) (ms4 t) (hs4 t) (ms5 t) (hs5 t) scM (Memref.isWhole_whole _) (fun h => h0 ((first_iff t).mp h)) (blk1 V c 0 t) (blk1 V c 1 t) (blk1 V c 2 t) (blk1 V c 3 t) (logitAt V c (t.val - 1) (Nat.lt_of_le_of_lt (Nat.sub_le _ _) t.isLt)) (rowsAt V c (t.val - 1) (Nat.lt_of_le_of_lt (Nat.sub_le _ _) t.isLt)) y
    unfold outB_4
    rw [oB] at hc ⊢
    exact readO _ _ _ y hc

/-- The product at an element. -/
def PR (T : Fin 32768) (C : Fin 11264) : EReal := ∑ k : Fin 2048, XN V c T k * W V c (ix3 (1 : Fin 4) k C)
/-- The first result: columns in groups of 128, the first 48 groups through the sigmoid. -/
def RO (i : S88x32768x128.Idx) : EReal :=
  if (i 0).val < 48 then sgm (PR V c (i 1) ⟨128 * (i 0).val + (i 2).val, by have h0 : (i 0).val < 88 := (i 0).isLt; have h2 : (i 2).val < 128 := (i 2).isLt; omega⟩)
  else PR V c (i 1) ⟨128 * (i 0).val + (i 2).val, by have h0 : (i 0).val < 88 := (i 0).isLt; have h2 : (i 2).val < 128 := (i 2).isLt; omega⟩
/-- The second. -/
def RG (i : S32768x128.Idx) : EReal := LG V c (i 0) (i 1)

theorem final4 : (dat V c).arrAt 4 cfg1.N = RO V c := by
  refine (dat V c).arrAt_eq_of_covers 4 _ (by decide +kernel) fun t _ y => ?_
  blk_simp
  rw [after4]
  refine (outAt4_eq V c t y).trans ?_
  have ht : t.val < 352 := (idx1 t).2.2.2.2.2.2.2
  have h0 : (y 0).val < 8 := (y 0).isLt
  have h1 : (y 1).val < 1024 := (y 1).isLt
  have h2 : (y 2).val < 128 := (y 2).isLt
  have e : (win1_4.blk t).view.emb y = ix3 (⟨8 * (t.val % 11) + (y 0).val, by omega⟩ : Fin 88) (⟨1024 * (t.val / 11) + (y 1).val, by omega⟩ : Fin 32768) (y 2) := by
    blk_ext [idx1 t]
  rw [e]
  have hp : k1_pay5 (rowsAt V c t.val t.isLt) (blk1 V c 2 t) (ix2 (y 1) (⟨128 * (y 0).val + (y 2).val, by omega⟩ : Fin 1024))
      = PR V c ⟨1024 * (t.val / 11) + (y 1).val, by omega⟩ ⟨128 * (8 * (t.val % 11) + (y 0).val) + (y 2).val, by omega⟩ :=
    (pay5_apply _ _ (y 1) _).trans (Finset.sum_congr rfl fun k _ => congrArg₂ (fun (a b : EReal) => a * b)
      (rowsAt_apply V c t.val t.isLt ⟨1024 * (t.val / 11) + (y 1).val, by omega⟩ (y 1) k rfl)
      (x2_apply V c t ⟨128 * (8 * (t.val % 11) + (y 0).val) + (y 2).val, by omega⟩ k ⟨128 * (y 0).val + (y 2).val, by omega⟩ (by
        show 128 * (8 * (t.val % 11) + (y 0).val) + (y 2).val = 1024 * (t.val % 11) + (128 * (y 0).val + (y 2).val); omega)))
  refine (congrArg (squash (t.val % 11)) hp).trans ?_
  unfold squash
  exact if_congr (by show t.val % 11 < 6 ↔ 8 * (t.val % 11) + (y 0).val < 48; omega) rfl rfl

theorem final5 : (dat V c).arrAt 5 cfg1.N = RG V c := by
  refine (dat V c).arrAt_eq_of_covers 5 _ (by decide +kernel) fun t _ y => ?_
  blk_simp
  rw [after5]
  have ht : t.val < 352 := (idx1 t).2.2.2.2.2.2.2
  have h0 : (y 0).val < 1024 := (y 0).isLt
  have e : (win1_5.blk t).view.emb y = ix2 (⟨1024 * (t.val / 11) + (y 0).val, by omega⟩ : Fin 32768) (y 1) := by
    blk_ext [idx1 t]
  have ey : y = ix2 (y 0) (y 1) := by
    funext a; fin_cases a <;> rfl
  rw [e]
  refine (congrArg _ ey).trans ?_
  exact logitAt_apply V c t.val t.isLt ⟨1024 * (t.val / 11) + (y 0).val, by omega⟩ (y 0) (y 1) rfl

end Cert.Kernel2Ideal.Proj

end
-- ==== Proof.PairVal.lean ====
module

public import proofs.«01_k».proof.Proof.PairRun
public import proofs.«01_k».proof.Proof.ProjVal
public import Idealize.ShloMosaic.Lib.KernelVsHost

/-! What the input projection's program leaves, in terms of its arguments. -/

@[expose] public section

set_option maxRecDepth 16384

noncomputable section

namespace Cert.Kernel2Ideal.Pair

open Cert.Kernel2Ideal Cert.Kernel2Ideal.Gen
open Idealize.ShloMosaic Idealize.ShloMosaic.TcCoe
open Cert.Kernel2Ideal.Prep (src lgt)
open Cert.Kernel2Ideal.Proj (xn sgm)

section
variable (x0 : Vec Ideal S8x4096x2048 .f32) (x1 : Vec Ideal S4x2048 .f32) (x2 : Vec Ideal S4x2048x11270 .f32)

/-- A token's entries: the tokens of the eight sequences follow one another. -/
def row (T : Fin 32768) (k : Fin 2048) : EReal :=
  x0 (ix3 (⟨T.val / 4096, by omega⟩ : Fin 8) (⟨T.val % 4096, Nat.mod_lt _ (by norm_num)⟩ : Fin 4096) k)
/-- A token's normalized entries against a column of the layer's weights. -/
def PJ (T : Fin 32768) (j : Fin 11270) : EReal :=
  ∑ k : Fin 2048, xn (row x0 T) (fun k => x1 (ix2 (1 : Fin 4) k)) k * x2 (ix3 (1 : Fin 4) k j)
/-- A token's entry in a column of the projection's order: the gates through the sigmoid. -/
def col (T : Fin 32768) (C : Fin 11264) : EReal :=
  if C.val < 6144 then sgm (PJ x0 x1 x2 T (src C)) else PJ x0 x1 x2 T (src C)
/-- The first result: the columns in groups of 128. -/
def OO (i : S88x32768x128.Idx) : EReal :=
  col x0 x1 x2 (i 1) ⟨128 * (i 0).val + (i 2).val, by have h0 : (i 0).val < 88 := (i 0).isLt; have h2 : (i 2).val < 128 := (i 2).isLt; omega⟩
/-- The second: the six logits, padded with zeros. -/
def GG (i : S32768x128.Idx) : EReal :=
  if h : (i 1).val < 6 then PJ x0 x1 x2 (i 0) ⟨4608 + (i 1).val, by omega⟩ else 0
end

variable (m : (ℓ : Loc nD τ sig) → Buf (Elt Ideal) ℓ) (c : Dev nD)

abbrev A0 : Vec Ideal S8x4096x2048 .f32 := m ((c : Thread nD τ).loc main_arg0)
abbrev A1 : Vec Ideal S4x2048 .f32 := m ((c : Thread nD τ).loc main_arg1)
abbrev A2 : Vec Ideal S4x2048x11270 .f32 := m ((c : Thread nD τ).loc main_arg2)

theorem V1_w : (show Vec Ideal S4x2048x11270 .bf16 from VP m c main_v0) = A2 m c :=
  (show (show FVec Ideal S4x2048x11270 .bf16 from VP m c main_v0) = truncf (F := Ideal) .bf16 (show FVec Ideal S4x2048x11270 .f32 from m ((c : Thread nD τ).loc main_arg2)) bitsLt_bf16_f32 from by
    show StableHlo.after hostOps0 (V0 m c) (Proc.devRef .tc main_v0) = _
    entry_read
    rfl)

theorem V2_arg (r : Ref sig .tc) (h : r ∉ ([main_v0, main_v1_0, main_v1_1] : List (Ref sig .tc))) : V2 m (outs m) c r = m ((c : Thread nD τ).loc r) := by
  simp only [List.mem_cons, List.not_mem_nil, or_false, not_or] at h
  exact (V2_of m (outs m) c r (by simp [h.2.1, h.2.2])).trans <| (V1_of m c r (by simp [h.1])).trans rfl

theorem V3_x : (show Vec Ideal S32768x2048 .f32 from VA m c main_v3) = shapeCast S32768x2048 (A0 m c) shapeCasts_S8x4096x2048_S32768x2048 := by
  refine Eq.trans (show VA m c main_v3 = shapeCast S32768x2048 (V2 m (outs m) c main_arg0 : Vec Ideal S8x4096x2048 .f32) shapeCasts_S8x4096x2048_S32768x2048 from by
    show StableHlo.after hostOps1 (V2 m (outs m) c) (Proc.devRef .tc main_v3) = _
    entry_read
    rfl) ?_
  exact congrArg (fun x : Vec Ideal S8x4096x2048 .f32 => shapeCast S32768x2048 x shapeCasts_S8x4096x2048_S32768x2048) (V2_arg m c main_arg0 (by decide))
theorem V3_g : (show Vec Ideal S4x1x2048 .f32 from VA m c main_v2) = shapeCast S4x1x2048 (A1 m c) shapeCasts_S4x2048_S4x1x2048 := by
  refine Eq.trans (show VA m c main_v2 = shapeCast S4x1x2048 (V2 m (outs m) c main_arg1 : Vec Ideal S4x2048 .f32) shapeCasts_S4x2048_S4x1x2048 from by
    show StableHlo.after hostOps1 (V2 m (outs m) c) (Proc.devRef .tc main_v2) = _
    entry_read
    rfl) ?_
  exact congrArg (fun x : Vec Ideal S4x2048 .f32 => shapeCast S4x1x2048 x shapeCasts_S4x2048_S4x1x2048) (V2_arg m c main_arg1 (by decide))

theorem X_at (T : Fin 32768) (k : Fin 2048) : Proj.X (VA m) c (ix2 T k) = row (A0 m c) T k := by
  refine (congrFun (V3_x m c) _).trans ?_
  refine shapeCast_apply _ shapeCasts_S8x4096x2048_S32768x2048 _ (ix3 (⟨T.val / 4096, by omega⟩ : Fin 8) (⟨T.val % 4096, Nat.mod_lt _ (by norm_num)⟩ : Fin 4096) k) ?_
  rw [Shape.rowMajor_val_two, Shape.rowMajor_val_three]
  show (T.val / 4096 * 4096 + T.val % 4096) * 2048 + k.val = T.val * 2048 + k.val
  omega
theorem G_at (k : Fin 2048) : Proj.G (VA m) c (ix3 (1 : Fin 4) (0 : Fin 1) k) = A1 m c (ix2 (1 : Fin 4) k) := by
  refine (congrFun (V3_g m c) _).trans ?_
  refine shapeCast_apply _ shapeCasts_S4x2048_S4x1x2048 _ (ix2 (1 : Fin 4) k) ?_
  rw [Shape.rowMajor_val_two, Shape.rowMajor_val_three]
  rfl
theorem XN_at (T : Fin 32768) : Proj.XN (VA m) c T = xn (row (A0 m c) T) (fun k => A1 m c (ix2 (1 : Fin 4) k)) := by
  unfold Proj.XN
  rw [show (fun k => Proj.X (VA m) c (ix2 T k)) = row (A0 m c) T from funext fun k => X_at m c T k,
    show (fun k => Proj.G (VA m) c (ix3 (1 : Fin 4) (0 : Fin 1) k)) = (fun k => A1 m c (ix2 (1 : Fin 4) k)) from funext fun k => G_at m c k]

theorem W_at (i : S4x2048x11264.Idx) : Proj.W (VA m) c i = A2 m c (ix3 (i 0) (i 1) (src (i 2))) := by
  have e : VA m c main_v1_0 = Prep.RW (VP m) c :=
    (V3_of m (outs m) c main_v1_0 (by decide)).trans <| (congrFun (V2_eq m c) _).trans <| (W2_w m c).trans (Prep.final1 (VP m) c)
  exact (congrFun e i).trans (congrFun (V1_w m c) _)
theorem L_at (i : S4x2048x128.Idx) : Proj.L (VA m) c i = lgt (fun j => A2 m c (ix3 (i 0) (i 1) j)) (i 2) := by
  have e : VA m c main_v1_1 = Prep.RL (VP m) c :=
    (V3_of m (outs m) c main_v1_1 (by decide)).trans <| (congrFun (V2_eq m c) _).trans <| (W2_l m c).trans (Prep.final2 (VP m) c)
  exact (congrFun e i).trans (congrArg (fun f => lgt f (i 2)) (funext fun j => congrFun (V1_w m c) _))

theorem PR_at (T : Fin 32768) (C : Fin 11264) : Proj.PR (VA m) c T C = PJ (A0 m c) (A1 m c) (A2 m c) T (src C) := by
  unfold Proj.PR PJ
  rw [XN_at]
  exact Finset.sum_congr rfl fun k _ => congrArg _ (W_at m c _)
theorem LG_at (T : Fin 32768) (l : Fin 128) : Proj.LG (VA m) c T l = GG (A0 m c) (A1 m c) (A2 m c) (ix2 T l) := by
  unfold Proj.LG GG
  rw [XN_at]
  by_cases h : l.val < 6
  · rw [dif_pos (show ((ix2 T l : S32768x128.Idx) 1).val < 6 from h)]
    exact Finset.sum_congr rfl fun k _ => congrArg _ ((L_at m c _).trans (if_pos h))
  · rw [dif_neg (show ¬((ix2 T l : S32768x128.Idx) 1).val < 6 from h)]
    exact Finset.sum_eq_zero fun k _ => (congrArg _ ((L_at m c _).trans (show lgt _ l = 0 from if_neg h))).trans (mul_zero _)

theorem resO_eq : resO m c = OO (A0 m c) (A1 m c) (A2 m c) := by
  refine (Proj.final4 (VA m) c).trans (funext fun i => ?_)
  have h2 : (i 2).val < 128 := (i 2).isLt
  unfold Proj.RO OO col
  by_cases h : (i 0).val < 48
  · rw [if_pos h, if_pos (show 128 * (i 0).val + (i 2).val < 6144 by omega)]
    exact congrArg sgm (PR_at m c _ _)
  · rw [if_neg h, if_neg (show ¬128 * (i 0).val + (i 2).val < 6144 by omega)]
    exact PR_at m c _ _
theorem resG_eq : resG m c = GG (A0 m c) (A1 m c) (A2 m c) := by
  refine (Proj.final5 (VA m) c).trans (funext fun i => ?_)
  refine (LG_at m c (i 0) (i 1)).trans (congrArg _ (funext fun a => ?_))
  match a with
  | ⟨0, _⟩ => rfl
  | ⟨1, _⟩ => rfl

end Cert.Kernel2Ideal.Pair

end
-- ==== Proof.Ref2Val.lean ====
module

public import proofs.«01_k».proof.Proof.PairVal
public import proofs.«01_k».proof.Proof.Gen.Reference2Ideal.Read
public import Idealize.ShloMosaic.Lib.Pipeline.ValueKit
public import Idealize.ShloMosaic.Lib.KernelVsHost

/-! The reference's projection: the normalization, the product with the layer's weights, and the columns in the results' order. -/

@[expose] public section

set_option maxRecDepth 16384

noncomputable section

namespace Cert.Reference2Ideal.RefVal

open Cert.Reference2Ideal Cert.Reference2Ideal.Gen Cert.Reference2Ideal.Read
open Idealize.ShloMosaic Idealize.ShloMosaic.TcCoe
open Cert.Kernel2Ideal.Prep (src)
open Cert.Kernel2Ideal.Proj (xn sgm)
open Cert.Kernel2Ideal.Pair (row PJ col OO GG)

theorem one_eq : Ideal.ofBits FTy.f32 0x3F800000#32 = 1 := by
  simp [Ideal.ofBits, Ideal.ieee]
  rw [← EReal.coe_mul]; norm_num

section
variable (x0 : (⟨S8x4096x2048, .f32⟩ : BufTy).Contents (Elt Ideal)) (x1 : (⟨S4x2048, .f32⟩ : BufTy).Contents (Elt Ideal)) (x2 : (⟨S4x2048x11270, .f32⟩ : BufTy).Contents (Elt Ideal))

/-- The normalized tokens. -/
theorem v14_at (b : Fin 8) (s : Fin 4096) (k : Fin 2048) :
    val_main_v14 (F := Ideal) x0 x1 (ix3 b s k) = xn (fun k => x0 (ix3 b s k)) (fun k => x1 (ix2 (1 : Fin 4) k)) k := by
  rw [val_main_v14_apply, val_main_v9_apply, val_main_v8_apply, val_main_v7_apply, val_main_v6_apply, val_main_v4_apply, val_main_v5_apply, val_main_v3_apply, val_main_v2_apply, val_main_v1_apply,
    val_main_v13_apply, val_main_v12_apply, val_main_v11_apply, val_main_v10_apply]
  have eg : idx_main_v10 (idx_main_v11 (idx_main_v12 (idx_main_v13 (ix3 b s k)))) = ix2 (1 : Fin 4) k := by
    funext a
    match a with
    | ⟨0, _⟩ => rfl
    | ⟨1, _⟩ => exact Fin.ext (Nat.mod_eq_of_lt k.isLt)
  have es : ∀ k' : Fin 2048, idx_main_v1 (idx_main_v2 (idx_main_v8 (ix3 b s k))) k' = ix3 b s k' := fun k' => by
    funext a
    match a with
    | ⟨0, _⟩ => rfl
    | ⟨1, _⟩ => rfl
    | ⟨2, _⟩ => rfl
  rw [eg]
  simp only [es, val_main_v0_apply]
  have hz : (val_main_cst (F := Ideal)) (Shape.Idx.first h_S_) = (0 : EReal) := Ideal.ofBits_zero_f32
  rw [hz, zero_add]
  rfl

theorem v16_at (k : Fin 2048) (j : Fin 11270) : val_main_v16 (F := Ideal) x2 (ix2 k j) = x2 (ix3 (1 : Fin 4) k j) := by
  rw [val_main_v16_apply, val_main_v15_apply]
  have hk := k.isLt; have hj := j.isLt
  refine congrArg x2 (funext fun a => Fin.ext ?_)
  match a with
  | ⟨0, _⟩ => rfl
  | ⟨1, _⟩ => show (k.val * 11270 + j.val) / 11270 % 2048 = k.val; omega
  | ⟨2, _⟩ => show (k.val * 11270 + j.val) % 11270 = j.val; omega

/-- A token's normalized entries against a column. -/
theorem v17_at (i : S8x4096x11270.Idx) (T : Fin 32768) (j : Fin 11270) (h0 : (i 0).val = T.val / 4096) (h1 : (i 1).val = T.val % 4096) (h2 : (i 2).val = j.val) :
    val_main_v17 (F := Ideal) x0 x1 x2 i = PJ x0 x1 x2 T j := by
  rw [val_main_v17_apply]
  unfold PJ
  refine Finset.sum_congr rfl fun k _ => ?_
  have el : lidx_main_v17 i k = ix3 (⟨T.val / 4096, by omega⟩ : Fin 8) (⟨T.val % 4096, Nat.mod_lt _ (by norm_num)⟩ : Fin 4096) k := by
    funext a
    match a with
    | ⟨0, _⟩ => exact Fin.ext h0
    | ⟨1, _⟩ => exact Fin.ext h1
    | ⟨2, _⟩ => rfl
  have er : ridx_main_v17 i k = ix2 k j := by
    funext a
    match a with
    | ⟨0, _⟩ => rfl
    | ⟨1, _⟩ => exact Fin.ext h2
  rw [el, er, v14_at, v16_at]
  rfl

/-- The gates. -/
theorem v27_at (i : S8x4096x6144.Idx) (T : Fin 32768) (j : Fin 11270) (h0 : (i 0).val = T.val / 4096) (h1 : (i 1).val = T.val % 4096) (h2 : 5126 + (i 2).val = j.val) :
    val_main_v27 (F := Ideal) x0 x1 x2 i = sgm (PJ x0 x1 x2 T j) := by
  rw [val_main_v27_apply, val_main_v25_apply, val_main_v26_apply, val_main_v24_apply, val_main_v23_apply, val_main_v22_apply, val_main_v21_apply, v17_at x0 x1 x2 _ T j h0 h1 h2]
  generalize PJ x0 x1 x2 T j = s
  show Ideal.div (Ideal.ofBits FTy.f32 0x3F800000#32) (Ideal.ofBits FTy.f32 0x3F800000#32 + Ideal.exp (-s)) = Ideal.div 1 (1 + Ideal.exp (0 - s))
  rw [one_eq, zero_sub]

/-- The columns in the results' order. -/
theorem v28_at (i : S8x4096x11264.Idx) (T : Fin 32768) (C : Fin 11264) (h0 : (i 0).val = T.val / 4096) (h1 : (i 1).val = T.val % 4096) (h2 : (i 2).val = C.val) :
    val_main_v28 (F := Ideal) x0 x1 x2 i = col x0 x1 x2 T C := by
  have hC := C.isLt
  have hb : T.val / 4096 < 8 := by omega
  have hs : T.val % 4096 < 4096 := Nat.mod_lt _ (by norm_num)
  unfold val_main_v28 col
  by_cases hA : C.val < 6144
  · rw [if_pos hA]
    have ej : 5126 + C.val = (src C).val := by unfold src; exact (if_pos hA).symm
    refine (concatenate_apply_piece _ _ _ i 0 (by show 0 < 3; decide) S8x4096x6144 (val_main_v27 (F := Ideal) x0 x1 x2) rfl rfl 0 rfl
      (ix3 (⟨T.val / 4096, hb⟩ : Fin 8) (⟨T.val % 4096, hs⟩ : Fin 4096) (⟨C.val, hA⟩ : Fin 6144)) (fun b => ?_) ?_).trans
      (v27_at x0 x1 x2 _ T (src C) rfl rfl ej)
    · fin_cases b
      · exact fun _ => h0.symm
      · exact fun _ => h1.symm
      · exact fun hb => absurd rfl hb
    · exact (Nat.zero_add _).trans h2.symm
  · rw [if_neg hA]
    by_cases hB : C.val < 10752
    · have hl : C.val - 6144 < 4608 := by omega
      have ej : C.val - 6144 = (src C).val := by unfold src; exact ((if_neg hA).trans (if_pos hB)).symm
      refine (concatenate_apply_piece _ _ _ i 1 (by show 1 < 3; decide) S8x4096x4608 (val_main_v18 (F := Ideal) x0 x1 x2) rfl rfl 6144 rfl
        (ix3 (⟨T.val / 4096, hb⟩ : Fin 8) (⟨T.val % 4096, hs⟩ : Fin 4096) (⟨C.val - 6144, hl⟩ : Fin 4608)) (fun b => ?_) ?_).trans ?_
      · fin_cases b
        · exact fun _ => h0.symm
        · exact fun _ => h1.symm
        · exact fun hb => absurd rfl hb
      · exact (Nat.add_sub_cancel' (by omega : 6144 ≤ C.val)).trans h2.symm
      · rw [val_main_v18_apply]
        exact v17_at x0 x1 x2 _ T (src C) rfl rfl ej
    · have hl : C.val - 10752 < 512 := by omega
      have ej : 4614 + (C.val - 10752) = (src C).val := by
        unfold src
        refine Eq.trans ?_ ((if_neg hA).trans (if_neg hB)).symm
        omega
      refine (concatenate_apply_piece _ _ _ i 2 (by show 2 < 3; decide) S8x4096x512 (val_main_v20 (F := Ideal) x0 x1 x2) rfl rfl 10752 rfl
        (ix3 (⟨T.val / 4096, hb⟩ : Fin 8) (⟨T.val % 4096, hs⟩ : Fin 4096) (⟨C.val - 10752, hl⟩ : Fin 512)) (fun b => ?_) ?_).trans ?_
      · fin_cases b
        · exact fun _ => h0.symm
        · exact fun _ => h1.symm
        · exact fun hb => absurd rfl hb
      · exact (Nat.add_sub_cancel' (by omega : 10752 ≤ C.val)).trans h2.symm
      · rw [val_main_v20_apply]
        exact v17_at x0 x1 x2 _ T (src C) rfl rfl ej

theorem v33_eq : val_main_v33 (F := Ideal) x0 x1 x2 = OO x0 x1 x2 := by
  funext i
  have h0 : (i 0).val < 88 := (i 0).isLt
  have h1 : (i 1).val < 32768 := (i 1).isLt
  have h2 : (i 2).val < 128 := (i 2).isLt
  rw [val_main_v33_apply]
  show val_main_v32 (F := Ideal) x0 x1 x2 i = _
  rw [val_main_v32_apply, val_main_v29_apply]
  refine v28_at x0 x1 x2 _ (i 1) ⟨128 * (i 0).val + (i 2).val, by omega⟩ ?_ ?_ ?_
  · show (((i 1).val * 88 + (i 0).val) * 128 + (i 2).val) / 46137344 = (i 1).val / 4096; omega
  · show (((i 1).val * 88 + (i 0).val) * 128 + (i 2).val) / 11264 % 4096 = (i 1).val % 4096; omega
  · show (((i 1).val * 88 + (i 0).val) * 128 + (i 2).val) % 11264 = 128 * (i 0).val + (i 2).val; omega

theorem v31_eq : val_main_v31 (F := Ideal) x0 x1 x2 = GG x0 x1 x2 := by
  funext i
  have h0 : (i 0).val < 32768 := (i 0).isLt
  have h1 : (i 1).val < 128 := (i 1).isLt
  unfold val_main_v31 GG
  by_cases h : (i 1).val < 6
  · rw [dif_pos h]
    refine (pad_apply_of_inside _ _ _ _ _ _ _ i (ix2 (⟨(i 0).val, h0⟩ : Fin 32768) (⟨(i 1).val, h⟩ : Fin 6)) (fun a => match a with
      | ⟨0, _⟩ => by show (i 0).val = 0 + (i 0).val * (0 + 1); omega
      | ⟨1, _⟩ => by show (i 1).val = 0 + (i 1).val * (0 + 1); omega)).trans ?_
    rw [val_main_v30_apply, val_main_v19_apply]
    refine v17_at x0 x1 x2 _ (i 0) ⟨4608 + (i 1).val, by omega⟩ ?_ ?_ ?_
    · show ((i 0).val * 6 + (i 1).val) / 24576 = (i 0).val / 4096; omega
    · show ((i 0).val * 6 + (i 1).val) / 6 % 4096 = (i 0).val % 4096; omega
    · show 4608 + ((i 0).val * 6 + (i 1).val) % 6 = 4608 + (i 1).val; omega
  · rw [dif_neg h]
    refine (pad_apply_of_not_inside _ _ _ _ _ _ _ i 1 (fun ha => h ?_)).trans ?_
    · have := ha.2.2
      change ((i 1).val - 0) / (0 + 1) < 6 at this
      omega
    · show ((((0#32 : BitVec 32).toInt : ℝ)) : EReal) = 0
      simp
end

end Cert.Reference2Ideal.RefVal

end
-- ==== Proof.FfnRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.ReshapeSlab
public import Idealize.ShloMosaic.Lib.WordCmp

/-! The experts: what the call's body leaves in its result's block at each grid point, from any contents of its arrays. -/

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result's block, its rows in pairs. -/
abbrev pairs (m : Memref sig .tc .vmem S8192x128 .bf16) (h : m.IsWhole) : Memref sig .tc .vmem S4096x2x128 .bf16 :=
  m.reshape S4096x2x128 reshapes_S8192x128_S4096x2x128.1 reshapes_S8192x128_S4096x2x128.2 h.contiguous

theorem hold_pairs (c : Dev nD) (m : Memref sig .tc .vmem S8192x128 .bf16) (h : m.IsWhole) (f : Buf (Elt F) (m.view.loc (c : Thread nD τ))) :
    (iprop((m.view.reshape S4096x2x128 reshapes_S8192x128_S4096x2x128.1).loc (c : Thread nD τ) ↦[(m.view.reshape S4096x2x128 reshapes_S8192x128_S4096x2x128.1).set]{fullShare} f) : sProp 𝕄)
      ⊢ iprop((m.reshape S4096x2x128 reshapes_S8192x128_S4096x2x128.1 reshapes_S8192x128_S4096x2x128.2 h.contiguous).view.loc (c : Thread nD τ) ↦[(m.reshape S4096x2x128 reshapes_S8192x128_S4096x2x128.1 reshapes_S8192x128_S4096x2x128.2 h.contiguous).view.set]{fullShare} f) := .rfl

set_option maxHeartbeats 8000000 in
/-- The body's run at a block in use: what it leaves in its result's block. -/
noncomputable def runOn (c : Dev nD) (i : grid0.Coords) (arg1 : Memref sig .tc .smem S144 .i32) (harg1 : arg1.IsWhole) (arg2 : Memref sig .tc .smem S1 .i32) (harg2 : arg2.IsWhole) (arg3 : Memref sig .tc .vmem S4096x128 .i32) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S8192x128 .bf16) (harg7 : arg7.IsWhole)
    (xn : Vec F S1 .i32) (hc1 : k0_cond1 i (arg2.view.readAt (Elt F) (Rect.unit (s := S1) ![0] S1.size inb_S1_S1_0).toLoadRect (harg2.unread xn) (Shape.Idx.first (numel1_S1.symm ▸ Nat.one_pos))) = 1#1) (hc2 : ¬k0_cond2 i (arg2.view.readAt (Elt F) (Rect.unit (s := S1) ![0] S1.size inb_S1_S1_0).toLoadRect (harg2.unread xn) (Shape.Idx.first (numel1_S1.symm ▸ Nat.one_pos))) = 1#1)
    (x0 : Vec F S4096x128 .i32) (x1 : Vec F S1x1x2048x1024 .bf16) (x2 : Vec F S1x1x2048x1024 .bf16) (x3 : Vec F S1x1x1024x2048 .bf16)  :
    { L : List (View.Piece (Elt F) S4096x2x128 .bf16) //
      ∀ (f7 : Buf (Elt F) ((pairs arg7 harg7).view.loc (c : Thread nD τ))) (E : Set ℕ) (K : PUnit → sProp 𝕄),
        iprop(owns (c : Thread nD τ) arg2 fullShare xn ∗ owns (c : Thread nD τ) arg3 fullShare x0 ∗ owns (c : Thread nD τ) arg4 fullShare x1 ∗ owns (c : Thread nD τ) arg5 fullShare x2 ∗ owns (c : Thread nD τ) arg6 fullShare x3 ∗ ((pairs arg7 harg7).view.loc (c : Thread nD τ) ↦[(pairs arg7 harg7).view.set]{fullShare} f7)
            ∗ (iprop(owns (c : Thread nD τ) arg2 fullShare xn ∗ owns (c : Thread nD τ) arg3 fullShare x0 ∗ owns (c : Thread nD τ) arg4 fullShare x1 ∗ owns (c : Thread nD τ) arg5 fullShare x2 ∗ owns (c : Thread nD τ) arg6 fullShare x3 ∗ ((pairs arg7 harg7).view.loc (c : Thread nD τ) ↦[(pairs arg7 harg7).view.set]{fullShare} (pairs arg7 harg7).view.writes (Elt F) f7 L)) -∗ K ⟨⟩))
          ⊢ wp frame (wpE (defs₀ (F := F)) Variants.none c none) E (cc0_expert_ffn i arg1 harg1 arg2 harg2 arg3 harg3 arg4 harg4 arg5 harg5 arg6 harg6 arg7 harg7) K } := by
  refine ⟨?_, fun f7 E K => ?run⟩
  case run =>
    simp only [cc0_expert_ffn_eq_skeleton]; unfold cc0_expert_ffn_skel
    simp only [k0_part1_eq_skeleton, k0_part2_eq_skeleton, k0_part3_eq_skeleton]
    unfold owns
    iintro ⟨⟨%fn, %hfn, HN⟩, ⟨%f0, %hf0, H0⟩, ⟨%f1, %hf1, H1⟩, ⟨%f2, %hf2, H2⟩, ⟨%f3, %hf3, H3⟩, H4, Hk⟩
    obtain rfl := harg2.eq_unread hfn; obtain rfl := harg3.eq_unread hf0; obtain rfl := harg4.eq_unread hf1; obtain rfl := harg5.eq_unread hf2; obtain rfl := harg6.eq_unread hf3
    ihave H4 := (hold_pairs c arg7 harg7 f7) $$ H4
    sl_exec (disch := first | sl_exact hc1 | sl_exact hc2 | exact hc1 | exact hc2)
    sl_step
    iapply Hk
    isplitl [HN]
    · iexists _; isplitr; · ipureintro; exact harg2.read_unread _
      iexact HN
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexact H4

set_option maxHeartbeats 8000000 in
/-- The body's run at a block not in use: what it leaves in its result's block. -/
noncomputable def runOff (c : Dev nD) (i : grid0.Coords) (arg1 : Memref sig .tc .smem S144 .i32) (harg1 : arg1.IsWhole) (arg2 : Memref sig .tc .smem S1 .i32) (harg2 : arg2.IsWhole) (arg3 : Memref sig .tc .vmem S4096x128 .i32) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S8192x128 .bf16) (harg7 : arg7.IsWhole)
    (xn : Vec F S1 .i32) (hc1 : ¬k0_cond1 i (arg2.view.readAt (Elt F) (Rect.unit (s := S1) ![0] S1.size inb_S1_S1_0).toLoadRect (harg2.unread xn) (Shape.Idx.first (numel1_S1.symm ▸ Nat.one_pos))) = 1#1) (hc2 : k0_cond2 i (arg2.view.readAt (Elt F) (Rect.unit (s := S1) ![0] S1.size inb_S1_S1_0).toLoadRect (harg2.unread xn) (Shape.Idx.first (numel1_S1.symm ▸ Nat.one_pos))) = 1#1)
    (x0 : Vec F S4096x128 .i32) (x1 : Vec F S1x1x2048x1024 .bf16) (x2 : Vec F S1x1x2048x1024 .bf16) (x3 : Vec F S1x1x1024x2048 .bf16)  :
    { L : List (View.Piece (Elt F) S8192x128 .bf16) //
      ∀ (f7 : Buf (Elt F) (arg7.view.loc (c : Thread nD τ))) (E : Set ℕ) (K : PUnit → sProp 𝕄),
        iprop(owns (c : Thread nD τ) arg2 fullShare xn ∗ owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} f7)
            ∗ (iprop(owns (c : Thread nD τ) arg2 fullShare xn ∗ owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) f7 L)) -∗ K ⟨⟩))
          ⊢ wp frame (wpE (defs₀ (F := F)) Variants.none c none) E (cc0_expert_ffn i arg1 harg1 arg2 harg2 arg3 harg3 arg4 harg4 arg5 harg5 arg6 harg6 arg7 harg7) K } := by
  refine ⟨?_, fun f7 E K => ?run⟩
  case run =>
    simp only [cc0_expert_ffn_eq_skeleton]; unfold cc0_expert_ffn_skel
    simp only [k0_part1_eq_skeleton, k0_part2_eq_skeleton, k0_part3_eq_skeleton]
    unfold owns
    iintro ⟨⟨%fn, %hfn, HN⟩, ⟨%f0, %hf0, H0⟩, ⟨%f1, %hf1, H1⟩, ⟨%f2, %hf2, H2⟩, ⟨%f3, %hf3, H3⟩, H4, Hk⟩
    obtain rfl := harg2.eq_unread hfn; obtain rfl := harg3.eq_unread hf0; obtain rfl := harg4.eq_unread hf1; obtain rfl := harg5.eq_unread hf2; obtain rfl := harg6.eq_unread hf3
    sl_exec (disch := first | sl_exact hc1 | sl_exact hc2 | exact hc1 | exact hc2)
    sl_step
    iapply Hk
    isplitl [HN]
    · iexists _; isplitr; · ipureintro; exact harg2.read_unread _
      iexact HN
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexact H4

theorem coverOn (c : Dev nD) (i : grid0.Coords) (arg1 : Memref sig .tc .smem S144 .i32) (harg1 : arg1.IsWhole) (arg2 : Memref sig .tc .smem S1 .i32) (harg2 : arg2.IsWhole) (arg3 : Memref sig .tc .vmem S4096x128 .i32) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S8192x128 .bf16) (harg7 : arg7.IsWhole)
    (xn : Vec F S1 .i32) (hc1) (hc2) (x0 : Vec F S4096x128 .i32) (x1 : Vec F S1x1x2048x1024 .bf16) (x2 : Vec F S1x1x2048x1024 .bf16) (x3 : Vec F S1x1x1024x2048 .bf16) (y : S4096x2x128.Idx) :
    ∃ pc ∈ (runOn c i arg1 harg1 arg2 harg2 arg3 harg3 arg4 harg4 arg5 harg5 arg6 harg6 arg7 harg7 xn hc1 hc2 x0 x1 x2 x3).1, y ∈ pc.1.set := by
  have key : ∀ (k : Nat) (h) (hs), (y 0).val % 8 = k → y ∈ (⟨(⟨![k, 0, 0], S512x2x128.size, ![8, 1, 1], h⟩ : LoadRect S4096x2x128), hs⟩ : Rect S4096x2x128).set := fun k h hs hk => by
    refine (LoadRect.mem_set _).mpr fun a => ?_
    have h0 : (y 0).val < 4096 := (y 0).isLt
    fin_cases a
    · exact ⟨(y 0).val / 8, by show _ < 512; omega, by show (y 0).val = k + 8 * ((y 0).val / 8); omega⟩
    · exact ⟨(y 1).val, (y 1).isLt, by show (y 1).val = 0 + 1 * (y 1).val; omega⟩
    · exact ⟨(y 2).val, (y 2).isLt, by show (y 2).val = 0 + 1 * (y 2).val; omega⟩
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  unfold runOn
  dsimp only
  rcases h8 with hm | hm | hm | hm | hm | hm | hm | hm
  · exact ⟨_, .tail _ (.tail _ (.tail _ (.tail _ (.tail _ (.tail _ (.tail _ (.head _))))))), key 0 _ _ hm⟩
  · exact ⟨_, .tail _ (.tail _ (.tail _ (.tail _ (.tail _ (.tail _ (.head _)))))), key 1 _ _ hm⟩
  · exact ⟨_, .tail _ (.tail _ (.tail _ (.tail _ (.tail _ (.head _))))), key 2 _ _ hm⟩
  · exact ⟨_, .tail _ (.tail _ (.tail _ (.tail _ (.head _)))), key 3 _ _ hm⟩
  · exact ⟨_, .tail _ (.tail _ (.tail _ (.head _))), key 4 _ _ hm⟩
  · exact ⟨_, .tail _ (.tail _ (.head _)), key 5 _ _ hm⟩
  · exact ⟨_, .tail _ (.head _), key 6 _ _ hm⟩
  · exact ⟨_, .head _, key 7 _ _ hm⟩

theorem coverOff (c : Dev nD) (i : grid0.Coords) (arg1 : Memref sig .tc .smem S144 .i32) (harg1 : arg1.IsWhole) (arg2 : Memref sig .tc .smem S1 .i32) (harg2 : arg2.IsWhole) (arg3 : Memref sig .tc .vmem S4096x128 .i32) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S8192x128 .bf16) (harg7 : arg7.IsWhole)
    (xn : Vec F S1 .i32) (hc1) (hc2) (x0 : Vec F S4096x128 .i32) (x1 : Vec F S1x1x2048x1024 .bf16) (x2 : Vec F S1x1x2048x1024 .bf16) (x3 : Vec F S1x1x1024x2048 .bf16) (y : S8192x128.Idx) :
    ∃ pc ∈ (runOff c i arg1 harg1 arg2 harg2 arg3 harg3 arg4 harg4 arg5 harg5 arg6 harg6 arg7 harg7 xn hc1 hc2 x0 x1 x2 x3).1, y ∈ pc.1.set :=
  View.cover_of_tiledL (runOff c i arg1 harg1 arg2 harg2 arg3 harg3 arg4 harg4 arg5 harg5 arg6 harg6 arg7 harg7 xn hc1 hc2 x0 x1 x2 x3).1 S8192x128.size (by sl_kernel_rfl) y

/-- The word the body's branches compare with is the second table's. -/
theorem cnt_read (arg2 : Memref sig .tc .smem S1 .i32) (harg2 : arg2.IsWhole) (xn : Vec F S1 .i32) :
    arg2.view.readAt (Elt F) (Rect.unit (s := S1) ![0] S1.size inb_S1_S1_0).toLoadRect (harg2.unread xn) (Shape.Idx.first (numel1_S1.symm ▸ Nat.one_pos)) = xn (fun a => ⟨0, by fin_cases a; decide⟩) := by
  show arg2.view.read (Elt F) (harg2.unread xn) _ = _
  rw [harg2.read_unread]
  congr 1
  funext a
  exact Fin.ext (by have := ((Rect.unit (s := S1) ![0] S1.size inb_S1_S1_0).emb (Shape.Idx.first (numel1_S1.symm ▸ Nat.one_pos)) a).isLt; fin_cases a; exact Nat.lt_one_iff.mp this)

/-- The two branches are the two sides of one comparison. -/
theorem cond_iff (i : grid0.Coords) (v : BitVec 32) : k0_cond2 i v = 1#1 ↔ ¬k0_cond1 i v = 1#1 := by
  unfold k0_cond1 k0_cond2
  generalize BitVec.ofNat 32 (i 0).val = w
  have key : Scalar.cmpi .sge w v = ~~~(Scalar.cmpi .slt w v) := by
    show IntOp.cmpi .sge w v = ~~~(IntOp.cmpi .slt w v)
    rw [WordCmp.cmpi_sge_eq, WordCmp.cmpi_slt_eq]
    by_cases h : w.toInt < v.toInt
    · rw [decide_eq_true h, decide_eq_false (not_le.mpr h)]; decide
    · rw [decide_eq_false h, decide_eq_true (not_lt.mp h)]; decide
  dsimp only
  rw [key]
  generalize Scalar.cmpi .slt w v = b
  revert b; decide

end Cert.Kernel3Ideal.Ffn

end
-- ==== Proof.FfnBody.lean ====
module

public import proofs.«01_k».proof.Proof.FfnRun

/-! The experts' call at every grid point: its data, and the body's obligation. -/

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result's block is its rows in pairs read back. -/
theorem read_pairs (m : Memref sig .tc .vmem S8192x128 .bf16) (h : m.IsWhole) (f : m.view.ty.Contents (Elt F)) :
    m.view.read (Elt F) f = fun x => (pairs m h).view.read (Elt F) f ((Shape.reshapeEquiv reshapes_S8192x128_S4096x2x128.1).symm x) := by
  funext x
  show _ = m.view.read (Elt F) f (Shape.reshapeEquiv reshapes_S8192x128_S4096x2x128.1 ((Shape.reshapeEquiv reshapes_S8192x128_S4096x2x128.1).symm x))
  rw [Equiv.apply_symm_apply]

variable (a : (pcfg0 (F := F)).Adm) (V : (c : Dev nD) → (b : Ref sig .tc) → Buf (Elt F) ((c : Thread nD τ).loc b))

/-- The number of blocks in use, the second table's word. -/
def cnt : BitVec 32 := (show Vec F S1 .i32 from a.1 1) (fun d => ⟨0, by fin_cases d; decide⟩)

/-- Window `w`'s block at point `t`, read off the array's contents when the region is entered. -/
def blk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Input window 0's buffer holds its block at every point, fetched there or earlier. -/
theorem before0_of {c : Dev nD} (dat : Dat τ (Elt F) Unit ℕ (UR sig nD τ) ℕ (cfg0 a) c) (hA : dat.A 0 = V c (Pipeline.arrRef spec0 0))
    (hafter : ∀ t, dat.after 0 t = blk a V c 0 t) (t : Fin (cfg0 a).N) (d) : dat.before 0 t d = blk a V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's buffer holds its block at every point, fetched there or earlier. -/
theorem before1_of {c : Dev nD} (dat : Dat τ (Elt F) Unit ℕ (UR sig nD τ) ℕ (cfg0 a) c) (hA : dat.A 1 = V c (Pipeline.arrRef spec0 1))
    (hafter : ∀ t, dat.after 1 t = blk a V c 1 t) (t : Fin (cfg0 a).N) (d) : dat.before 1 t d = blk a V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's buffer holds its block at every point, fetched there or earlier. -/
theorem before2_of {c : Dev nD} (dat : Dat τ (Elt F) Unit ℕ (UR sig nD τ) ℕ (cfg0 a) c) (hA : dat.A 2 = V c (Pipeline.arrRef spec0 2))
    (hafter : ∀ t, dat.after 2 t = blk a V c 2 t) (t : Fin (cfg0 a).N) (d) : dat.before 2 t d = blk a V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's buffer holds its block at every point, fetched there or earlier. -/
theorem before3_of {c : Dev nD} (dat : Dat τ (Elt F) Unit ℕ (UR sig nD τ) ℕ (cfg0 a) c) (hA : dat.A 3 = V c (Pipeline.arrRef spec0 3))
    (hafter : ∀ t, dat.after 3 t = blk a V c 3 t) (t : Fin (cfg0 a).N) (d) : dat.before 3 t d = blk a V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
abbrev ms0 (t : Fin (cfg0 a).N) : Memref sig .tc .vmem S4096x128 .i32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x1x2048x1024 .bf16 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x1x2048x1024 .bf16 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S1x1x1024x2048 .bf16 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S8192x128 .bf16 := spec0_4.stage ((cfg0 a).slots t 4)
abbrev hs4 (t : Fin (cfg0 a).N) : (ms4 a t).IsWhole := hstage0_4 (((cfg0 a).slots t 4).cast nbuf0_4)
abbrev TB : Memref sig .tc .smem S144 .i32 := Memref.whole main_arg0
abbrev TN : Memref sig .tc .smem S1 .i32 := Memref.whole main_arg1
abbrev hTB : TB.IsWhole := Memref.isWhole_whole _
abbrev hTN : TN.IsWhole := Memref.isWhole_whole _
/-- The second table's contents. -/
abbrev tn : Vec F S1 .i32 := a.1 1

/-- The kernel body at point `t`. -/
abbrev bodyAt (t : Fin (cfg0 a).N) : Prog (TpuEff nD τ sig (Elt F) Λ₀ .tc) PUnit :=
  cc0_expert_ffn (grid0.coords t) TB hTB TN hTN (ms0 a t) (hs0 a t) (ms1 a t) (hs1 a t) (ms2 a t) (hs2 a t) (ms3 a t) (hs3 a t) (ms4 a t) (hs4 a t)

theorem c1_of (i : grid0.Coords) (v : BitVec 1) (arg2 : Memref sig .tc .smem S1 .i32) (harg2 : arg2.IsWhole)  (h : k0_cond1 i (cnt a) = v) :
    k0_cond1 i (arg2.view.readAt (Elt F) (Rect.unit (s := S1) ![0] S1.size inb_S1_S1_0).toLoadRect (harg2.unread (tn a)) (Shape.Idx.first (numel1_S1.symm ▸ Nat.one_pos))) = v := by
  rw [cnt_read]; exact h
theorem c2_of (i : grid0.Coords) (arg2 : Memref sig .tc .smem S1 .i32) (harg2 : arg2.IsWhole) :
    k0_cond2 i (arg2.view.readAt (Elt F) (Rect.unit (s := S1) ![0] S1.size inb_S1_S1_0).toLoadRect (harg2.unread (tn a)) (Shape.Idx.first (numel1_S1.symm ▸ Nat.one_pos))) = 1#1 ↔ ¬k0_cond1 i (cnt a) = 1#1 := by
  rw [cond_iff, cnt_read]; exact Iff.rfl
theorem n1_of (i : grid0.Coords) (arg2 : Memref sig .tc .smem S1 .i32) (harg2 : arg2.IsWhole)  (h : ¬k0_cond1 i (cnt a) = 1#1) :
    ¬k0_cond1 i (arg2.view.readAt (Elt F) (Rect.unit (s := S1) ![0] S1.size inb_S1_S1_0).toLoadRect (harg2.unread (tn a)) (Shape.Idx.first (numel1_S1.symm ▸ Nat.one_pos))) = 1#1 := by
  rw [cnt_read]; exact h

/-- What a block in use is left at, its rows in pairs. -/
def pairsAt (c : Dev nD) (t : Fin (cfg0 a).N) (h : k0_cond1 (grid0.coords t) (cnt a) = 1#1) : S4096x2x128.Idx → Elt F .bf16 :=
  View.canon (runOn c (grid0.coords t) TB hTB TN hTN (ms0 a t) (hs0 a t) (ms1 a t) (hs1 a t) (ms2 a t) (hs2 a t) (ms3 a t) (hs3 a t) (ms4 a t) (hs4 a t) (tn a) (c1_of a _ _ TN hTN h) (fun h2 => (c2_of a _ TN hTN).mp h2 h) (blk a V c 0 t) (blk a V c 1 t) (blk a V c 2 t) (blk a V c 3 t)).1
def outOff (c : Dev nD) (t : Fin (cfg0 a).N) (h : ¬k0_cond1 (grid0.coords t) (cnt a) = 1#1) : Vec F S8192x128 .bf16 :=
  View.canon (runOff c (grid0.coords t) TB hTB TN hTN (ms0 a t) (hs0 a t) (ms1 a t) (hs1 a t) (ms2 a t) (hs2 a t) (ms3 a t) (hs3 a t) (ms4 a t) (hs4 a t) (tn a) (n1_of a _ TN hTN h) ((c2_of a _ TN hTN).mpr h) (blk a V c 0 t) (blk a V c 1 t) (blk a V c 2 t) (blk a V c 3 t)).1
/-- The result's block after point `t`. -/
def outAt (c : Dev nD) (t : Fin (cfg0 a).N) : Vec F S8192x128 .bf16 :=
  if h : k0_cond1 (grid0.coords t) (cnt a) = 1#1 then fun x => pairsAt a V c t h ((Shape.reshapeEquiv reshapes_S8192x128_S4096x2x128.1).symm x)
  else outOff a V c t h

/-- What rides beside the windows: the buffers no window stages, the generator register, the two tables. -/
def Phi (c : Dev nD) : sProp 𝕄 := iprop(Pipeline.ΦA spec0 c ∗ Pipeline.prefHeld pre0 c (fun _ => fullShare) a.1)

theorem tables_eq (c : Dev nD) :
    (Pipeline.prefHeld pre0 c (fun _ => fullShare) a.1 : sProp 𝕄)
      = iprop((((c : Thread nD τ).loc main_arg0) ↦{fullShare} (show Buf (Elt F) ((c : Thread nD τ).loc main_arg0) from a.1 0))
          ∗ owns (c : Thread nD τ) TN fullShare (tn a)) := by
  unfold Pipeline.prefHeld
  simp only [TN, owns_whole]
  rw [show (Finset.univ : Finset (Fin 2)) = insert 0 {1} from by decide, bigSep_insert (by decide), bigSep_singleton]
  rfl

/-- The call's data: the arrays as entered, the inputs left as fetched, the result at `outAt`. -/
def dat (c : Dev nD) : Dat τ (Elt F) Unit ℕ (UR sig nD τ) ℕ (cfg0 a) c where
  A w := V c (Pipeline.arrRef spec0 w)
  after w t := match w with
    | ⟨0, _⟩ => blk a V c 0 t
    | ⟨1, _⟩ => blk a V c 1 t
    | ⟨2, _⟩ => blk a V c 2 t
    | ⟨3, _⟩ => blk a V c 3 t
    | ⟨4, _⟩ => outAt a V c t
  Φ _ := Phi a c
  q _ := fullShare
  owed _ := 0

theorem A_eq (c : Dev nD) (w : Fin (cfg0 a).W) : (dat a V c).A w = V c (Pipeline.arrRef spec0 w) := rfl
theorem after0 (c : Dev nD) (t : Fin (cfg0 a).N) : (dat a V c).after 0 t = blk a V c 0 t := rfl
theorem after1 (c : Dev nD) (t : Fin (cfg0 a).N) : (dat a V c).after 1 t = blk a V c 1 t := rfl
theorem after2 (c : Dev nD) (t : Fin (cfg0 a).N) : (dat a V c).after 2 t = blk a V c 2 t := rfl
theorem after3 (c : Dev nD) (t : Fin (cfg0 a).N) : (dat a V c).after 3 t = blk a V c 3 t := rfl
theorem after4 (c : Dev nD) (t : Fin (cfg0 a).N) : (dat a V c).after 4 t = outAt a V c t := rfl
theorem before0 (c : Dev nD) (t : Fin (cfg0 a).N) (d) : (dat a V c).before 0 t d = blk a V c 0 t :=
  before0_of a V (dat a V c) (A_eq a V c 0) (after0 a V c) t d
theorem before1 (c : Dev nD) (t : Fin (cfg0 a).N) (d) : (dat a V c).before 1 t d = blk a V c 1 t :=
  before1_of a V (dat a V c) (A_eq a V c 1) (after1 a V c) t d
theorem before2 (c : Dev nD) (t : Fin (cfg0 a).N) (d) : (dat a V c).before 2 t d = blk a V c 2 t :=
  before2_of a V (dat a V c) (A_eq a V c 2) (after2 a V c) t d
theorem before3 (c : Dev nD) (t : Fin (cfg0 a).N) (d) : (dat a V c).before 3 t d = blk a V c 3 t :=
  before3_of a V (dat a V c) (A_eq a V c 3) (after3 a V c) t d

/-- The result's window is stored into at every point. -/
theorem idle4 (t : Fin (cfg0 a).N) : (cfg0 a).idle 4 ((cfg0 a).grid.coords t) = false := by
  show (!(k0_cond1 (grid0.coords t) (a.1.atD 1 ![0]) == 1#1) && !(k0_cond2 (grid0.coords t) (a.1.atD 1 ![0]) == 1#1)) = false
  by_cases h : k0_cond1 (grid0.coords t) (a.1.atD 1 ![0]) = 1#1
  · rw [h]; rfl
  · rw [(cond_iff _ _).mpr h, Bool.and_eq_false_iff]; exact Or.inr rfl

/-- What the pipeline asks of that buffer after the body at point `t`. -/
def post4 (c : Dev nD) (t : Fin (cfg0 a).N) : sProp 𝕄 :=
  match (cfg0 a).idle 4 ((cfg0 a).grid.coords t) with
  | true =>
    match ((cfg0 a).win 4).flush t with
    | false => iprop(∃ d, owns (c : Thread nD τ) (ms4 a t) fullShare ((dat a V c).before 4 t d))
    | true => owns (c : Thread nD τ) (ms4 a t) fullShare ((dat a V c).after 4 t)
  | false => owns (c : Thread nD τ) (ms4 a t) fullShare ((dat a V c).after 4 t)
theorem post4_of (c : Dev nD) (t : Fin (cfg0 a).N) : (owns (c : Thread nD τ) (ms4 a t) fullShare ((dat a V c).after 4 t) : sProp 𝕄) ⊢ post4 a V c t := by
  unfold post4
  rw [idle4]

/-- What the body is called with at point `t`, -/
def bodyPre (c : Dev nD) (t : Fin (cfg0 a).N) : sProp 𝕄 :=
  iprop((dat a V c).Φ t.castSucc ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d))
    ∗ (∃ d, owns (c : Thread nD τ) (ms3 a t) fullShare ((dat a V c).before 3 t d))
    ∗ (∃ d, owns (c : Thread nD τ) (ms4 a t) fullShare ((dat a V c).before 4 t d)))

/-- and what it returns. -/
def bodyPost (c : Dev nD) (t : Fin (cfg0 a).N) : sProp 𝕄 :=
  iprop((dat a V c).Φ t.succ ∗ (dat a V c).owesAt () t.succ
    ∗ owns (c : Thread nD τ) (ms0 a t) fullShare ((dat a V c).after 0 t)
    ∗ owns (c : Thread nD τ) (ms1 a t) fullShare ((dat a V c).after 1 t)
    ∗ owns (c : Thread nD τ) (ms2 a t) fullShare ((dat a V c).after 2 t)
    ∗ owns (c : Thread nD τ) (ms3 a t) fullShare ((dat a V c).after 3 t)
    ∗ owns (c : Thread nD τ) (ms4 a t) fullShare ((dat a V c).after 4 t))

/-- The result's block held, as its rows in pairs; -/
theorem to_pairs (c : Dev nD) (m : Memref sig .tc .vmem S8192x128 .bf16) (h : m.IsWhole) (f : Buf (Elt F) (m.view.loc (c : Thread nD τ))) :
    (iprop(m.view.loc (c : Thread nD τ) ↦[m.view.set]{fullShare} f) : sProp 𝕄)
      ⊢ iprop((pairs m h).view.loc (c : Thread nD τ) ↦[(pairs m h).view.set]{fullShare} f) := by
  rw [show (pairs m h).view.set = m.view.set from View.set_reshape _ _]
/-- and back. -/
theorem of_pairs (c : Dev nD) (m : Memref sig .tc .vmem S8192x128 .bf16) (h : m.IsWhole) (f : Buf (Elt F) (m.view.loc (c : Thread nD τ))) :
    (iprop((pairs m h).view.loc (c : Thread nD τ) ↦[(pairs m h).view.set]{fullShare} f) : sProp 𝕄)
      ⊢ iprop(m.view.loc (c : Thread nD τ) ↦[m.view.set]{fullShare} f) := by
  rw [show (pairs m h).view.set = m.view.set from View.set_reshape _ _]

theorem open_block (c : Dev nD) (m : Memref sig .tc .vmem S8192x128 .bf16) (X : Vec F S8192x128 .bf16) :
    (owns (c : Thread nD τ) m fullShare X : sProp 𝕄) ⊢ iprop(∃ f : Buf (Elt F) (m.view.loc (c : Thread nD τ)), m.view.loc (c : Thread nD τ) ↦[m.view.set]{fullShare} f) := by
  unfold owns; iintro ⟨%f, -, H⟩; iexists f; iexact H
theorem close_block (c : Dev nD) (m : Memref sig .tc .vmem S8192x128 .bf16) (X : Vec F S8192x128 .bf16) (f : Buf (Elt F) (m.view.loc (c : Thread nD τ))) (h : m.view.read (Elt F) f = X) :
    (iprop(m.view.loc (c : Thread nD τ) ↦[m.view.set]{fullShare} f) : sProp 𝕄) ⊢ owns (c : Thread nD τ) m fullShare X := by
  unfold owns; iintro H; iexists f; isplitr; · ipureintro; exact h
  iexact H

set_option maxHeartbeats 8000000 in
/-- The body at any point. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before0, before1, before2, before3]
  rw [show (dat a V c).owesAt () t.succ = (dat a V c).owesAt () t.castSucc from rfl,
    after0, after1, after2, after3, after4]
  rw [show (dat a V c).Φ t.succ = Phi a c from rfl, show (dat a V c).Φ t.castSucc = Phi a c from rfl]
  unfold Phi
  rw [tables_eq]
  iintro ⟨⟨HA, HB, HN⟩, Ho, ⟨%d0, H0⟩, ⟨%d1, H1⟩, ⟨%d2, H2⟩, ⟨%d3, H3⟩, ⟨%d4, H4⟩⟩
  by_cases h : k0_cond1 (grid0.coords t) (cnt a) = 1#1
  · ihave H4 := (open_block c (ms4 a t) ((dat a V c).before 4 t d4)) $$ H4
    icases H4 with ⟨%f4, H4⟩
    ihave H4 := (to_pairs c (ms4 a t) (hs4 a t) f4) $$ H4
    iapply ((runOn c (grid0.coords t) TB hTB TN hTN (ms0 a t) (hs0 a t) (ms1 a t) (hs1 a t) (ms2 a t) (hs2 a t) (ms3 a t) (hs3 a t) (ms4 a t) (hs4 a t) (tn a) (c1_of a _ _ TN hTN h) (fun h2 => (c2_of a _ TN hTN).mp h2 h) (blk a V c 0 t) (blk a V c 1 t) (blk a V c 2 t) (blk a V c 3 t)).2 f4 Set.univ _)
    isplitl [HN]; · iexact HN
    isplitl [H0]; · iexact H0
    isplitl [H1]; · iexact H1
    isplitl [H2]; · iexact H2
    isplitl [H3]; · iexact H3
    isplitl [H4]; · iexact H4
    iintro ⟨HN, H0, H1, H2, H3, H4⟩
    isplitl [HA HB HN]
    · isplitl [HA]; · iexact HA
      isplitl [HB]; · iexact HB
      iexact HN
    isplitl [Ho]; · iexact Ho
    isplitl [H0]; · iexact H0
    isplitl [H1]; · iexact H1
    isplitl [H2]; · iexact H2
    isplitl [H3]; · iexact H3
    ihave H4 := (of_pairs c (ms4 a t) (hs4 a t) _) $$ H4
    iapply (close_block c (ms4 a t) _ _ ?_) $$ H4
    rw [read_pairs _ (hs4 a t)]
    unfold outAt; rw [dif_pos h]
    funext x
    exact View.read_writes_apply_eq_canon _ _ _ _ (coverOn c _ _ _ _ _ _ _ _ _ _ _ _ _ _ _ _ _ _ _ _ _ _ _)
  · ihave H4 := (open_block c (ms4 a t) ((dat a V c).before 4 t d4)) $$ H4
    icases H4 with ⟨%f4, H4⟩
    iapply ((runOff c (grid0.coords t) TB hTB TN hTN (ms0 a t) (hs0 a t) (ms1 a t) (hs1 a t) (ms2 a t) (hs2 a t) (ms3 a t) (hs3 a t) (ms4 a t) (hs4 a t) (tn a) (n1_of a _ TN hTN h) ((c2_of a _ TN hTN).mpr h) (blk a V c 0 t) (blk a V c 1 t) (blk a V c 2 t) (blk a V c 3 t)).2 f4 Set.univ _)
    isplitl [HN]; · iexact HN
    isplitl [H0]; · iexact H0
    isplitl [H1]; · iexact H1
    isplitl [H2]; · iexact H2
    isplitl [H3]; · iexact H3
    isplitl [H4]; · iexact H4
    iintro ⟨HN, H0, H1, H2, H3, H4⟩
    isplitl [HA HB HN]
    · isplitl [HA]; · iexact HA
      isplitl [HB]; · iexact HB
      iexact HN
    isplitl [Ho]; · iexact Ho
    isplitl [H0]; · iexact H0
    isplitl [H1]; · iexact H1
    isplitl [H2]; · iexact H2
    isplitl [H3]; · iexact H3
    iapply (close_block c (ms4 a t) _ _ ?_) $$ H4
    unfold outAt; rw [dif_neg h]
    exact View.read_writes_eq_canon _ _ _ (coverOff c _ _ _ _ _ _ _ _ _ _ _ _ _ _ _ _ _ _ _ _ _ _)

/-- The body table's row at point `t`'s slots is the body as `bodyAt` spells it. -/
theorem row (t : Fin (cfg0 a).N) :
    defs₀ (F := F) .tc (cfg0 a).body ((cfg0 a).bodyArgs t ((cfg0 a).slots t)) = bodyAt a t := by
  unfold defs₀; rw [Defs.onTc_tc]

/-- The body's obligation at every point. -/
theorem body_obligation (c : Dev nD) : BodyObligation (dat (F := F) a V c) (defs₀ (F := F)) Variants.none () Set.univ := fun t => by
  rw [bigSep_W0, bigSep_W0, row]
  exact triple_restated (sound_body a V c t) rfl .rfl fun _ => sep_mono .rfl (sep_mono .rfl (sep_mono .rfl (sep_mono .rfl (sep_mono .rfl (sep_mono .rfl (post4_of a V c t))))))

end Cert.Kernel3Ideal.Ffn

end
-- ==== Proof.FfnMain.lean ====
module

public import proofs.«01_k».proof.Proof.FfnBody
public import Idealize.ShloMosaic.Lib.Pipeline.RegionArraysT

/-! The experts' program: the weights converted, then the call reading its tables. -/

@[expose] public section

set_option maxRecDepth 16384

noncomputable section

namespace Cert.Kernel3Ideal.Main

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg HostSeg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables as launched. -/
def tbl : pre0.Contents (Elt F) := fun k => m (((0 : Dev nD) : Thread nD τ).loc (pre0.ref k))

variable (hok : ok0 (tbl m))

/-- The tables, admissible. -/
abbrev tabs : (pcfg0 (F := F)).Adm := ⟨tbl m, hok⟩
abbrev adm : (p : Fin 1) → (pcfgs (F := F) p).Adm := fun _ => tabs m hok

/-- The buffers' contents at launch, and when the call is entered. -/
abbrev V0 (c : Dev nD) : Valuation τ sig (Elt F) := fun b => m (c, b)
abbrev V1 (c : Dev nD) : Valuation τ sig (Elt F) := StableHlo.after hostOps0 (V0 m c)
abbrev VA (c : Dev nD) (b : Ref sig .tc) : Buf (Elt F) ((c : Thread nD τ).loc b) := V1 m c b
/-- What the call leaves in its result, -/
def res (c : Dev nD) : Buf (Elt F) ((c : Thread nD τ).loc main_v3) := (Ffn.dat (tabs m hok) (VA m) c).arrAt 4 (cfg0 (tabs m hok)).N
/-- and the buffers' contents then. -/
def W2 (c : Dev nD) : Valuation τ sig (Elt F) := Function.update (V1 m c) main_v3 (res m hok c)

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem V1_of (c : Dev nD) (r : Ref sig .tc) (h : r ∉ hostOps0_W) : V1 m c r = V0 m c r :=
  StableHlo.after_of_writes_sub hostOps0 _ hostOps0_writes h
theorem W2_of (c : Dev nD) (r : Ref sig .tc) (h : r ≠ main_v3) : W2 m hok c r = V1 m c r :=
  Function.update_of_ne (StableHlo.devRef_ne_of_ne h : (Proc.devRef .tc r : DevRef τ sig) ≠ Proc.devRef .tc main_v3) ..
theorem W2_o (c : Dev nD) : W2 m hok c main_v3 = res m hok c := Function.update_self ..
theorem W2_off (c : Dev nD) (b : DevRef τ sig) (h : b ≠ Proc.devRef .tc main_v3) : W2 m hok c b = V1 m c b :=
  Function.update_of_ne h ..
theorem W2_arg (c : Dev nD) (r : Ref sig .tc) (h : r ∉ ([main_v0, main_v1, main_v2, main_v3] : List (Ref sig .tc))) :
    W2 m hok c r = m ((c : Thread nD τ).loc r) := by
  simp only [List.mem_cons, List.not_mem_nil, or_false, not_or] at h
  obtain ⟨h1, h2, h3, h4⟩ := h
  exact (W2_of m hok c r h4).trans ((V1_of m c r (by simp [h1, h2, h3])).trans rfl)
/-- No host operation writes a table. -/
theorem tbl_eq (c : Dev nD) (k : Fin 2) : tbl m k = V1 m c (Proc.devRef .tc (pre0.ref k)) := by
  obtain rfl : c = 0 := Subsingleton.elim _ _
  fin_cases k
  · exact (V1_of m 0 main_arg0 (by decide)).symm
  · exact (V1_of m 0 main_arg1 (by decide)).symm

/-! ## The call over the buffers held -/

/-- The call's data. -/
def pdats : (p : Fin 1) → (c : Dev nD) → Dat τ (Elt F) Unit ℕ (UR sig nD τ) ℕ (Pipeline.pin (pcfgs (F := F)) (adm m hok) p) c
  | ⟨0, _⟩ => fun c => Ffn.dat (tabs m hok) (VA m) c

abbrev L : GSem nD τ sig → Finset Unit := fun _ => ∅
abbrev lv : GSem nD τ sig → Unit → ℕ := fun _ _ => 0
/-- What rides beside the buffers: the core owing nothing, and the generator register. -/
abbrev E (c : Dev nD) : sProp 𝕄 := iprop((∃ W, owes (c : Thread nD τ) (0 : CellTallies nD τ sig Unit) W) ∗ ∃ r, prngReg c r)

theorem notArr (b : DevRef τ sig) (hb : b ∈ Pipeline.ucRefs τ sig \ Pipeline.arrRefs spec0) (w : Fin 5) : b ≠ Proc.devRef .tc (Pipeline.arrRef spec0 w) := by
  rintro rfl
  exact (Finset.mem_sdiff.mp hb).2 (Finset.mem_map.mpr ⟨_, Finset.mem_image.mpr ⟨w, Finset.mem_univ _, rfl⟩, rfl⟩)
theorem un : ∀ w : Fin 5, (Pipeline.arrRef spec0 w).isScoped = false := by decide
/-- The buffers that are neither arrays nor tables. -/
abbrev rest : Finset (DevRef τ sig) := (Pipeline.ucRefs τ sig \ Pipeline.arrRefs spec0) \ Pipeline.tblRefs pre0

theorem held_split (a : (pcfg0 (F := F)).Adm) {c : Dev nD} (dat : Dat τ (Elt F) Unit ℕ (UR sig nD τ) ℕ (cfg0 a) c) (hq : ∀ w, dat.q w = fullShare) (W : Valuation τ sig (Elt F))
    (G : (w : Fin (cfg0 a).W) → Buf (Elt F) (((cfg0 a).spec w).arr.view.loc (c.tc : Thread nD τ))) (hG : ∀ w, G w = W (Proc.devRef .tc (Pipeline.arrRef (cfg0 a).spec w)))
    (hT : ∀ k, a.1 k = W (Proc.devRef .tc (pre0.ref k))) :
    (StableHlo.held (c : Thread nD τ) (Pipeline.ucRefs τ sig) W : sProp 𝕄)
      = iprop(dat.arrays G ∗ Pipeline.prefHeld pre0 c (fun _ => fullShare) a.1 ∗ StableHlo.held (c : Thread nD τ) rest W) := by
  rw [StableHlo.held_sub_split (c.tc : Thread nD τ) (Pipeline.arrRefs_sub_ucRefs spec0 un) W,
    StableHlo.held_sub_split (c.tc : Thread nD τ) (Pipeline.tblRefs_sub_ucRefs_sdiff spec0 pre0 preFacts0.unscoped preFacts0.disj) W,
    Pipeline.prefHeld_held pre0 preFacts0.inj c a.1 W hT,
    ← dat.arrBufs_eq_arrays (launch0 (F := F)).to₀.sharedIn (launch0 (F := F)).arr_whole (fun w hw => dat.q_eq_shareOf_of_share_full (launch0 (F := F)).win.arr_inj (dat.share_full hq) w hw) (fun b => W b) G hG]
  congr 1

theorem enter (c : Dev nD) : (StableHlo.held (c : Thread nD τ) (Pipeline.ucRefs τ sig) (V1 m c) : sProp 𝕄)
    = iprop((Ffn.dat (tabs m hok) (VA m) c).arrays ((Ffn.dat (tabs m hok) (VA m) c).arrAt · 0) ∗ Pipeline.prefHeld pre0 c (fun _ => fullShare) (tbl m) ∗ StableHlo.held (c : Thread nD τ) rest (V1 m c)) :=
  held_split (tabs m hok) (Ffn.dat (tabs m hok) (VA m) c) (fun _ => rfl) (V1 m c) _ (fun w => Ffn.A_eq (tabs m hok) (VA m) c w) (tbl_eq m c)

theorem leave (c : Dev nD) : (StableHlo.held (c : Thread nD τ) (Pipeline.ucRefs τ sig) (W2 m hok c) : sProp 𝕄)
    = iprop((Ffn.dat (tabs m hok) (VA m) c).arrays ((Ffn.dat (tabs m hok) (VA m) c).arrAt · (cfg0 (tabs m hok)).N) ∗ Pipeline.prefHeld pre0 c (fun _ => fullShare) (tbl m) ∗ StableHlo.held (c : Thread nD τ) rest (V1 m c)) := by
  rw [held_split (tabs m hok) (Ffn.dat (tabs m hok) (VA m) c) (fun _ => rfl) (W2 m hok c) ((Ffn.dat (tabs m hok) (VA m) c).arrAt · (cfg0 (tabs m hok)).N) (fun w => by
      fin_cases w
      · exact ((Ffn.dat (tabs m hok) (VA m) c).arrAt_in 0 rfl _).trans ((Ffn.A_eq (tabs m hok) (VA m) c 0).trans (W2_of m hok c main_arg2 (by decide)).symm)
      · exact ((Ffn.dat (tabs m hok) (VA m) c).arrAt_in 1 rfl _).trans ((Ffn.A_eq (tabs m hok) (VA m) c 1).trans (W2_of m hok c main_v0 (by decide)).symm)
      · exact ((Ffn.dat (tabs m hok) (VA m) c).arrAt_in 2 rfl _).trans ((Ffn.A_eq (tabs m hok) (VA m) c 2).trans (W2_of m hok c main_v1 (by decide)).symm)
      · exact ((Ffn.dat (tabs m hok) (VA m) c).arrAt_in 3 rfl _).trans ((Ffn.A_eq (tabs m hok) (VA m) c 3).trans (W2_of m hok c main_v2 (by decide)).symm)
      · exact (W2_o m hok c).symm)
    (fun k => (tbl_eq m c k).trans (by
      fin_cases k
      · exact (W2_of m hok c main_arg0 (by decide)).symm
      · exact (W2_of m hok c main_arg1 (by decide)).symm))]
  rw [StableHlo.held_congr (c.tc : Thread nD τ) (S := rest) (V := W2 m hok c) (V' := V1 m c)
    (fun b hb => W2_off m hok c b (notArr b (Finset.mem_sdiff.mp hb).1 4))]

set_option backward.isDefEq.respectTransparency.types false in
/-- The call as a step of the program. -/
def reg : RegionSeg (pcfgs (F := F)) (adm m hok) (pdats m hok) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (Ffn.body_obligation (tabs m hok) (VA m) c).loose
  hwaits := Pipeline.hwaits_of_owed_zero _ _ _ _ L lv 0 fun _ _ => rfl
  pre c := iprop(StableHlo.held (c : Thread nD τ) (Pipeline.ucRefs τ sig) (V1 m c) ∗ E (F := F) c)
  post c := iprop(StableHlo.held (c : Thread nD τ) (Pipeline.ucRefs τ sig) (W2 m hok c) ∗ E (F := F) c)
  X c := iprop(∃ r, prngReg c r)
  Y c := iprop((∃ r, prngReg c r) ∗ Pipeline.prefHeld pre0 c (fun _ => fullShare) (tbl m))
  Z c := StableHlo.held (c : Thread nD τ) rest (V1 m c)
  hentry c := by
    rw [Pipeline.ownSems0_none, enter m hok]
    iintro ⟨⟨⟨Ha, Ht, Hr⟩, HO, Hp⟩, -, -⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Ffn.Phi (tabs m hok) c by
    unfold Ffn.Phi Pipeline.ΦA
    iintro ⟨Hp, Ht, Hr⟩
    isplitl [Hr Hp]
    · isplitl [Hr]; · iexact Hr
      iexact Hp
    iexact Ht)
  hout c := (show Ffn.Phi (tabs m hok) c ⊢ _ by
    rw [Pipeline.ownSems0_none]; unfold Ffn.Phi Pipeline.ΦA
    iintro ⟨⟨Hr, Hp⟩, Ht⟩
    isplitl [Hp Ht]
    · isplitl [Hp]; · iexact Hp
      iexact Ht
    isplitr; · iempintro
    iexact Hr)
  hexit c := by
    rw [leave m hok]
    iintro ⟨Ha, HO, ⟨HY, Ht⟩, HZ⟩
    imodintro
    isplitl [Ha Ht HZ]
    · isplitl [Ha]; · iexact Ha
      isplitl [Ht]; · iexact Ht
      iexact HZ
    isplitl [HO]
    · unfold Pipeline.Dat.owesAt Pipeline.owesWithin
      icases HO with ⟨%W, -, HO⟩; iexists W; iexact HO
    iexact HY

/-! ## The run -/

theorem regions_no_unscoped : ∀ sm : SemLoc sig, sm.isScoped .tc = true := by decide

/-- The conversions as a step of the program. -/
abbrev seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (fun c => E (F := F) c)
abbrev segs (c : Dev nD) : List (Seg (pcfgs (F := F)) (adm m hok) (pdats m hok) () defs₀ Variants.none L lv) :=
  [.host (seg0 m), .region (reg m hok)]

set_option backward.isDefEq.respectTransparency.types false in
/-- The program runs to its end with the result at what the call leaves, the arguments as launched and every
    counter at zero. -/
theorem run : θ_run defs (onTc (τ := τ) (main (F := F))) ⟨m, fun _ => 0, ρ⟩ (fun r => (∀ c : Dev nD,
      r.2.mem ((c.tc : Thread nD τ).loc main_v3) = res m hok c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adm m hok) (pdats m hok) () (cellOf_inj (adm m hok)) emb₁ defs₀ Variants.none L lv m ρ main
    (segs m hok)
    (fun c Q => by
      rewrite [main_chain c, Seg.run_eq_chain,
        show (segs m hok c).map Seg.prog = [
          StableHlo.seq hostOps0,
          Prog.lift (.customCall (Pipeline.entry 0) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]; · iapply (show (ownU _ : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) c))
    (Tₙ := fun c => StableHlo.held (c : Thread nD τ) (Pipeline.ucRefs τ sig) (W2 m hok c))
    (hch := fun c => ⟨.rfl, .rfl, sep_mono .rfl (by iintro ⟨HO, -⟩; iexact HO)⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => s.mem ((c.tc : Thread nD τ).loc main_v3) = res m hok c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W2 m hok c) s') $$ [Hh HSI]
  · isplitl [Hh] <;> iassumption
  icases Hr with ⟨%h, HSI⟩
  imodintro
  isplitr
  · ipureintro
    exact ⟨(h (Proc.devRef .tc main_v3) (Finset.mem_filter.mpr ⟨StableHlo.devRef_mem_tcRefs main_v3, by decide⟩)).trans (W2_o m hok c),
      (h (Proc.devRef .tc main_arg0) (Finset.mem_filter.mpr ⟨StableHlo.devRef_mem_tcRefs main_arg0, by decide⟩)).trans (W2_arg m hok c main_arg0 (by decide)),
      (h (Proc.devRef .tc main_arg1) (Finset.mem_filter.mpr ⟨StableHlo.devRef_mem_tcRefs main_arg1, by decide⟩)).trans (W2_arg m hok c main_arg1 (by decide)),
      (h (Proc.devRef .tc main_arg2) (Finset.mem_filter.mpr ⟨StableHlo.devRef_mem_tcRefs main_arg2, by decide⟩)).trans (W2_arg m hok c main_arg2 (by decide)),
      (h (Proc.devRef .tc main_arg3) (Finset.mem_filter.mpr ⟨StableHlo.devRef_mem_tcRefs main_arg3, by decide⟩)).trans (W2_arg m hok c main_arg3 (by decide)),
      (h (Proc.devRef .tc main_arg4) (Finset.mem_filter.mpr ⟨StableHlo.devRef_mem_tcRefs main_arg4, by decide⟩)).trans (W2_arg m hok c main_arg4 (by decide)),
      (h (Proc.devRef .tc main_arg5) (Finset.mem_filter.mpr ⟨StableHlo.devRef_mem_tcRefs main_arg5, by decide⟩)).trans (W2_arg m hok c main_arg5 (by decide))⟩
  · iexact HSI

include hok in
/-- The program leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ hok)

end Cert.Kernel3Ideal.Main

end
-- ==== Proof.FfnVal.lean ====
module

public import proofs.«01_k».proof.Proof.FfnMain
public import Idealize.ShloMosaic.Lib.WholeRead
public import Idealize.ShloMosaic.Lib.Pointwise
public import Idealize.ShloMosaic.Lib.Pipeline.ValueKit
public import Idealize.ShloMosaic.Lib.VecWindow
public import Idealize.ShloMosaic.Lib.IdealHost

/-! What the experts' call leaves: each block's rows through its expert, the blocks not in use at zero. -/

@[expose] public section

set_option maxRecDepth 16384

noncomputable section

namespace Cert.Kernel3Ideal.Ffn

open Cert.Kernel3Ideal Cert.Kernel3Ideal.Gen
open Idealize.ShloMosaic Idealize.ShloMosaic.TcCoe

/-- The number in a word's low half, and in its high half. -/
def lo (w : BitVec 32) : EReal := Ideal.ofBits FTy.f32 (IntOp.shli .vector w 16#32)
def hi (w : BitVec 32) : EReal := Ideal.ofBits FTy.f32 (IntOp.andi w 4294901760#32)

theorem pay16_apply (X : Fin 8 → Vec Ideal S512x128 .i32) (r : Fin 512) (k : Fin 1024) :
    k0_pay16 (F := Ideal) (X 5) (X 6) (X 7) (k0_pay7 (X 0)) (k0_pay9 (X 1)) (k0_pay11 (X 2)) (k0_pay13 (X 3)) (k0_pay15 (X 4)) (ix2 r k)
      = lo (X ⟨k.val / 128, by omega⟩ (ix2 r (⟨k.val % 128, Nat.mod_lt _ (by norm_num)⟩ : Fin 128))) :=
  concatenate_ofFn_apply (s₁ := S512x128) (1 : Fin S512x1024.rank) (fun n : Fin 8 => fun i : S512x128.Idx => lo (X n i)) concatenates_S512x128_S512x128_S512x128_S512x128_S512x128_S512x128_S512x128_S512x128_S512x1024_d1
    rfl 128 rfl (ix2 r k) ⟨k.val / 128, by omega⟩ rfl (ix2 r (⟨k.val % 128, Nat.mod_lt _ (by norm_num)⟩ : Fin 128)) rfl (fun b => by
      fin_cases b
      · exact fun _ => rfl
      · exact fun hb => absurd rfl hb)

theorem pay17_apply (X : Fin 8 → Vec Ideal S512x128 .i32) (r : Fin 512) (k : Fin 1024) :
    k0_pay17 (F := Ideal) (X 4) (X 5) (X 6) (X 7) (k0_pay8 (X 0)) (k0_pay10 (X 1)) (k0_pay12 (X 2)) (k0_pay14 (X 3)) (ix2 r k)
      = hi (X ⟨k.val / 128, by omega⟩ (ix2 r (⟨k.val % 128, Nat.mod_lt _ (by norm_num)⟩ : Fin 128))) :=
  concatenate_ofFn_apply (s₁ := S512x128) (1 : Fin S512x1024.rank) (fun n : Fin 8 => fun i : S512x128.Idx => hi (X n i)) concatenates_S512x128_S512x128_S512x128_S512x128_S512x128_S512x128_S512x128_S512x128_S512x1024_d1
    rfl 128 rfl (ix2 r k) ⟨k.val / 128, by omega⟩ rfl (ix2 r (⟨k.val % 128, Nat.mod_lt _ (by norm_num)⟩ : Fin 128)) rfl (fun b => by
      fin_cases b
      · exact fun _ => rfl
      · exact fun hb => absurd rfl hb)

section
variable (v12 v13 v14 v15 : Vec Ideal S512x128 .i32) (v18 v21 v24 v27 v30 v33 v36 v39 v42 : FVec Ideal S512x128 .f32)

theorem pay18_apply (v68 v71 : Vec Ideal S1x1x1024x1024 .bf16) (r : Fin 512) (j : Fin 1024) :
    k0_pay18 v12 v13 v14 v15 v18 v21 v24 v27 v30 v33 v36 v39 v42 v68 v71 (ix2 r j)
      = (∑ k : Fin 1024, k0_pay16 v13 v14 v15 v18 v24 v30 v36 v42 (ix2 r k) * v68 (ix4 (0 : Fin 1) (0 : Fin 1) k j))
        + ∑ k : Fin 1024, k0_pay17 v12 v13 v14 v15 v21 v27 v33 v39 (ix2 r k) * v71 (ix4 (0 : Fin 1) (0 : Fin 1) k j) := by
  generalize hA : k0_pay16 v13 v14 v15 v18 v24 v30 v36 v42 = A
  generalize hB : k0_pay17 v12 v13 v14 v15 v21 v27 v33 v39 = B
  pointwise [k0_pay18, hA, hB]

theorem pay19_apply (v75 : Vec Ideal S1x1x1024x1024 .bf16) (r : Fin 512) (j : Fin 1024) :
    k0_pay19 v13 v14 v15 v18 v24 v30 v36 v42 v75 (ix2 r j)
      = ∑ k : Fin 1024, k0_pay16 v13 v14 v15 v18 v24 v30 v36 v42 (ix2 r k) * v75 (ix4 (0 : Fin 1) (0 : Fin 1) k j) := by
  generalize hA : k0_pay16 v13 v14 v15 v18 v24 v30 v36 v42 = A
  pointwise [k0_pay19, hA]
end

/-- A gate: `g` times its sigmoid. -/
def silu (g : EReal) : EReal := Ideal.div g (1 + Ideal.exp (0 - g))

section
variable (v67 : FVec Ideal S512x1024 .bf16) (v74 v77 : FVec Ideal S512x1024 .f32) (v78 : Vec Ideal S1x1x1024x1024 .bf16) (v90 : Vec Ideal S1x1x1024x2048 .bf16)

theorem pay20_apply (r : Fin 512) (j : Fin 2048) :
    k0_pay20 v67 v74 v77 v78 v90 (ix2 r j)
      = ∑ h : Fin 1024, silu (v74 (ix2 r h)) * (v77 (ix2 r h) + ∑ k : Fin 1024, v67 (ix2 r k) * v78 (ix4 (0 : Fin 1) (0 : Fin 1) k h))
          * v90 (ix4 (0 : Fin 1) (0 : Fin 1) h j) := by
  pointwise [k0_pay20]
  rfl

/-- What slot `k` stores of a block's rows: of each row the words' low halves, then their high halves. -/
def stored (v : FVec Ideal S512x2048 .f32) (k : Fin 8) (y : S512x2x128.Idx) : EReal :=
  v (ix2 (y 0) (⟨1024 * (y 1).val + (128 * k.val + (y 2).val), by have h1 : (y 1).val < 2 := (y 1).isLt; have h2 : (y 2).val < 128 := (y 2).isLt; omega⟩ : Fin 2048))

theorem slot0 : k0_pay23 v67 v74 v77 v78 v90 = stored (k0_pay20 v67 v74 v77 v78 v90) 0 := by
  funext y
  idx_vars y
  generalize hv : k0_pay20 v67 v74 v77 v78 v90 = v
  pointwise [k0_pay23, k0_pay21, k0_pay22, hv]
  by_cases hy : y1.val = 0
  · rw [if_pos (by omega)]
    refine congrArg v (congrArg (ix2 y0) (Fin.ext ?_))
    show _ = 1024 * y1.val + (128 * 0 + y2.val)
    dsimp only
    omega
  · rw [if_neg (by omega)]
    refine congrArg v (congrArg (ix2 y0) (Fin.ext ?_))
    show _ = 1024 * y1.val + (128 * 0 + y2.val)
    dsimp only
    omega

theorem slot1 : k0_pay24 v67 v74 v77 v78 v90 = stored (k0_pay20 v67 v74 v77 v78 v90) 1 := by
  funext y
  idx_vars y
  generalize hv : k0_pay20 v67 v74 v77 v78 v90 = v
  pointwise [k0_pay24, k0_pay21, k0_pay22, hv]
  by_cases hy : y1.val = 0
  · rw [if_pos (by omega)]
    refine congrArg v (congrArg (ix2 y0) (Fin.ext ?_))
    show _ = 1024 * y1.val + (128 * 1 + y2.val)
    dsimp only
    omega
  · rw [if_neg (by omega)]
    refine congrArg v (congrArg (ix2 y0) (Fin.ext ?_))
    show _ = 1024 * y1.val + (128 * 1 + y2.val)
    dsimp only
    omega

theorem slot2 : k0_pay25 v67 v74 v77 v78 v90 = stored (k0_pay20 v67 v74 v77 v78 v90) 2 := by
  funext y
  idx_vars y
  generalize hv : k0_pay20 v67 v74 v77 v78 v90 = v
  pointwise [k0_pay25, k0_pay21, k0_pay22, hv]
  by_cases hy : y1.val = 0
  · rw [if_pos (by omega)]
    refine congrArg v (congrArg (ix2 y0) (Fin.ext ?_))
    show _ = 1024 * y1.val + (128 * 2 + y2.val)
    dsimp only
    omega
  · rw [if_neg (by omega)]
    refine congrArg v (congrArg (ix2 y0) (Fin.ext ?_))
    show _ = 1024 * y1.val + (128 * 2 + y2.val)
    dsimp only
    omega

theorem slot3 : k0_pay1 (k0_pay26 v67 v74 v77 v78 v90) (k0_pay27 v67 v74 v77 v78 v90) = stored (k0_pay20 v67 v74 v77 v78 v90) 3 := by
  funext y
  idx_vars y
  generalize hv : k0_pay20 v67 v74 v77 v78 v90 = v
  pointwise [k0_pay1, k0_pay26, k0_pay27, k0_pay21, k0_pay22, hv]
  by_cases hy : y1.val = 0
  · rw [if_pos (by omega)]
    refine congrArg v (congrArg (ix2 y0) (Fin.ext ?_))
    show _ = 1024 * y1.val + (128 * 3 + y2.val)
    dsimp only
    omega
  · rw [if_neg (by omega)]
    refine congrArg v (congrArg (ix2 y0) (Fin.ext ?_))
    show _ = 1024 * y1.val + (128 * 3 + y2.val)
    dsimp only
    omega

theorem slot4 : k0_pay2 (k0_pay21 v67 v74 v77 v78 v90) (k0_pay22 v67 v74 v77 v78 v90) = stored (k0_pay20 v67 v74 v77 v78 v90) 4 := by
  funext y
  idx_vars y
  generalize hv : k0_pay20 v67 v74 v77 v78 v90 = v
  pointwise [k0_pay2, k0_pay21, k0_pay22, hv]
  by_cases hy : y1.val = 0
  · rw [if_pos (by omega)]
    refine congrArg v (congrArg (ix2 y0) (Fin.ext ?_))
    show _ = 1024 * y1.val + (128 * 4 + y2.val)
    dsimp only
    omega
  · rw [if_neg (by omega)]
    refine congrArg v (congrArg (ix2 y0) (Fin.ext ?_))
    show _ = 1024 * y1.val + (128 * 4 + y2.val)
    dsimp only
    omega

theorem slot5 : k0_pay3 (k0_pay21 v67 v74 v77 v78 v90) (k0_pay22 v67 v74 v77 v78 v90) = stored (k0_pay20 v67 v74 v77 v78 v90) 5 := by
  funext y
  idx_vars y
  generalize hv : k0_pay20 v67 v74 v77 v78 v90 = v
  pointwise [k0_pay3, k0_pay21, k0_pay22, hv]
  by_cases hy : y1.val = 0
  · rw [if_pos (by omega)]
    refine congrArg v (congrArg (ix2 y0) (Fin.ext ?_))
    show _ = 1024 * y1.val + (128 * 5 + y2.val)
    dsimp only
    omega
  · rw [if_neg (by omega)]
    refine congrArg v (congrArg (ix2 y0) (Fin.ext ?_))
    show _ = 1024 * y1.val + (128 * 5 + y2.val)
    dsimp only
    omega

theorem slot6 : k0_pay4 (k0_pay21 v67 v74 v77 v78 v90) (k0_pay22 v67 v74 v77 v78 v90) = stored (k0_pay20 v67 v74 v77 v78 v90) 6 := by
  funext y
  idx_vars y
  generalize hv : k0_pay20 v67 v74 v77 v78 v90 = v
  pointwise [k0_pay4, k0_pay21, k0_pay22, hv]
  by_cases hy : y1.val = 0
  · rw [if_pos (by omega)]
    refine congrArg v (congrArg (ix2 y0) (Fin.ext ?_))
    show _ = 1024 * y1.val + (128 * 6 + y2.val)
    dsimp only
    omega
  · rw [if_neg (by omega)]
    refine congrArg v (congrArg (ix2 y0) (Fin.ext ?_))
    show _ = 1024 * y1.val + (128 * 6 + y2.val)
    dsimp only
    omega

theorem slot7 : k0_pay5 (k0_pay21 v67 v74 v77 v78 v90) (k0_pay22 v67 v74 v77 v78 v90) = stored (k0_pay20 v67 v74 v77 v78 v90) 7 := by
  funext y
  idx_vars y
  generalize hv : k0_pay20 v67 v74 v77 v78 v90 = v
  pointwise [k0_pay5, k0_pay21, k0_pay22, hv]
  by_cases hy : y1.val = 0
  · rw [if_pos (by omega)]
    refine congrArg v (congrArg (ix2 y0) (Fin.ext ?_))
    show _ = 1024 * y1.val + (128 * 7 + y2.val)
    dsimp only
    omega
  · rw [if_neg (by omega)]
    refine congrArg v (congrArg (ix2 y0) (Fin.ext ?_))
    show _ = 1024 * y1.val + (128 * 7 + y2.val)
    dsimp only
    omega

/-- The stores into the result's block. -/
def LP : List (View.Piece (Elt Ideal) S4096x2x128 .bf16) :=
  [⟨⟨(⟨![7, 0, 0], S512x2x128.size, ![8, 1, 1], inb_S4096x2x128_S512x2x128_7_0_0_s_8_1_1⟩ : LoadRect S4096x2x128), spos_8_1_1⟩, k0_pay5 (k0_pay21 v67 v74 v77 v78 v90) (k0_pay22 v67 v74 v77 v78 v90)⟩,
    ⟨⟨(⟨![6, 0, 0], S512x2x128.size, ![8, 1, 1], inb_S4096x2x128_S512x2x128_6_0_0_s_8_1_1⟩ : LoadRect S4096x2x128), spos_8_1_1⟩, k0_pay4 (k0_pay21 v67 v74 v77 v78 v90) (k0_pay22 v67 v74 v77 v78 v90)⟩,
    ⟨⟨(⟨![5, 0, 0], S512x2x128.size, ![8, 1, 1], inb_S4096x2x128_S512x2x128_5_0_0_s_8_1_1⟩ : LoadRect S4096x2x128), spos_8_1_1⟩, k0_pay3 (k0_pay21 v67 v74 v77 v78 v90) (k0_pay22 v67 v74 v77 v78 v90)⟩,
    ⟨⟨(⟨![4, 0, 0], S512x2x128.size, ![8, 1, 1], inb_S4096x2x128_S512x2x128_4_0_0_s_8_1_1⟩ : LoadRect S4096x2x128), spos_8_1_1⟩, k0_pay2 (k0_pay21 v67 v74 v77 v78 v90) (k0_pay22 v67 v74 v77 v78 v90)⟩,
    ⟨⟨(⟨![3, 0, 0], S512x2x128.size, ![8, 1, 1], inb_S4096x2x128_S512x2x128_3_0_0_s_8_1_1⟩ : LoadRect S4096x2x128), spos_8_1_1⟩, k0_pay1 (k0_pay26 v67 v74 v77 v78 v90) (k0_pay27 v67 v74 v77 v78 v90)⟩,
    ⟨⟨(⟨![2, 0, 0], S512x2x128.size, ![8, 1, 1], inb_S4096x2x128_S512x2x128_2_0_0_s_8_1_1⟩ : LoadRect S4096x2x128), spos_8_1_1⟩, k0_pay25 v67 v74 v77 v78 v90⟩,
    ⟨⟨(⟨![1, 0, 0], S512x2x128.size, ![8, 1, 1], inb_S4096x2x128_S512x2x128_1_0_0_s_8_1_1⟩ : LoadRect S4096x2x128), spos_8_1_1⟩, k0_pay24 v67 v74 v77 v78 v90⟩,
    ⟨⟨(⟨![0, 0, 0], S512x2x128.size, ![8, 1, 1], inb_S4096x2x128_S512x2x128_0_0_0_s_8_1_1⟩ : LoadRect S4096x2x128), spos_8_1_1⟩, k0_pay23 v67 v74 v77 v78 v90⟩]

/-- The block's rows in pairs: word `c` of row `r` lies in pair `8 r + c`. -/
def rowsOf (v : FVec Ideal S512x2048 .f32) (y : S4096x2x128.Idx) : EReal :=
  v (ix2 (⟨(y 0).val / 8, by have h0 : (y 0).val < 4096 := (y 0).isLt; omega⟩ : Fin 512)
    (⟨1024 * (y 1).val + (128 * ((y 0).val % 8) + (y 2).val), by have h1 : (y 1).val < 2 := (y 1).isLt; have h2 : (y 2).val < 128 := (y 2).isLt; omega⟩ : Fin 2048))

theorem hit (v : FVec Ideal S512x2048 .f32) (k : Fin 8) (h) (hs)
    (x : (⟨(⟨![k.val, 0, 0], S512x2x128.size, ![8, 1, 1], h⟩ : LoadRect S4096x2x128), hs⟩ : Rect S4096x2x128).shape.Idx) :
    stored v k x = rowsOf v ((⟨(⟨![k.val, 0, 0], S512x2x128.size, ![8, 1, 1], h⟩ : LoadRect S4096x2x128), hs⟩ : Rect S4096x2x128).emb x) := by
  have hk := k.isLt
  have h0 : (x 0).val < 512 := (x 0).isLt
  have h1 : (x 1).val < 2 := (x 1).isLt
  have h2 : (x 2).val < 128 := (x 2).isLt
  refine congrArg v (congrArg₂ ix2 (Fin.ext ?_) (Fin.ext ?_))
  · show (x 0).val = (k.val + 8 * (x 0).val) / 8; omega
  · show 1024 * (x 1).val + (128 * k.val + (x 2).val) = 1024 * (0 + 1 * (x 1).val) + (128 * ((k.val + 8 * (x 0).val) % 8) + (0 + 1 * (x 2).val)); omega

theorem readP (y : S4096x2x128.Idx) (hc : ∃ p ∈ LP v67 v74 v77 v78 v90, y ∈ p.1.set) : View.canon (LP v67 v74 v77 v78 v90) y = rowsOf (k0_pay20 v67 v74 v77 v78 v90) y := by
  refine View.canon_apply_of_pieces (rowsOf (k0_pay20 v67 v74 v77 v78 v90)) (LP v67 v74 v77 v78 v90) ?_ y hc
  intro p hp
  unfold LP at hp
  simp only [List.mem_cons, List.not_mem_nil, or_false] at hp
  rcases hp with rfl | rfl | rfl | rfl | rfl | rfl | rfl | rfl <;> intro x
  · exact (congrFun (slot7 v67 v74 v77 v78 v90) x).trans (hit (k0_pay20 v67 v74 v77 v78 v90) 7 _ _ x)
  · exact (congrFun (slot6 v67 v74 v77 v78 v90) x).trans (hit (k0_pay20 v67 v74 v77 v78 v90) 6 _ _ x)
  · exact (congrFun (slot5 v67 v74 v77 v78 v90) x).trans (hit (k0_pay20 v67 v74 v77 v78 v90) 5 _ _ x)
  · exact (congrFun (slot4 v67 v74 v77 v78 v90) x).trans (hit (k0_pay20 v67 v74 v77 v78 v90) 4 _ _ x)
  · exact (congrFun (slot3 v67 v74 v77 v78 v90) x).trans (hit (k0_pay20 v67 v74 v77 v78 v90) 3 _ _ x)
  · exact (congrFun (slot2 v67 v74 v77 v78 v90) x).trans (hit (k0_pay20 v67 v74 v77 v78 v90) 2 _ _ x)
  · exact (congrFun (slot1 v67 v74 v77 v78 v90) x).trans (hit (k0_pay20 v67 v74 v77 v78 v90) 1 _ _ x)
  · exact (congrFun (slot0 v67 v74 v77 v78 v90) x).trans (hit (k0_pay20 v67 v74 v77 v78 v90) 0 _ _ x)
end

section
variable (c : Dev nD) (i : grid0.Coords) (arg1 : Memref sig .tc .smem S144 .i32) (harg1 : arg1.IsWhole) (arg2 : Memref sig .tc .smem S1 .i32) (harg2 : arg2.IsWhole) (arg3 : Memref sig .tc .vmem S4096x128 .i32) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S8192x128 .bf16) (harg7 : arg7.IsWhole)
    (xn : Vec Ideal S1 .i32) (x0 : Vec Ideal S4096x128 .i32) (x1 : Vec Ideal S1x1x2048x1024 .bf16) (x2 : Vec Ideal S1x1x2048x1024 .bf16) (x3 : Vec Ideal S1x1x1024x2048 .bf16)

/-- The eight reads of the rows' words. -/
def chunk (n : Fin 8) : Vec Ideal S512x128 .i32 := match n with
  | ⟨0, _⟩ => arg3.view.readAt (Elt Ideal) (⟨![0, 0], S512x128.size, ![8, 1], inb_S4096x128_S512x128_0_0_s_8_1⟩ : LoadRect S4096x128) (harg3.unread x0)
  | ⟨1, _⟩ => arg3.view.readAt (Elt Ideal) (⟨![1, 0], S512x128.size, ![8, 1], inb_S4096x128_S512x128_1_0_s_8_1⟩ : LoadRect S4096x128) (harg3.unread x0)
  | ⟨2, _⟩ => arg3.view.readAt (Elt Ideal) (⟨![2, 0], S512x128.size, ![8, 1], inb_S4096x128_S512x128_2_0_s_8_1⟩ : LoadRect S4096x128) (harg3.unread x0)
  | ⟨3, _⟩ => arg3.view.readAt (Elt Ideal) (⟨![3, 0], S512x128.size, ![8, 1], inb_S4096x128_S512x128_3_0_s_8_1⟩ : LoadRect S4096x128) (harg3.unread x0)
  | ⟨4, _⟩ => arg3.view.readAt (Elt Ideal) (⟨![4, 0], S512x128.size, ![8, 1], inb_S4096x128_S512x128_4_0_s_8_1⟩ : LoadRect S4096x128) (harg3.unread x0)
  | ⟨5, _⟩ => arg3.view.readAt (Elt Ideal) (⟨![5, 0], S512x128.size, ![8, 1], inb_S4096x128_S512x128_5_0_s_8_1⟩ : LoadRect S4096x128) (harg3.unread x0)
  | ⟨6, _⟩ => arg3.view.readAt (Elt Ideal) (⟨![6, 0], S512x128.size, ![8, 1], inb_S4096x128_S512x128_6_0_s_8_1⟩ : LoadRect S4096x128) (harg3.unread x0)
  | ⟨7, _⟩ => arg3.view.readAt (Elt Ideal) (⟨![7, 0], S512x128.size, ![8, 1], inb_S4096x128_S512x128_7_0_s_8_1⟩ : LoadRect S4096x128) (harg3.unread x0)

theorem chunk_row (k : ℕ) (h) (r : Fin 512) (l : Fin 128) (hk : k < 8) :
    arg3.view.readAt (Elt Ideal) (⟨![k, 0], S512x128.size, ![8, 1], h⟩ : LoadRect S4096x128) (harg3.unread x0) (ix2 r l)
      = x0 (ix2 (⟨8 * r.val + k, by omega⟩ : Fin 4096) l) := by
  show arg3.view.read (Elt Ideal) (harg3.unread x0) _ = _
  rw [harg3.read_unread]
  refine congrArg x0 (funext fun a => Fin.ext ?_)
  fin_cases a
  · show k + 8 * r.val = 8 * r.val + k; omega
  · show 0 + 1 * l.val = l.val; omega

theorem chunk_apply (n : Fin 8) (r : Fin 512) (l : Fin 128) :
    chunk arg3 harg3 x0 n (ix2 r l) = x0 (ix2 (⟨8 * r.val + n.val, by omega⟩ : Fin 4096) l) := by
  fin_cases n <;> exact chunk_row arg3 harg3 x0 _ _ r l (by decide)

/-- The halves of the gates' weights as the body reads them. -/
abbrev top (m : Memref sig .tc .vmem S1x1x2048x1024 .bf16) (hm : m.IsWhole) (x : Vec Ideal S1x1x2048x1024 .bf16) : Vec Ideal S1x1x1024x1024 .bf16 :=
  m.view.readAt (Elt Ideal) (Rect.unit (s := S1x1x2048x1024) ![0, 0, 0, 0] S1x1x1024x1024.size inb_S1x1x2048x1024_S1x1x1024x1024_0_0_0_0).toLoadRect (hm.unread x)
abbrev bot (m : Memref sig .tc .vmem S1x1x2048x1024 .bf16) (hm : m.IsWhole) (x : Vec Ideal S1x1x2048x1024 .bf16) : Vec Ideal S1x1x1024x1024 .bf16 :=
  m.view.readAt (Elt Ideal) (Rect.unit (s := S1x1x2048x1024) ![0, 0, 1024, 0] S1x1x1024x1024.size inb_S1x1x2048x1024_S1x1x1024x1024_0_0_1024_0).toLoadRect (hm.unread x)

theorem top_apply (m : Memref sig .tc .vmem S1x1x2048x1024 .bf16) (hm : m.IsWhole) (x : Vec Ideal S1x1x2048x1024 .bf16) (k j : Fin 1024) :
    top m hm x (ix4 (0 : Fin 1) (0 : Fin 1) k j) = x (ix4 (0 : Fin 1) (0 : Fin 1) (⟨k.val, by omega⟩ : Fin 2048) j) := by
  show m.view.read (Elt Ideal) (hm.unread x) _ = _
  rw [hm.read_unread]
  refine congrArg x (funext fun a => Fin.ext ?_)
  fin_cases a
  · rfl
  · rfl
  · show 0 + 1 * k.val = k.val; omega
  · show 0 + 1 * j.val = j.val; omega
theorem bot_apply (m : Memref sig .tc .vmem S1x1x2048x1024 .bf16) (hm : m.IsWhole) (x : Vec Ideal S1x1x2048x1024 .bf16) (k j : Fin 1024) :
    bot m hm x (ix4 (0 : Fin 1) (0 : Fin 1) k j) = x (ix4 (0 : Fin 1) (0 : Fin 1) (⟨1024 + k.val, by omega⟩ : Fin 2048) j) := by
  show m.view.read (Elt Ideal) (hm.unread x) _ = _
  rw [hm.read_unread]
  refine congrArg x (funext fun a => Fin.ext ?_)
  fin_cases a
  · rfl
  · rfl
  · show 1024 + 1 * k.val = 1024 + k.val; omega
  · show 0 + 1 * j.val = j.val; omega

/-- What the run leaves: the stores of the block's rows through the expert. -/
theorem on_eq (hc1) (hc2) : (runOn c i arg1 harg1 arg2 harg2 arg3 harg3 arg4 harg4 arg5 harg5 arg6 harg6 arg7 harg7 xn hc1 hc2 x0 x1 x2 x3).1
    = LP (k0_pay17 (chunk arg3 harg3 x0 4) (chunk arg3 harg3 x0 5) (chunk arg3 harg3 x0 6) (chunk arg3 harg3 x0 7) (k0_pay8 (chunk arg3 harg3 x0 0)) (k0_pay10 (chunk arg3 harg3 x0 1)) (k0_pay12 (chunk arg3 harg3 x0 2)) (k0_pay14 (chunk arg3 harg3 x0 3)))
      (k0_pay18 (chunk arg3 harg3 x0 4) (chunk arg3 harg3 x0 5) (chunk arg3 harg3 x0 6) (chunk arg3 harg3 x0 7) (k0_pay7 (chunk arg3 harg3 x0 0)) (k0_pay8 (chunk arg3 harg3 x0 0)) (k0_pay9 (chunk arg3 harg3 x0 1)) (k0_pay10 (chunk arg3 harg3 x0 1)) (k0_pay11 (chunk arg3 harg3 x0 2)) (k0_pay12 (chunk arg3 harg3 x0 2)) (k0_pay13 (chunk arg3 harg3 x0 3)) (k0_pay14 (chunk arg3 harg3 x0 3)) (k0_pay15 (chunk arg3 harg3 x0 4)) (top arg4 harg4 x1) (bot arg4 harg4 x1))
      (k0_pay19 (chunk arg3 harg3 x0 5) (chunk arg3 harg3 x0 6) (chunk arg3 harg3 x0 7) (k0_pay7 (chunk arg3 harg3 x0 0)) (k0_pay9 (chunk arg3 harg3 x0 1)) (k0_pay11 (chunk arg3 harg3 x0 2)) (k0_pay13 (chunk arg3 harg3 x0 3)) (k0_pay15 (chunk arg3 harg3 x0 4)) (top arg5 harg5 x2))
      (bot arg5 harg5 x2) x3 := by
  refine (show _ = LP (k0_pay17 (chunk arg3 harg3 x0 4) (chunk arg3 harg3 x0 5) (chunk arg3 harg3 x0 6) (chunk arg3 harg3 x0 7) (k0_pay8 (chunk arg3 harg3 x0 0)) (k0_pay10 (chunk arg3 harg3 x0 1)) (k0_pay12 (chunk arg3 harg3 x0 2)) (k0_pay14 (chunk arg3 harg3 x0 3)))
      (k0_pay18 (chunk arg3 harg3 x0 4) (chunk arg3 harg3 x0 5) (chunk arg3 harg3 x0 6) (chunk arg3 harg3 x0 7) (k0_pay7 (chunk arg3 harg3 x0 0)) (k0_pay8 (chunk arg3 harg3 x0 0)) (k0_pay9 (chunk arg3 harg3 x0 1)) (k0_pay10 (chunk arg3 harg3 x0 1)) (k0_pay11 (chunk arg3 harg3 x0 2)) (k0_pay12 (chunk arg3 harg3 x0 2)) (k0_pay13 (chunk arg3 harg3 x0 3)) (k0_pay14 (chunk arg3 harg3 x0 3)) (k0_pay15 (chunk arg3 harg3 x0 4)) (top arg4 harg4 x1) (bot arg4 harg4 x1))
      (k0_pay19 (chunk arg3 harg3 x0 5) (chunk arg3 harg3 x0 6) (chunk arg3 harg3 x0 7) (k0_pay7 (chunk arg3 harg3 x0 0)) (k0_pay9 (chunk arg3 harg3 x0 1)) (k0_pay11 (chunk arg3 harg3 x0 2)) (k0_pay13 (chunk arg3 harg3 x0 3)) (k0_pay15 (chunk arg3 harg3 x0 4)) (top arg5 harg5 x2))
      (bot arg5 harg5 x2) (arg6.view.readAt (Elt Ideal) (Rect.unit (s := S1x1x1024x2048) ![0, 0, 0, 0] S1x1x1024x2048.size inb_S1x1x1024x2048_S1x1x1024x2048_0_0_0_0).toLoadRect (harg6.unread x3)) from rfl).trans ?_
  rw [View.readAt_full, harg6.read_unread]

/-- A row's entry: the words' low halves first. -/
def ent (r : Fin 512) (k : Fin 2048) : EReal :=
  if k.val < 1024 then lo (x0 (ix2 (⟨8 * r.val + k.val % 1024 / 128, by omega⟩ : Fin 4096) (⟨k.val % 128, Nat.mod_lt _ (by norm_num)⟩ : Fin 128)))
  else hi (x0 (ix2 (⟨8 * r.val + k.val % 1024 / 128, by omega⟩ : Fin 4096) (⟨k.val % 128, Nat.mod_lt _ (by norm_num)⟩ : Fin 128)))

/-- Rows against columns over the two halves. -/
theorem halves (f : Fin 2048 → EReal) : (∑ k : Fin 1024, f ⟨k.val, by omega⟩) + ∑ k : Fin 1024, f ⟨1024 + k.val, by omega⟩ = ∑ k : Fin 2048, f k :=
  (Fin.sum_univ_add (a := 1024) (b := 1024) f).symm

/-- An expert's gate and value, and its output. -/
def dotG (e : Fin 2048 → EReal) (w : Vec Ideal S1x1x2048x1024 .bf16) (h : Fin 1024) : EReal := ∑ k : Fin 2048, e k * w (ix4 (0 : Fin 1) (0 : Fin 1) k h)
def expert (e : Fin 2048 → EReal) (w1 w3 : Vec Ideal S1x1x2048x1024 .bf16) (w2 : Vec Ideal S1x1x1024x2048 .bf16) (j : Fin 2048) : EReal :=
  ∑ h : Fin 1024, silu (dotG e w1 h) * dotG e w3 h * w2 (ix4 (0 : Fin 1) (0 : Fin 1) h j)

theorem on_apply (hc1) (hc2) (y : S4096x2x128.Idx) : View.canon (runOn c i arg1 harg1 arg2 harg2 arg3 harg3 arg4 harg4 arg5 harg5 arg6 harg6 arg7 harg7 xn hc1 hc2 x0 x1 x2 x3).1 y
    = rowsOf (fun i => expert (ent x0 (i 0)) x1 x2 x3 (i 1)) y := by
  have hc := coverOn c i arg1 harg1 arg2 harg2 arg3 harg3 arg4 harg4 arg5 harg5 arg6 harg6 arg7 harg7 xn hc1 hc2 x0 x1 x2 x3 y
  rw [on_eq] at hc ⊢
  refine (readP _ _ _ _ _ y hc).trans ?_
  unfold rowsOf
  generalize (⟨(y 0).val / 8, _⟩ : Fin 512) = r
  generalize (⟨1024 * (y 1).val + (128 * ((y 0).val % 8) + (y 2).val), _⟩ : Fin 2048) = j
  refine (pay20_apply _ _ _ _ _ r j).trans ?_
  have e0 : ∀ k : Fin 1024, lo (chunk arg3 harg3 x0 ⟨k.val / 128, by omega⟩ (ix2 r (⟨k.val % 128, Nat.mod_lt _ (by norm_num)⟩ : Fin 128))) = ent x0 r ⟨k.val, by omega⟩ := fun k => by
    rw [chunk_apply]; unfold ent; rw [if_pos (show k.val < 1024 from k.isLt)]
    refine congrArg lo (congrArg x0 (congrArg₂ ix2 (Fin.ext ?_) rfl)); show 8 * r.val + k.val / 128 = 8 * r.val + k.val % 1024 / 128; omega
  have e1 : ∀ k : Fin 1024, hi (chunk arg3 harg3 x0 ⟨k.val / 128, by omega⟩ (ix2 r (⟨k.val % 128, Nat.mod_lt _ (by norm_num)⟩ : Fin 128))) = ent x0 r ⟨1024 + k.val, by omega⟩ := fun k => by
    rw [chunk_apply]; unfold ent; rw [if_neg (show ¬1024 + k.val < 1024 by omega)]
    refine congrArg hi (congrArg x0 (congrArg₂ ix2 (Fin.ext ?_) (Fin.ext ?_)))
    · show 8 * r.val + k.val / 128 = 8 * r.val + (1024 + k.val) % 1024 / 128; omega
    · show k.val % 128 = (1024 + k.val) % 128; omega
  have g1 : ∀ h : Fin 1024, k0_pay18 (chunk arg3 harg3 x0 4) (chunk arg3 harg3 x0 5) (chunk arg3 harg3 x0 6) (chunk arg3 harg3 x0 7) (k0_pay7 (chunk arg3 harg3 x0 0)) (k0_pay8 (chunk arg3 harg3 x0 0)) (k0_pay9 (chunk arg3 harg3 x0 1)) (k0_pay10 (chunk arg3 harg3 x0 1)) (k0_pay11 (chunk arg3 harg3 x0 2)) (k0_pay12 (chunk arg3 harg3 x0 2)) (k0_pay13 (chunk arg3 harg3 x0 3)) (k0_pay14 (chunk arg3 harg3 x0 3)) (k0_pay15 (chunk arg3 harg3 x0 4)) (top arg4 harg4 x1) (bot arg4 harg4 x1) (ix2 r h) = dotG (ent x0 r) x1 h := fun h => by
    refine (pay18_apply _ _ _ _ _ _ _ _ _ _ _ _ _ _ _ r h).trans (Eq.trans ?_ (halves fun k => ent x0 r k * x1 (ix4 (0 : Fin 1) (0 : Fin 1) k h)))
    refine congrArg₂ (fun (a b : EReal) => a + b) (Finset.sum_congr rfl fun k _ => ?_) (Finset.sum_congr rfl fun k _ => ?_)
    · exact congrArg₂ (fun (a b : EReal) => a * b) ((pay16_apply (chunk arg3 harg3 x0) r k).trans (e0 k)) (top_apply arg4 harg4 x1 k h)
    · exact congrArg₂ (fun (a b : EReal) => a * b) ((pay17_apply (chunk arg3 harg3 x0) r k).trans (e1 k)) (bot_apply arg4 harg4 x1 k h)
  refine Finset.sum_congr rfl fun h _ => congrArg₂ (fun (a b : EReal) => a * b) (congrArg₂ (fun (a b : EReal) => a * b) (congrArg silu (g1 h)) ?_) rfl
  refine Eq.trans ?_ (halves fun k => ent x0 r k * x2 (ix4 (0 : Fin 1) (0 : Fin 1) k h))
  refine congrArg₂ (fun (a b : EReal) => a + b) ((pay19_apply _ _ _ _ _ _ _ _ _ r h).trans (Finset.sum_congr rfl fun k _ => ?_)) (Finset.sum_congr rfl fun k _ => ?_)
  · exact congrArg₂ (fun (a b : EReal) => a * b) ((pay16_apply (chunk arg3 harg3 x0) r k).trans (e0 k)) (top_apply arg5 harg5 x2 k h)
  · exact congrArg₂ (fun (a b : EReal) => a * b) ((pay17_apply (chunk arg3 harg3 x0) r k).trans (e1 k)) (bot_apply arg5 harg5 x2 k h)

theorem off_apply (hc1) (hc2) (y : S8192x128.Idx) : View.canon (runOff c i arg1 harg1 arg2 harg2 arg3 harg3 arg4 harg4 arg5 harg5 arg6 harg6 arg7 harg7 xn hc1 hc2 x0 x1 x2 x3).1 y = (0 : EReal) := by
  refine (congrArg (fun L => View.canon L y) (show (runOff c i arg1 harg1 arg2 harg2 arg3 harg3 arg4 harg4 arg5 harg5 arg6 harg6 arg7 harg7 xn hc1 hc2 x0 x1 x2 x3).1
    = [⟨Rect.unit (s := S8192x128) ![0, 0] S8192x128.size inb_S8192x128_S8192x128_0_0, k0_pay6 (F := Ideal)⟩] from rfl)).trans ?_
  refine (congrFun (View.canon_cons_unit_zero (by funext a; fin_cases a <;> rfl) _ _ _) y).trans ?_
  exact Ideal.ofBits_zero_bf16
end

end Cert.Kernel3Ideal.Ffn

end
-- ==== Proof.FfnFin.lean ====
module

public import proofs.«01_k».proof.Proof.FfnVal
public import Idealize.ShloMosaic.Lib.KernelVsHost

/-! What the experts' program leaves, in terms of its arguments. -/

@[expose] public section

set_option maxRecDepth 16384

noncomputable section

namespace Cert.Kernel3Ideal.Ffn

open Cert.Kernel3Ideal Cert.Kernel3Ideal.Gen
open Idealize.ShloMosaic Idealize.ShloMosaic.TcCoe

section
variable (x0 : Vec Ideal S144 .i32) (x1 : Vec Ideal S1 .i32) (x2 : Vec Ideal S589824x128 .i32)
variable (w1 w3 : Vec Ideal S4x16x2048x1024 .f32) (w2 : Vec Ideal S4x16x1024x2048 .f32)

/-- A block's expert. -/
def sel (t : Fin 144) : Fin 16 := ⟨(x0 (ix1 t)).toNat % 16, Nat.mod_lt _ (by norm_num)⟩
/-- A block's words. -/
def words (t : Fin 144) (y : S4096x128.Idx) : BitVec 32 :=
  x2 (ix2 (⟨4096 * t.val + (y 0).val, by have h : (y 0).val < 4096 := (y 0).isLt; omega⟩ : Fin 589824) (y 1))
/-- A block's row through its expert. -/
def EX (t : Fin 144) (r : Fin 512) (j : Fin 2048) : EReal :=
  expert (ent (words x2 t) r) (fun y => w1 (ix4 (1 : Fin 4) (sel x0 t) (y 2) (y 3))) (fun y => w3 (ix4 (1 : Fin 4) (sel x0 t) (y 2) (y 3)))
    (fun y => w2 (ix4 (1 : Fin 4) (sel x0 t) (y 2) (y 3))) j
/-- A block of the result: 16 rows of 128 to a token, the two halves of its row taking turns; zeros in a block not in use. -/
def blkVal (t : Fin 144) (R : Fin 8192) (l : Fin 128) : EReal :=
  if IntOp.cmpi .slt (BitVec.ofNat 32 t.val) (x1 (ix1 (0 : Fin 1))) = 1#1 then
    EX x0 x2 w1 w3 w2 t ⟨R.val / 16, by omega⟩ ⟨1024 * (R.val % 2) + (128 * (R.val / 2 % 8) + l.val), by omega⟩
  else 0
/-- The result. -/
def FIN (i : S1179648x128.Idx) : EReal :=
  blkVal x0 x1 x2 w1 w3 w2 ⟨(i 0).val / 8192, by have h : (i 0).val < 1179648 := (i 0).isLt; omega⟩ ⟨(i 0).val % 8192, Nat.mod_lt _ (by norm_num)⟩ (i 1)
end

theorem idx0 : ∀ t : Fin grid0.N, cc0_transform_0 (grid0.coords t) 0 = t.val ∧ cc0_transform_0 (grid0.coords t) 1 = 0 := by decide +kernel
theorem idx4 : ∀ t : Fin grid0.N, cc0_transform_4 (grid0.coords t) 0 = t.val ∧ cc0_transform_4 (grid0.coords t) 1 = 0 := by decide +kernel
theorem off_t : ∀ t : Fin grid0.N, k0_off1 (grid0.coords t) 0 = t.val ∧ t.val < 144 := by decide +kernel
theorem crd_t : ∀ t : Fin grid0.N, ((grid0.coords t) 0).val = t.val := by decide +kernel

theorem cond_of (i : grid0.Coords) (v : BitVec 32) : k0_cond1 i v = 1#1 ↔ IntOp.cmpi .slt (BitVec.ofNat 32 (i 0).val) v = 1#1 := by
  show IntOp.cmpi .ne (BitVec.setWidth 32 (IntOp.cmpi .slt (BitVec.ofNat 32 (i 0).val) v)) 0#32 = 1#1 ↔ _
  generalize IntOp.cmpi .slt (BitVec.ofNat 32 (i 0).val) v = b
  revert b; decide

variable (a : (pcfg0 (F := Ideal)).Adm) (V : (c : Dev nD) → (b : Ref sig .tc) → Buf (Elt Ideal) ((c : Thread nD τ).loc b))

theorem emb4 (t : Fin (cfg0 a).N) (y : S8192x128.Idx) :
    (((cfg0 a).win 4).blk t).view.emb y = (ix2 (⟨8192 * t.val + (y 0).val, by have h : (y 0).val < 8192 := (y 0).isLt; have := (off_t t).2; omega⟩ : Fin 1179648) (y 1) : S1179648x128.Idx) := by
  funext k
  match k with
  | ⟨0, _⟩ => exact Fin.ext (show cc0_transform_4 (grid0.coords t) 0 * 8192 + 1 * (y 0).val = 8192 * t.val + (y 0).val by rw [(idx4 t).1]; omega)
  | ⟨1, _⟩ => exact Fin.ext (show cc0_transform_4 (grid0.coords t) 1 * 128 + 1 * (y 1).val = (y 1).val by rw [(idx4 t).2]; omega)

theorem covers4 : ((cfg0 a).win 4).Covers := by
  refine ⟨fun k => ?_, fun β => ?_⟩
  · match k with
    | ⟨0, _⟩ => show 0 < 8192; norm_num
    | ⟨1, _⟩ => show 0 < 128; norm_num
  · have hb : (β (0 : Fin S1179648x128.rank)).val < 144 := lt_of_lt_of_eq (show (β (0 : Fin S1179648x128.rank)).val < (1179648 + 8192 - 1) / 8192 from (β (0 : Fin S1179648x128.rank)).isLt) (by norm_num)
    have hb1 : (β (1 : Fin S1179648x128.rank)).val < 1 := lt_of_lt_of_eq (show (β (1 : Fin S1179648x128.rank)).val < (128 + 128 - 1) / 128 from (β (1 : Fin S1179648x128.rank)).isLt) (by norm_num)
    let t : Fin (cfg0 a).N := ⟨(β (0 : Fin S1179648x128.rank)).val, hb⟩
    refine ⟨t, ?_, fun k => ?_⟩
    · unfold Pipeline.Window.flush
      rw [Bool.and_eq_true_iff]
      refine ⟨rfl, ?_⟩
      rw [Bool.or_eq_true, decide_eq_true_eq]
      by_cases h : t.val + 1 = grid0.N
      · exact Or.inl h
      · refine Or.inr (decide_eq_true ⟨lt_of_le_of_ne t.isLt h, fun e => ?_⟩)
        have e0 := congrFun e (0 : Fin S1179648x128.rank)
        have h1 : cc0_transform_4 (grid0.coords ⟨t.val + 1, lt_of_le_of_ne t.isLt h⟩) 0 = cc0_transform_4 (grid0.coords t) 0 := e0
        have h2 : t.val + 1 = t.val := (idx4 _).1.symm.trans (h1.trans (idx4 t).1)
        omega
    · match k with
      | ⟨0, _⟩ => exact ⟨(idx4 t).1, Or.inl rfl⟩
      | ⟨1, _⟩ => exact ⟨(idx4 t).2.trans (Nat.lt_one_iff.mp hb1).symm, Or.inl rfl⟩

/-- The grid's point as a block. -/
abbrev bk (t : Fin (cfg0 a).N) : Fin 144 := ⟨t.val, (off_t t).2⟩
abbrev T0 : Vec Ideal S144 .i32 := a.1 0

theorem tab_at (hT : ∀ i : S144.Idx, (T0 a i).toNat < 16) (t : Fin (cfg0 a).N) :
    (Pipeline.Prefetch.Contents.at (pre := pre0) a.1 0 (Rect.unit (s := S144) (k0_off1 (grid0.coords t)) S1.size (k0_off1_inb (grid0.coords t))) numel1_S1 : BitVec 32).toNat = (sel (T0 a) (bk a t)).val := by
  have e : (Pipeline.Prefetch.Contents.at (pre := pre0) a.1 0 (Rect.unit (s := S144) (k0_off1 (grid0.coords t)) S1.size (k0_off1_inb (grid0.coords t))) numel1_S1 : BitVec 32) = T0 a (ix1 (bk a t)) := by
    refine congrArg (T0 a) (funext fun k => ?_)
    match k with
    | ⟨0, _⟩ => exact Fin.ext (show k0_off1 (grid0.coords t) 0 + 1 * 0 = t.val by rw [(off_t t).1]; omega)
  rw [e]
  exact (Nat.mod_eq_of_lt (hT _)).symm

theorem blk0 (c : Dev nD) (t : Fin (cfg0 a).N) : (show Vec Ideal S4096x128 .i32 from blk a V c 0 t) = words (show Vec Ideal S589824x128 .i32 from V c main_arg2) (bk a t) := by
  funext y
  show (V c main_arg2 : Vec Ideal S589824x128 .i32) ((((cfg0 a).win 0).blk t).view.emb y) = _
  refine congrArg (V c main_arg2 : Vec Ideal S589824x128 .i32) (funext fun k => ?_)
  match k with
  | ⟨0, _⟩ => exact Fin.ext (show cc0_transform_0 (grid0.coords t) 0 * 4096 + 1 * (y 0).val = 4096 * t.val + (y 0).val by rw [(idx0 t).1]; omega)
  | ⟨1, _⟩ => exact Fin.ext (show cc0_transform_0 (grid0.coords t) 1 * 128 + 1 * (y 1).val = (y 1).val by rw [(idx0 t).2]; omega)

theorem blk1 (hT : ∀ i : S144.Idx, (T0 a i).toNat < 16) (c : Dev nD) (t : Fin (cfg0 a).N) :
    (show Vec Ideal S1x1x2048x1024 .bf16 from blk a V c 1 t) = fun y => (V c main_v0 : Vec Ideal S4x16x2048x1024 .bf16) (ix4 (1 : Fin 4) (sel (T0 a) (bk a t)) (y 2) (y 3)) := by
  funext y
  show (V c main_v0 : Vec Ideal S4x16x2048x1024 .bf16) ((((cfg0 a).win 1).blk t).view.emb y) = _
  have y0 : (y 0).val < 1 := (y 0).isLt
  have y1 : (y 1).val < 1 := (y 1).isLt
  refine congrArg (V c main_v0 : Vec Ideal S4x16x2048x1024 .bf16) (funext fun k => ?_)
  match k with
  | ⟨0, _⟩ => exact Fin.ext (show 1 * 1 + 1 * (y 0).val = 1 by omega)
  | ⟨1, _⟩ => exact Fin.ext (show (Pipeline.Prefetch.Contents.at (pre := pre0) a.1 0 (Rect.unit (s := S144) (k0_off1 (grid0.coords t)) S1.size (k0_off1_inb (grid0.coords t))) numel1_S1 : BitVec 32).toNat * 1 + 1 * (y 1).val = (sel (T0 a) (bk a t)).val by
      rw [tab_at a hT t]; omega)
  | ⟨2, _⟩ => exact Fin.ext (show 0 * 2048 + 1 * (y 2).val = (y 2).val by omega)
  | ⟨3, _⟩ => exact Fin.ext (show 0 * 1024 + 1 * (y 3).val = (y 3).val by omega)

theorem blk2 (hT : ∀ i : S144.Idx, (T0 a i).toNat < 16) (c : Dev nD) (t : Fin (cfg0 a).N) :
    (show Vec Ideal S1x1x2048x1024 .bf16 from blk a V c 2 t) = fun y => (V c main_v1 : Vec Ideal S4x16x2048x1024 .bf16) (ix4 (1 : Fin 4) (sel (T0 a) (bk a t)) (y 2) (y 3)) := by
  funext y
  show (V c main_v1 : Vec Ideal S4x16x2048x1024 .bf16) ((((cfg0 a).win 2).blk t).view.emb y) = _
  have y0 : (y 0).val < 1 := (y 0).isLt
  have y1 : (y 1).val < 1 := (y 1).isLt
  refine congrArg (V c main_v1 : Vec Ideal S4x16x2048x1024 .bf16) (funext fun k => ?_)
  match k with
  | ⟨0, _⟩ => exact Fin.ext (show 1 * 1 + 1 * (y 0).val = 1 by omega)
  | ⟨1, _⟩ => exact Fin.ext (show (Pipeline.Prefetch.Contents.at (pre := pre0) a.1 0 (Rect.unit (s := S144) (k0_off1 (grid0.coords t)) S1.size (k0_off1_inb (grid0.coords t))) numel1_S1 : BitVec 32).toNat * 1 + 1 * (y 1).val = (sel (T0 a) (bk a t)).val by
      rw [tab_at a hT t]; omega)
  | ⟨2, _⟩ => exact Fin.ext (show 0 * 2048 + 1 * (y 2).val = (y 2).val by omega)
  | ⟨3, _⟩ => exact Fin.ext (show 0 * 1024 + 1 * (y 3).val = (y 3).val by omega)

theorem blk3 (hT : ∀ i : S144.Idx, (T0 a i).toNat < 16) (c : Dev nD) (t : Fin (cfg0 a).N) :
    (show Vec Ideal S1x1x1024x2048 .bf16 from blk a V c 3 t) = fun y => (V c main_v2 : Vec Ideal S4x16x1024x2048 .bf16) (ix4 (1 : Fin 4) (sel (T0 a) (bk a t)) (y 2) (y 3)) := by
  funext y
  show (V c main_v2 : Vec Ideal S4x16x1024x2048 .bf16) ((((cfg0 a).win 3).blk t).view.emb y) = _
  have y0 : (y 0).val < 1 := (y 0).isLt
  have y1 : (y 1).val < 1 := (y 1).isLt
  refine congrArg (V c main_v2 : Vec Ideal S4x16x1024x2048 .bf16) (funext fun k => ?_)
  match k with
  | ⟨0, _⟩ => exact Fin.ext (show 1 * 1 + 1 * (y 0).val = 1 by omega)
  | ⟨1, _⟩ => exact Fin.ext (show (Pipeline.Prefetch.Contents.at (pre := pre0) a.1 0 (Rect.unit (s := S144) (k0_off1 (grid0.coords t)) S1.size (k0_off1_inb (grid0.coords t))) numel1_S1 : BitVec 32).toNat * 1 + 1 * (y 1).val = (sel (T0 a) (bk a t)).val by
      rw [tab_at a hT t]; omega)
  | ⟨2, _⟩ => exact Fin.ext (show 0 * 1024 + 1 * (y 2).val = (y 2).val by omega)
  | ⟨3, _⟩ => exact Fin.ext (show 0 * 2048 + 1 * (y 3).val = (y 3).val by omega)

theorem pair_at (x : S8192x128.Idx) :
    (Shape.reshapeEquiv reshapes_S8192x128_S4096x2x128.1).symm x
      = (ix3 (⟨(x 0).val / 2, by have h : (x 0).val < 8192 := (x 0).isLt; omega⟩ : Fin 4096) (⟨(x 0).val % 2, Nat.mod_lt _ (by norm_num)⟩ : Fin 2) (x 1) : S4096x2x128.Idx) := by
  refine (Equiv.symm_apply_eq (Shape.reshapeEquiv reshapes_S8192x128_S4096x2x128.1)).mpr ?_
  refine (Shape.reshapeEquiv_eq_of_rowMajor _ ?_).symm
  rw [Shape.rowMajor_val_two, Shape.rowMajor_val_three]
  show (x 0).val * 128 + (x 1).val = ((x 0).val / 2 * 2 + (x 0).val % 2) * 128 + (x 1).val
  omega

/-- The result's block at a point, from the arrays. -/
theorem outAt_apply (hT : ∀ i : S144.Idx, (T0 a i).toNat < 16) (c : Dev nD) (t : Fin (cfg0 a).N) (y : S8192x128.Idx) :
    outAt a V c t y = blkVal (T0 a) (tn a) (V c main_arg2 : Vec Ideal S589824x128 .i32) (V c main_v0 : Vec Ideal S4x16x2048x1024 .bf16) (V c main_v1 : Vec Ideal S4x16x2048x1024 .bf16) (V c main_v2 : Vec Ideal S4x16x1024x2048 .bf16)
      (bk a t) (y 0) (y 1) := by
  have h0 : (y 0).val < 8192 := (y 0).isLt
  have h1 : (y 1).val < 128 := (y 1).isLt
  have ec : k0_cond1 (grid0.coords t) (cnt a) = 1#1 ↔ IntOp.cmpi .slt (BitVec.ofNat 32 (bk a t).val) (tn a (ix1 (0 : Fin 1))) = 1#1 := by
    refine (cond_of _ _).trans ?_
    rw [crd_t]
    rw [show cnt a = tn a (ix1 (0 : Fin 1)) from congrArg (tn a) (funext fun k => by match k with | ⟨0, _⟩ => rfl)]
  unfold blkVal
  by_cases h : k0_cond1 (grid0.coords t) (cnt a) = 1#1
  · refine Eq.trans ?_ (if_pos (ec.mp h)).symm
    refine (congrFun (dif_pos h : outAt a V c t = _) y).trans ?_
    refine (congrArg (pairsAt a V c t h) (pair_at y)).trans ?_
    refine (on_apply ..).trans ?_
    unfold rowsOf EX
    rw [← blk0 a V c t, ← blk1 a V hT c t, ← blk2 a V hT c t, ← blk3 a V hT c t]
    refine congrArg₂ (fun r j => expert (ent (blk a V c 0 t) r) (blk a V c 1 t) (blk a V c 2 t) (blk a V c 3 t) j) (Fin.ext ?_) (Fin.ext ?_)
    · show (y 0).val / 2 / 8 = (y 0).val / 16; omega
    · rfl
  · refine Eq.trans ?_ (if_neg fun h' => h (ec.mpr h')).symm
    refine (congrFun (dif_neg h : outAt a V c t = _) y).trans ?_
    exact off_apply ..

/-- The whole result. -/
theorem final (hT : ∀ i : S144.Idx, (T0 a i).toNat < 16) (c : Dev nD) :
    (dat a V c).arrAt 4 (cfg0 a).N = FIN (T0 a) (tn a) (V c main_arg2 : Vec Ideal S589824x128 .i32) (V c main_v0 : Vec Ideal S4x16x2048x1024 .bf16) (V c main_v1 : Vec Ideal S4x16x2048x1024 .bf16) (V c main_v2 : Vec Ideal S4x16x1024x2048 .bf16) := by
  refine (dat a V c).arrAt_eq_of_covers 4 _ (covers4 a) (fun t _ y => ?_) (Memref.isWhole_whole _)
  refine (outAt_apply a V hT c t y).trans ?_
  refine Eq.trans ?_ (congrArg _ (emb4 a t y)).symm
  have h0 : (y (0 : Fin S8192x128.rank)).val < 8192 := (y (0 : Fin S8192x128.rank)).isLt
  unfold FIN
  refine congrArg₂ (fun t' R => blkVal _ _ _ _ _ _ t' R (y (1 : Fin S8192x128.rank))) (Fin.ext ?_) (Fin.ext ?_)
  · show t.val = (8192 * t.val + (y (0 : Fin S8192x128.rank)).val) / 8192; omega
  · show (y (0 : Fin S8192x128.rank)).val = (8192 * t.val + (y (0 : Fin S8192x128.rank)).val) % 8192; omega

end Cert.Kernel3Ideal.Ffn

namespace Cert.Kernel3Ideal.Main

open Cert.Kernel3Ideal Cert.Kernel3Ideal.Gen
open Idealize.ShloMosaic Idealize.ShloMosaic.TcCoe

/-- Tables that name experts are admissible. -/
theorem ok_of (pf : pre0.Contents (Elt Ideal)) (hT : ∀ i : S144.Idx, ((pf 0 : Vec Ideal S144 .i32) i).toNat < 16) : ok0 pf := by
  have hb : ∀ i : grid0.Coords, ((Pipeline.Prefetch.Contents.at (pre := pre0) pf 0 (Rect.unit (s := S144) (k0_off1 i) S1.size (k0_off1_inb i)) numel1_S1 : BitVec 32).toNat + 1) * 1 ≤ 16 := fun i => by
    rw [Nat.mul_one]
    exact hT ((Rect.unit (s := S144) (k0_off1 i) S1.size (k0_off1_inb i)).emb (Shape.Idx.first (numel1_S1.symm ▸ Nat.one_pos)))
  refine ⟨fun i => ⟨fun k => ?_, .inr (Affine.block_words_dvd (of_decide_eq_true rfl) (by decide))⟩, fun i => ⟨fun k => ?_, .inr (Affine.block_words_dvd (of_decide_eq_true rfl) (by decide))⟩, fun i => ⟨fun k => ?_, .inr (Affine.block_words_dvd (of_decide_eq_true rfl) (by decide))⟩⟩
  · match k with
    | ⟨0, _⟩ => exact (show (1 + 1) * 1 ≤ 4 by norm_num)
    | ⟨1, _⟩ => exact hb i
    | ⟨2, _⟩ => exact (show (0 + 1) * 2048 ≤ 2048 by norm_num)
    | ⟨3, _⟩ => exact (show (0 + 1) * 1024 ≤ 1024 by norm_num)
  · match k with
    | ⟨0, _⟩ => exact (show (1 + 1) * 1 ≤ 4 by norm_num)
    | ⟨1, _⟩ => exact hb i
    | ⟨2, _⟩ => exact (show (0 + 1) * 2048 ≤ 2048 by norm_num)
    | ⟨3, _⟩ => exact (show (0 + 1) * 1024 ≤ 1024 by norm_num)
  · match k with
    | ⟨0, _⟩ => exact (show (1 + 1) * 1 ≤ 4 by norm_num)
    | ⟨1, _⟩ => exact hb i
    | ⟨2, _⟩ => exact (show (0 + 1) * 1024 ≤ 1024 by norm_num)
    | ⟨3, _⟩ => exact (show (0 + 1) * 2048 ≤ 2048 by norm_num)

variable (m : (ℓ : Loc nD τ sig) → Buf (Elt Ideal) ℓ) (hok : ok0 (tbl m))

/-- What the program leaves, from its arguments. -/
theorem res_eq (hT : ∀ i : S144.Idx, ((m (((0 : Dev nD) : Thread nD τ).loc main_arg0) : Vec Ideal S144 .i32) i).toNat < 16) (c : Dev nD) :
    res m hok c = Ffn.FIN (m ((c : Thread nD τ).loc main_arg0) : Vec Ideal S144 .i32) (m ((c : Thread nD τ).loc main_arg1) : Vec Ideal S1 .i32) (m ((c : Thread nD τ).loc main_arg2) : Vec Ideal S589824x128 .i32)
      (m ((c : Thread nD τ).loc main_arg3) : Vec Ideal S4x16x2048x1024 .f32) (m ((c : Thread nD τ).loc main_arg4) : Vec Ideal S4x16x2048x1024 .f32) (m ((c : Thread nD τ).loc main_arg5) : Vec Ideal S4x16x1024x2048 .f32) := by
  obtain rfl : c = 0 := Subsingleton.elim _ _
  refine (Ffn.final (tabs m hok) (VA m) hT 0).trans ?_
  have e2 : VA m 0 main_arg2 = m (((0 : Dev nD) : Thread nD τ).loc main_arg2) := V1_of m 0 main_arg2 (by decide)
  have e3 : (show FVec Ideal S4x16x2048x1024 .bf16 from VA m 0 main_v0) = truncf (F := Ideal) .bf16 (show FVec Ideal S4x16x2048x1024 .f32 from m (((0 : Dev nD) : Thread nD τ).loc main_arg3)) bitsLt_bf16_f32 := by
    show StableHlo.after hostOps0 (V0 m 0) (Proc.devRef .tc main_v0) = _
    entry_read
    rfl
  have e4 : (show FVec Ideal S4x16x2048x1024 .bf16 from VA m 0 main_v1) = truncf (F := Ideal) .bf16 (show FVec Ideal S4x16x2048x1024 .f32 from m (((0 : Dev nD) : Thread nD τ).loc main_arg4)) bitsLt_bf16_f32 := by
    show StableHlo.after hostOps0 (V0 m 0) (Proc.devRef .tc main_v1) = _
    entry_read
    rfl
  have e5 : (show FVec Ideal S4x16x1024x2048 .bf16 from VA m 0 main_v2) = truncf (F := Ideal) .bf16 (show FVec Ideal S4x16x1024x2048 .f32 from m (((0 : Dev nD) : Thread nD τ).loc main_arg5)) bitsLt_bf16_f32 := by
    show StableHlo.after hostOps0 (V0 m 0) (Proc.devRef .tc main_v2) = _
    entry_read
    rfl
  exact congr (congr (congr (congrArg (fun x => Ffn.FIN _ _ x) e2) e3) e4) e5

end Cert.Kernel3Ideal.Main

end
-- ==== Proof.Ref3Val.lean ====
module

public import proofs.«01_k».proof.Proof.FfnFin
public import proofs.«01_k».proof.Proof.Gen.Reference3Ideal.Read
public import Idealize.ShloMosaic.Lib.BitcastConvert
public import Idealize.ShloMosaic.Lib.WordCmp

/-! The reference's experts: each block's rows through its expert, the blocks not in use at zero. -/

@[expose] public section

set_option maxRecDepth 16384

noncomputable section

namespace Cert.Reference3Ideal.RefVal

open Cert.Reference3Ideal Cert.Reference3Ideal.Gen Cert.Reference3Ideal.Read
open Idealize.ShloMosaic Idealize.ShloMosaic.TcCoe
open Cert.Kernel3Ideal.Ffn (lo hi silu ent dotG expert sel words EX blkVal FIN)

theorem one_eq : Ideal.ofBits FTy.f32 0x3F800000#32 = 1 := by
  simp [Ideal.ofBits, Ideal.ieee]
  rw [← EReal.coe_mul]; norm_num

/-- A word whose low half is zero reads as its high half does. -/
theorem ofBits_high (w : BitVec 32) (b : BitVec 16) (h : w.toNat = 65536 * b.toNat) : Ideal.ofBits .f32 w = Ideal.ofBits .bf16 b := by
  have hb := b.isLt
  have e1 : (w.extractLsb' 31 1 == 1#1) = (b.extractLsb' 15 1 == 1#1) := by
    have : w.extractLsb' 31 1 = b.extractLsb' 15 1 := by
      apply BitVec.eq_of_toNat_eq
      rw [BitVec.extractLsb'_toNat, BitVec.extractLsb'_toNat, Nat.shiftRight_eq_div_pow, Nat.shiftRight_eq_div_pow, h]
      omega
    rw [this]
  have e2 : (w.extractLsb' 23 8).toNat = (b.extractLsb' 7 8).toNat := by
    rw [BitVec.extractLsb'_toNat, BitVec.extractLsb'_toNat, Nat.shiftRight_eq_div_pow, Nat.shiftRight_eq_div_pow, h]
    omega
  have e3 : (w.extractLsb' 0 23).toNat = 65536 * (b.extractLsb' 0 7).toNat := by
    rw [BitVec.extractLsb'_toNat, BitVec.extractLsb'_toNat, Nat.shiftRight_eq_div_pow, Nat.shiftRight_eq_div_pow, h]
    omega
  show Ideal.ieee 8 23 w = Ideal.ieee 8 7 b
  unfold Ideal.ieee
  show (if (w.extractLsb' 23 8).toNat = 2 ^ 8 - 1 then (if (w.extractLsb' 0 23).toNat = 0 then (if (w.extractLsb' 31 1 == 1#1) = true then (⊥ : EReal) else ⊤) else ⊥)
    else if (w.extractLsb' 23 8).toNat = 0 then (((if (w.extractLsb' 31 1 == 1#1) = true then (-1 : ℝ) else 1) * (w.extractLsb' 0 23).toNat * (2 : ℝ) ^ (1 - (2 ^ (8 - 1) - 1) - (23 : ℕ) : Int) : ℝ) : EReal)
    else (((if (w.extractLsb' 31 1 == 1#1) = true then (-1 : ℝ) else 1) * (2 ^ 23 + (w.extractLsb' 0 23).toNat : Nat) * (2 : ℝ) ^ (((w.extractLsb' 23 8).toNat : Int) - (2 ^ (8 - 1) - 1) - (23 : ℕ)) : ℝ) : EReal))
    = (if (b.extractLsb' 7 8).toNat = 2 ^ 8 - 1 then (if (b.extractLsb' 0 7).toNat = 0 then (if (b.extractLsb' 15 1 == 1#1) = true then (⊥ : EReal) else ⊤) else ⊥)
    else if (b.extractLsb' 7 8).toNat = 0 then (((if (b.extractLsb' 15 1 == 1#1) = true then (-1 : ℝ) else 1) * (b.extractLsb' 0 7).toNat * (2 : ℝ) ^ (1 - (2 ^ (8 - 1) - 1) - (7 : ℕ) : Int) : ℝ) : EReal)
    else (((if (b.extractLsb' 15 1 == 1#1) = true then (-1 : ℝ) else 1) * (2 ^ 7 + (b.extractLsb' 0 7).toNat : Nat) * (2 : ℝ) ^ (((b.extractLsb' 7 8).toNat : Int) - (2 ^ (8 - 1) - 1) - (7 : ℕ)) : ℝ) : EReal))
  rw [e1, e2, e3]
  generalize (b.extractLsb' 7 8).toNat = ex
  generalize (b.extractLsb' 0 7).toNat = fr
  generalize (if (b.extractLsb' 15 1 == 1#1) = true then (-1 : ℝ) else 1) = sg
  have e2p : ∀ z : ℤ, (65536 : ℝ) * (2 : ℝ) ^ (z - (23 : ℕ)) = (2 : ℝ) ^ (z - (7 : ℕ)) := fun z => by
    rw [show (65536 : ℝ) = (2 : ℝ) ^ (16 : ℤ) by norm_num, ← zpow_add₀ (by norm_num : (2 : ℝ) ≠ 0)]
    congr 1
    push_cast
    ring
  have es : (sg * ((65536 * fr : ℕ) : ℝ) * (2 : ℝ) ^ (1 - (2 ^ (8 - 1) - 1) - (23 : ℕ) : Int)) = sg * fr * (2 : ℝ) ^ (1 - (2 ^ (8 - 1) - 1) - (7 : ℕ) : Int) := by
    rw [← e2p]; push_cast; ring
  have en : (sg * ((2 ^ 23 + 65536 * fr : ℕ) : ℝ) * (2 : ℝ) ^ ((ex : Int) - (2 ^ (8 - 1) - 1) - (23 : ℕ))) = sg * ((2 ^ 7 + fr : ℕ) : ℝ) * (2 : ℝ) ^ ((ex : Int) - (2 ^ (8 - 1) - 1) - (7 : ℕ)) := by
    rw [← e2p]; push_cast; ring
  rw [es, en]
  have ez : ∀ u v : EReal, (if 65536 * fr = 0 then u else v) = if fr = 0 then u else v := fun u v => by
    by_cases h : fr = 0
    · rw [if_pos h, if_pos (by omega)]
    · rw [if_neg h, if_neg (by omega)]
  rw [ez]

theorem lo_eq (w : BitVec 32) : Ideal.ofBits .bf16 (w.extractLsb' 0 16) = lo w := by
  refine (ofBits_high _ _ ?_).symm
  show (w <<< (16#32).toNat).toNat = 65536 * (w.extractLsb' 0 16).toNat
  rw [BitVec.extractLsb'_toNat, BitVec.toNat_shiftLeft, Nat.shiftLeft_eq, Nat.shiftRight_eq_div_pow]
  have := w.isLt
  show w.toNat * 65536 % 4294967296 = 65536 * (w.toNat / 1 % 65536)
  omega
theorem hi_eq (w : BitVec 32) : Ideal.ofBits .bf16 (w.extractLsb' 16 16) = hi w := by
  refine (ofBits_high _ _ ?_).symm
  have e : w &&& 4294901760#32 = (w >>> 16) <<< 16 := by
    ext i hi
    interval_cases i <;> simp
  show (w &&& 4294901760#32).toNat = 65536 * (w.extractLsb' 16 16).toNat
  rw [e, BitVec.extractLsb'_toNat, BitVec.toNat_shiftLeft, BitVec.toNat_ushiftRight, Nat.shiftLeft_eq, Nat.shiftRight_eq_div_pow]
  have := w.isLt
  omega

section
variable {α : Type}
/-- The dimension numbers of a gather of planes by one index each, -/
abbrev planes (N B C D : Nat) (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf
/-- and the gather at an index. -/
theorem gather_planes {N B C D : Nat} (hN : 0 < N)
    (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ 32) (b : Fin B) (j : Fin C) (k : Fin D) :
    Host.gather (planes N B C D wf) x idx (ix3 b j k) = x (ix3 ⟨min (idx (ix2 b (0 : Fin 1))).toInt.toNat (N - 1), by omega⟩ j k) := by
  unfold Host.gather
  congr 1
  funext a
  refine Fin.ext ?_
  show (planes N B C D wf).start (ix3 b j k) idx a + (planes N B C D wf).batchCoord (ix3 b j k) a + (planes N B C D wf).offCoord (ix3 b j k) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (planes N B C D wf).startIndexMap from List.mem_singleton.mpr rfl)]
    have hsi : (planes N B C D wf).siIdx (ix3 b j k) ⟨List.idxOf (0 : Fin 3) (planes N B C D wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  · unfold GatherDims.start
    rw [dif_neg (show ¬(1 : Fin 3) ∈ (planes N B C D wf).startIndexMap from (show ¬(1 : Fin 3) ∈ ([0] : List (Fin 3)) by decide)), Nat.zero_add]
    unfold GatherDims.offCoord
    rw [dif_pos ((GatherDims.mem_sKept _ _).mpr ⟨(show ¬(1 : Fin 3) ∈ ([0] : List (Fin 3)) by decide), List.not_mem_nil⟩)]
    rfl
  · unfold GatherDims.start
    rw [dif_neg (show ¬(2 : Fin 3) ∈ (planes N B C D wf).startIndexMap from (show ¬(2 : Fin 3) ∈ ([0] : List (Fin 3)) by decide)), Nat.zero_add]
    unfold GatherDims.offCoord
    rw [dif_pos ((GatherDims.mem_sKept _ _).mpr ⟨(show ¬(2 : Fin 3) ∈ ([0] : List (Fin 3)) by decide), List.not_mem_nil⟩)]
    rfl
end

section
variable (x0 : (⟨S144, .i32⟩ : BufTy).Contents (Elt Ideal)) (x1 : (⟨S1, .i32⟩ : BufTy).Contents (Elt Ideal)) (x2 : (⟨S589824x128, .i32⟩ : BufTy).Contents (Elt Ideal))
  (x3 x4 : (⟨S4x16x2048x1024, .f32⟩ : BufTy).Contents (Elt Ideal)) (x5 : (⟨S4x16x1024x2048, .f32⟩ : BufTy).Contents (Elt Ideal))

/-- A block's tokens. -/
theorem v4_at (t : Fin 144) (r : Fin 512) (k : Fin 2048) : val_main_v4 (F := Ideal) x2 (ix3 t r k) = ent (words x2 t) r k := by
  have e4 : idx_main_v4 (ix3 t r k) = ix5 t r (⟨k.val / 1024, by omega⟩ : Fin 2) (⟨k.val % 1024 / 128, by omega⟩ : Fin 8) (⟨k.val % 128, Nat.mod_lt _ (by norm_num)⟩ : Fin 128) := by
    funext a
    match a with
    | ⟨0, _⟩ => exact Fin.ext (show ((t.val * 512 + r.val) * 2048 + k.val) / 1048576 = t.val by omega)
    | ⟨1, _⟩ => exact Fin.ext (show ((t.val * 512 + r.val) * 2048 + k.val) / 2048 % 512 = r.val by omega)
    | ⟨2, _⟩ => exact Fin.ext (show ((t.val * 512 + r.val) * 2048 + k.val) / 1024 % 2 = k.val / 1024 by omega)
    | ⟨3, _⟩ => exact Fin.ext (show ((t.val * 512 + r.val) * 2048 + k.val) / 128 % 8 = k.val % 1024 / 128 by omega)
    | ⟨4, _⟩ => exact Fin.ext (show ((t.val * 512 + r.val) * 2048 + k.val) % 128 = k.val % 128 by omega)
  have e2 : ∀ (p : Fin 2) (q : Fin 8) (l : Fin 128), idx_main_v2 (idx_main_v3 (ix5 t r p q l)) = ix3 (⟨4096 * t.val + (8 * r.val + q.val), by omega⟩ : Fin 589824) l p := fun p q l => by
    funext a
    match a with
    | ⟨0, _⟩ => exact Fin.ext (show ((((t.val * 512 + r.val) * 8 + q.val) * 128 + l.val) * 2 + p.val) / 256 = 4096 * t.val + (8 * r.val + q.val) by omega)
    | ⟨1, _⟩ => exact Fin.ext (show ((((t.val * 512 + r.val) * 8 + q.val) * 128 + l.val) * 2 + p.val) / 2 % 128 = l.val by omega)
    | ⟨2, _⟩ => exact Fin.ext (show ((((t.val * 512 + r.val) * 8 + q.val) * 128 + l.val) * 2 + p.val) % 2 = p.val by omega)
  rw [val_main_v4_apply, val_main_v3_apply, val_main_v2_apply, val_main_v1_apply, e4, e2]
  unfold val_main_v0
  have eb : ∀ (R : Fin 589824) (l : Fin 128) (p : Fin 2), bitcastToFloat (F := Ideal) .bf16 (Host.bitcastConvertNarrow S589824x128x2 16 x2 splits_S589824x128_w32_S589824x128x2_w16) (ix3 R l p)
      = Ideal.ofBits .bf16 ((x2 (ix2 R l) : BitVec 32).extractLsb' (p.val * 16) 16) := fun R l p => by
    show Ideal.ofBits .bf16 (Host.bitcastConvertNarrow S589824x128x2 16 x2 splits_S589824x128_w32_S589824x128x2_w16 (ix3 R l p)) = _
    rw [Host.bitcastConvertNarrow_apply]
    refine congrArg (fun i => Ideal.ofBits .bf16 ((x2 i : BitVec 32).extractLsb' (p.val * 16) 16)) (funext fun a => ?_)
    match a with
    | ⟨0, _⟩ => rfl
    | ⟨1, _⟩ => rfl
  refine (eb _ _ _).trans ?_
  unfold ent
  by_cases h : k.val < 1024
  · rw [if_pos h, ← lo_eq]
    have e0 : k.val / 1024 * 16 = 0 := by omega
    show Ideal.ofBits .bf16 ((x2 _ : BitVec 32).extractLsb' (k.val / 1024 * 16) 16) = _
    rw [e0]
    rfl
  · rw [if_neg h, ← hi_eq]
    have e0 : k.val / 1024 * 16 = 16 := by omega
    show Ideal.ofBits .bf16 ((x2 _ : BitVec 32).extractLsb' (k.val / 1024 * 16) 16) = _
    rw [e0]
    rfl

variable (hT : ∀ i : S144.Idx, (x0 i : BitVec 32).toNat < 16)
include hT

/-- A block's expert, as the reference reads it. -/
theorem v12_at (t : Fin 144) : val_main_v12 (F := Ideal) x0 (ix2 t (0 : Fin 1)) = x0 (ix1 t) := by
  have e : idx_main_v12 (ix2 t (0 : Fin 1)) = ix1 t := by
    funext a
    match a with
    | ⟨0, _⟩ => rfl
  have h := hT (ix1 t)
  rw [val_main_v12_apply, e, val_main_v11_apply, val_main_v8_apply, val_main_v7_apply, val_main_c_apply]
  have ec : IntOp.cmpi .slt (x0 (ix1 t) : BitVec 32) 0#32 = 0#1 := by
    show BitVec.ofBool (BitVec.slt (x0 (ix1 t)) 0#32) = 0#1
    have : BitVec.slt (x0 (ix1 t) : BitVec 32) 0#32 = false := by
      unfold BitVec.slt
      rw [BitVec.toInt_eq_toNat_of_lt (by omega)]
      simp
    rw [this]; rfl
  rw [ec]
  rfl
theorem e_at (t : Fin 144) : min (val_main_v12 (F := Ideal) x0 (ix2 t (0 : Fin 1)) : BitVec 32).toInt.toNat (16 - 1) = (sel x0 t).val := by
  have h := hT (ix1 t)
  rw [v12_at x0 hT t, BitVec.toInt_eq_toNat_of_lt (by omega), Int.toNat_natCast]
  show min (x0 (ix1 t) : BitVec 32).toNat (16 - 1) = (x0 (ix1 t) : BitVec 32).toNat % 16
  omega

theorem v13_at (t : Fin 144) (k : Fin 2048) (j : Fin 1024) : val_main_v13 (F := Ideal) x0 x3 (ix3 t k j) = x3 (ix4 (1 : Fin 4) (sel x0 t) k j) := by
  unfold val_main_v13
  refine (gather_planes (by norm_num) gather_S16x2048x1024_S144x1_S144x2048x1024_12_0_n_n_0_1_120481024_wf (val_main_v6 (F := Ideal) x3) (val_main_v12 (F := Ideal) x0) t k j).trans ?_
  rw [show (⟨min (val_main_v12 (F := Ideal) x0 (ix2 t (0 : Fin 1)) : BitVec 32).toInt.toNat (16 - 1), by omega⟩ : Fin 16) = sel x0 t from Fin.ext (e_at x0 hT t)]
  generalize sel x0 t = e
  refine (val_main_v6_apply (F := Ideal) x3 _).trans ((val_main_v5_apply (F := Ideal) x3 _).trans (congrArg x3 (funext fun a => ?_)))
  match a with
  | ⟨0, _⟩ => rfl
  | ⟨1, _⟩ => exact Fin.ext (show ((e.val * 2048 + k.val) * 1024 + j.val) / 2097152 % 16 = e.val by omega)
  | ⟨2, _⟩ => exact Fin.ext (show ((e.val * 2048 + k.val) * 1024 + j.val) / 1024 % 2048 = k.val by omega)
  | ⟨3, _⟩ => exact Fin.ext (show ((e.val * 2048 + k.val) * 1024 + j.val) % 1024 = j.val by omega)
theorem v24_at (t : Fin 144) (k : Fin 2048) (j : Fin 1024) : val_main_v24 (F := Ideal) x0 x4 (ix3 t k j) = x4 (ix4 (1 : Fin 4) (sel x0 t) k j) :=
  v13_at x0 x4 hT t k j
theorem v35_at (t : Fin 144) (k : Fin 1024) (j : Fin 2048) : val_main_v35 (F := Ideal) x0 x5 (ix3 t k j) = x5 (ix4 (1 : Fin 4) (sel x0 t) k j) := by
  unfold val_main_v35
  refine (gather_planes (by norm_num) gather_S16x1024x2048_S144x1_S144x1024x2048_12_0_n_n_0_1_110242048_wf (val_main_v28 (F := Ideal) x5) (val_main_v34 (F := Ideal) x0) t k j).trans ?_
  rw [show (⟨min (val_main_v34 (F := Ideal) x0 (ix2 t (0 : Fin 1)) : BitVec 32).toInt.toNat (16 - 1), by omega⟩ : Fin 16) = sel x0 t from Fin.ext (e_at x0 hT t)]
  generalize sel x0 t = e
  refine (val_main_v28_apply (F := Ideal) x5 _).trans ((val_main_v27_apply (F := Ideal) x5 _).trans (congrArg x5 (funext fun a => ?_)))
  match a with
  | ⟨0, _⟩ => rfl
  | ⟨1, _⟩ => exact Fin.ext (show ((e.val * 1024 + k.val) * 2048 + j.val) / 2097152 % 16 = e.val by omega)
  | ⟨2, _⟩ => exact Fin.ext (show ((e.val * 1024 + k.val) * 2048 + j.val) / 2048 % 1024 = k.val by omega)
  | ⟨3, _⟩ => exact Fin.ext (show ((e.val * 1024 + k.val) * 2048 + j.val) % 2048 = j.val by omega)

/-- The two products in. -/
theorem v14_at (t : Fin 144) (r : Fin 512) (h : Fin 1024) :
    val_main_v14 (F := Ideal) x0 x2 x3 (ix3 t r h) = dotG (ent (words x2 t) r) (fun y => x3 (ix4 (1 : Fin 4) (sel x0 t) (y 2) (y 3))) h := by
  rw [val_main_v14_apply]
  unfold dotG
  refine Finset.sum_congr rfl fun k _ => ?_
  have el : lidx_main_v14 (ix3 t r h) k = ix3 t r k := by
    funext a
    match a with
    | ⟨0, _⟩ => rfl
    | ⟨1, _⟩ => rfl
    | ⟨2, _⟩ => rfl
  have er : ridx_main_v14 (ix3 t r h) k = ix3 t k h := by
    funext a
    match a with
    | ⟨0, _⟩ => rfl
    | ⟨1, _⟩ => rfl
    | ⟨2, _⟩ => rfl
  rw [el, er, v4_at, v13_at x0 x3 hT]
  rfl
theorem v25_at (t : Fin 144) (r : Fin 512) (h : Fin 1024) :
    val_main_v25 (F := Ideal) x0 x2 x4 (ix3 t r h) = dotG (ent (words x2 t) r) (fun y => x4 (ix4 (1 : Fin 4) (sel x0 t) (y 2) (y 3))) h :=
  v14_at x0 x2 x4 hT t r h

omit hT in
theorem one_add_exp (x : EReal) : (1 : EReal) + Ideal.exp x ≠ 0 := by
  induction x using EReal.rec with
  | bot => show (1 : EReal) + 0 ≠ 0; rw [add_zero]; exact one_ne_zero
  | top => show (1 : EReal) + ⊤ ≠ 0; rw [EReal.add_top_of_ne_bot (by decide)]; exact EReal.top_ne_zero
  | coe r =>
    show ((1 : ℝ) : EReal) + ((Real.exp r : ℝ) : EReal) ≠ 0
    rw [← EReal.coe_add]
    exact fun h => absurd (EReal.coe_eq_zero.mp h) (by have := Real.exp_pos r; linarith)

/-- The gated half. -/
theorem v15_at (t : Fin 144) (r : Fin 512) (h : Fin 1024) :
    val_main_v15 (F := Ideal) x0 x2 x3 (ix3 t r h) = silu (dotG (ent (words x2 t) r) (fun y => x3 (ix4 (1 : Fin 4) (sel x0 t) (y 2) (y 3))) h) := by
  rw [val_main_v15_apply, val_main_call0_v5_apply, val_main_call0_v4_apply, val_main_call0_cst_0_apply, val_main_call0_v3_apply, val_main_call0_v2_apply, val_main_call0_cst_apply, val_main_call0_v1_apply, val_main_call0_v0_apply, v14_at x0 x2 x3 hT]
  generalize dotG (ent (words x2 t) r) _ h = g
  show g * Ideal.div (Ideal.ofBits FTy.f32 0x3F800000#32) (Ideal.ofBits FTy.f32 0x3F800000#32 + Ideal.exp (-g)) = Ideal.div g (1 + Ideal.exp (0 - g))
  rw [one_eq, Ideal.mul_one_div (one_add_exp _), sub_eq_add_neg, zero_add]

/-- A block's output, -/
theorem v36_at (t : Fin 144) (r : Fin 512) (j : Fin 2048) :
    val_main_v36 (F := Ideal) x0 x2 x3 x4 x5 (ix3 t r j) = EX x0 x2 x3 x4 x5 t r j := by
  rw [val_main_v36_apply]
  unfold EX expert
  refine Finset.sum_congr rfl fun k _ => ?_
  have el : lidx_main_v36 (ix3 t r j) k = ix3 t r k := by
    funext a
    match a with
    | ⟨0, _⟩ => rfl
    | ⟨1, _⟩ => rfl
    | ⟨2, _⟩ => rfl
  have er : ridx_main_v36 (ix3 t r j) k = ix3 t k j := by
    funext a
    match a with
    | ⟨0, _⟩ => rfl
    | ⟨1, _⟩ => rfl
    | ⟨2, _⟩ => rfl
  rw [el, er, val_main_v26_apply, v15_at x0 x2 x3 hT, v25_at x0 x2 x4 hT, v35_at x0 x5 hT]
  rfl

/-- and zero where the block holds no token. -/
theorem v42_at (t : Fin 144) (r : Fin 512) (j : Fin 2048) :
    val_main_v42 (F := Ideal) x0 x1 x2 x3 x4 x5 (ix3 t r j)
      = if IntOp.cmpi .slt (BitVec.ofNat 32 t.val) (x1 (ix1 (0 : Fin 1))) = 1#1 then EX x0 x2 x3 x4 x5 t r j else 0 := by
  have e1 : val_main_call1_v1 (F := Ideal) x1 (ix3 t r j) = IntOp.cmpi .slt (BitVec.ofNat 32 t.val) (x1 (ix1 (0 : Fin 1))) := by
    rw [val_main_call1_v1_apply, val_main_v41_apply, val_main_v40_apply, val_main_v39_apply, val_main_v37_apply]
    refine congrArg (IntOp.cmpi .slt (BitVec.ofNat 32 t.val)) ?_
    unfold val_main_v38
    refine congrArg x1 (funext fun a => ?_)
    match a with
    | ⟨0, _⟩ => exact Subsingleton.elim (α := Fin 1) _ _
  rw [val_main_v42_apply, e1, v36_at x0 x2 x3 x4 x5 hT, val_main_call1_v2_apply, val_main_call1_v0_apply, val_main_cst_apply]
  generalize IntOp.cmpi .slt (BitVec.ofNat 32 t.val) (x1 (ix1 (0 : Fin 1))) = b
  show (if b = 1#1 then EX x0 x2 x3 x4 x5 t r j else Ideal.ofBits .f32 0x00000000#32) = _
  rw [Ideal.ofBits_zero_f32]

/-- The reference's result. -/
theorem v46_at : val_main_v46 (F := Ideal) x0 x1 x2 x3 x4 x5 = FIN x0 x1 x2 x3 x4 x5 := by
  funext i
  have h0 : (i 0).val < 1179648 := (i 0).isLt
  have h1 : (i 1).val < 128 := (i 1).isLt
  have e5 : idx_main_v45 i = ix4 (⟨(i 0).val / 16, by omega⟩ : Fin 73728) (⟨(i 0).val / 2 % 8, by omega⟩ : Fin 8) (⟨(i 0).val % 2, by omega⟩ : Fin 2) (⟨(i 1).val, h1⟩ : Fin 128) := by
    funext a
    match a with
    | ⟨0, _⟩ => exact Fin.ext (show ((i 0).val * 128 + (i 1).val) / 2048 = (i 0).val / 16 by omega)
    | ⟨1, _⟩ => exact Fin.ext (show ((i 0).val * 128 + (i 1).val) / 256 % 8 = (i 0).val / 2 % 8 by omega)
    | ⟨2, _⟩ => exact Fin.ext (show ((i 0).val * 128 + (i 1).val) / 128 % 2 = (i 0).val % 2 by omega)
    | ⟨3, _⟩ => exact Fin.ext (show ((i 0).val * 128 + (i 1).val) % 128 = (i 1).val by omega)
  have e3 : ∀ (R : Fin 73728) (q : Fin 8) (p : Fin 2) (l : Fin 128), idx_main_v43 (idx_main_v44 (ix4 R q p l))
      = ix3 (⟨R.val / 512, by omega⟩ : Fin 144) (⟨R.val % 512, Nat.mod_lt _ (by norm_num)⟩ : Fin 512) (⟨1024 * p.val + (128 * q.val + l.val), by omega⟩ : Fin 2048) := fun R q p l => by
    funext a
    match a with
    | ⟨0, _⟩ => exact Fin.ext (show (((R.val * 2 + p.val) * 8 + q.val) * 128 + l.val) / 1048576 = R.val / 512 by omega)
    | ⟨1, _⟩ => exact Fin.ext (show (((R.val * 2 + p.val) * 8 + q.val) * 128 + l.val) / 2048 % 512 = R.val % 512 by omega)
    | ⟨2, _⟩ => exact Fin.ext (show (((R.val * 2 + p.val) * 8 + q.val) * 128 + l.val) % 2048 = 1024 * p.val + (128 * q.val + l.val) by omega)
  refine (val_main_v46_apply (F := Ideal) x0 x1 x2 x3 x4 x5 i).trans ?_
  show val_main_v45 (F := Ideal) x0 x1 x2 x3 x4 x5 i = _
  rw [val_main_v45_apply, val_main_v44_apply, val_main_v43_apply, e5, e3, v42_at x0 x1 x2 x3 x4 x5 hT]
  unfold FIN blkVal
  have et : (⟨(i 0).val / 16 / 512, by omega⟩ : Fin 144) = ⟨(i 0).val / 8192, by omega⟩ := Fin.ext (by show (i 0).val / 16 / 512 = (i 0).val / 8192; omega)
  have er : (⟨(i 0).val / 16 % 512, Nat.mod_lt _ (by norm_num)⟩ : Fin 512) = ⟨(i 0).val % 8192 / 16, by omega⟩ := Fin.ext (by show (i 0).val / 16 % 512 = (i 0).val % 8192 / 16; omega)
  have ej : (⟨1024 * ((i 0).val % 2) + (128 * ((i 0).val / 2 % 8) + (i 1).val), by omega⟩ : Fin 2048) = ⟨1024 * ((i 0).val % 8192 % 2) + (128 * ((i 0).val % 8192 / 2 % 8) + (i 1).val), by omega⟩ := Fin.ext (by show 1024 * ((i 0).val % 2) + (128 * ((i 0).val / 2 % 8) + (i 1).val) = 1024 * ((i 0).val % 8192 % 2) + (128 * ((i 0).val % 8192 / 2 % 8) + (i 1).val); omega)
  exact (congrArg₂ (fun (t : Fin 144) (j : Fin 2048) => if IntOp.cmpi .slt (BitVec.ofNat 32 t.val) (x1 (ix1 (0 : Fin 1))) = 1#1 then EX x0 x2 x3 x4 x5 t (⟨(i 0).val / 16 % 512, Nat.mod_lt _ (by norm_num)⟩ : Fin 512) j else 0) et ej).trans (by rw [er])

end

end Cert.Reference3Ideal.RefVal

end
-- ==== Proof.PreExperts.lean ====
module

public import proofs.«01_k».proof.Defs
public import proofs.«01_k».proof.Proof.Gen.Pre_experts
public import Idealize.ShloMosaic.Lib.ReduceAll

/-! What the precondition says: every block names one of the sixteen experts. -/

@[expose] public section

set_option maxRecDepth 16384

noncomputable section

namespace Cert.PreExperts

open Idealize.ShloMosaic Idealize.ShloMosaic.TcCoe Cert.Pre_experts Cert.Pre_experts.Facts

theorem and_one {a b : BitVec 1} (h : IntOp.andi a b = 1#1) : a = 1#1 ∧ b = 1#1 := by revert a b; decide

instance : Subsingleton S_.Idx := ⟨fun a b => funext fun i => i.elim0⟩

/-- A word from 0 to 15. -/
theorem word_lt (a : BitVec 32) (h0 : IntOp.cmpi .sge a 0#32 = 1#1) (h1 : IntOp.cmpi .slt a 16#32 = 1#1) : a.toNat < 16 := by
  have h0' : BitVec.ofBool (BitVec.sle 0#32 a) = 1#1 := h0
  have h1' : BitVec.ofBool (BitVec.slt a 16#32) = 1#1 := h1
  have t0 : BitVec.sle 0#32 a = true := by
    cases e : BitVec.sle 0#32 a
    · rw [e] at h0'; exact absurd h0' (by decide)
    · rfl
  have t1 : BitVec.slt a 16#32 = true := by
    cases e : BitVec.slt a 16#32
    · rw [e] at h1'; exact absurd h1' (by decide)
    · rfl
  have z0 : (0#32 : BitVec 32).toInt ≤ a.toInt := of_decide_eq_true t0
  have z1 : a.toInt < (16#32 : BitVec 32).toInt := of_decide_eq_true t1
  have c0 : (0#32 : BitVec 32).toInt = 0 := by decide
  have c1 : (16#32 : BitVec 32).toInt = 16 := by decide
  rw [c0] at z0
  rw [c1] at z1
  have hlt := a.isLt
  rw [BitVec.toInt_eq_toNat_cond] at z0 z1
  split at z0 <;> omega

section
variable {F : FTy → Type} [FloatOps F] [Cert.Pre_experts.Facts]
variable (x0 : IVec S144 32) (x1 : IVec S1 32) (x2 : IVec S589824x128 32) (x3 x4 : FVec F S4x16x2048x1024 .f32) (x5 : FVec F S4x16x1024x2048 .f32)

theorem experts (h : fn (F := F) x0 x1 x2 x3 x4 x5 = fun _ => 1#1) (i : S144.Idx) : (x0 i).toNat < 16 := by
  have h' := congrFun h (Shape.Idx.first h_S_)
  unfold fn at h'
  obtain ⟨h0, h1⟩ := and_one (Host.reduce_andi_all _ _ _ _ _ h' i)
  exact word_lt _ h0 h1
end

end Cert.PreExperts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_experts
public import proofs.«01_k».proof.Proof.BothRun
public import proofs.«01_k».proof.Proof.BothRunF
public import proofs.«01_k».proof.Proof.BothVal
public import proofs.«01_k».proof.Proof.RefVal
public import proofs.«01_k».proof.Proof.PreFinite
public import proofs.«01_k».proof.Proof.PairRun
public import proofs.«01_k».proof.Proof.PairVal
public import proofs.«01_k».proof.Proof.Ref2Val
public import proofs.«01_k».proof.Proof.FfnMain
public import proofs.«01_k».proof.Proof.FfnMainF
public import proofs.«01_k».proof.Proof.FfnFin
public import proofs.«01_k».proof.Proof.Ref3Val
public import proofs.«01_k».proof.Proof.PreExperts
public import Idealize.ShloMosaic.Lib.Claim
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- On real gates, queries and keys the reference computes what the kernel leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v50 m' c = Cert.KernelIdeal.Both.resO m c := by
  have hp := hpre c
  rw [Cert.ReferenceIdeal.Read.val_main_v50_eq]
  have hg := Cert.PreFinite.gatesAt _ _ _ hp
  have hP := Cert.PreFinite.planesAt _ _ _ hp
  rw [Cert.KernelIdeal.Both.resO_eq m c _ _ _ hg hP]
  refine Eq.trans ?_ (Cert.ReferenceIdeal.RefVal.v50_eq _ _ _ _ _ _ hg hP)
  rw [h.1, h.2.1, h.2.2]

section
variable {F : FTy → Type} [FloatOps F]
/-- The projection's two texts are one: the same bodies. -/
theorem bodies2_eq : Cert.Kernel2.defs₀ (F := F) = Cert.Kernel2Ideal.defs₀ (F := F) := by
  funext p l a
  cases p with
  | tc =>
    change Fin 2 at l
    fin_cases l
    · obtain ⟨t, s⟩ := a; rfl
    · obtain ⟨t, s⟩ := a; rfl
  | scScalar _ => rfl
  | scVector _ _ => rfl
theorem defs2_eq : Cert.Kernel2.defs (F := F) = Cert.Kernel2Ideal.defs (F := F) :=
  congrArg (fun d => Pipeline.defs Cert.Kernel2Ideal.pcfgs d) bodies2_eq
end

theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2.2, sem_eq_zero_of_no_sems (by decide) r.2⟩) (Cert.Reference2Ideal.Value.run (F := Ideal) m g)

section
variable (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
include h

/-- The reference's projection is what the kernel leaves, -/
theorem result2_eq : Cert.Reference2Ideal.Value.res_main_v33 m' c = Cert.Kernel2Ideal.Pair.resO m c := by
  rw [Cert.Reference2Ideal.Read.val_main_v33_eq, Cert.Kernel2Ideal.Pair.resO_eq, Cert.Reference2Ideal.RefVal.v33_eq, h.1, h.2.1, h.2.2]
omit h in
/-- and so are its gates' logits. -/
theorem logits2_eq : Cert.Reference2Ideal.Read.val_main_v31 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    = Cert.Kernel2Ideal.Pair.resG m c := by
  rw [Cert.Kernel2Ideal.Pair.resG_eq, Cert.Reference2Ideal.RefVal.v31_eq]
end

/-- The experts' reference runs. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run Cert.Reference3Ideal.defs _ _).mono (fun r h => ⟨fun c => (h c).2, sem_eq_zero_of_no_sems (by decide) r.2⟩) (Cert.Reference3Ideal.Value.run (F := Ideal) m g)

/-- Every block names one of the sixteen experts, so the tables are admissible, -/
theorem experts3 (m : (ℓ : Loc Cert.Kernel3Ideal.nD Cert.Kernel3Ideal.τ Cert.Kernel3Ideal.sig) → Buf (Elt Ideal) ℓ) (hpre : Cert.Pre_Kernel3Ideal m) (c : Dev Cert.Kernel3Ideal.nD) (i : Cert.Kernel3Ideal.S144.Idx) :
    ((m ((c.tc : Thread Cert.Kernel3Ideal.nD Cert.Kernel3Ideal.τ).loc Cert.Kernel3Ideal.main_arg0) : Vec Ideal Cert.Kernel3Ideal.S144 .i32) i).toNat < 16 :=
  Cert.PreExperts.experts (F := Ideal) _ _ _ _ _ _ (hpre c) i
theorem ok3 (m : (ℓ : Loc Cert.Kernel3Ideal.nD Cert.Kernel3Ideal.τ Cert.Kernel3Ideal.sig) → Buf (Elt Ideal) ℓ) (hpre : Cert.Pre_Kernel3Ideal m) : Cert.Kernel3Ideal.ok0 (Cert.Kernel3Ideal.Main.tbl m) :=
  Cert.Kernel3Ideal.Main.ok_of _ (experts3 m hpre 0)
/-- of the kernel as it is run too. -/
theorem ok3F (m : (ℓ : Loc Cert.Kernel3.nD Cert.Kernel3.τ Cert.Kernel3.sig) → Buf (Elt Bits) ℓ) (hpre : Cert.Pre_Kernel3 m) : Cert.Kernel3.ok0 (Cert.Kernel3.Main.tbl m) :=
  Cert.Kernel3.Main.ok_of _ (fun i => Cert.PreExperts.experts (F := Bits) _ _ _ _ _ _ (hpre 0) i)

/-- The reference's experts are what the kernel leaves. -/
theorem result3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (hpre : Cert.Pre_Kernel3Ideal m)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Value.res_main_v46 m' c = Cert.Kernel3Ideal.Main.res m (ok3 m hpre) c := by
  rw [Cert.Reference3Ideal.Read.val_main_v46_eq, h.1, h.2.1, h.2.2.1, h.2.2.2.1, h.2.2.2.2.1, h.2.2.2.2.2]
  exact (Cert.Reference3Ideal.RefVal.v46_at _ _ _ _ _ _ (experts3 m hpre c)).trans (Cert.Kernel3Ideal.Main.res_eq m (ok3 m hpre) (experts3 m hpre 0) c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts, Cert.Pre_experts.Gen.facts, by
  refine ⟨?_, ?_, ?_, ?_, ?_, ?_, ?_, ?_, ?_, ?_, ?_, ?_, ?_, ?_, ?_, ?_, ?_, ?_⟩
  · intro m g _; exact Cert.Kernel.Both.frame m g
  · intro m g _; exact Cert.KernelIdeal.Both.frame m g
  · intro m g _; exact Cert.KernelIdeal.Both.frame m g
  · intro m g _; exact reference_frame m g
  · intro m g _; exact reference_frame m g
  · intro m g _
    have h := Cert.Kernel2Ideal.Pair.frame (F := Bits) m g
    rw [← defs2_eq] at h
    exact h
  · intro m g _; exact Cert.Kernel2Ideal.Pair.frame m g
  · intro m g _; exact reference2_frame m g
  · intro m g hpre; exact Cert.Kernel3.Main.frame (F := Bits) m g (ok3F m hpre)
  · intro m g hpre; exact Cert.Kernel3Ideal.Main.frame (F := Ideal) m g (ok3 m hpre)
  · intro m g _; exact reference3_frame m g
  · intro m g _; exact reference3_frame m g
  · refine ⟨?_, ?_, ?_⟩
    all_goals first
      | exact IdealRules.named_const.statement Cert.KernelIdeal.κ "log2e" .f32 0x3FB8AA3B#32 _ rfl
      | exact IdealRules.named_const.statement Cert.KernelIdeal.κ "qscale" .f32 0x3E0293EE#32 _ rfl
      | exact IdealRules.named_const.statement Cert.KernelIdeal.κ "mask" .f32 0xF149F2CA#32 _ rfl
  · pair_intro
    · run_from Cert.KernelIdeal.Both.run m g
    · run_from Cert.ReferenceIdeal.Value.run m' g'
      exact result_eq m m' c hpre (hagree c)
  · exact trivial
  · pair_intro
    · run_from Cert.Kernel2Ideal.Pair.run m g
    · run_from Cert.Reference2Ideal.Value.run m' g'
      · exact result2_eq m m' c (hagree c)
      · exact (Cert.Reference2Ideal.Read.val_main_v31_eq _ _ _).trans (logits2_eq m c)
  · exact ⟨IdealRules.bf16_pair.packStatement _, IdealRules.bf16_pair.statement _ _ (by decide)⟩
  · intro m g m' g' hpre hagree
    refine ⟨fun c => Cert.Kernel3Ideal.Main.res m (ok3 m hpre) c, ?_, ?_⟩
    · exact (θ_run Cert.Kernel3Ideal.defs _ _).mono (fun r h => h.1) (Cert.Kernel3Ideal.Main.run m g (ok3 m hpre))
    · exact (θ_run Cert.Reference3Ideal.defs _ _).mono (fun r h c => ⟨(h c).1.trans (result3_eq m m' c hpre (hagree c)), (h c).2⟩) (Cert.Reference3Ideal.Value.run (F := Ideal) m' g')⟩

end Cert.Proof

end
